-- ==== Defs.lean ====
def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))).2.2.2.2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.2.2 = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5))).1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5))).2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5))).2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5))).2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5))).2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5))).2.2.2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.2.2 = (fun _ => 1#1)

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5)
      ∧ r.2.mem ((c.tc : Thread Cert.UpKernel.nD Cert.UpKernel.τ).loc Cert.UpKernel.main_arg6) = m ((c.tc : Thread Cert.UpKernel.nD Cert.UpKernel.τ).loc Cert.UpKernel.main_arg6)
      ∧ r.2.mem ((c.tc : Thread Cert.UpKernel.nD Cert.UpKernel.τ).loc Cert.UpKernel.main_arg7) = m ((c.tc : Thread Cert.UpKernel.nD Cert.UpKernel.τ).loc Cert.UpKernel.main_arg7))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
      ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5)
      ∧ r.2.mem ((c.tc : Thread Cert.InprojKernel.nD Cert.InprojKernel.τ).loc Cert.InprojKernel.main_arg6) = m ((c.tc : Thread Cert.InprojKernel.nD Cert.InprojKernel.τ).loc Cert.InprojKernel.main_arg6)
      ∧ r.2.mem ((c.tc : Thread Cert.InprojKernel.nD Cert.InprojKernel.τ).loc Cert.InprojKernel.main_arg7) = m ((c.tc : Thread Cert.InprojKernel.nD Cert.InprojKernel.τ).loc Cert.InprojKernel.main_arg7)
      ∧ r.2.mem ((c.tc : Thread Cert.InprojKernel.nD Cert.InprojKernel.τ).loc Cert.InprojKernel.main_arg8) = m ((c.tc : Thread Cert.InprojKernel.nD Cert.InprojKernel.τ).loc Cert.InprojKernel.main_arg8))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
      ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7)
      ∧ r.2.mem ((c.tc : Thread Cert.InprojKernelIdeal.nD Cert.InprojKernelIdeal.τ).loc Cert.InprojKernelIdeal.main_arg8) = m ((c.tc : Thread Cert.InprojKernelIdeal.nD Cert.InprojKernelIdeal.τ).loc Cert.InprojKernelIdeal.main_arg8))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v6_0)) (v1 : (c : Dev Cert.AttnKernelIdeal.nD) → Buf (Elt Ideal) ((c.tc : Thread Cert.AttnKernelIdeal.nD Cert.AttnKernelIdeal.τ).loc Cert.AttnKernelIdeal.main_v7_0)) (v2 : (c : Dev Cert.AttnKernelIdeal.nD) → Buf (Elt Ideal) ((c.tc : Thread Cert.AttnKernelIdeal.nD Cert.AttnKernelIdeal.τ).loc Cert.AttnKernelIdeal.main_v7_1)) (v3 : (c : Dev Cert.AttnKernelIdeal.nD) → Buf (Elt Ideal) ((c.tc : Thread Cert.AttnKernelIdeal.nD Cert.AttnKernelIdeal.τ).loc Cert.AttnKernelIdeal.main_v7_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v6_0) = v0 c
          ∧ r.2.mem ((c.tc : Thread Cert.AttnKernelIdeal.nD Cert.AttnKernelIdeal.τ).loc Cert.AttnKernelIdeal.main_v7_0) = v1 c
          ∧ r.2.mem ((c.tc : Thread Cert.AttnKernelIdeal.nD Cert.AttnKernelIdeal.τ).loc Cert.AttnKernelIdeal.main_v7_1) = v2 c
          ∧ r.2.mem ((c.tc : Thread Cert.AttnKernelIdeal.nD Cert.AttnKernelIdeal.τ).loc Cert.AttnKernelIdeal.main_v7_2) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v23) = v0 c
          ∧ r.2.mem ((c.tc : Thread Cert.AttnReferenceIdeal.nD Cert.AttnReferenceIdeal.τ).loc Cert.AttnReferenceIdeal.main_v47) = v1 c
          ∧ r.2.mem ((c.tc : Thread Cert.AttnReferenceIdeal.nD Cert.AttnReferenceIdeal.τ).loc Cert.AttnReferenceIdeal.main_v46) = v2 c
          ∧ r.2.mem ((c.tc : Thread Cert.AttnReferenceIdeal.nD Cert.AttnReferenceIdeal.τ).loc Cert.AttnReferenceIdeal.main_v29) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v53) = v0 c
          ∧ r.2.mem ((c.tc : Thread Cert.LossReferenceIdeal.nD Cert.LossReferenceIdeal.τ).loc Cert.LossReferenceIdeal.main_v52) = v1 c
          ∧ r.2.mem ((c.tc : Thread Cert.LossReferenceIdeal.nD Cert.LossReferenceIdeal.τ).loc Cert.LossReferenceIdeal.main_v54) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_SguKernel_SguKernelIdeal : Prop :=
  IdealRules.named_const.Statement Cert.SguKernelIdeal.κ "inv_sqrt2" .f32 0x3F3504F3#32 (((Real.sqrt 2)⁻¹ : ℝ) : EReal)
  ∧ IdealRules.named_const.Statement Cert.SguKernelIdeal.κ "inv_sqrt2pi" .f32 0x3ECC422A#32 (((Real.sqrt (2 * Real.pi))⁻¹ : ℝ) : EReal)

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v5_0)) (v1 : (c : Dev Cert.GateKernelIdeal.nD) → Buf (Elt Ideal) ((c.tc : Thread Cert.GateKernelIdeal.nD Cert.GateKernelIdeal.τ).loc Cert.GateKernelIdeal.main_v5_1)) (v2 : (c : Dev Cert.GateKernelIdeal.nD) → Buf (Elt Ideal) ((c.tc : Thread Cert.GateKernelIdeal.nD Cert.GateKernelIdeal.τ).loc Cert.GateKernelIdeal.main_v5_2)) (v3 : (c : Dev Cert.GateKernelIdeal.nD) → Buf (Elt Ideal) ((c.tc : Thread Cert.GateKernelIdeal.nD Cert.GateKernelIdeal.τ).loc Cert.GateKernelIdeal.main_v5_3)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v5_0) = v0 c
          ∧ r.2.mem ((c.tc : Thread Cert.GateKernelIdeal.nD Cert.GateKernelIdeal.τ).loc Cert.GateKernelIdeal.main_v5_1) = v1 c
          ∧ r.2.mem ((c.tc : Thread Cert.GateKernelIdeal.nD Cert.GateKernelIdeal.τ).loc Cert.GateKernelIdeal.main_v5_2) = v2 c
          ∧ r.2.mem ((c.tc : Thread Cert.GateKernelIdeal.nD Cert.GateKernelIdeal.τ).loc Cert.GateKernelIdeal.main_v5_3) = v3 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v61) = v0 c
          ∧ r.2.mem ((c.tc : Thread Cert.GateReferenceIdeal.nD Cert.GateReferenceIdeal.τ).loc Cert.GateReferenceIdeal.main_v62) = v1 c
          ∧ r.2.mem ((c.tc : Thread Cert.GateReferenceIdeal.nD Cert.GateReferenceIdeal.τ).loc Cert.GateReferenceIdeal.main_v63) = v2 c
          ∧ r.2.mem ((c.tc : Thread Cert.GateReferenceIdeal.nD Cert.GateReferenceIdeal.τ).loc Cert.GateReferenceIdeal.main_v64) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)
      ∧ m' ((c.tc : Thread Cert.UpReferenceIdeal.nD Cert.UpReferenceIdeal.τ).loc Cert.UpReferenceIdeal.main_arg6) = m ((c.tc : Thread Cert.UpKernelIdeal.nD Cert.UpKernelIdeal.τ).loc Cert.UpKernelIdeal.main_arg6)
      ∧ m' ((c.tc : Thread Cert.UpReferenceIdeal.nD Cert.UpReferenceIdeal.τ).loc Cert.UpReferenceIdeal.main_arg7) = m ((c.tc : Thread Cert.UpKernelIdeal.nD Cert.UpKernelIdeal.τ).loc Cert.UpKernelIdeal.main_arg7)) →
    ∃ (v0 : (c : Dev Cert.UpKernelIdeal.nD) → Buf (Elt Ideal) ((c.tc : Thread Cert.UpKernelIdeal.nD Cert.UpKernelIdeal.τ).loc Cert.UpKernelIdeal.main_v6_0)) (v1 : (c : Dev Cert.UpKernelIdeal.nD) → Buf (Elt Ideal) ((c.tc : Thread Cert.UpKernelIdeal.nD Cert.UpKernelIdeal.τ).loc Cert.UpKernelIdeal.main_v6_1)) (v2 : (c : Dev Cert.UpKernelIdeal.nD) → Buf (Elt Ideal) ((c.tc : Thread Cert.UpKernelIdeal.nD Cert.UpKernelIdeal.τ).loc Cert.UpKernelIdeal.main_v6_2)) (v3 : (c : Dev Cert.UpKernelIdeal.nD) → Buf (Elt Ideal) ((c.tc : Thread Cert.UpKernelIdeal.nD Cert.UpKernelIdeal.τ).loc Cert.UpKernelIdeal.main_v6_3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v6_0) = v0 c
          ∧ r.2.mem ((c.tc : Thread Cert.UpKernelIdeal.nD Cert.UpKernelIdeal.τ).loc Cert.UpKernelIdeal.main_v6_1) = v1 c
          ∧ r.2.mem ((c.tc : Thread Cert.UpKernelIdeal.nD Cert.UpKernelIdeal.τ).loc Cert.UpKernelIdeal.main_v6_2) = v2 c
          ∧ r.2.mem ((c.tc : Thread Cert.UpKernelIdeal.nD Cert.UpKernelIdeal.τ).loc Cert.UpKernelIdeal.main_v6_3) = v3 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
          ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
          ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v80) = v0 c
          ∧ r.2.mem ((c.tc : Thread Cert.UpReferenceIdeal.nD Cert.UpReferenceIdeal.τ).loc Cert.UpReferenceIdeal.main_v82) = v1 c
          ∧ r.2.mem ((c.tc : Thread Cert.UpReferenceIdeal.nD Cert.UpReferenceIdeal.τ).loc Cert.UpReferenceIdeal.main_v78) = v2 c
          ∧ r.2.mem ((c.tc : Thread Cert.UpReferenceIdeal.nD Cert.UpReferenceIdeal.τ).loc Cert.UpReferenceIdeal.main_v83) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6)
          ∧ r.2.mem ((c.tc : Thread Cert.UpReferenceIdeal.nD Cert.UpReferenceIdeal.τ).loc Cert.UpReferenceIdeal.main_arg7) = m' ((c.tc : Thread Cert.UpReferenceIdeal.nD Cert.UpReferenceIdeal.τ).loc Cert.UpReferenceIdeal.main_arg7))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)) →
    ∃ (v0 : (c : Dev Cert.MixKernelIdeal.nD) → Buf (Elt Ideal) ((c.tc : Thread Cert.MixKernelIdeal.nD Cert.MixKernelIdeal.τ).loc Cert.MixKernelIdeal.main_v3_0)) (v1 : (c : Dev Cert.MixKernelIdeal.nD) → Buf (Elt Ideal) ((c.tc : Thread Cert.MixKernelIdeal.nD Cert.MixKernelIdeal.τ).loc Cert.MixKernelIdeal.main_v3_1)) (v2 : (c : Dev Cert.MixKernelIdeal.nD) → Buf (Elt Ideal) ((c.tc : Thread Cert.MixKernelIdeal.nD Cert.MixKernelIdeal.τ).loc Cert.MixKernelIdeal.main_v3_2)) (v3 : (c : Dev Cert.MixKernelIdeal.nD) → Buf (Elt Ideal) ((c.tc : Thread Cert.MixKernelIdeal.nD Cert.MixKernelIdeal.τ).loc Cert.MixKernelIdeal.main_v3_3)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v3_0) = v0 c
          ∧ r.2.mem ((c.tc : Thread Cert.MixKernelIdeal.nD Cert.MixKernelIdeal.τ).loc Cert.MixKernelIdeal.main_v3_1) = v1 c
          ∧ r.2.mem ((c.tc : Thread Cert.MixKernelIdeal.nD Cert.MixKernelIdeal.τ).loc Cert.MixKernelIdeal.main_v3_2) = v2 c
          ∧ r.2.mem ((c.tc : Thread Cert.MixKernelIdeal.nD Cert.MixKernelIdeal.τ).loc Cert.MixKernelIdeal.main_v3_3) = v3 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v45) = v0 c
          ∧ r.2.mem ((c.tc : Thread Cert.MixReferenceIdeal.nD Cert.MixReferenceIdeal.τ).loc Cert.MixReferenceIdeal.main_v46) = v1 c
          ∧ r.2.mem ((c.tc : Thread Cert.MixReferenceIdeal.nD Cert.MixReferenceIdeal.τ).loc Cert.MixReferenceIdeal.main_v47) = v2 c
          ∧ r.2.mem ((c.tc : Thread Cert.MixReferenceIdeal.nD Cert.MixReferenceIdeal.τ).loc Cert.MixReferenceIdeal.main_v48) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)
      ∧ m' ((c.tc : Thread Cert.InprojReferenceIdeal.nD Cert.InprojReferenceIdeal.τ).loc Cert.InprojReferenceIdeal.main_arg6) = m ((c.tc : Thread Cert.InprojKernelIdeal.nD Cert.InprojKernelIdeal.τ).loc Cert.InprojKernelIdeal.main_arg6)
      ∧ m' ((c.tc : Thread Cert.InprojReferenceIdeal.nD Cert.InprojReferenceIdeal.τ).loc Cert.InprojReferenceIdeal.main_arg7) = m ((c.tc : Thread Cert.InprojKernelIdeal.nD Cert.InprojKernelIdeal.τ).loc Cert.InprojKernelIdeal.main_arg7)
      ∧ m' ((c.tc : Thread Cert.InprojReferenceIdeal.nD Cert.InprojReferenceIdeal.τ).loc Cert.InprojReferenceIdeal.main_arg8) = m ((c.tc : Thread Cert.InprojKernelIdeal.nD Cert.InprojKernelIdeal.τ).loc Cert.InprojKernelIdeal.main_arg8)) →
    ∃ (v0 : (c : Dev Cert.InprojKernelIdeal.nD) → Buf (Elt Ideal) ((c.tc : Thread Cert.InprojKernelIdeal.nD Cert.InprojKernelIdeal.τ).loc Cert.InprojKernelIdeal.main_v3_0)) (v1 : (c : Dev Cert.InprojKernelIdeal.nD) → Buf (Elt Ideal) ((c.tc : Thread Cert.InprojKernelIdeal.nD Cert.InprojKernelIdeal.τ).loc Cert.InprojKernelIdeal.main_v3_1)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v3_0) = v0 c
          ∧ r.2.mem ((c.tc : Thread Cert.InprojKernelIdeal.nD Cert.InprojKernelIdeal.τ).loc Cert.InprojKernelIdeal.main_v3_1) = v1 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
          ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
          ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7)
          ∧ r.2.mem ((c.tc : Thread Cert.InprojKernelIdeal.nD Cert.InprojKernelIdeal.τ).loc Cert.InprojKernelIdeal.main_arg8) = m ((c.tc : Thread Cert.InprojKernelIdeal.nD Cert.InprojKernelIdeal.τ).loc Cert.InprojKernelIdeal.main_arg8))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v39) = v0 c
          ∧ r.2.mem ((c.tc : Thread Cert.InprojReferenceIdeal.nD Cert.InprojReferenceIdeal.τ).loc Cert.InprojReferenceIdeal.main_v40) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8))

def preserves_PoolKernel_PoolKernelIdeal : Prop :=
  True

def Claim : Prop :=
  ∃ (hAttnKernel : Cert.AttnKernel.Facts) (hAttnKernelIdeal : Cert.AttnKernelIdeal.Facts) (hAttnReferenceIdeal : Cert.AttnReferenceIdeal.Facts) (hLossKernel : Cert.LossKernel.Facts) (hLossKernelIdeal : Cert.LossKernelIdeal.Facts) (hLossReferenceIdeal : Cert.LossReferenceIdeal.Facts) (hSguKernel : Cert.SguKernel.Facts) (hSguKernelIdeal : Cert.SguKernelIdeal.Facts) (hSguReferenceIdeal : Cert.SguReferenceIdeal.Facts) (hGateKernel : Cert.GateKernel.Facts) (hGateKernelIdeal : Cert.GateKernelIdeal.Facts) (hGateReferenceIdeal : Cert.GateReferenceIdeal.Facts) (hUpKernel : Cert.UpKernel.Facts) (hUpKernelIdeal : Cert.UpKernelIdeal.Facts) (hUpReferenceIdeal : Cert.UpReferenceIdeal.Facts) (hMixKernel : Cert.MixKernel.Facts) (hMixKernelIdeal : Cert.MixKernelIdeal.Facts) (hMixReferenceIdeal : Cert.MixReferenceIdeal.Facts) (hInprojKernel : Cert.InprojKernel.Facts) (hInprojKernelIdeal : Cert.InprojKernelIdeal.Facts) (hInprojReferenceIdeal : Cert.InprojReferenceIdeal.Facts) (hPoolKernel : Cert.PoolKernel.Facts) (hPoolKernelIdeal : Cert.PoolKernelIdeal.Facts) (hPoolReferenceIdeal : Cert.PoolReferenceIdeal.Facts) (hPre_attn_finite : Cert.Pre_attn_finite.Facts) (hPre_gate_finite : Cert.Pre_gate_finite.Facts) (hPre_mix_finite : Cert.Pre_mix_finite.Facts),
    quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_SguKernel (hSguKernel := hSguKernel)
    ∧ quiescent_SguKernelIdeal (hSguKernelIdeal := hSguKernelIdeal)
    ∧ quiescent_SguReferenceIdeal (hSguReferenceIdeal := hSguReferenceIdeal)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_PoolKernel (hPoolKernel := hPoolKernel)
    ∧ quiescent_PoolKernelIdeal (hPoolKernelIdeal := hPoolKernelIdeal)
    ∧ quiescent_PoolReferenceIdeal (hPoolReferenceIdeal := hPoolReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_LossKernel_LossKernelIdeal
    ∧ algebraic_LossKernelIdeal_LossReferenceIdeal (hLossKernelIdeal := hLossKernelIdeal) (hLossReferenceIdeal := hLossReferenceIdeal)
    ∧ preserves_SguKernel_SguKernelIdeal
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_UpKernel_UpKernelIdeal
    ∧ algebraic_UpKernelIdeal_UpReferenceIdeal (hUpKernelIdeal := hUpKernelIdeal) (hUpReferenceIdeal := hUpReferenceIdeal)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_InprojKernel_InprojKernelIdeal
    ∧ algebraic_InprojKernelIdeal_InprojReferenceIdeal (hInprojKernelIdeal := hInprojKernelIdeal) (hInprojReferenceIdeal := hInprojReferenceIdeal)
    ∧ preserves_PoolKernel_PoolKernelIdeal
-- ==== Pre_attn_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) (main_arg3 : FVec F S8192x512 .f32) : IVec S8192x512 1 × IVec S8192x512 1 × IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_gate_finite.lean ====
abbrev S8192x1024 : Shape := ⟨2, ![8192, 1024]⟩
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S8192x5632 : S_.BroadcastsInDim S8192x5632 (![] : Fin 0 → Fin S8192x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x5632 .f32) (main_arg2 : FVec F S3x5632 .f32) (main_arg3 : FVec F S5632 .f32) (main_arg4 : FVec F S2816x1024 .f32) : IVec S8192x1024 1 × IVec S8192x5632 1 × IVec S3x5632 1 × IVec S5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x5632 .f32 := Host.absf main_arg1
  let main_cst_0 : FVec F S_ .f32 := constant S_ .f32 0x7F800000#32
  let main_v4 : FVec F S8192x5632 .f32 := broadcastInDim S8192x5632 ![] bcast_S_S8192x5632 main_cst_0
  let main_v5 : IVec S8192x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S5632 .f32 := Host.absf main_arg3
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_mix_finite.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S8192x512 : S_.BroadcastsInDim S8192x512 (![] : Fin 0 → Fin S8192x512.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x256 .f32) (main_arg2 : FVec F S8192x512 .f32) (main_arg3 : FVec F S8192x256 .f32) (main_arg4 : FVec F S1024 .f32) (main_arg5 : FVec F S1024x1024 .f32) : IVec S8192x1024 1 × IVec S8192x256 1 × IVec S8192x512 1 × IVec S8192x256 1 × IVec S1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== AttnKernel.lean ====
abbrev S8192x512 : Shape := ⟨2, ![8192, 512]⟩
abbrev S_ : Shape := ⟨0, ![]⟩
abbrev S8192x1536 : Shape := ⟨2, ![8192, 1536]⟩
abbrev S8192x1024 : Shape := ⟨2, ![8192, 1024]⟩
abbrev S256x128 : Shape := ⟨2, ![256, 128]⟩
abbrev S8192x128 : Shape := ⟨2, ![8192, 128]⟩
abbrev S256x256 : Shape := ⟨2, ![256, 256]⟩
abbrev S1x128 : Shape := ⟨2, ![1, 128]⟩
abbrev S128x128 : Shape := ⟨2, ![128, 128]⟩
abbrev S256x1 : Shape := ⟨2, ![256, 1]⟩
abbrev S256 : Shape := ⟨1, ![256]⟩

abbrev nBuf : Space → Nat
  | .hbm => 16
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x1536, .bf16⟩
  | .hbm, ⟨11, _⟩ => ⟨S8192x512, .f32⟩
  | .hbm, ⟨12, _⟩ => ⟨S8192x1024, .f32⟩
  | .hbm, ⟨13, _⟩ => ⟨S8192x512, .f32⟩
  | .hbm, ⟨14, _⟩ => ⟨S8192x512, .f32⟩
  | .hbm, ⟨15, _⟩ => ⟨S8192x512, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S256x256, .f32⟩
  | .local _ .vmem, ⟨9, _⟩ => ⟨S256x256, .f32⟩
  | .local _ .vmem, ⟨10, _⟩ => ⟨S256x128, .bf16⟩
  | .local _ .vmem, ⟨11, _⟩ => ⟨S256x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S256x256, .f32⟩
  | .local _ .vmem, ⟨17, _⟩ => ⟨S256x256, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v25 : BitVec 32 := Scalar.addi arg1 c1_i32
  let c2_i32 : BitVec 32 := 2#32
  let v26 : BitVec 32 := Scalar.muli v25 c2_i32
  let v31 : BitVec 32 := Scalar.subi v26 c0_i32
  let c1_i32_8 : BitVec 32 := 1#32
  let v33 : BitVec 32 := Scalar.divsi v31 c1_i32_8
  let v34 : BitVec 32 := Scalar.muli v33 c1_i32_8
  let v35 : BitVec 32 := Scalar.addi c0_i32 v34
  let c1_i32_9 : BitVec 32 := 1#32
  ⟨c0_i32, v35, c1_i32_9⟩
def k0_mult1 (i : grid0.Coords) (k0_t1 : Fin (k0_t1_loop i).trips) : BitVec 32 :=
  let arg1 : BitVec 32 := BitVec.ofNat 32 (i 1).val
  let c1_i32 : BitVec 32 := 1#32
  let v25 : BitVec 32 := Scalar.addi arg1 c1_i32
  let c2_i32 : BitVec 32 := 2#32
  let v26 : BitVec 32 := Scalar.muli v25 c2_i32
  let c1_i32_13 : BitVec 32 := 1#32
  let v39 : BitVec 32 := Scalar.subi v26 c1_i32_13
  let c0_i32 : BitVec 32 := 0#32
  let c1_i32_9 : BitVec 32 := 1#32
  let arg7 : BitVec 32 := Scf.iv c0_i32 c1_i32_9 k0_t1
  let v40 : BitVec 32 := Scalar.subi v39 arg7
  let c128_i32 : BitVec 32 := 128#32
  let v41 : BitVec 32 := Scalar.muli v40 c128_i32
  v41
def k0_off1 (i : grid0.Coords) (k0_t1 : Fin (k0_t1_loop i).trips) : Fin 2 → Nat :=
  let arg1 : BitVec 32 := BitVec.ofNat 32 (i 1).val
  let c1_i32 : BitVec 32 := 1#32
  let v25 : BitVec 32 := Scalar.addi arg1 c1_i32
  let c2_i32 : BitVec 32 := 2#32
  let v26 : BitVec 32 := Scalar.muli v25 c2_i32
  let c1_i32_13 : BitVec 32 := 1#32
  let v39 : BitVec 32 := Scalar.subi v26 c1_i32_13
  let c0_i32 : BitVec 32 := 0#32
  let c1_i32_9 : BitVec 32 := 1#32
  let arg7 : BitVec 32 := Scf.iv c0_i32 c1_i32_9 k0_t1
  let v40 : BitVec 32 := Scalar.subi v39 arg7
  let c128_i32 : BitVec 32 := 128#32
  let v41 : BitVec 32 := Scalar.muli v40 c128_i32
  let v42 : BitVec 32 := v41
  let v43 : Index := Scalar.indexCast v42
  let c0_14 : Index := 0#32
  ![v43.toNat, 0]
@[reducible] def k0_t2_loop (i : grid0.Coords) : Scf.Loop 32 :=
  let c0_i32 : BitVec 32 := 0#32
  let arg1 : BitVec 32 := BitVec.ofNat 32 (i 1).val
  let c1_i32 : BitVec 32 := 1#32
  let v25 : BitVec 32 := Scalar.addi arg1 c1_i32
  let c2_i32 : BitVec 32 := 2#32
  let v26 : BitVec 32 := Scalar.muli v25 c2_i32
  let v31 : BitVec 32 := Scalar.subi v26 c0_i32
  let c1_i32_8 : BitVec 32 := 1#32
  let v33 : BitVec 32 := Scalar.divsi v31 c1_i32_8
  let v34 : BitVec 32 := Scalar.muli v33 c1_i32_8
  let v35 : BitVec 32 := Scalar.addi c0_i32 v34
  let v32 : BitVec 32 := Scalar.addi c0_i32 v31
  let c1_i32_10 : BitVec 32 := 1#32
  ⟨v35, v32, c1_i32_10⟩
def k0_mult2 (i : grid0.Coords) (k0_t2 : Fin (k0_t2_loop i).trips) : BitVec 32 :=
  let arg1 : BitVec 32 := BitVec.ofNat 32 (i 1).val
  let c1_i32 : BitVec 32 := 1#32
  let v25 : BitVec 32 := Scalar.addi arg1 c1_i32
  let c2_i32 : BitVec 32 := 2#32
  let v26 : BitVec 32 := Scalar.muli v25 c2_i32
  let c1_i32_13 : BitVec 32 := 1#32
  let v39 : BitVec 32 := Scalar.subi v26 c1_i32_13
  let c0_i32 : BitVec 32 := 0#32
  let v31 : BitVec 32 := Scalar.subi v26 c0_i32
  let c1_i32_8 : BitVec 32 := 1#32
  let v33 : BitVec 32 := Scalar.divsi v31 c1_i32_8
  let v34 : BitVec 32 := Scalar.muli v33 c1_i32_8
  let v35 : BitVec 32 := Scalar.addi c0_i32 v34
  let c1_i32_10 : BitVec 32 := 1#32
  let arg7 : BitVec 32 := Scf.iv v35 c1_i32_10 k0_t2
  let v40 : BitVec 32 := Scalar.subi v39 arg7
  let c128_i32 : BitVec 32 := 128#32
  let v41 : BitVec 32 := Scalar.muli v40 c128_i32
  v41
def k0_off2 (i : grid0.Coords) (k0_t2 : Fin (k0_t2_loop i).trips) : Fin 2 → Nat :=
  let arg1 : BitVec 32 := BitVec.ofNat 32 (i 1).val
  let c1_i32 : BitVec 32 := 1#32
  let v25 : BitVec 32 := Scalar.addi arg1 c1_i32
  let c2_i32 : BitVec 32 := 2#32
  let v26 : BitVec 32 := Scalar.muli v25 c2_i32
  let c1_i32_13 : BitVec 32 := 1#32
  let v39 : BitVec 32 := Scalar.subi v26 c1_i32_13
  let c0_i32 : BitVec 32 := 0#32
  let v31 : BitVec 32 := Scalar.subi v26 c0_i32
  let c1_i32_8 : BitVec 32 := 1#32
  let v33 : BitVec 32 := Scalar.divsi v31 c1_i32_8
  let v34 : BitVec 32 := Scalar.muli v33 c1_i32_8
  let v35 : BitVec 32 := Scalar.addi c0_i32 v34
  let c1_i32_10 : BitVec 32 := 1#32
  let arg7 : BitVec 32 := Scf.iv v35 c1_i32_10 k0_t2
  let v40 : BitVec 32 := Scalar.subi v39 arg7
  let c128_i32 : BitVec 32 := 128#32
  let v41 : BitVec 32 := Scalar.muli v40 c128_i32
  let v42 : BitVec 32 := v41
  let v43 : Index := Scalar.indexCast v42
  let c0_14 : Index := 0#32
  ![v43.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 32], ![false, false]⟩

@[reducible] def k1_t1_loop (i : grid1.Coords) : Scf.Loop 32 :=
  let c0_i32_13 : BitVec 32 := 0#32
  let arg1 : BitVec 32 := BitVec.ofNat 32 (i 1).val
  let c1_i32 : BitVec 32 := 1#32
  let v49 : BitVec 32 := Scalar.addi arg1 c1_i32
  let c2_i32 : BitVec 32 := 2#32
  let v50 : BitVec 32 := Scalar.muli v49 c2_i32
  let v53 : BitVec 32 := Scalar.subi v50 c0_i32_13
  let c1_i32_14 : BitVec 32 := 1#32
  let v55 : BitVec 32 := Scalar.divsi v53 c1_i32_14
  let v56 : BitVec 32 := Scalar.muli v55 c1_i32_14
  let v57 : BitVec 32 := Scalar.addi c0_i32_13 v56
  let c1_i32_15 : BitVec 32 := 1#32
  ⟨c0_i32_13, v57, c1_i32_15⟩
def k1_mult1 (i : grid1.Coords) (k1_t1 : Fin (k1_t1_loop i).trips) : BitVec 32 :=
  let c0_i32_13 : BitVec 32 := 0#32
  let c1_i32_15 : BitVec 32 := 1#32
  let arg10 : BitVec 32 := Scf.iv c0_i32_13 c1_i32_15 k1_t1
  let c128_i32 : BitVec 32 := 128#32
  let v63 : BitVec 32 := Scalar.muli arg10 c128_i32
  v63
def k1_off1 (i : grid1.Coords) (k1_t1 : Fin (k1_t1_loop i).trips) : Fin 2 → Nat :=
  let c0_i32_13 : BitVec 32 := 0#32
  let c1_i32_15 : BitVec 32 := 1#32
  let arg10 : BitVec 32 := Scf.iv c0_i32_13 c1_i32_15 k1_t1
  let c128_i32 : BitVec 32 := 128#32
  let v63 : BitVec 32 := Scalar.muli arg10 c128_i32
  let v64 : BitVec 32 := v63
  let v65 : Index := Scalar.indexCast v64
  let c0_20 : Index := 0#32
  ![v65.toNat, 0]
@[reducible] def k1_t2_loop (i : grid1.Coords) : Scf.Loop 32 :=
  let c0_i32_13 : BitVec 32 := 0#32
  let arg1 : BitVec 32 := BitVec.ofNat 32 (i 1).val
  let c1_i32 : BitVec 32 := 1#32
  let v49 : BitVec 32 := Scalar.addi arg1 c1_i32
  let c2_i32 : BitVec 32 := 2#32
  let v50 : BitVec 32 := Scalar.muli v49 c2_i32
  let v53 : BitVec 32 := Scalar.subi v50 c0_i32_13
  let c1_i32_14 : BitVec 32 := 1#32
  let v55 : BitVec 32 := Scalar.divsi v53 c1_i32_14
  let v56 : BitVec 32 := Scalar.muli v55 c1_i32_14
  let v57 : BitVec 32 := Scalar.addi c0_i32_13 v56
  let v54 : BitVec 32 := Scalar.addi c0_i32_13 v53
  let c1_i32_16 : BitVec 32 := 1#32
  ⟨v57, v54, c1_i32_16⟩
def k1_mult2 (i : grid1.Coords) (k1_t2 : Fin (k1_t2_loop i).trips) : BitVec 32 :=
  let c0_i32_13 : BitVec 32 := 0#32
  let arg1 : BitVec 32 := BitVec.ofNat 32 (i 1).val
  let c1_i32 : BitVec 32 := 1#32
  let v49 : BitVec 32 := Scalar.addi arg1 c1_i32
  let c2_i32 : BitVec 32 := 2#32
  let v50 : BitVec 32 := Scalar.muli v49 c2_i32
  let v53 : BitVec 32 := Scalar.subi v50 c0_i32_13
  let c1_i32_14 : BitVec 32 := 1#32
  let v55 : BitVec 32 := Scalar.divsi v53 c1_i32_14
  let v56 : BitVec 32 := Scalar.muli v55 c1_i32_14
  let v57 : BitVec 32 := Scalar.addi c0_i32_13 v56
  let c1_i32_16 : BitVec 32 := 1#32
  let arg10 : BitVec 32 := Scf.iv v57 c1_i32_16 k1_t2
  let c128_i32 : BitVec 32 := 128#32
  let v63 : BitVec 32 := Scalar.muli arg10 c128_i32
  v63
def k1_off2 (i : grid1.Coords) (k1_t2 : Fin (k1_t2_loop i).trips) : Fin 2 → Nat :=
  let c0_i32_13 : BitVec 32 := 0#32
  let arg1 : BitVec 32 := BitVec.ofNat 32 (i 1).val
  let c1_i32 : BitVec 32 := 1#32
  let v49 : BitVec 32 := Scalar.addi arg1 c1_i32
  let c2_i32 : BitVec 32 := 2#32
  let v50 : BitVec 32 := Scalar.muli v49 c2_i32
  let v53 : BitVec 32 := Scalar.subi v50 c0_i32_13
  let c1_i32_14 : BitVec 32 := 1#32
  let v55 : BitVec 32 := Scalar.divsi v53 c1_i32_14
  let v56 : BitVec 32 := Scalar.muli v55 c1_i32_14
  let v57 : BitVec 32 := Scalar.addi c0_i32_13 v56
  let c1_i32_16 : BitVec 32 := 1#32
  let arg10 : BitVec 32 := Scf.iv v57 c1_i32_16 k1_t2
  let c128_i32 : BitVec 32 := 128#32
  let v63 : BitVec 32 := Scalar.muli arg10 c128_i32
  let v64 : BitVec 32 := v63
  let v65 : Index := Scalar.indexCast v64
  let c0_20 : Index := 0#32
  ![v65.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== AttnReferenceIdeal.lean ====
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x64x8192 : Shape := ⟨3, ![8, 64, 8192]⟩
abbrev S8x8192x64 : Shape := ⟨3, ![8, 8192, 64]⟩

abbrev nBuf : Space → Nat
  | .hbm => 172
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x8x64, .f32⟩
  | 5 => ⟨S8192x8x64, .f32⟩
  | 6 => ⟨S8x8192x8192, .f32⟩
  | 7 => ⟨S_, .f32⟩
  | 8 => ⟨S8x8192x8192, .f32⟩
  | 9 => ⟨S8x8192x8192, .f32⟩
  | 10 => ⟨S8192, .i32⟩
  | 11 => ⟨S1x1x8192, .i32⟩
  | 12 => ⟨S1x8192x1, .i32⟩
  | 13 => ⟨S1x8192x8192, .i32⟩
  | 14 => ⟨S1x8192x8192, .i32⟩
  | 15 => ⟨S1x8192x8192, .i1⟩
  | 16 => ⟨S8x8192x8192, .f32⟩
  | 17 => ⟨S8x8192x8192, .f32⟩
  | 18 => ⟨S_, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .i1⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S_, .f32⟩
  | 33 => ⟨S8x8192x8192, .f32⟩
  | 34 => ⟨S8x8192x8192, .i1⟩
  | 35 => ⟨S_, .f32⟩
  | 36 => ⟨S8x8192x8192, .f32⟩
  | 37 => ⟨S8x8192x8192, .f32⟩
  | 38 => ⟨S_, .f32⟩
  | 39 => ⟨S8x8192x8192, .f32⟩
  | 40 => ⟨S8x8192x8192, .i1⟩
  | 41 => ⟨S_, .f32⟩
  | 42 => ⟨S8x8192x8192, .f32⟩
  | 43 => ⟨S8x8192x8192, .f32⟩
  | 44 => ⟨S8x8192x8192, .f32⟩
  | 45 => ⟨S8x8192x8192, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S8x8192x8192, .f32⟩
  | 54 => ⟨S8x8192x8192, .i1⟩
  | 55 => ⟨S_, .f32⟩
  | 56 => ⟨S8x8192x8192, .f32⟩
  | 57 => ⟨S8x8192x8192, .f32⟩
  | 58 => ⟨S8x8192x8192, .f32⟩
  | 59 => ⟨S8x8192x8192, .f32⟩
  | 60 => ⟨S8x8192x8192, .f32⟩
  | 61 => ⟨S_, .f32⟩
  | 62 => ⟨S8x8192x8192, .f32⟩
  | 63 => ⟨S8x8192x8192, .f32⟩
  | 64 => ⟨S8x8192x8192, .f32⟩
  | 65 => ⟨S_, .f32⟩
  | 66 => ⟨S_, .f32⟩
  | 67 => ⟨S8x8192x8192, .i1⟩
  | 68 => ⟨S8x8192x8192, .f32⟩
  | 69 => ⟨S8x8192x8192, .f32⟩
  | 70 => ⟨S_, .f32⟩
  | 71 => ⟨S8x8192x8192, .f32⟩
  | 72 => ⟨S_, .f32⟩
  | 73 => ⟨S_, .f32⟩
  | 74 => ⟨S8x8192x8192, .f32⟩
  | 75 => ⟨S8x8192x8192, .f32⟩
  | 76 => ⟨S8x8192x8192, .f32⟩
  | 77 => ⟨S_, .f32⟩
  | 78 => ⟨S8x8192x8192, .f32⟩
  | 79 => ⟨S8x8192x8192, .f32⟩
  | 80 => ⟨S8x8192x8192, .f32⟩
  | 81 => ⟨S8x8192x8192, .f32⟩
  | 82 => ⟨S8x8192x8192, .i1⟩
  | 83 => ⟨S8x8192x8192, .f32⟩
  | 84 => ⟨S8x8192x8192, .f32⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S_, .f32⟩
  | 92 => ⟨S8x8192x8192, .f32⟩
  | 93 => ⟨S8x8192x8192, .i1⟩
  | 94 => ⟨S_, .f32⟩
  | 95 => ⟨S8x8192x8192, .f32⟩
  | 96 => ⟨S8x8192x8192, .f32⟩
  | 97 => ⟨S_, .f32⟩
  | 98 => ⟨S8x8192x8192, .f32⟩
  | 99 => ⟨S8x8192x8192, .i1⟩
  | 100 => ⟨S_, .f32⟩
  | 101 => ⟨S8x8192x8192, .f32⟩
  | 102 => ⟨S8x8192x8192, .f32⟩
  | 103 => ⟨S8x8192x8192, .f32⟩
  | 104 => ⟨S8x8192x8192, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S8x8192x8192, .f32⟩
  | 113 => ⟨S8x8192x8192, .i1⟩
  | 114 => ⟨S_, .f32⟩
  | 115 => ⟨S8x8192x8192, .f32⟩
  | 116 => ⟨S8x8192x8192, .f32⟩
  | 117 => ⟨S8x8192x8192, .f32⟩
  | 118 => ⟨S8x8192x8192, .f32⟩
  | 119 => ⟨S8x8192x8192, .f32⟩
  | 120 => ⟨S_, .f32⟩
  | 121 => ⟨S8x8192x8192, .f32⟩
  | 122 => ⟨S8x8192x8192, .f32⟩
  | 123 => ⟨S8x8192x8192, .f32⟩
  | 124 => ⟨S8x8192x8192, .f32⟩
  | 125 => ⟨S8x8192x8192, .f32⟩
  | 126 => ⟨S_, .f32⟩
  | 127 => ⟨S_, .f32⟩
  | _ => ⟨S8192x512, .f32⟩

abbrev hbmTy0_1 (i : Nat) : BufTy := match i % 128 with
  | 0 => ⟨S8x8192x8192, .i1⟩
  | 1 => ⟨S8x8192x8192, .f32⟩
  | 2 => ⟨S8x8192x8192, .f32⟩
  | 3 => ⟨S_, .f32⟩
  | 4 => ⟨S8x8192x8192, .f32⟩
  | 5 => ⟨S8192x8x64, .f32⟩
  | 6 => ⟨S8x64x8192, .f32⟩
  | 7 => ⟨S8192x8x64, .f32⟩
  | 8 => ⟨S8192x512, .f32⟩
  | 9 => ⟨S8192x8x64, .f32⟩
  | 10 => ⟨S8x64x8192, .f32⟩
  | 11 => ⟨S8x8192x8192, .f32⟩
  | 12 => ⟨S8x64x8192, .f32⟩
  | 13 => ⟨S8192x8x64, .f32⟩
  | 14 => ⟨S8192x512, .f32⟩
  | 15 => ⟨S_, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S_, .f32⟩
  | 24 => ⟨S_, .f32⟩
  | 25 => ⟨S8x8192x8192, .f32⟩
  | 26 => ⟨S8x8192x8192, .f32⟩
  | 27 => ⟨S_, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S_, .f32⟩
  | 36 => ⟨S8x8192x8192, .f32⟩
  | 37 => ⟨S8x8192x8192, .f32⟩
  | 38 => ⟨S8x8192x64, .f32⟩
  | 39 => ⟨S8192x8x64, .f32⟩
  | 40 => ⟨S8x8192x64, .f32⟩
  | 41 => ⟨S8192x8x64, .f32⟩
  | 42 => ⟨S8192x512, .f32⟩
  | 43 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v12_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v12_2 : Ref sig .tc := ⟨.hbm, 63, rfl⟩
abbrev main_v12_0 : Ref sig .tc := ⟨.hbm, 64, rfl⟩
abbrev main_cst_0 : Ref sig .tc := ⟨.hbm, 65, rfl⟩
abbrev main_call1_v0 : Ref sig .tc := ⟨.hbm, 66, rfl⟩
abbrev main_v13_1 : Ref sig .tc := ⟨.hbm, 67, rfl⟩
abbrev main_call1_v2 : Ref sig .tc := ⟨.hbm, 68, rfl⟩
abbrev main_v13_0 : Ref sig .tc := ⟨.hbm, 69, rfl⟩
abbrev main_call1_cst : Ref sig .tc := ⟨.hbm, 70, rfl⟩
abbrev main_v13_2 : Ref sig .tc := ⟨.hbm, 71, rfl⟩
abbrev main_call2_cst : Ref sig .tc := ⟨.hbm, 72, rfl⟩
abbrev main_call2_v0 : Ref sig .tc := ⟨.hbm, 73, rfl⟩
abbrev main_v14 : Ref sig .tc := ⟨.hbm, 74, rfl⟩
abbrev main_v15 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1_0 : Ref sig .tc := ⟨.hbm, 90, rfl⟩
abbrev main_call3_call0_cst_0 : Ref sig .tc := ⟨.hbm, 91, rfl⟩
abbrev main_call3_call0_v13 : Ref sig .tc := ⟨.hbm, 92, rfl⟩
abbrev main_call3_call0_v14 : Ref sig .tc := ⟨.hbm, 93, rfl⟩
abbrev main_call3_call0_cst_1 : Ref sig .tc := ⟨.hbm, 94, rfl⟩
abbrev main_call3_call0_v15 : Ref sig .tc := ⟨.hbm, 95, rfl⟩
abbrev main_call3_call0_v16 : Ref sig .tc := ⟨.hbm, 96, rfl⟩
abbrev main_call3_call0_cst_2 : Ref sig .tc := ⟨.hbm, 97, rfl⟩
abbrev main_call3_call0_v17 : Ref sig .tc := ⟨.hbm, 98, rfl⟩
abbrev main_call3_call0_v18 : Ref sig .tc := ⟨.hbm, 99, rfl⟩
abbrev main_call3_call0_cst_3 : Ref sig .tc := ⟨.hbm, 100, rfl⟩
abbrev main_call3_call0_v19 : Ref sig .tc := ⟨.hbm, 101, rfl⟩
abbrev main_call3_call0_v20 : Ref sig .tc := ⟨.hbm, 102, rfl⟩
abbrev main_call3_call0_v21 : Ref sig .tc := ⟨.hbm, 103, rfl⟩
abbrev main_v16_1 : Ref sig .tc := ⟨.hbm, 104, rfl⟩
abbrev main_call3_call0_cst_4 : Ref sig .tc := ⟨.hbm, 105, rfl⟩
abbrev main_call3_call0_cst_5 : Ref sig .tc := ⟨.hbm, 106, rfl⟩
abbrev main_call3_call0_v23 : Ref sig .tc := ⟨.hbm, 107, rfl⟩
abbrev main_call3_call0_cst_6 : Ref sig .tc := ⟨.hbm, 108, rfl⟩
abbrev main_call3_call0_cst_7 : Ref sig .tc := ⟨.hbm, 109, rfl⟩
abbrev main_call3_call0_v24 : Ref sig .tc := ⟨.hbm, 110, rfl⟩
abbrev main_call3_call0_cst_8 : Ref sig .tc := ⟨.hbm, 111, rfl⟩
abbrev main_call3_call0_v25 : Ref sig .tc := ⟨.hbm, 112, rfl⟩
abbrev main_call3_call0_v26 : Ref sig .tc := ⟨.hbm, 113, rfl⟩
abbrev main_call3_call0_cst_9 : Ref sig .tc := ⟨.hbm, 114, rfl⟩
abbrev main_call3_call0_v27 : Ref sig .tc := ⟨.hbm, 115, rfl⟩
abbrev main_call3_call0_v28 : Ref sig .tc := ⟨.hbm, 116, rfl⟩
abbrev main_call3_call0_v29 : Ref sig .tc := ⟨.hbm, 117, rfl⟩
abbrev main_call3_call0_v30 : Ref sig .tc := ⟨.hbm, 118, rfl⟩
abbrev main_call3_call0_v31 : Ref sig .tc := ⟨.hbm, 119, rfl⟩
abbrev main_call3_call0_cst_10 : Ref sig .tc := ⟨.hbm, 120, rfl⟩
abbrev main_call3_call0_v32 : Ref sig .tc := ⟨.hbm, 121, rfl⟩
abbrev main_v16_2 : Ref sig .tc := ⟨.hbm, 122, rfl⟩
abbrev main_v16_0 : Ref sig .tc := ⟨.hbm, 123, rfl⟩
abbrev main_v17 : Ref sig .tc := ⟨.hbm, 124, rfl⟩
abbrev main_v18 : Ref sig .tc := ⟨.hbm, 125, rfl⟩
abbrev main_cst_1 : Ref sig .tc := ⟨.hbm, 126, rfl⟩
abbrev main_call4_v0 : Ref sig .tc := ⟨.hbm, 127, rfl⟩
abbrev main_v19_1 : Ref sig .tc := ⟨.hbm, 128, rfl⟩
abbrev main_call4_v2 : Ref sig .tc := ⟨.hbm, 129, rfl⟩
abbrev main_v19_0 : Ref sig .tc := ⟨.hbm, 130, rfl⟩
abbrev main_call4_cst : Ref sig .tc := ⟨.hbm, 131, rfl⟩
abbrev main_v19_2 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_call5_cst : Ref sig .tc := ⟨.hbm, 143, rfl⟩
abbrev main_call5_v0 : Ref sig .tc := ⟨.hbm, 144, rfl⟩
abbrev main_v30 : Ref sig .tc := ⟨.hbm, 145, rfl⟩
abbrev main_v31 : Ref sig .tc := ⟨.hbm, 146, rfl⟩
abbrev main_call6_v0 : Ref sig .tc := ⟨.hbm, 147, rfl⟩
abbrev main_call6_v1 : Ref sig .tc := ⟨.hbm, 148, rfl⟩
abbrev main_v32 : Ref sig .tc := ⟨.hbm, 149, rfl⟩
abbrev main_v33 : Ref sig .tc := ⟨.hbm, 150, rfl⟩
abbrev main_call7_cst : Ref sig .tc := ⟨.hbm, 151, rfl⟩
abbrev main_call7_v0 : Ref sig .tc := ⟨.hbm, 152, rfl⟩
abbrev main_v34 : Ref sig .tc := ⟨.hbm, 153, rfl⟩
abbrev main_v35 : Ref sig .tc := ⟨.hbm, 154, rfl⟩
abbrev main_call8_cst : Ref sig .tc := ⟨.hbm, 155, rfl⟩
abbrev main_call8_v0 : Ref sig .tc := ⟨.hbm, 156, rfl⟩
abbrev main_v36 : Ref sig .tc := ⟨.hbm, 157, rfl⟩
abbrev main_call9_v0 : Ref sig .tc := ⟨.hbm, 158, rfl⟩
abbrev main_call9_v1 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_cst_2 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩

abbrev nD : Nat := 1
abbrev τ : Topo := Topo.v7x

variable {F : FTy → Type} [FloatOps F]
-- ==== LossKernel.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 9
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1, .f32⟩
  | .hbm, ⟨7, _⟩ => ⟨S8192x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S1x8192x1024 : Shape := ⟨3, ![1, 8192, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S1x1, .f32⟩
  | .hbm, ⟨74, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== SguKernel.lean ====
abbrev S8192x512 : Shape := ⟨2, ![8192, 512]⟩
abbrev S8192x256 : Shape := ⟨2, ![8192, 256]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S128x512 : Shape := ⟨2, ![128, 512]⟩
abbrev S256x256 : Shape := ⟨2, ![256, 256]⟩

abbrev nBuf : Space → Nat
  | .hbm => 31
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S4x128x128, .i1⟩
  | .hbm, ⟨20, _⟩ => ⟨S4x128x128, .f32⟩
  | .hbm, ⟨21, _⟩ => ⟨S4x128x128, .f32⟩
  | .hbm, ⟨22, _⟩ => ⟨S4x128x128, .bf16⟩
  | .hbm, ⟨23, _⟩ => ⟨S128x4, .f32⟩
  | .hbm, ⟨24, _⟩ => ⟨S128x4x64, .f32⟩
  | .hbm, ⟨25, _⟩ => ⟨S128x256, .f32⟩
  | .hbm, ⟨26, _⟩ => ⟨S1x256, .f32⟩
  | .hbm, ⟨27, _⟩ => ⟨S8192x512, .f32⟩
  | .hbm, ⟨28, _⟩ => ⟨S4x128x128, .f32⟩
  | .hbm, ⟨29, _⟩ => ⟨S128x256, .f32⟩
  | .hbm, ⟨30, _⟩ => ⟨S1x256, .f32⟩
  | .local _ .vmem, ⟨0, _⟩ => ⟨S128x512, .f32⟩
  | .local _ .vmem, ⟨1, _⟩ => ⟨S128x512, .f32⟩
  | .local _ .vmem, ⟨2, _⟩ => ⟨S128x256, .f32⟩
  | .local _ .vmem, ⟨3, _⟩ => ⟨S128x256, .f32⟩
  | .local _ .vmem, ⟨4, _⟩ => ⟨S1x256, .f32⟩
  | .local _ .vmem, ⟨5, _⟩ => ⟨S4x128x128, .bf16⟩
  | .local _ .vmem, ⟨6, _⟩ => ⟨S128x256, .f32⟩
  | .local _ .vmem, ⟨7, _⟩ => ⟨S128x512, .f32⟩
  | .local _ .vmem, ⟨8, _⟩ => ⟨S128x512, .f32⟩
  | .local _ .vmem, ⟨9, _⟩ => ⟨S4x128x128, .f32⟩
  | .local _ .vmem, ⟨10, _⟩ => ⟨S128x256, .f32⟩
  | .local _ .vmem, ⟨11, _⟩ => ⟨S1x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SguKernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== SguReferenceIdeal.lean ====
abbrev S8192x512 : Shape := ⟨2, ![8192, 512]⟩
abbrev S8192x256 : Shape := ⟨2, ![8192, 256]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S128x4 : Shape := ⟨2, ![128, 4]⟩
abbrev S128x4x1 : Shape := ⟨3, ![128, 4, 1]⟩
abbrev S128x4x64 : Shape := ⟨3, ![128, 4, 64]⟩
abbrev S8192x4x64 : Shape := ⟨3, ![8192, 4, 64]⟩
abbrev S8192x4 : Shape := ⟨2, ![8192, 4]⟩
abbrev S8192x4x1 : Shape := ⟨3, ![8192, 4, 1]⟩
abbrev S4x64 : Shape := ⟨2, ![4, 64]⟩
abbrev S1x4x64 : Shape := ⟨3, ![1, 4, 64]⟩
abbrev S1x128x128 : Shape := ⟨3, ![1, 128, 128]⟩
abbrev S64x128x4x64 : Shape := ⟨4, ![64, 128, 4, 64]⟩
abbrev S4x64x64x128 : Shape := ⟨4, ![4, 64, 64, 128]⟩
abbrev S1x128x4x64 : Shape := ⟨4, ![1, 128, 4, 64]⟩
abbrev S128x256 : Shape := ⟨2, ![128, 256]⟩
abbrev S1x256 : Shape := ⟨2, ![1, 256]⟩

abbrev nBuf : Space → Nat
  | .hbm => 130
  | .vmem => 0
  | .smem => 0
  | _ => 0

abbrev hbmTy0_0 (i : Nat) : BufTy := match i % 128 with
  | 0 => ⟨S8192x512, .f32⟩
  | 1 => ⟨S8192x256, .f32⟩
  | 2 => ⟨S256, .f32⟩
  | 3 => ⟨S4x128x128, .f32⟩
  | 4 => ⟨S4x128, .f32⟩
  | 5 => ⟨S_, .i1⟩
  | 6 => ⟨S128x128, .i1⟩
  | 7 => ⟨S128x128, .i32⟩
  | 8 => ⟨S_, .i32⟩
  | 9 => ⟨S128x128, .i32⟩
  | 10 => ⟨S128x128, .i32⟩
  | 11 => ⟨S128x128, .i32⟩
  | 12 => ⟨S128x128, .i1⟩
  | 13 => ⟨S_, .i1⟩
  | 14 => ⟨S128x128, .i1⟩
  | 15 => ⟨S128x128, .i1⟩
  | 16 => ⟨S128x4, .f32⟩
  | 17 => ⟨S128x4x1, .f32⟩
  | 18 => ⟨S128x4x64, .f32⟩
  | 19 => ⟨S_, .f32⟩
  | 20 => ⟨S8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x256, .f32⟩
  | 32 => ⟨S8192x256, .f32⟩
  | 33 => ⟨S8192x4x64, .f32⟩
  | 34 => ⟨S8192x4x64, .f32⟩
  | 35 => ⟨S_, .f32⟩
  | 36 => ⟨S8192x4, .f32⟩
  | 37 => ⟨S8192x4x1, .f32⟩
  | 38 => ⟨S_, .f32⟩
  | 39 => ⟨S8192x4x1, .f32⟩
  | 40 => ⟨S8192x4x1, .f32⟩
  | 41 => ⟨S_, .f32⟩
  | 42 => ⟨S8192x4x1, .f32⟩
  | 43 => ⟨S8192x4x1, .f32⟩
  | 44 => ⟨S8192x4x1, .f32⟩
  | 45 => ⟨S8192x4x1, .f32⟩
  | 46 => ⟨S_, .f32⟩
  | 47 => ⟨S8192x4x1, .f32⟩
  | 48 => ⟨S8192x4x1, .f32⟩
  | 49 => ⟨S8192x4x64, .f32⟩
  | 50 => ⟨S8192x4x64, .f32⟩
  | 51 => ⟨S4x64, .f32⟩
  | 52 => ⟨S1x4x64, .f32⟩
  | 53 => ⟨S8192x4x64, .f32⟩
  | 54 => ⟨S8192x4x64, .f32⟩
  | 55 => ⟨S1x128x128, .i1⟩
  | 56 => ⟨S_, .f32⟩
  | 57 => ⟨S4x128x128, .f32⟩
  | 58 => ⟨S4x128x128, .i1⟩
  | 59 => ⟨S4x128x128, .f32⟩
  | 60 => ⟨S_, .f32⟩
  | 61 => ⟨S4x128x128, .f32⟩
  | 62 => ⟨S64x128x4x64, .f32⟩
  | 63 => ⟨S4x64x64x128, .f32⟩
  | 64 => ⟨S64x128x4x64, .f32⟩
  | 65 => ⟨S1x128x4x64, .f32⟩
  | 66 => ⟨S64x128x4x64, .f32⟩
  | 67 => ⟨S64x128x4x64, .f32⟩
  | 68 => ⟨S8192x256, .f32⟩
  | 69 => ⟨S8192x256, .f32⟩
  | 70 => ⟨S8192x256, .f32⟩
  | 71 => ⟨S8192x256, .f32⟩
  | 72 => ⟨S64x128x4x64, .f32⟩
  | 73 => ⟨S_, .f32⟩
  | 74 => ⟨S128x4x64, .f32⟩
  | 75 => ⟨S1x128x4x64, .f32⟩
  | 76 => ⟨S_, .f32⟩
  | 77 => ⟨S128x4x64, .f32⟩
  | 78 => ⟨S4x64x64x128, .f32⟩
  | 79 => ⟨S4x128x128, .f32⟩
  | 80 => ⟨S4x64x64x128, .f32⟩
  | 81 => ⟨S64x128x4x64, .f32⟩
  | 82 => ⟨S8192x4x64, .f32⟩
  | 83 => ⟨S_, .f32⟩
  | 84 => ⟨S4x128x128, .f32⟩
  | 85 => ⟨S4x128x128, .f32⟩
  | 86 => ⟨S8192x4x64, .f32⟩
  | 87 => ⟨S_, .f32⟩
  | 88 => ⟨S4x64, .f32⟩
  | 89 => ⟨S1x4x64, .f32⟩
  | 90 => ⟨S8192x4x64, .f32⟩
  | 91 => ⟨S8192x4x64, .f32⟩
  | 92 => ⟨S_, .f32⟩
  | 93 => ⟨S4x64, .f32⟩
  | 94 => ⟨S256, .f32⟩
  | 95 => ⟨S8192x4x64, .f32⟩
  | 96 => ⟨S_, .f32⟩
  | 97 => ⟨S8192x4, .f32⟩
  | 98 => ⟨S8192x4x1, .f32⟩
  | 99 => ⟨S8192x4x64, .f32⟩
  | 100 => ⟨S8192x4x64, .f32⟩
  | 101 => ⟨S8192x4x1, .f32⟩
  | 102 => ⟨S_, .f32⟩
  | 103 => ⟨S8192x4x1, .f32⟩
  | 104 => ⟨S8192x4x1, .f32⟩
  | 105 => ⟨S_, .f32⟩
  | 106 => ⟨S8192x4, .f32⟩
  | 107 => ⟨S8192x4x64, .f32⟩
  | 108 => ⟨S8192x4x64, .f32⟩
  | 109 => ⟨S8192x4x64, .f32⟩
  | 110 => ⟨S8192x4x64, .f32⟩
  | 111 => ⟨S8192x4x64, .f32⟩
  | 112 => ⟨S8192x256, .f32⟩
  | 113 => ⟨S8192x512, .f32⟩
  | 114 => ⟨S8192x512, .f32⟩
  | 115 => ⟨S8192x512, .f32⟩
  | 116 => ⟨S_, .f32⟩
  | 117 => ⟨S8192x512, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S8192x512, .f32⟩
  | _ => ⟨S8192x512, .f32⟩

abbrev hbmTy0_1 (i : Nat) : BufTy := match i % 128 with
  | 0 => ⟨S128x256, .f32⟩
  | 1 => ⟨S1x256, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37_1 : Ref sig .tc := ⟨.hbm, 58, rfl⟩
abbrev main_v37_0 : Ref sig .tc := ⟨.hbm, 59, rfl⟩
abbrev main_call1_cst : Ref sig .tc := ⟨.hbm, 60, rfl⟩
abbrev main_v37_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call2_cst : Ref sig .tc := ⟨.hbm, 83, rfl⟩
abbrev main_call2_v0 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_v72 : Ref sig .tc := ⟨.hbm, 104, rfl⟩
abbrev main_cst_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_13 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_14 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]

def κ : String → Option EReal := fun
  | "sqrt_half" => some (((Real.sqrt 2)⁻¹ : ℝ) : EReal)
  | "two_inv_sqrtpi" => some ((2 * (Real.sqrt Real.pi)⁻¹ : ℝ) : EReal)
  | _ => none
-- ==== GateKernel.lean ====
abbrev S8192x1024 : Shape := ⟨2, ![8192, 1024]⟩
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S1024x2816 : Shape := ⟨2, ![1024, 2816]⟩
abbrev S8192x2816 : Shape := ⟨2, ![8192, 2816]⟩
abbrev S8x2816 : Shape := ⟨2, ![8, 2816]⟩
abbrev S512x1024 : Shape := ⟨2, ![512, 1024]⟩
abbrev S512x256 : Shape := ⟨2, ![512, 256]⟩
abbrev S8x256 : Shape := ⟨2, ![8, 256]⟩
abbrev S1024x256 : Shape := ⟨2, ![1024, 256]⟩
abbrev S504x256 : Shape := ⟨2, ![504, 256]⟩
abbrev S1x256 : Shape := ⟨2, ![1, 256]⟩
abbrev S256 : Shape := ⟨1, ![256]⟩

abbrev nBuf : Space → Nat
  | .hbm => 15
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1x5632, .f32⟩
  | .hbm, ⟨6, _⟩ => ⟨S_, .f32⟩
  | .hbm, ⟨7, _⟩ => ⟨S4x5632, .f32⟩
  | .hbm, ⟨8, _⟩ => ⟨S8x5632, .f32⟩
  | .hbm, ⟨9, _⟩ => ⟨S2816x1024, .bf16⟩
  | .hbm, ⟨10, _⟩ => ⟨S1024x2816, .bf16⟩
  | .hbm, ⟨11, _⟩ => ⟨S8192x2816, .f32⟩
  | .hbm, ⟨12, _⟩ => ⟨S8192x2816, .f32⟩
  | .hbm, ⟨13, _⟩ => ⟨S8x2816, .f32⟩
  | .hbm, ⟨14, _⟩ => ⟨S8x2816, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S1024x256, .bf16⟩
  | .local _ .vmem, ⟨15, _⟩ => ⟨S1024x256, .bf16⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S8x256, .f32⟩
  | .local _ .vmem, ⟨21, _⟩ => ⟨S8x256, .f32⟩
  | .local _ .vmem, ⟨22, _⟩ => ⟨S8x256, .f32⟩
  | .local _ .vmem, ⟨23, _⟩ => ⟨S8x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== GateReferenceIdeal.lean ====
abbrev S8192x1024 : Shape := ⟨2, ![8192, 1024]⟩
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S4x5632 : Shape := ⟨2, ![4, 5632]⟩
abbrev S8x5632 : Shape := ⟨2, ![8, 5632]⟩
abbrev S8x2816 : Shape := ⟨2, ![8, 2816]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S8192x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x5632, .f32⟩
  | .hbm, ⟨56, _⟩ => ⟨S8192x5632, .f32⟩
  | .hbm, ⟨57, _⟩ => ⟨S_, .f32⟩
  | .hbm, ⟨58, _⟩ => ⟨S5632, .f32⟩
  | .hbm, ⟨59, _⟩ => ⟨S1x5632, .f32⟩
  | .hbm, ⟨60, _⟩ => ⟨S_, .f32⟩
  | .hbm, ⟨61, _⟩ => ⟨S5632, .f32⟩
  | .hbm, ⟨62, _⟩ => ⟨S1x5632, .f32⟩
  | .hbm, ⟨63, _⟩ => ⟨S_, .f32⟩
  | .hbm, ⟨64, _⟩ => ⟨S3x5632, .f32⟩
  | .hbm, ⟨65, _⟩ => ⟨S8192x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S3x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S_, .f32⟩
  | .hbm, ⟨79, _⟩ => ⟨S5632, .f32⟩
  | .hbm, ⟨80, _⟩ => ⟨S8192x5632, .f32⟩
  | .hbm, ⟨81, _⟩ => ⟨S_, .f32⟩
  | .hbm, ⟨82, _⟩ => ⟨S5632, .f32⟩
  | .hbm, ⟨83, _⟩ => ⟨S1x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S3x5632, .f32⟩
  | .hbm, ⟨89, _⟩ => ⟨S3x5632, .f32⟩
  | .hbm, ⟨90, _⟩ => ⟨S1x5632, .f32⟩
  | .hbm, ⟨91, _⟩ => ⟨S_, .f32⟩
  | .hbm, ⟨92, _⟩ => ⟨S4x5632, .f32⟩
  | .hbm, ⟨93, _⟩ => ⟨S8x5632, .f32⟩
  | .hbm, ⟨94, _⟩ => ⟨S8192x2816, .f32⟩
  | .hbm, ⟨95, _⟩ => ⟨S8192x2816, .f32⟩
  | .hbm, ⟨96, _⟩ => ⟨S8x2816, .f32⟩
  | .hbm, ⟨97, _⟩ => ⟨S8x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_0 : Ref sig .tc := ⟨.hbm, 57, rfl⟩
abbrev main_v36 : Ref sig .tc := ⟨.hbm, 58, rfl⟩
abbrev main_v37 : Ref sig .tc := ⟨.hbm, 59, rfl⟩
abbrev main_cst_1 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]
-- ==== UpKernel.lean ====
abbrev S8192x2816 : Shape := ⟨2, ![8192, 2816]⟩
abbrev S3x5632 : Shape := ⟨2, ![3, 5632]⟩
abbrev S5632 : Shape := ⟨1, ![5632]⟩
abbrev S1024x5632 : Shape := ⟨2, ![1024, 5632]⟩
abbrev S8192x1024 : Shape := ⟨2, ![8192, 1024]⟩
abbrev S1024 : Shape := ⟨1, ![1024]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S5632x1024 : Shape := ⟨2, ![5632, 1024]⟩
abbrev S1x1024 : Shape := ⟨2, ![1, 1024]⟩
abbrev S512x256 : Shape := ⟨2, ![512, 256]⟩
abbrev S8x256 : Shape := ⟨2, ![8, 256]⟩
abbrev S256x1024 : Shape := ⟨2, ![256, 1024]⟩
abbrev S512x1024 : Shape := ⟨2, ![512, 1024]⟩
abbrev S504x256 : Shape := ⟨2, ![504, 256]⟩
abbrev S1x256 : Shape := ⟨2, ![1, 256]⟩
abbrev S512 : Shape := ⟨1, ![512]⟩
abbrev S512x1 : Shape := ⟨2, ![512, 1]⟩

abbrev nBuf : Space → Nat
  | .hbm => 19
  | .vmem => 29
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S1024x5632, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S1x5632, .f32⟩
  | .hbm, ⟨9, _⟩ => ⟨S_, .f32⟩
  | .hbm, ⟨10, _⟩ => ⟨S4x5632, .f32⟩
  | .hbm, ⟨11, _⟩ => ⟨S8x5632, .f32⟩
  | .hbm, ⟨12, _⟩ => ⟨S1024x5632, .bf16⟩
  | .hbm, ⟨13, _⟩ => ⟨S5632x1024, .bf16⟩
  | .hbm, ⟨14, _⟩ => ⟨S1x1024, .f32⟩
  | .hbm, ⟨15, _⟩ => ⟨S8192x2816, .bf16⟩
  | .hbm, ⟨16, _⟩ => ⟨S8192x2816, .bf16⟩
  | .hbm, ⟨17, _⟩ => ⟨S8192x1024, .f32⟩
  | .hbm, ⟨18, _⟩ => ⟨S1x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | .local _ .vmem, ⟨28, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨2, ![16, 11], ![false, false]⟩

def k0_cond3 (i : grid0.Coords) : BitVec 1 :=
  let arg1 : BitVec 32 := BitVec.ofNat 32 (i 1).val
  let c10_i32 : BitVec 32 := 10#32
  let v97 : BitVec 1 := Scalar.cmpi .eq arg1 c10_i32
  let v98 : BitVec 32 := Scalar.extui v97
  let c0_i32_44 : BitVec 32 := 0#32
  let v99 : BitVec 1 := Scalar.cmpi .ne v98 c0_i32_44
  v99

def k0_cond2 (i : grid0.Coords) : BitVec 1 :=
  let arg0 : BitVec 32 := BitVec.ofNat 32 (i 0).val
  let c0_i32_41 : BitVec 32 := 0#32
  let v92 : BitVec 1 := Scalar.cmpi .eq arg0 c0_i32_41
  let arg1 : BitVec 32 := BitVec.ofNat 32 (i 1).val
  let c0_i32_42 : BitVec 32 := 0#32
  let v93 : BitVec 1 := Scalar.cmpi .eq arg1 c0_i32_42
  let v94 : BitVec 1 := Scalar.andi v92 v93
  let v95 : BitVec 32 := Scalar.extui v94
  let c0_i32_43 : BitVec 32 := 0#32
  let v96 : BitVec 1 := Scalar.cmpi .ne v95 c0_i32_43
  v96

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi arg1 c0_i32
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi arg1 c0_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== UpReferenceIdeal.lean ====
abbrev S8192x2816 : Shape := ⟨2, ![8192, 2816]⟩
abbrev S3x5632 : Shape := ⟨2, ![3, 5632]⟩
abbrev S5632 : Shape := ⟨1, ![5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩

abbrev nBuf : Space → Nat
  | .hbm => 106
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S1024x5632, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S_, .f32⟩
  | .hbm, ⟨30, _⟩ => ⟨S2x5632, .f32⟩
  | .hbm, ⟨31, _⟩ => ⟨S8194x5632, .f32⟩
  | .hbm, ⟨32, _⟩ => ⟨S_, .f32⟩
  | .hbm, ⟨33, _⟩ => ⟨S2x5632, .f32⟩
  | .hbm, ⟨34, _⟩ => ⟨S8192x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S8192x5632, .f32⟩
  | .hbm, ⟨39, _⟩ => ⟨S8192x5632, .f32⟩
  | .hbm, ⟨40, _⟩ => ⟨S1x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S1x5632, .f32⟩
  | .hbm, ⟨52, _⟩ => ⟨S5632, .f32⟩
  | .hbm, ⟨53, _⟩ => ⟨S1x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S8194x5632, .f32⟩
  | .hbm, ⟨62, _⟩ => ⟨S8192x5632, .f32⟩
  | .hbm, ⟨63, _⟩ => ⟨S8192x5632, .f32⟩
  | .hbm, ⟨64, _⟩ => ⟨S_, .f32⟩
  | .hbm, ⟨65, _⟩ => ⟨S8194x5632, .f32⟩
  | .hbm, ⟨66, _⟩ => ⟨S8194x5632, .f32⟩
  | .hbm, ⟨67, _⟩ => ⟨S8192x5632, .f32⟩
  | .hbm, ⟨68, _⟩ => ⟨S8192x5632, .f32⟩
  | .hbm, ⟨69, _⟩ => ⟨S_, .f32⟩
  | .hbm, ⟨70, _⟩ => ⟨S8194x5632, .f32⟩
  | .hbm, ⟨71, _⟩ => ⟨S8194x5632, .f32⟩
  | .hbm, ⟨72, _⟩ => ⟨S2x5632, .f32⟩
  | .hbm, ⟨73, _⟩ => ⟨S8192x5632, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x2816, .f32⟩
  | .hbm, ⟨102, _⟩ => ⟨S8192x2816, .bf16⟩
  | .hbm, ⟨103, _⟩ => ⟨S8192x2816, .f32⟩
  | .hbm, ⟨104, _⟩ => ⟨S8192x2816, .bf16⟩
  | .hbm, ⟨105, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== MixKernel.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256x256 : Shape := ⟨2, ![256, 256]⟩
abbrev S256x512 : Shape := ⟨2, ![256, 512]⟩
abbrev S128x128 : Shape := ⟨2, ![128, 128]⟩
abbrev S256x128 : Shape := ⟨2, ![256, 128]⟩
abbrev S1x128 : Shape := ⟨2, ![1, 128]⟩
abbrev S128 : Shape := ⟨1, ![128]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S1024, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S8192x256, .f32⟩
  | .hbm, ⟨10, _⟩ => ⟨S8192x512, .f32⟩
  | .hbm, ⟨11, _⟩ => ⟨S8192x256, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S1x1024, .f32⟩
  | .local _ .vmem, ⟨9, _⟩ => ⟨S1024x1024, .bf16⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S256x256, .f32⟩
  | .local _ .vmem, ⟨15, _⟩ => ⟨S256x256, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixReferenceIdeal.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S16x64 : Shape := ⟨2, ![16, 64]⟩
abbrev S1x16x64 : Shape := ⟨3, ![1, 16, 64]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S8192x16x64, .f32⟩
  | .hbm, ⟨8, _⟩ => ⟨S8192x16x64, .f32⟩
  | .hbm, ⟨9, _⟩ => ⟨S_, .f32⟩
  | .hbm, ⟨10, _⟩ => ⟨S8192x16, .f32⟩
  | .hbm, ⟨11, _⟩ => ⟨S8192x16x1, .f32⟩
  | .hbm, ⟨12, _⟩ => ⟨S_, .f32⟩
  | .hbm, ⟨13, _⟩ => ⟨S8192x16x1, .f32⟩
  | .hbm, ⟨14, _⟩ => ⟨S8192x16x1, .f32⟩
  | .hbm, ⟨15, _⟩ => ⟨S_, .f32⟩
  | .hbm, ⟨16, _⟩ => ⟨S8192x16x1, .f32⟩
  | .hbm, ⟨17, _⟩ => ⟨S8192x16x1, .f32⟩
  | .hbm, ⟨18, _⟩ => ⟨S8192x16x1, .f32⟩
  | .hbm, ⟨19, _⟩ => ⟨S8192x16x1, .f32⟩
  | .hbm, ⟨20, _⟩ => ⟨S_, .f32⟩
  | .hbm, ⟨21, _⟩ => ⟨S8192x16x1, .f32⟩
  | .hbm, ⟨22, _⟩ => ⟨S8192x16x1, .f32⟩
  | .hbm, ⟨23, _⟩ => ⟨S8192x16x64, .f32⟩
  | .hbm, ⟨24, _⟩ => ⟨S8192x16x64, .f32⟩
  | .hbm, ⟨25, _⟩ => ⟨S16x64, .f32⟩
  | .hbm, ⟨26, _⟩ => ⟨S1x16x64, .f32⟩
  | .hbm, ⟨27, _⟩ => ⟨S8192x16x64, .f32⟩
  | .hbm, ⟨28, _⟩ => ⟨S8192x16x64, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x16x64, .f32⟩
  | .hbm, ⟨33, _⟩ => ⟨S8192x16x64, .f32⟩
  | .hbm, ⟨34, _⟩ => ⟨S_, .f32⟩
  | .hbm, ⟨35, _⟩ => ⟨S16x64, .f32⟩
  | .hbm, ⟨36, _⟩ => ⟨S1x16x64, .f32⟩
  | .hbm, ⟨37, _⟩ => ⟨S8192x16x64, .f32⟩
  | .hbm, ⟨38, _⟩ => ⟨S8192x16x64, .f32⟩
  | .hbm, ⟨39, _⟩ => ⟨S_, .f32⟩
  | .hbm, ⟨40, _⟩ => ⟨S16x64, .f32⟩
  | .hbm, ⟨41, _⟩ => ⟨S1024, .f32⟩
  | .hbm, ⟨42, _⟩ => ⟨S8192x16x64, .f32⟩
  | .hbm, ⟨43, _⟩ => ⟨S_, .f32⟩
  | .hbm, ⟨44, _⟩ => ⟨S8192x16, .f32⟩
  | .hbm, ⟨45, _⟩ => ⟨S8192x16x1, .f32⟩
  | .hbm, ⟨46, _⟩ => ⟨S8192x16x64, .f32⟩
  | .hbm, ⟨47, _⟩ => ⟨S8192x16x64, .f32⟩
  | .hbm, ⟨48, _⟩ => ⟨S8192x16x1, .f32⟩
  | .hbm, ⟨49, _⟩ => ⟨S_, .f32⟩
  | .hbm, ⟨50, _⟩ => ⟨S8192x16x1, .f32⟩
  | .hbm, ⟨51, _⟩ => ⟨S8192x16x1, .f32⟩
  | .hbm, ⟨52, _⟩ => ⟨S_, .f32⟩
  | .hbm, ⟨53, _⟩ => ⟨S8192x16, .f32⟩
  | .hbm, ⟨54, _⟩ => ⟨S8192x16x64, .f32⟩
  | .hbm, ⟨55, _⟩ => ⟨S8192x16x64, .f32⟩
  | .hbm, ⟨56, _⟩ => ⟨S8192x16x64, .f32⟩
  | .hbm, ⟨57, _⟩ => ⟨S8192x16x64, .f32⟩
  | .hbm, ⟨58, _⟩ => ⟨S8192x16x64, .f32⟩
  | .hbm, ⟨59, _⟩ => ⟨S8192x1024, .f32⟩
  | .hbm, ⟨60, _⟩ => ⟨S8192x256, .f32⟩
  | .hbm, ⟨61, _⟩ => ⟨S8192x512, .f32⟩
  | .hbm, ⟨62, _⟩ => ⟨S8192x256, .f32⟩
  | .hbm, ⟨63, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== InprojKernel.lean ====
abbrev S8192x512 : Shape := ⟨2, ![8192, 512]⟩
abbrev S8192x256 : Shape := ⟨2, ![8192, 256]⟩
abbrev S1024x2304 : Shape := ⟨2, ![1024, 2304]⟩
abbrev S8192x1024 : Shape := ⟨2, ![8192, 1024]⟩
abbrev S1024 : Shape := ⟨1, ![1024]⟩
abbrev S2304x1024 : Shape := ⟨2, ![2304, 1024]⟩
abbrev S1x1024 : Shape := ⟨2, ![1, 1024]⟩
abbrev S256x512 : Shape := ⟨2, ![256, 512]⟩
abbrev S256x256 : Shape := ⟨2, ![256, 256]⟩
abbrev S256x1024 : Shape := ⟨2, ![256, 1024]⟩
abbrev S512x1024 : Shape := ⟨2, ![512, 1024]⟩
abbrev S256 : Shape := ⟨1, ![256]⟩
abbrev S256x1 : Shape := ⟨2, ![256, 1]⟩

abbrev nBuf : Space → Nat
  | .hbm => 14
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x256, .f32⟩
  | .hbm, ⟨5, _⟩ => ⟨S1024x2304, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S1024x2304, .bf16⟩
  | .hbm, ⟨10, _⟩ => ⟨S2304x1024, .bf16⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S2304x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2304x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InprojReferenceIdeal.lean ====
abbrev S8192x512 : Shape := ⟨2, ![8192, 512]⟩
abbrev S8192x256 : Shape := ⟨2, ![8192, 256]⟩
abbrev S1024x2304 : Shape := ⟨2, ![1024, 2304]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩

abbrev nBuf : Space → Nat
  | .hbm => 59
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x256, .f32⟩
  | .hbm, ⟨5, _⟩ => ⟨S1024x2304, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2304, .f32⟩
  | .hbm, ⟨30, _⟩ => ⟨S8192x2304, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== PoolKernel.lean ====
abbrev S8192x256 : Shape := ⟨2, ![8192, 256]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S128x256 : Shape := ⟨2, ![128, 256]⟩
abbrev S384x256 : Shape := ⟨2, ![384, 256]⟩
abbrev S256x384 : Shape := ⟨2, ![256, 384]⟩

abbrev nBuf : Space → Nat
  | .hbm => 45
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4x64x64, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S1x64x64, .f32⟩
  | .hbm, ⟨7, _⟩ => ⟨S64x64, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S256x256, .f32⟩
  | .hbm, ⟨14, _⟩ => ⟨S1x64x64, .f32⟩
  | .hbm, ⟨15, _⟩ => ⟨S64x64, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S256x256, .f32⟩
  | .hbm, ⟨22, _⟩ => ⟨S1x64x64, .f32⟩
  | .hbm, ⟨23, _⟩ => ⟨S64x64, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S256x256, .f32⟩
  | .hbm, ⟨30, _⟩ => ⟨S1x64x64, .f32⟩
  | .hbm, ⟨31, _⟩ => ⟨S64x64, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S256x256, .f32⟩
  | .hbm, ⟨38, _⟩ => ⟨S256x256, .bf16⟩
  | .hbm, ⟨39, _⟩ => ⟨S256x256, .f32⟩
  | .hbm, ⟨40, _⟩ => ⟨S256x256, .bf16⟩
  | .hbm, ⟨41, _⟩ => ⟨S1x256, .f32⟩
  | .hbm, ⟨42, _⟩ => ⟨S8192x256, .f32⟩
  | .hbm, ⟨43, _⟩ => ⟨S256x256, .f32⟩
  | .hbm, ⟨44, _⟩ => ⟨S1x256, .f32⟩
  | .local _ .vmem, ⟨0, _⟩ => ⟨S128x256, .f32⟩
  | .local _ .vmem, ⟨1, _⟩ => ⟨S128x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S128x256, .f32⟩
  | .local _ .vmem, ⟨7, _⟩ => ⟨S128x256, .f32⟩
  | .local _ .vmem, ⟨8, _⟩ => ⟨S256x256, .bf16⟩
  | .local _ .vmem, ⟨9, _⟩ => ⟨S256x256, .bf16⟩
  | .local _ .vmem, ⟨10, _⟩ => ⟨S1x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PoolReferenceIdeal.lean ====
abbrev S8192x256 : Shape := ⟨2, ![8192, 256]⟩
abbrev S4x64x64 : Shape := ⟨3, ![4, 64, 64]⟩
abbrev S256 : Shape := ⟨1, ![256]⟩
abbrev S8192 : Shape := ⟨1, ![8192]⟩
abbrev S_ : Shape := ⟨0, ![]⟩
abbrev S64 : Shape := ⟨1, ![64]⟩
abbrev S2x64 : Shape := ⟨2, ![2, 64]⟩
abbrev S8190x64 : Shape := ⟨2, ![8190, 64]⟩
abbrev S8192x64 : Shape := ⟨2, ![8192, 64]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩
abbrev S8192x1 : Shape := ⟨2, ![8192, 1]⟩
abbrev S1x256 : Shape := ⟨2, ![1, 256]⟩
abbrev S1x64x64 : Shape := ⟨3, ![1, 64, 64]⟩
abbrev S64x64 : Shape := ⟨2, ![64, 64]⟩
abbrev S256x256 : Shape := ⟨2, ![256, 256]⟩

abbrev nBuf : Space → Nat
  | .hbm => 142
  | .vmem => 0
  | .smem => 0
  | _ => 0

abbrev hbmTy0_0 (i : Nat) : BufTy := match i % 128 with
  | 0 => ⟨S8192x256, .f32⟩
  | 1 => ⟨S8192x256, .f32⟩
  | 2 => ⟨S4x64x64, .f32⟩
  | 3 => ⟨S256, .f32⟩
  | 4 => ⟨S8192, .f32⟩
  | 5 => ⟨S_, .f32⟩
  | 6 => ⟨S8192, .f32⟩
  | 7 => ⟨S8192, .f32⟩
  | 8 => ⟨S_, .f32⟩
  | 9 => ⟨S64, .f32⟩
  | 10 => ⟨S_, .f32⟩
  | 11 => ⟨S64, .f32⟩
  | 12 => ⟨S_, .f32⟩
  | 13 => ⟨S64, .f32⟩
  | 14 => ⟨S_, .f32⟩
  | 15 => ⟨S64, .f32⟩
  | 16 => ⟨S256, .f32⟩
  | 17 => ⟨S_, .f32⟩
  | 18 => ⟨S_, .f32⟩
  | 19 => ⟨S8192x256, .f32⟩
  | 20 => ⟨S_, .f32⟩
  | 21 => ⟨S2x64, .f32⟩
  | 22 => ⟨S8190x64, .f32⟩
  | 23 => ⟨S8192x64, .f32⟩
  | 24 => ⟨S_, .f32⟩
  | 25 => ⟨S2x64, .f32⟩
  | 26 => ⟨S_, .f32⟩
  | 27 => ⟨S4x64, .f32⟩
  | 28 => ⟨S8188x64, .f32⟩
  | 29 => ⟨S8192x64, .f32⟩
  | 30 => ⟨S_, .f32⟩
  | 31 => ⟨S4x64, .f32⟩
  | 32 => ⟨S_, .f32⟩
  | 33 => ⟨S8x64, .f32⟩
  | 34 => ⟨S8184x64, .f32⟩
  | 35 => ⟨S8192x64, .f32⟩
  | 36 => ⟨S_, .f32⟩
  | 37 => ⟨S8x64, .f32⟩
  | 38 => ⟨S_, .f32⟩
  | 39 => ⟨S16x64, .f32⟩
  | 40 => ⟨S8176x64, .f32⟩
  | 41 => ⟨S8192x64, .f32⟩
  | 42 => ⟨S_, .f32⟩
  | 43 => ⟨S16x64, .f32⟩
  | 44 => ⟨S8192x256, .f32⟩
  | 45 => ⟨S8192x256, .f32⟩
  | 46 => ⟨S8192x1, .f32⟩
  | 47 => ⟨S1x256, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S8192x64, .f32⟩
  | 54 => ⟨S1x64x64, .f32⟩
  | 55 => ⟨S64x64, .f32⟩
  | 56 => ⟨S8192x64, .f32⟩
  | 57 => ⟨S8192x64, .f32⟩
  | 58 => ⟨S1x64x64, .f32⟩
  | 59 => ⟨S64x64, .f32⟩
  | 60 => ⟨S8192x64, .f32⟩
  | 61 => ⟨S8192x64, .f32⟩
  | 62 => ⟨S1x64x64, .f32⟩
  | 63 => ⟨S64x64, .f32⟩
  | 64 => ⟨S8192x64, .f32⟩
  | 65 => ⟨S8192x64, .f32⟩
  | 66 => ⟨S1x64x64, .f32⟩
  | 67 => ⟨S64x64, .f32⟩
  | 68 => ⟨S8192x64, .f32⟩
  | 69 => ⟨S8192x256, .f32⟩
  | 70 => ⟨S1x256, .f32⟩
  | 71 => ⟨S8192x256, .f32⟩
  | 72 => ⟨S8192x256, .f32⟩
  | 73 => ⟨S8192x256, .f32⟩
  | 74 => ⟨S_, .f32⟩
  | 75 => ⟨S256, .f32⟩
  | 76 => ⟨S1x256, .f32⟩
  | 77 => ⟨S8192x256, .f32⟩
  | 78 => ⟨S8192x256, .f32⟩
  | 79 => ⟨S_, .f32⟩
  | 80 => ⟨S256, .f32⟩
  | 81 => ⟨S8192x64, .f32⟩
  | 82 => ⟨S8192x64, .f32⟩
  | 83 => ⟨S8192x64, .f32⟩
  | 84 => ⟨S8192x64, .f32⟩
  | 85 => ⟨S8192x64, .f32⟩
  | 86 => ⟨S_, .f32⟩
  | 87 => ⟨S8192x256, .f32⟩
  | 88 => ⟨S8192x64, .f32⟩
  | 89 => ⟨S_, .f32⟩
  | 90 => ⟨S8192x256, .f32⟩
  | 91 => ⟨S8192x256, .f32⟩
  | 92 => ⟨S8192x64, .f32⟩
  | 93 => ⟨S_, .f32⟩
  | 94 => ⟨S8192x256, .f32⟩
  | 95 => ⟨S8192x256, .f32⟩
  | 96 => ⟨S8192x64, .f32⟩
  | 97 => ⟨S_, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S8192x64, .f32⟩
  | 104 => ⟨S8192x64, .f32⟩
  | 105 => ⟨S8192x64, .f32⟩
  | 106 => ⟨S8192x64, .f32⟩
  | 107 => ⟨S16x64, .f32⟩
  | 108 => ⟨S8176x64, .f32⟩
  | 109 => ⟨S_, .f32⟩
  | 110 => ⟨S8192x256, .f32⟩
  | 111 => ⟨S8192x256, .f32⟩
  | 112 => ⟨S8x64, .f32⟩
  | 113 => ⟨S8184x64, .f32⟩
  | 114 => ⟨S_, .f32⟩
  | 115 => ⟨S8192x256, .f32⟩
  | 116 => ⟨S8192x256, .f32⟩
  | 117 => ⟨S4x64, .f32⟩
  | 118 => ⟨S8188x64, .f32⟩
  | 119 => ⟨S_, .f32⟩
  | 120 => ⟨S8192x256, .f32⟩
  | 121 => ⟨S8192x256, .f32⟩
  | 122 => ⟨S2x64, .f32⟩
  | 123 => ⟨S8190x64, .f32⟩
  | 124 => ⟨S_, .f32⟩
  | 125 => ⟨S8192x256, .f32⟩
  | 126 => ⟨S8192x256, .f32⟩
  | 127 => ⟨S_, .f32⟩
  | _ => ⟨S8192x256, .f32⟩

abbrev hbmTy0_1 (i : Nat) : BufTy := match i % 128 with
  | 0 => ⟨S_, .f32⟩
  | 1 => ⟨S8192x256, .f32⟩
  | 2 => ⟨S8192x256, .f32⟩
  | 3 => ⟨S_, .f32⟩
  | 4 => ⟨S256x256, .f32⟩
  | 5 => ⟨S8192x256, .f32⟩
  | 6 => ⟨S1x256, .f32⟩
  | 7 => ⟨S8192x256, .f32⟩
  | 8 => ⟨S8192x256, .f32⟩
  | 9 => ⟨S8192x256, .f32⟩
  | 10 => ⟨S8192x256, .f32⟩
  | 11 => ⟨S256x256, .f32⟩
  | 12 => ⟨S256x256, .f32⟩
  | 13 => ⟨S1x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_call0_call0_cst : Ref sig .tc := ⟨.hbm, 17, rfl⟩
abbrev main_call0_call0_v0 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_cst_6 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_7 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_9 : Ref sig .tc := ⟨.hbm, 36, rfl⟩
abbrev main_v20 : Ref sig .tc := ⟨.hbm, 37, rfl⟩
abbrev main_cst_10 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_11 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_18 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_20 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_21 : Ref sig .tc := ⟨.hbm, 124, rfl⟩
abbrev main_v96 : Ref sig .tc := ⟨.hbm, 125, rfl⟩
abbrev main_v97 : Ref sig .tc := ⟨.hbm, 126, rfl⟩
abbrev main_call1_call0_cst : Ref sig .tc := ⟨.hbm, 127, rfl⟩
abbrev main_call1_call0_v0 : Ref sig .tc := ⟨.hbm, 128, rfl⟩
abbrev main_v98 : Ref sig .tc := ⟨.hbm, 129, rfl⟩
abbrev main_v99 : Ref sig .tc := ⟨.hbm, 130, rfl⟩
abbrev main_cst_22 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩

abbrev nD : Nat := 1
abbrev τ : Topo := Topo.v7x

variable {F : FTy → Type} [FloatOps F]
-- ==== Proof.Stick.lean ====
/-
  Stick-breaking attention over the reals, for one query: the weights, the sums the kernel carries from block to block of
  128 keys, and the gradient of the scores. Positions are natural numbers; keys at or after the query carry no weight.
-/
module

public import Mathlib.Analysis.SpecialFunctions.Log.Basic
public import Mathlib.Algebra.BigOperators.Fin
public import Mathlib.Algebra.BigOperators.Intervals

@[expose] public section

noncomputable section

namespace Cert.Stick

open Finset

/-- log (1 + exp z), in the form that does not overflow. -/
def sp (z : ℝ) : ℝ := max z 0 + Real.log (1 + Real.exp (-|z|))

/-- The logistic function, in the form that does not overflow. -/
def sg (z : ℝ) : ℝ := if 0 ≤ z then 1 / (1 + Real.exp (-|z|)) else Real.exp (-|z|) * (1 / (1 + Real.exp (-|z|)))

theorem sp_eq (z : ℝ) : sp z = Real.log (1 + Real.exp z) := by
  unfold sp
  rcases le_total 0 z with h | h
  · rw [max_eq_left h, abs_of_nonneg h]
    have e : 1 + Real.exp z = Real.exp z * (1 + Real.exp (-z)) := by rw [mul_add, ← Real.exp_add]; simp; ring
    rw [e, Real.log_mul (Real.exp_pos _).ne' (by positivity), Real.log_exp]
  · rw [max_eq_right h, abs_of_nonpos h, neg_neg, zero_add]

theorem exp_sp (z : ℝ) : Real.exp (sp z) = 1 + Real.exp z := by
  rw [sp_eq, Real.exp_log (by positivity)]

theorem sp_neg (z : ℝ) : sp (-z) = sp z - z := by
  unfold sp
  rw [abs_neg]
  rcases le_total 0 z with h | h
  · rw [max_eq_left h, max_eq_right (by linarith : -z ≤ 0)]; ring
  · rw [max_eq_right h, max_eq_left (by linarith : 0 ≤ -z)]; ring

theorem sg_eq (z : ℝ) : sg z = Real.exp (z - sp z) := by
  rw [Real.exp_sub, exp_sp]
  unfold sg
  have h1 : 1 + Real.exp z ≠ 0 := by positivity
  split_ifs with h
  · rw [abs_of_nonneg h]
    have h2 : 1 + Real.exp (-z) ≠ 0 := by positivity
    rw [div_eq_div_iff h2 h1, mul_add (Real.exp z), ← Real.exp_add]; simp; ring
  · rw [abs_of_nonpos (le_of_not_ge h), neg_neg, mul_one_div]

theorem one_sub_sg (z : ℝ) : Real.exp (-z - sp (-z)) = 1 - sg z := by
  rw [sg_eq, Real.exp_sub, Real.exp_sub, exp_sp, exp_sp]
  have h1 : 1 + Real.exp z ≠ 0 := by positivity
  have h2 : 1 + Real.exp (-z) ≠ 0 := by positivity
  have h3 : Real.exp z * Real.exp (-z) = 1 := by rw [← Real.exp_add]; simp
  field_simp
  linarith

variable (z w : ℕ → ℝ) (t : ℕ)

/-- The log of the stick that key `s` leaves to the keys before it. -/
def lm (s : ℕ) : ℝ := if s < t then -sp (z s) else 0

/-- The log of the stick that the keys from `n` on leave. -/
def tail (n : ℕ) : ℝ := ∑ s ∈ Ico n 8192, lm z t s

/-- The weight of key `s`. -/
def att (s : ℕ) : ℝ := if s < t then Real.exp (z s + tail z t s) else 0

/-- The weight of key `s` times the cotangent `w s` of that weight. -/
def gg (s : ℕ) : ℝ := att z t s * w s

/-- The sum of `gg` over the keys before `n`. -/
def pre (n : ℕ) : ℝ := ∑ s ∈ range n, gg z w t s

/-- The gradient of the score of key `s`. -/
def dz (s : ℕ) : ℝ := if s < t then gg z w t s - sg (z s) * pre z w t (s + 1) else 0

theorem att_of_le {s : ℕ} (h : t ≤ s) : att z t s = 0 := if_neg (by omega)
theorem dz_of_le {s : ℕ} (h : t ≤ s) : dz z w t s = 0 := if_neg (by omega)
theorem lm_of_le {s : ℕ} (h : t ≤ s) : lm z t s = 0 := if_neg (by omega)

/-- The keys at or after the query leave the whole stick. -/
theorem tail_of_le {n : ℕ} (h : t ≤ n) : tail z t n = 0 :=
  sum_eq_zero fun s hs => lm_of_le z t (h.trans (mem_Ico.mp hs).1)

/-- A sum over the first `128 (b + 1)` positions, its last block apart. -/
theorem sum_block (f : ℕ → ℝ) (b : ℕ) :
    ∑ s ∈ range (128 * (b + 1)), f s = ∑ s ∈ range (128 * b), f s + ∑ l : Fin 128, f (128 * b + l) := by
  rw [show 128 * (b + 1) = 128 * b + 128 from by ring, sum_range_add, sum_range (fun l => f (128 * b + l))]

/-- The sum of a block's last positions, as the product with the upper triangle of ones. -/
theorem sum_from (f : ℕ → ℝ) (b : ℕ) (j : Fin 128) :
    ∑ l : Fin 128, f (128 * b + l) * (if j ≤ l then 1 else 0) = ∑ s ∈ Ico (128 * b + j) (128 * (b + 1)), f s := by
  simp only [Fin.le_def]
  rw [← sum_range (fun l => f (128 * b + l) * (if (j : ℕ) ≤ l then 1 else 0))]
  simp only [mul_ite, mul_one, mul_zero]
  rw [← sum_filter, show (range 128).filter (fun l => (j : ℕ) ≤ l) = Ico (j : ℕ) 128 from by ext; simp; omega,
    show 128 * (b + 1) = 128 * b + 128 from by ring, add_comm (128 * b) 128, add_comm (128 * b) (j : ℕ),
    ← sum_Ico_add' f]
  exact sum_congr rfl fun l _ => by rw [add_comm]

/-- The sum of a block's first positions, as the product with the lower triangle of ones. -/
theorem sum_upto (f : ℕ → ℝ) (b : ℕ) (j : Fin 128) :
    ∑ s ∈ range (128 * b + j + 1), f s = ∑ s ∈ range (128 * b), f s + ∑ l : Fin 128, f (128 * b + l) * (if l ≤ j then 1 else 0) := by
  simp only [Fin.le_def]
  rw [← sum_range (fun l => f (128 * b + l) * (if l ≤ (j : ℕ) then 1 else 0)), add_assoc, sum_range_add]
  simp only [mul_ite, mul_one, mul_zero]
  rw [← sum_filter, show (range 128).filter (fun l => l ≤ (j : ℕ)) = range (j + 1) from by ext; simp; omega]

/-- The stick before a block of keys: the block's logs on top of the stick after it. -/
theorem tail_block {b : ℕ} (hb : b < 64) : tail z t (128 * b) = tail z t (128 * (b + 1)) + ∑ l : Fin 128, lm z t (128 * b + l) := by
  unfold tail
  rw [← sum_Ico_consecutive _ (show 128 * b ≤ 128 * (b + 1) by omega) (show 128 * (b + 1) ≤ 8192 by omega), add_comm]
  have h := sum_from (lm z t) b 0
  simp only [Fin.zero_le, if_true, mul_one] at h
  rw [h]; rfl

/-- The stick at a key inside a block. -/
theorem tail_inside {b : ℕ} (hb : b < 64) (j : Fin 128) :
    tail z t (128 * b + j) = tail z t (128 * (b + 1)) + ∑ l : Fin 128, lm z t (128 * b + l) * (if j ≤ l then 1 else 0) := by
  unfold tail
  rw [sum_from, ← sum_Ico_consecutive _ (show 128 * b + (j : ℕ) ≤ 128 * (b + 1) by omega) (show 128 * (b + 1) ≤ 8192 by omega), add_comm]

theorem pre_block (b : ℕ) : pre z w t (128 * (b + 1)) = pre z w t (128 * b) + ∑ l : Fin 128, gg z w t (128 * b + l) := sum_block _ b

theorem pre_inside (b : ℕ) (j : Fin 128) :
    pre z w t (128 * b + j + 1) = pre z w t (128 * b) + ∑ l : Fin 128, gg z w t (128 * b + l) * (if l ≤ j then 1 else 0) := sum_upto _ b j

/-- The reference's log of the weight: the log of the logistic of the score, and the stick of the later keys. -/
theorem log_att {s : ℕ} (h : s < t) : -sp (-z s) + (tail z t s - lm z t s) = z s + tail z t s := by
  rw [lm, if_pos h, sp_neg]; ring

/-- The reference's gradient of the score, by the two logs it enters. -/
theorem dz_ref (s : ℕ) :
    -(-gg z w t s * Real.exp (-z s - sp (-z s))) + -(-(-(if s < t then -gg z w t s + pre z w t (s + 1) else 0) * Real.exp (z s - sp (z s))))
      = dz z w t s := by
  rw [one_sub_sg, ← sg_eq, dz]
  split_ifs with h
  · ring
  · rw [gg, att_of_le z t (not_lt.mp h)]; ring

/-! ## Eight heads of 64 columns -/

/-- The score of query `t` and key `s` in head `h`. -/
def score (q k : Fin 8192 → Fin 512 → ℝ) (h : Fin 8) (t : Fin 8192) (s : ℕ) : ℝ :=
  if hs : s < 8192 then (∑ x : Fin 64, q t ⟨h * 64 + x, by omega⟩ * k ⟨s, hs⟩ ⟨h * 64 + x, by omega⟩) * (1 / 8) else 0

/-- The cotangent of the weight of key `s` at query `t` in head `h`. -/
def cot (v d : Fin 8192 → Fin 512 → ℝ) (h : Fin 8) (t : Fin 8192) (s : ℕ) : ℝ :=
  if hs : s < 8192 then ∑ x : Fin 64, d t ⟨h * 64 + x, by omega⟩ * v ⟨s, hs⟩ ⟨h * 64 + x, by omega⟩ else 0

/-- The head of a column. -/
def hd (j : Fin 512) : Fin 8 := ⟨j / 64, by omega⟩

variable (q k v d : Fin 8192 → Fin 512 → ℝ)

/-- The attention's result. -/
def outY (t : Fin 8192) (j : Fin 512) : ℝ := ∑ s : Fin 8192, att (score q k (hd j) t) t s * v s j

/-- The gradient of the queries. -/
def outQ (t : Fin 8192) (j : Fin 512) : ℝ := (∑ s : Fin 8192, dz (score q k (hd j) t) (cot v d (hd j) t) t s * k s j) * (1 / 8)

/-- The gradient of the keys. -/
def outK (s : Fin 8192) (j : Fin 512) : ℝ := (∑ t : Fin 8192, dz (score q k (hd j) t) (cot v d (hd j) t) t s * q t j) * (1 / 8)

/-- The gradient of the values. -/
def outV (s : Fin 8192) (j : Fin 512) : ℝ := ∑ t : Fin 8192, att (score q k (hd j) t) t s * d t j

end Cert.Stick

end
-- ==== Proof.StickIdeal.lean ====
/-
  The operations of stick-breaking attention on extended reals that are real numbers, and the comparisons of positions the
  programs make on 32-bit words.
-/
module

public import proofs.«01_k».proof.Proof.Stick
public import Idealize.ShloMosaic.PureOps.Ideal.Laws
public import Idealize.ShloMosaic.Lib.IdealHost
public import Idealize.ShloMosaic.Lib.WordCmp

@[expose] public section

noncomputable section

namespace Cert.Stick

open Idealize.ShloMosaic

/-! ## Literals and sums -/

theorem cEighth : Ideal.ofBits .f32 0x3E000000#32 = ((1 / 8 : ℝ) : EReal) := by
  simp [Ideal.ofBits, Ideal.ieee, -EReal.coe_mul]; norm_num
theorem cInf : Ideal.ofBits .f32 0x7F800000#32 = ⊤ := by simp [Ideal.ofBits, Ideal.ieee]

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of products of real numbers. -/
theorem sum_mul_coe {ι : Type*} [Fintype ι] {f g : ι → EReal} {a b : ι → ℝ} (hf : ∀ i, f i = a i) (hg : ∀ i, g i = b i) :
    ∑ i, f i * g i = ((∑ i, a i * b i : ℝ) : EReal) := by
  rw [coe_sum]
  exact Finset.sum_congr rfl fun i _ => by rw [hf, hg, EReal.coe_mul]

theorem sum_coe {ι : Type*} [Fintype ι] {f : ι → EReal} {a : ι → ℝ} (hf : ∀ i, f i = a i) :
    ∑ i, f i = ((∑ i, a i : ℝ) : EReal) := by
  rw [coe_sum]
  exact Finset.sum_congr rfl fun i _ => hf i

/-! ## Elementwise operations -/

theorem absf_coe (z : ℝ) : FloatOps.absf (F := Ideal) (φ := .f32) (z : EReal) = ((|z| : ℝ) : EReal) := by
  show max (z : EReal) (-z) = _
  rw [← EReal.coe_neg, ← EReal.coe_strictMono.monotone.map_max]; rfl

theorem max_zero_coe (z : ℝ) : max (z : EReal) 0 = ((max z 0 : ℝ) : EReal) := by
  rw [← EReal.coe_zero, ← EReal.coe_strictMono.monotone.map_max]

theorem log_one_add_coe (x : ℝ) (h : 0 < x) : Ideal.log (1 + (x : EReal)) = ((Real.log (1 + x) : ℝ) : EReal) := by
  rw [← EReal.coe_one, ← EReal.coe_add, Ideal.log_coe, if_neg (by linarith)]

/-- The kernel's -log (1 + exp z). -/
theorem neg_sp (z : ℝ) :
    0 - (max (z : EReal) 0 + Ideal.log (1 + Ideal.exp (0 - FloatOps.absf (F := Ideal) (φ := .f32) (z : EReal)))) = ((-sp z : ℝ) : EReal) := by
  rw [absf_coe, zero_sub ((|z| : ℝ) : EReal), ← EReal.coe_neg, Ideal.exp_coe, log_one_add_coe _ (Real.exp_pos _), max_zero_coe,
    ← EReal.coe_add, zero_sub, ← EReal.coe_neg]
  rfl

/-- The reference's log (1 + exp z). -/
theorem ref_sp {x : EReal} {z : ℝ} (h : x = z) :
    (if x ≠ x then x else max x 0 + Ideal.log1p (Ideal.exp (-FloatOps.absf (F := Ideal) (φ := .f32) x))) = ((sp z : ℝ) : EReal) := by
  rw [if_neg (by simp), h, absf_coe, ← EReal.coe_neg, Ideal.exp_coe, Ideal.log1p, log_one_add_coe _ (Real.exp_pos _),
    max_zero_coe, ← EReal.coe_add]
  rfl

/-- The reference's factor of the gradient of log (1 + exp z). -/
theorem ref_exp {x y : EReal} {z w : ℝ} (hx : x = z) (hy : y = w) :
    Ideal.exp ((if x = Ideal.ofBits .f32 0x7F800000#32 then 0 else x) - (if y = Ideal.ofBits .f32 0x7F800000#32 then 0 else y))
      = ((Real.exp (z - w) : ℝ) : EReal) := by
  rw [cInf, hx, hy, if_neg (EReal.coe_ne_top z), if_neg (EReal.coe_ne_top w), ← EReal.coe_sub, Ideal.exp_coe]

/-- The kernel's logistic function, from e = exp (-|z|). -/
theorem kernel_sg (z : ℝ) {e : EReal} (he : e = Ideal.exp (0 - FloatOps.absf (F := Ideal) (φ := .f32) (z : EReal))) :
    (if 0 ≤ (z : EReal) then Ideal.div 1 (1 + e) else e * Ideal.div 1 (1 + e)) = ((sg z : ℝ) : EReal) := by
  have h1 : (1 + Real.exp (-|z|) : ℝ) ≠ 0 := by positivity
  rw [he, absf_coe, zero_sub, ← EReal.coe_neg, Ideal.exp_coe, ← EReal.coe_one, ← EReal.coe_add, Ideal.div_coe h1, ← EReal.coe_mul,
    ← EReal.coe_mul, one_mul, sg]
  by_cases h : 0 ≤ z
  · rw [if_pos h, if_pos (by exact_mod_cast h)]
  · rw [if_neg h, if_neg (by exact_mod_cast h)]

/-! ## Selections and comparisons -/

theorem select_ofBool {α : Type} (p : Prop) [Decidable p] (a b : α) : Scalar.select (BitVec.ofBool (decide p)) a b = if p then a else b := by
  unfold Scalar.select
  by_cases h : p <;> simp [h]

theorem ite_coe {p : Prop} [Decidable p] {x : EReal} {a : ℝ} (h : x = a) : (if p then x else 0) = ((if p then a else 0 : ℝ) : EReal) := by
  split_ifs <;> simp [h]

/-- A comparison's bit, widened and read as a number. -/
theorem bit_coe (p : Prop) [Decidable p] :
    FloatOps.sitofp (F := Ideal) .f32 (BitVec.setWidth 32 (BitVec.ofBool (decide p))) = ((if p then 1 else 0 : ℝ) : EReal) := by
  show (((BitVec.setWidth 32 (BitVec.ofBool (decide p))).toInt : ℝ) : EReal) = _
  by_cases h : p <;> simp [h]

theorem slt_word {a b : ℕ} (ha : a < 2 ^ 31) (hb : b < 2 ^ 31) :
    IntOp.cmpi .slt (BitVec.ofNat 32 a) (BitVec.ofNat 32 b) = BitVec.ofBool (decide (a < b)) := WordCmp.cmpi_slt_ofNat ha hb
theorem sge_word {a b : ℕ} (ha : a < 2 ^ 31) (hb : b < 2 ^ 31) :
    IntOp.cmpi .sge (BitVec.ofNat 32 a) (BitVec.ofNat 32 b) = BitVec.ofBool (decide (b ≤ a)) := WordCmp.cmpi_sge_ofNat ha hb
theorem eq_word {a b : ℕ} (ha : a < 2 ^ 32) (hb : b < 2 ^ 32) :
    IntOp.cmpi .eq (BitVec.ofNat 32 a) (BitVec.ofNat 32 b) = BitVec.ofBool (decide (a = b)) := WordCmp.cmpi_eq_ofNat ha hb

end Cert.Stick

end
-- ==== Proof.AttnFwdTrip.lean ====
module

public import proofs.«01_k».proof.Proof.Gen.AttnKernelIdeal.Frame
public import proofs.«01_k».proof.Proof.Stick
public import proofs.«01_k».proof.Proof.StickIdeal
public import Idealize.ShloMosaic.Lib.Pointwise
public import Idealize.ShloMosaic.Lib.WordCmp
public import Idealize.ShloMosaic.Lib.Pipeline.ValueKit

/-! The forward attention call: one grid point takes a pair of heads and a tile of 256 queries, and
    walks the key blocks from the diagonal down. -/

@[expose] public section

set_option maxRecDepth 16384

namespace Cert.AttnFwd

open Idealize.ShloMosaic Idealize.ShloMosaic.TcCoe Idealize.SL.Sem
open Cert.AttnKernelIdeal Cert.AttnKernelIdeal.Gen Cert.Stick

/-! ### The words -/

theorem trips (i : grid0.Coords) : (k0_t1_loop i).trips = 2 * ((i 1 : ℕ) + 1) := by
  have h : ∀ n : Fin 32, Scf.trips (0#32) (Scalar.addi (0#32) (Scalar.muli (Scalar.divsi (Scalar.subi
      (Scalar.muli (Scalar.addi (BitVec.ofNat 32 (n : ℕ)) 1#32) 2#32) 0#32) 1#32) 1#32)) 1#32 = 2 * ((n : ℕ) + 1) := by decide +kernel
  exact h (i 1)

theorem trips_rest (i : grid0.Coords) : (k0_t2_loop i).trips = 0 := by
  have h : ∀ n : Fin 32, Scf.trips
                (Scalar.addi (0#32)
                  (Scalar.muli
                    (Scalar.divsi (Scalar.subi (Scalar.muli (Scalar.addi (BitVec.ofNat 32 (n : ℕ)) 1#32) 2#32) 0#32)
                      1#32)
                    1#32))
                (Scalar.addi (0#32) (Scalar.subi (Scalar.muli (Scalar.addi (BitVec.ofNat 32 (n : ℕ)) 1#32) 2#32) 0#32))
                1#32 = 0 := by decide +kernel
  exact h (i 1)

/-- The key block of trip `k`. -/
def kb (i : grid0.Coords) (k : ℕ) : ℕ := 2 * ((i 1 : ℕ) + 1) - 1 - k

theorem kb_lt (i : grid0.Coords) (k : ℕ) : kb i k < 64 := by
  have h : (i 1 : ℕ) < 32 := (i 1).isLt
  unfold kb; omega

theorem block_word (i : grid0.Coords) (k : Fin (k0_t1_loop i).trips) :
    Scalar.subi (Scalar.subi (kernelRun0_A.sl.v26 i) 1#32) (Scf.iv 0#32 1#32 k) = BitVec.ofNat 32 (kb i k) := by
  have h : ∀ n : Fin 32, ∀ j : Fin 64, (j : ℕ) < 2 * ((n : ℕ) + 1) → Scalar.subi (Scalar.subi
      (Scalar.muli (Scalar.addi (BitVec.ofNat 32 (n : ℕ)) 1#32) 2#32) 1#32) (Scf.iv 0#32 1#32 (j : ℕ)) = BitVec.ofNat 32 (2 * ((n : ℕ) + 1) - 1 - j) := by
    decide +kernel
  have hk := lt_of_lt_of_eq k.isLt (trips i)
  have hi : (i 1 : ℕ) < 32 := (i 1).isLt
  exact h (i 1) ⟨k, by omega⟩ hk

theorem block_row (i : grid0.Coords) (k : Fin (k0_t1_loop i).trips) : k0_off1 i k = ![128 * kb i k, 0] := by
  have h : (Scalar.muli (Scalar.subi (Scalar.subi (kernelRun0_A.sl.v26 i) 1#32) (Scf.iv 0#32 1#32 k)) 128#32).toNat = 128 * kb i k := by
    rw [block_word]
    have := kb_lt i k
    show (BitVec.ofNat 32 (kb i k) * 128#32).toNat = _
    simp only [BitVec.toNat_mul, BitVec.toNat_ofNat]
    omega
  funext a
  fin_cases a
  · exact h
  · rfl

/-- The query of row `r`. -/
def qrow (i : grid0.Coords) (r : Fin 256) : ℕ := 256 * (i 1 : ℕ) + r

theorem qrow_lt (i : grid0.Coords) (r : Fin 256) : qrow i r < 8192 := by
  have h : (i 1 : ℕ) < 32 := (i 1).isLt
  unfold qrow; omega

theorem mul_word (a b : ℕ) : Scalar.muli (BitVec.ofNat 32 a) (BitVec.ofNat 32 b) = BitVec.ofNat 32 (a * b) := by
  apply BitVec.eq_of_toNat_eq
  show (BitVec.ofNat 32 a * BitVec.ofNat 32 b).toNat = _
  simp [BitVec.toNat_mul, Nat.mul_mod]

theorem add_word (a b : ℕ) : IntOp.addi (BitVec.ofNat 32 a) (BitVec.ofNat 32 b) = BitVec.ofNat 32 (a + b) := by
  apply BitVec.eq_of_toNat_eq
  show (BitVec.ofNat 32 a + BitVec.ofNat 32 b).toNat = _
  simp [BitVec.toNat_add]

theorem row_word (i : grid0.Coords) (r : Fin 256) (c : Fin 128) : k0_pay39 i (ix2 r c) = BitVec.ofNat 32 (qrow i r) := by
  have h : k0_pay39 i (ix2 r c) = IntOp.addi (BitVec.ofNat 32 (r : ℕ)) (Scalar.muli (BitVec.ofNat 32 (i 1 : ℕ)) 256#32) := by
    pointwise [k0_pay39]
  rw [h, show (256#32 : BitVec 32) = BitVec.ofNat 32 256 from rfl, mul_word, add_word, qrow, add_comm, mul_comm]

theorem col_word (r : Fin 256) (c : Fin 128) : kernelRun0_A.sl.v24 (ix2 r c) = BitVec.ofNat 32 (c : ℕ) := by
  pointwise [kernelRun0_A.sl.v24]

theorem lane_word (r : Fin 1) (c : Fin 128) : kernelRun0_A.sl.v2 (ix2 r c) = BitVec.ofNat 32 (c : ℕ) := by
  pointwise [kernelRun0_A.sl.v2]

/-- The causal mask of trip `k`. -/
theorem mask_at (i : grid0.Coords) (k : Fin (k0_t1_loop i).trips) (r : Fin 256) (c : Fin 128) :
    k0_pay3 i (k0_pay39 i) kernelRun0_A.sl.v24 (kernelRun0_A.sl.v26 i) 0#32 1#32 k (ix2 r c)
      = BitVec.ofBool (decide (128 * kb i k + c < qrow i r)) := by
  refine Eq.trans (b := IntOp.cmpi .slt (IntOp.addi (kernelRun0_A.sl.v24 (ix2 r c)) (Scalar.muli (Scalar.subi (Scalar.subi (kernelRun0_A.sl.v26 i) 1#32)
    (Scf.iv 0#32 1#32 k)) 128#32)) (k0_pay39 i (ix2 r c))) ?_ ?_
  · pointwise [k0_pay3]
  · have h1 := kb_lt i k
    have h2 := qrow_lt i r
    rw [block_word, col_word, row_word, show (128#32 : BitVec 32) = BitVec.ofNat 32 128 from rfl, mul_word, add_word,
      slt_word (by omega) (by omega), show (c : ℕ) + kb i k * 128 = 128 * kb i k + c from by ring]

/-- The lane of the block of trip `k`. -/
theorem lane_at (i : grid0.Coords) (k : Fin (k0_t1_loop i).trips) (c : Fin 128) :
    k0_pay4 (F := Ideal) i kernelRun0_A.sl.v2 (kernelRun0_A.sl.v26 i) 0#32 1#32 k (ix2 (0 : Fin 1) c)
      = ((if (c : ℕ) = kb i k then 1 else 0 : ℝ) : EReal) := by
  refine Eq.trans (b := Scalar.select (IntOp.cmpi .eq (kernelRun0_A.sl.v2 (ix2 (0 : Fin 1) c)) (Scalar.subi (Scalar.subi (kernelRun0_A.sl.v26 i) 1#32)
    (Scf.iv 0#32 1#32 k))) (1 : EReal) 0) ?_ ?_
  · pointwise [k0_pay4]
  · have h1 := kb_lt i k
    rw [block_word, lane_word, eq_word (by omega) (by omega), select_ofBool]
    split_ifs <;> simp

/-! ### One trip -/

/-- The lanes of a head. -/
theorem head0_at (c : Fin 128) : k0_pay34 (ix2 (0 : Fin 1) c) = BitVec.ofBool (decide ((c : ℕ) / 64 = 0)) := by
  refine Eq.trans (b := IntOp.cmpi .slt (BitVec.ofNat 32 (c : ℕ)) (BitVec.ofNat 32 64)) ?_ ?_
  · pointwise [k0_pay34]
  · rw [slt_word (by omega) (by omega)]
    exact congrArg _ (by simp only [decide_eq_decide]; omega)

theorem head1_at (c : Fin 128) : k0_pay35 (ix2 (0 : Fin 1) c) = BitVec.ofBool (decide ((c : ℕ) / 64 = 1)) := by
  refine Eq.trans (b := IntOp.xori (k0_pay34 (ix2 (0 : Fin 1) c)) 1#1) ?_ ?_
  · pointwise [k0_pay35]
  · rw [head0_at]
    by_cases h : (c : ℕ) / 64 = 0
    · rw [show decide ((c : ℕ) / 64 = 0) = true from by simpa using h, show decide ((c : ℕ) / 64 = 1) = false from by simp; omega]; rfl
    · rw [show decide ((c : ℕ) / 64 = 0) = false from by simpa using h, show decide ((c : ℕ) / 64 = 1) = true from by simp; omega]; rfl

/-- The triangle of ones. -/
theorem tri_at (d c : Fin 128) : k0_pay38 (F := Ideal) (ix2 d c) = ((if c ≤ d then 1 else 0 : ℝ) : EReal) := by
  refine Eq.trans (b := FloatOps.sitofp (F := Ideal) .f32 (BitVec.setWidth 32 (IntOp.cmpi .sge (BitVec.ofNat 32 (d : ℕ)) (BitVec.ofNat 32 (c : ℕ))))) ?_ ?_
  · pointwise [k0_pay38]
  · rw [sge_word (by omega) (by omega), bit_coe]
    simp only [Fin.le_def]

/-- The queries of one head of the pair, the other head's lanes zero. -/
theorem q0_at {v0 : Vec Ideal S256x128 .bf16} {a : Fin 256 → Fin 128 → ℝ} (h : ∀ r l, v0 (ix2 r l) = (a r l : EReal)) (r : Fin 256) (c : Fin 128) :
    k0_pay36 v0 (ix2 r c) = ((if (c : ℕ) / 64 = 0 then a r c else 0 : ℝ) : EReal) := by
  refine Eq.trans (b := Scalar.select (k0_pay34 (ix2 (0 : Fin 1) c)) (v0 (ix2 r c)) 0) ?_ ?_
  · pointwise [k0_pay36, k0_pay33]
  · rw [head0_at, select_ofBool, h]; exact ite_coe rfl

theorem q1_at {v0 : Vec Ideal S256x128 .bf16} {a : Fin 256 → Fin 128 → ℝ} (h : ∀ r l, v0 (ix2 r l) = (a r l : EReal)) (r : Fin 256) (c : Fin 128) :
    k0_pay37 v0 (ix2 r c) = ((if (c : ℕ) / 64 = 1 then a r c else 0 : ℝ) : EReal) := by
  refine Eq.trans (b := Scalar.select (k0_pay35 (ix2 (0 : Fin 1) c)) (v0 (ix2 r c)) 0) ?_ ?_
  · pointwise [k0_pay37, k0_pay33]
  · rw [head1_at, select_ofBool, h]; exact ite_coe rfl

section
variable {i : grid0.Coords} {k : Fin (k0_t1_loop i).trips}
variable {v9 : FVec Ideal S256x128 .bf16} {kk : Vec Ideal S128x128 .bf16} {A : Fin 256 → Fin 128 → ℝ} {B : Fin 128 → Fin 128 → ℝ}
variable {Z : Fin 256 → ℕ → ℝ}

/-- The score of a query and a key. -/
theorem score0_at (hq : ∀ r x, v9 (ix2 r x) = (A r x : EReal)) (hk : ∀ c x, kk (ix2 c x) = (B c x : EReal))
    (hZ : ∀ r (c : Fin 128), ∑ x, A r x * B c x = Z r (128 * kb i k + c)) (r : Fin 256) (c : Fin 128) :
    k0_pay5 v9 kk (ix2 r c) = (Z r (128 * kb i k + c) : EReal) := by
  refine Eq.trans (b := ∑ x : Fin 128, v9 (ix2 r x) * kk (ix2 c x)) ?_ ?_
  · pointwise [k0_pay5, k0_pay1]
  · rw [sum_mul_coe (hq r) (hk c), hZ]

theorem score1_at (hq : ∀ r x, v9 (ix2 r x) = (A r x : EReal)) (hk : ∀ c x, kk (ix2 c x) = (B c x : EReal))
    (hZ : ∀ r (c : Fin 128), ∑ x, A r x * B c x = Z r (128 * kb i k + c)) (r : Fin 256) (c : Fin 128) :
    k0_pay11 v9 (k0_pay1 kk) (ix2 r c) = (Z r (128 * kb i k + c) : EReal) := by
  refine Eq.trans (b := ∑ x : Fin 128, v9 (ix2 r x) * kk (ix2 c x)) ?_ ?_
  · pointwise [k0_pay11, k0_pay1]
  · rw [sum_mul_coe (hq r) (hk c), hZ]

/-- The log of what a key leaves of the stick. -/
theorem lm0_at (hq : ∀ r x, v9 (ix2 r x) = (A r x : EReal)) (hk : ∀ c x, kk (ix2 c x) = (B c x : EReal))
    (hZ : ∀ r (c : Fin 128), ∑ x, A r x * B c x = Z r (128 * kb i k + c)) (r : Fin 256) (c : Fin 128) :
    k0_pay6 i v9 (k0_pay39 i) kernelRun0_A.sl.v24 (kernelRun0_A.sl.v26 i) 0#32 1#32 k kk (ix2 r c)
      = (lm (Z r) (qrow i r) (128 * kb i k + c) : EReal) := by
  refine Eq.trans (b := Scalar.select (k0_pay3 i (k0_pay39 i) kernelRun0_A.sl.v24 (kernelRun0_A.sl.v26 i) 0#32 1#32 k (ix2 r c))
    (0 - (max (k0_pay5 v9 kk (ix2 r c)) 0 + Ideal.log (1 + Ideal.exp (0 - FloatOps.absf (F := Ideal) (φ := .f32) (k0_pay5 v9 kk (ix2 r c)))))) 0) ?_ ?_
  · pointwise [k0_pay6]
  · rw [mask_at, score0_at hq hk hZ, select_ofBool, neg_sp]; exact ite_coe rfl

theorem lm1_at (hq : ∀ r x, v9 (ix2 r x) = (A r x : EReal)) (hk : ∀ c x, kk (ix2 c x) = (B c x : EReal))
    (hZ : ∀ r (c : Fin 128), ∑ x, A r x * B c x = Z r (128 * kb i k + c)) (r : Fin 256) (c : Fin 128) :
    k0_pay12 v9 (k0_pay1 kk) (k0_pay3 i (k0_pay39 i) kernelRun0_A.sl.v24 (kernelRun0_A.sl.v26 i) 0#32 1#32 k) (ix2 r c)
      = (lm (Z r) (qrow i r) (128 * kb i k + c) : EReal) := by
  refine Eq.trans (b := Scalar.select (k0_pay3 i (k0_pay39 i) kernelRun0_A.sl.v24 (kernelRun0_A.sl.v26 i) 0#32 1#32 k (ix2 r c))
    (0 - (max (k0_pay11 v9 (k0_pay1 kk) (ix2 r c)) 0 + Ideal.log (1 + Ideal.exp (0 - FloatOps.absf (F := Ideal) (φ := .f32) (k0_pay11 v9 (k0_pay1 kk) (ix2 r c)))))) 0) ?_ ?_
  · pointwise [k0_pay12]
  · rw [mask_at, score1_at hq hk hZ, select_ofBool, neg_sp]; exact ite_coe rfl

/-- A split operand against the triangle: the low half of an exact number is zero. -/
theorem split_sum {f g : Fin 128 → EReal} {a b : Fin 128 → ℝ} (hf : ∀ x, f x = (a x : EReal)) (hg : ∀ x, g x = (b x : EReal)) :
    ∑ x, f x * g x + ∑ x, (f x - f x) * g x = ((∑ x, a x * b x : ℝ) : EReal) := by
  rw [sum_mul_coe hf hg, sum_mul_coe (a := fun x => a x - a x) (fun x => by rw [hf, EReal.coe_sub]) hg, ← EReal.coe_add]
  congr 1
  simp

/-- The log of the weight of a key. -/
theorem log0_at {car : FVec Ideal S256x1 .f32} (hq : ∀ r x, v9 (ix2 r x) = (A r x : EReal)) (hk : ∀ c x, kk (ix2 c x) = (B c x : EReal))
    (hZ : ∀ r (c : Fin 128), ∑ x, A r x * B c x = Z r (128 * kb i k + c))
    (hc : ∀ r, car (ix2 r (0 : Fin 1)) = (tail (Z r) (qrow i r) (128 * (kb i k + 1)) : EReal)) (r : Fin 256) (c : Fin 128) :
    k0_pay7 i v9 k0_pay38 (k0_pay39 i) kernelRun0_A.sl.v24 (kernelRun0_A.sl.v26 i) 0#32 1#32 k car kk (ix2 r c)
      = ((Z r (128 * kb i k + c) + tail (Z r) (qrow i r) (128 * kb i k + c) : ℝ) : EReal) := by
  refine Eq.trans (b := k0_pay5 v9 kk (ix2 r c) + car (ix2 r (0 : Fin 1))
    + (∑ x : Fin 128, k0_pay6 i v9 (k0_pay39 i) kernelRun0_A.sl.v24 (kernelRun0_A.sl.v26 i) 0#32 1#32 k kk (ix2 r x) * k0_pay38 (F := Ideal) (ix2 x c)
      + ∑ x : Fin 128, (k0_pay6 i v9 (k0_pay39 i) kernelRun0_A.sl.v24 (kernelRun0_A.sl.v26 i) 0#32 1#32 k kk (ix2 r x)
        - k0_pay6 i v9 (k0_pay39 i) kernelRun0_A.sl.v24 (kernelRun0_A.sl.v26 i) 0#32 1#32 k kk (ix2 r x)) * k0_pay38 (F := Ideal) (ix2 x c))) ?_ ?_
  · pointwise [k0_pay7]
  · rw [split_sum (lm0_at hq hk hZ r) (fun x => tri_at x c), score0_at hq hk hZ, hc, tail_inside (Z r) (qrow i r) (kb_lt i k) c,
      ← EReal.coe_add, ← EReal.coe_add, add_assoc]

/-- The weight times a value column, summed over the keys of a block, added to what the later blocks gave. -/
theorem acc0_at {acc e : FVec Ideal S256x128 .f32} {vv : FVec Ideal S128x128 .bf16} {V : Fin 128 → Fin 128 → ℝ} {C : Fin 256 → Fin 128 → ℝ}
    (he : ∀ r (c : Fin 128), e (ix2 r c) = ((Z r (128 * kb i k + c) + tail (Z r) (qrow i r) (128 * kb i k + c) : ℝ) : EReal))
    (hv : ∀ x c, vv (ix2 x c) = (V x c : EReal)) (ha : ∀ r c, acc (ix2 r c) = (C r c : EReal)) (r : Fin 256) (c : Fin 128) :
    k0_pay8 k0_pay34 acc vv (k0_pay3 i (k0_pay39 i) kernelRun0_A.sl.v24 (kernelRun0_A.sl.v26 i) 0#32 1#32 k) e (ix2 r c)
      = ((C r c + ∑ x : Fin 128, att (Z r) (qrow i r) (128 * kb i k + x) * (if (c : ℕ) / 64 = 0 then V x c else 0) : ℝ) : EReal) := by
  refine Eq.trans (b := acc (ix2 r c) + ∑ x : Fin 128, Scalar.select (k0_pay3 i (k0_pay39 i) kernelRun0_A.sl.v24 (kernelRun0_A.sl.v26 i) 0#32 1#32 k (ix2 r x)) (Ideal.exp (e (ix2 r x))) 0
    * Scalar.select (k0_pay34 (ix2 (0 : Fin 1) c)) (vv (ix2 x c)) 0) ?_ ?_
  · pointwise [k0_pay8]
  · rw [sum_mul_coe (a := fun x : Fin 128 => att (Z r) (qrow i r) (128 * kb i k + x)) (b := fun x => if (c : ℕ) / 64 = 0 then V x c else 0)
      (fun x => by rw [mask_at, select_ofBool, he, Ideal.exp_coe]; exact ite_coe rfl) (fun x => by rw [head0_at, select_ofBool, hv]; exact ite_coe rfl), ha, ← EReal.coe_add]

theorem acc1_at {acc e f g : FVec Ideal S256x128 .f32} {vv : FVec Ideal S128x128 .bf16} {V : Fin 128 → Fin 128 → ℝ} {C : Fin 256 → Fin 128 → ℝ}
    (he : ∀ r (c : Fin 128), e (ix2 r c) + (f (ix2 r c) + g (ix2 r c)) = ((Z r (128 * kb i k + c) + tail (Z r) (qrow i r) (128 * kb i k + c) : ℝ) : EReal))
    (hv : ∀ x c, vv (ix2 x c) = (V x c : EReal)) (ha : ∀ r c, acc (ix2 r c) = (C r c : EReal)) (r : Fin 256) (c : Fin 128) :
    k0_pay43 vv (k0_pay3 i (k0_pay39 i) kernelRun0_A.sl.v24 (kernelRun0_A.sl.v26 i) 0#32 1#32 k) acc e f g (ix2 r c)
      = ((C r c + ∑ x : Fin 128, att (Z r) (qrow i r) (128 * kb i k + x) * (if (c : ℕ) / 64 = 1 then V x c else 0) : ℝ) : EReal) := by
  refine Eq.trans (b := acc (ix2 r c) + ∑ x : Fin 128, Scalar.select (k0_pay3 i (k0_pay39 i) kernelRun0_A.sl.v24 (kernelRun0_A.sl.v26 i) 0#32 1#32 k (ix2 r x)) (Ideal.exp (e (ix2 r x) + (f (ix2 r x) + g (ix2 r x)))) 0
    * Scalar.select (k0_pay35 (ix2 (0 : Fin 1) c)) (vv (ix2 x c)) 0) ?_ ?_
  · pointwise [k0_pay43]
  · rw [sum_mul_coe (a := fun x : Fin 128 => att (Z r) (qrow i r) (128 * kb i k + x)) (b := fun x => if (c : ℕ) / 64 = 1 then V x c else 0)
      (fun x => by rw [mask_at, select_ofBool, he, Ideal.exp_coe]; exact ite_coe rfl) (fun x => by rw [head1_at, select_ofBool, hv]; exact ite_coe rfl), ha, ← EReal.coe_add]

theorem log1_at {car : FVec Ideal S256x1 .f32} (hq : ∀ r x, v9 (ix2 r x) = (A r x : EReal)) (hk : ∀ c x, kk (ix2 c x) = (B c x : EReal))
    (hZ : ∀ r (c : Fin 128), ∑ x, A r x * B c x = Z r (128 * kb i k + c))
    (hc : ∀ r, car (ix2 r (0 : Fin 1)) = (tail (Z r) (qrow i r) (128 * (kb i k + 1)) : EReal)) (r : Fin 256) (c : Fin 128) :
    k0_pay13 v9 car (k0_pay1 kk) (ix2 r c)
      + (k0_pay15 v9 k0_pay38 (k0_pay1 kk) (k0_pay3 i (k0_pay39 i) kernelRun0_A.sl.v24 (kernelRun0_A.sl.v26 i) 0#32 1#32 k) (ix2 r c)
        + k0_pay16 v9 k0_pay38 (k0_pay1 kk) (k0_pay3 i (k0_pay39 i) kernelRun0_A.sl.v24 (kernelRun0_A.sl.v26 i) 0#32 1#32 k) (ix2 r c))
      = ((Z r (128 * kb i k + c) + tail (Z r) (qrow i r) (128 * kb i k + c) : ℝ) : EReal) := by
  have e1 : k0_pay13 v9 car (k0_pay1 kk) (ix2 r c) = k0_pay11 v9 (k0_pay1 kk) (ix2 r c) + car (ix2 r (0 : Fin 1)) := by
    pointwise [k0_pay13]
  generalize hm : k0_pay3 i (k0_pay39 i) kernelRun0_A.sl.v24 (kernelRun0_A.sl.v26 i) 0#32 1#32 k = m
  have e2 : k0_pay15 v9 k0_pay38 (k0_pay1 kk) m (ix2 r c) = ∑ x : Fin 128, k0_pay12 v9 (k0_pay1 kk) m (ix2 r x) * k0_pay38 (F := Ideal) (ix2 x c) := by
    pointwise [k0_pay15, k0_pay14]
  have e3 : k0_pay16 v9 k0_pay38 (k0_pay1 kk) m (ix2 r c)
      = ∑ x : Fin 128, (k0_pay12 v9 (k0_pay1 kk) m (ix2 r x) - k0_pay12 v9 (k0_pay1 kk) m (ix2 r x)) * k0_pay38 (F := Ideal) (ix2 x c) := by
    pointwise [k0_pay16, k0_pay14]
  rw [e1, e2, e3]
  subst hm
  rw [split_sum (lm1_at hq hk hZ r) (fun x => tri_at x c), score1_at hq hk hZ, hc, tail_inside (Z r) (qrow i r) (kb_lt i k) c,
      ← EReal.coe_add, ← EReal.coe_add, add_assoc]

/-- The carried log after the block. -/
theorem car_at {car : FVec Ideal S256x1 .f32} {g : FVec Ideal S256x128 .f32}
    (hg : ∀ r (c : Fin 128), g (ix2 r c) = (lm (Z r) (qrow i r) (128 * kb i k + c) : EReal))
    (hc : ∀ r, car (ix2 r (0 : Fin 1)) = (tail (Z r) (qrow i r) (128 * (kb i k + 1)) : EReal)) (r : Fin 256) :
    k0_pay10 car g (ix2 r (0 : Fin 1)) = (tail (Z r) (qrow i r) (128 * kb i k) : EReal)
      ∧ k0_pay45 car g (ix2 r (0 : Fin 1)) = (tail (Z r) (qrow i r) (128 * kb i k) : EReal) := by
  have e : car (ix2 r (0 : Fin 1)) + ∑ x : Fin 128, g (ix2 r x) = (tail (Z r) (qrow i r) (128 * kb i k) : EReal) := by
    rw [sum_coe (hg r), hc, ← EReal.coe_add, ← tail_block _ _ (kb_lt i k)]
  refine ⟨Eq.trans ?_ e, Eq.trans ?_ e⟩
  · pointwise [k0_pay10]
  · pointwise [k0_pay45]

/-- The saved logs after the block: the carried log enters its lane. -/
theorem cm_at {car : FVec Ideal S256x1 .f32} {w : Vec Ideal S256x128 .f32} {W : Fin 256 → Fin 128 → ℝ} {y : Fin 256 → ℝ}
    (hc : ∀ r, car (ix2 r (0 : Fin 1)) = (y r : EReal)) (hw : ∀ r c, w (ix2 r c) = (W r c : EReal)) (r : Fin 256) (c : Fin 128) :
    k0_pay9 car (k0_pay4 (F := Ideal) i kernelRun0_A.sl.v2 (kernelRun0_A.sl.v26 i) 0#32 1#32 k) w (ix2 r c)
        = ((W r c + (if (c : ℕ) = kb i k then y r else 0) : ℝ) : EReal)
      ∧ k0_pay44 car (k0_pay4 (F := Ideal) i kernelRun0_A.sl.v2 (kernelRun0_A.sl.v26 i) 0#32 1#32 k) w (ix2 r c)
        = ((W r c + (if (c : ℕ) = kb i k then y r else 0) : ℝ) : EReal) := by
  have e : w (ix2 r c) + k0_pay4 (F := Ideal) i kernelRun0_A.sl.v2 (kernelRun0_A.sl.v26 i) 0#32 1#32 k (ix2 (0 : Fin 1) c) * car (ix2 r (0 : Fin 1))
      = ((W r c + (if (c : ℕ) = kb i k then y r else 0) : ℝ) : EReal) := by
    rw [lane_at, hc, hw, ← EReal.coe_mul, ← EReal.coe_add, ite_mul, one_mul, zero_mul]
  refine ⟨Eq.trans ?_ e, Eq.trans ?_ e⟩
  · pointwise [k0_pay9]
  · pointwise [k0_pay44]
end

end Cert.AttnFwd
-- ==== Proof.AttnFwd.lean ====
module

public import proofs.«01_k».proof.Proof.AttnFwdTrip
public import Idealize.ShloMosaic.Lib.WritesUnit
public import Idealize.ShloMosaic.Lib.VecWindow

/-! The forward attention call: what a grid point leaves in its two result blocks. -/

@[expose] public section

set_option maxRecDepth 16384

namespace Cert.AttnFwd

open Idealize.ShloMosaic Idealize.ShloMosaic.TcCoe Idealize.SL.Sem
open Cert.AttnKernelIdeal Cert.AttnKernelIdeal.Gen Cert.Stick

/-- One grid point of the call: its blocks and what the input blocks hold. -/
structure Point where
  c : Dev nD
  i : grid0.Coords
  arg2 : Memref sig .tc .vmem S256x128 .bf16
  h2 : arg2.IsWhole
  arg3 : Memref sig .tc .vmem S8192x128 .bf16
  h3 : arg3.IsWhole
  arg4 : Memref sig .tc .vmem S8192x128 .bf16
  h4 : arg4.IsWhole
  arg5 : Memref sig .tc .vmem S256x128 .f32
  h5 : arg5.IsWhole
  arg6 : Memref sig .tc .vmem S256x256 .f32
  h6 : arg6.IsWhole
  x0 : Vec Ideal S256x128 .bf16
  x1 : Vec Ideal S8192x128 .bf16
  x2 : Vec Ideal S8192x128 .bf16

namespace Point
variable (e : Point)

/-- The tile of queries, as the loop reads it. -/
noncomputable def v0 : Vec Ideal S256x128 .bf16 :=
  View.readAt (Elt Ideal) e.arg2.view (Rect.unit (s := S256x128) ![0, 0] ![256, 128] inb_S256x128_S256x128_0_0).toLoadRect (e.h2.unread e.x0)

/-- The contents of the saved logs' block before the loop. -/
noncomputable def G : BufTy.Contents (Elt Ideal) e.arg6.view.ty := e.arg6.view.writes (Elt Ideal) e.arg6.view.junk kernelRun0_A.sl.H4_1

/-- The state after `k` trips. -/
noncomputable def st (k : ℕ) :=
  st_k0_t1 (F := Ideal) Variants.none e.c none e.i e.arg2 e.h2 e.arg3 e.h3 e.arg4 e.h4 e.arg5 e.h5 e.arg6 e.h6 e.v0
    kernelRun0_A.sl.v2 kernelRun0_A.sl.v24 (kernelRun0_A.sl.v26 e.i) (e.h3.unread e.x1) (e.h4.unread e.x2) e.G (k0_pay41, k0_pay41, k0_pay42) k

/-- The key block and the value block of trip `k`. -/
noncomputable def kblk (k : Fin (k0_t1_loop e.i).trips) : Vec Ideal S128x128 .bf16 :=
  View.readAt (Elt Ideal) e.arg3.view (Rect.unit (s := S8192x128) (k0_off1 e.i k) S128x128.size (k0_off1_inb e.i k)).toLoadRect (e.h3.unread e.x1)
noncomputable def vblk (k : Fin (k0_t1_loop e.i).trips) : Vec Ideal S128x128 .bf16 :=
  View.readAt (Elt Ideal) e.arg4.view (Rect.unit (s := S8192x128) (k0_off1 e.i k) S128x128.size (k0_off1_inb e.i k)).toLoadRect (e.h4.unread e.x2)

/-- The saved logs' block after `k` trips, and its two halves as a trip reads them. -/
noncomputable def cm (k : ℕ) : BufTy.Contents (Elt Ideal) e.arg6.view.ty := e.arg6.view.writes (Elt Ideal) e.G (e.st k).2
noncomputable def cm0 (k : ℕ) : Vec Ideal S256x128 .f32 :=
  View.readAt (Elt Ideal) e.arg6.view (Rect.unit (s := S256x256) ![0, 0] ![256, 128] inb_S256x256_S256x128_0_0).toLoadRect (e.cm k)
noncomputable def cm1 (k : ℕ) : Vec Ideal S256x128 .f32 :=
  View.readAt (Elt Ideal) e.arg6.view (Rect.unit (s := S256x256) ![0, 128] ![256, 128] inb_S256x256_S256x128_0_128).toLoadRect (e.cm k)

/-- The causal mask and the lane of trip `k`. -/
noncomputable def mask (k : Fin (k0_t1_loop e.i).trips) : IVec S256x128 1 :=
  k0_pay3 e.i (k0_pay39 e.i) kernelRun0_A.sl.v24 (kernelRun0_A.sl.v26 e.i) 0#32 1#32 k
noncomputable def lane (k : Fin (k0_t1_loop e.i).trips) : FVec Ideal S1x128 .f32 :=
  k0_pay4 e.i kernelRun0_A.sl.v2 (kernelRun0_A.sl.v26 e.i) 0#32 1#32 k

/-- One trip: the two carried logs, the accumulator, and the two halves of the saved logs. -/
theorem succ (k : Fin (k0_t1_loop e.i).trips) : e.st (k + 1) =
    ((k0_pay10 (e.st k).1.1 (k0_pay6 e.i (k0_pay36 e.v0) (k0_pay39 e.i) kernelRun0_A.sl.v24 (kernelRun0_A.sl.v26 e.i) 0#32 1#32 k (e.kblk k)),
      k0_pay45 (e.st k).1.2.1 (k0_pay12 (k0_pay37 e.v0) (k0_pay1 (e.kblk k)) (e.mask k)),
      k0_pay43 (k0_pay2 (e.vblk k)) (e.mask k)
        (k0_pay8 k0_pay34 (e.st k).1.2.2 (k0_pay2 (e.vblk k)) (e.mask k)
          (k0_pay7 e.i (k0_pay36 e.v0) k0_pay38 (k0_pay39 e.i) kernelRun0_A.sl.v24 (kernelRun0_A.sl.v26 e.i) 0#32 1#32 k (e.st k).1.1 (e.kblk k)))
        (k0_pay13 (k0_pay37 e.v0) (e.st k).1.2.1 (k0_pay1 (e.kblk k)))
        (k0_pay15 (k0_pay37 e.v0) k0_pay38 (k0_pay1 (e.kblk k)) (e.mask k))
        (k0_pay16 (k0_pay37 e.v0) k0_pay38 (k0_pay1 (e.kblk k)) (e.mask k))),
     [⟨Rect.unit (s := S256x256) ![0, 128] ![256, 128] inb_S256x256_S256x128_0_128, k0_pay44 (e.st k).1.2.1 (e.lane k) (e.cm1 k)⟩,
      ⟨Rect.unit (s := S256x256) ![0, 0] ![256, 128] inb_S256x256_S256x128_0_0, k0_pay9 (e.st k).1.1 (e.lane k) (e.cm0 k)⟩] ++ (e.st k).2) := by
  refine (st_k0_t1_succ ..).trans ?_
  unfold tripR_k0_t1 tripL_k0_t1 trip_k0_t1
  rfl

theorem kblk_at (k : Fin (k0_t1_loop e.i).trips) (c x : Fin 128) :
    e.kblk k (ix2 c x) = e.x1 (ix2 (⟨128 * kb e.i k + c, by have := kb_lt e.i k; omega⟩ : Fin 8192) x) := by
  refine (View.readAt_apply ..).trans ?_
  rw [e.h3.read_unread]
  refine congrArg e.x1 (funext fun a => Fin.ext ?_)
  fin_cases a
  · exact congrArg₂ (· + ·) (congrFun (block_row e.i k) 0) (Nat.one_mul _)
  · exact (congrArg₂ (· + ·) (congrFun (block_row e.i k) 1) (Nat.one_mul _)).trans (Nat.zero_add _)

theorem vblk_at (k : Fin (k0_t1_loop e.i).trips) (c x : Fin 128) :
    e.vblk k (ix2 c x) = e.x2 (ix2 (⟨128 * kb e.i k + c, by have := kb_lt e.i k; omega⟩ : Fin 8192) x) := by
  refine (View.readAt_apply ..).trans ?_
  rw [e.h4.read_unread]
  refine congrArg e.x2 (funext fun a => Fin.ext ?_)
  fin_cases a
  · exact congrArg₂ (· + ·) (congrFun (block_row e.i k) 0) (Nat.one_mul _)
  · exact (congrArg₂ (· + ·) (congrFun (block_row e.i k) 1) (Nat.one_mul _)).trans (Nat.zero_add _)

theorem v0_eq : e.v0 = e.x0 := by
  funext y
  refine (View.readAt_apply ..).trans ?_
  rw [e.h2.read_unread]
  refine congrArg e.x0 (funext fun a => Fin.ext ?_)
  fin_cases a <;> exact (Nat.zero_add _).trans (Nat.one_mul _)

/-- Two halves written over any contents, read back. -/
theorem halves (v : View sig .tc .vmem S256x256 .f32) (G : BufTy.Contents (Elt Ideal) v.ty) (L : List (View.Piece (Elt Ideal) S256x256 .f32))
    (w0 w1 : Vec Ideal S256x128 .f32) (r : Fin 256) (l : Fin 128) :
    View.readAt (Elt Ideal) v (Rect.unit (s := S256x256) ![0, 0] ![256, 128] inb_S256x256_S256x128_0_0).toLoadRect
        (v.writes (Elt Ideal) G (⟨Rect.unit (s := S256x256) ![0, 128] ![256, 128] inb_S256x256_S256x128_0_128, w1⟩
          :: ⟨Rect.unit (s := S256x256) ![0, 0] ![256, 128] inb_S256x256_S256x128_0_0, w0⟩ :: L)) (ix2 r l) = w0 (ix2 r l)
      ∧ View.readAt (Elt Ideal) v (Rect.unit (s := S256x256) ![0, 128] ![256, 128] inb_S256x256_S256x128_0_128).toLoadRect
        (v.writes (Elt Ideal) G (⟨Rect.unit (s := S256x256) ![0, 128] ![256, 128] inb_S256x256_S256x128_0_128, w1⟩
          :: ⟨Rect.unit (s := S256x256) ![0, 0] ![256, 128] inb_S256x256_S256x128_0_0, w0⟩ :: L)) (ix2 r l) = w1 (ix2 r l) := by
  constructor
  · refine (View.read_writes_cons_unit_of_not_mem v G inb_S256x256_S256x128_0_128 w1 _ _ rfl (1 : Fin 2) (Or.inl ?_)).trans
      (View.read_writes_cons_unit_of_mem v G inb_S256x256_S256x128_0_0 w0 L _ (ix2 r l) rfl fun a => congrArg (_ + ·) (Nat.one_mul _))
    show 0 + 1 * (l : ℕ) < 128
    omega
  · exact View.read_writes_cons_unit_of_mem v G inb_S256x256_S256x128_0_128 w1 _ _ (ix2 r l) rfl fun a => congrArg (_ + ·) (Nat.one_mul _)

/-- The two halves of the saved logs after a trip. -/
theorem cm_succ (k : Fin (k0_t1_loop e.i).trips) (r : Fin 256) (l : Fin 128) :
    e.cm0 (k + 1) (ix2 r l) = k0_pay9 (e.st k).1.1 (e.lane k) (e.cm0 k) (ix2 r l)
      ∧ e.cm1 (k + 1) (ix2 r l) = k0_pay44 (e.st k).1.2.1 (e.lane k) (e.cm1 k) (ix2 r l) := by
  have h := halves e.arg6.view e.G (e.st k).2 (k0_pay9 (e.st k).1.1 (e.lane k) (e.cm0 k)) (k0_pay44 (e.st k).1.2.1 (e.lane k) (e.cm1 k)) r l
  unfold cm0 cm1 cm
  rw [e.succ k]
  exact h

/-- Before the loop the saved logs are zero. -/
theorem cm_zero (r : Fin 256) (l : Fin 128) : e.cm0 0 (ix2 r l) = 0 ∧ e.cm1 0 (ix2 r l) = 0 := by
  have z : ∀ y, k0_pay40 (F := Ideal) y = 0 := fun y => by pointwise [k0_pay40]
  constructor
  · refine (View.readAt_apply ..).trans (Eq.trans ?_ (z (ix2 r (⟨l, by omega⟩ : Fin 256))))
    exact View.read_writes_cons_unit_of_mem _ _ _ _ _ _ _ rfl fun a => by
      fin_cases a
      · exact congrArg (0 + ·) (Nat.one_mul _)
      · exact congrArg (0 + ·) (Nat.one_mul _)
  · refine (View.readAt_apply ..).trans (Eq.trans ?_ (z (ix2 r (⟨128 + l, by omega⟩ : Fin 256))))
    exact View.read_writes_cons_unit_of_mem _ _ _ _ _ _ _ rfl fun a => by
      fin_cases a
      · exact congrArg (0 + ·) (Nat.one_mul _)
      · exact (congrArg (128 + ·) (Nat.one_mul _)).trans (Nat.zero_add _).symm

end Point

/-- The scores of one head of a pair: the tile's queries against the pair's key columns. -/
noncomputable def zz (A : Fin 256 → Fin 128 → ℝ) (K : ℕ → Fin 128 → ℝ) (a : ℕ) (r : Fin 256) (s : ℕ) : ℝ :=
  ∑ x : Fin 128, (if (x : ℕ) / 64 = a then A r x else 0) * K s x

theorem from_block (f : ℕ → ℝ) {b : ℕ} (hb : b < 64) :
    ∑ s ∈ Finset.Ico (128 * b) 8192, f s = ∑ s ∈ Finset.Ico (128 * (b + 1)) 8192, f s + ∑ l : Fin 128, f (128 * b + l) := by
  have h := sum_from f b 0
  simp only [Fin.zero_le, if_true, mul_one] at h
  rw [h, ← Finset.sum_Ico_consecutive f (show 128 * b ≤ 128 * (b + 1) by omega) (show 128 * (b + 1) ≤ 8192 by omega), add_comm]
  rfl

section
variable {e : Point} {A : Fin 256 → Fin 128 → ℝ} {K V : ℕ → Fin 128 → ℝ}

/-- What holds before a trip, the blocks from `b` on having been taken. -/
structure Inv (e : Point) (A : Fin 256 → Fin 128 → ℝ) (K V : ℕ → Fin 128 → ℝ) (k b : ℕ) : Prop where
  c0 : ∀ r, (e.st k).1.1 (ix2 r (0 : Fin 1)) = (tail (zz A K 0 r) (qrow e.i r) (128 * b) : EReal)
  c1 : ∀ r, (e.st k).1.2.1 (ix2 r (0 : Fin 1)) = (tail (zz A K 1 r) (qrow e.i r) (128 * b) : EReal)
  acc : ∀ r (c : Fin 128), (e.st k).1.2.2 (ix2 r c)
    = ((∑ s ∈ Finset.Ico (128 * b) 8192, att (zz A K (c / 64) r) (qrow e.i r) s * V s c : ℝ) : EReal)
  m0 : ∀ r (l : Fin 128), e.cm0 k (ix2 r l) = ((if b ≤ l then tail (zz A K 0 r) (qrow e.i r) (128 * (l + 1)) else 0 : ℝ) : EReal)
  m1 : ∀ r (l : Fin 128), e.cm1 k (ix2 r l) = ((if b ≤ l then tail (zz A K 1 r) (qrow e.i r) (128 * (l + 1)) else 0 : ℝ) : EReal)

theorem inv_zero : Inv e A K V 0 (2 * ((e.i 1 : ℕ) + 1)) := by
  have hq : ∀ r, qrow e.i r ≤ 128 * (2 * ((e.i 1 : ℕ) + 1)) := fun r => by unfold qrow; omega
  have hm : ∀ a r (l : Fin 128), (0 : EReal)
      = ((if 2 * ((e.i 1 : ℕ) + 1) ≤ l then tail (zz A K a r) (qrow e.i r) (128 * (l + 1)) else 0 : ℝ) : EReal) := fun a r l => by
    split_ifs with h
    · rw [tail_of_le _ _ ((hq r).trans (by omega)), EReal.coe_zero]
    · exact EReal.coe_zero.symm
  refine ⟨fun r => ?_, fun r => ?_, fun r c => ?_, fun r l => (e.cm_zero r l).1.trans (hm 0 r l), fun r l => (e.cm_zero r l).2.trans (hm 1 r l)⟩
  · rw [tail_of_le _ _ (hq r), EReal.coe_zero]
    show k0_pay41 (F := Ideal) (ix2 r (0 : Fin 1)) = 0
    pointwise [k0_pay41]
  · rw [tail_of_le _ _ (hq r), EReal.coe_zero]
    show k0_pay41 (F := Ideal) (ix2 r (0 : Fin 1)) = 0
    pointwise [k0_pay41]
  · rw [Finset.sum_eq_zero fun s hs => by rw [att_of_le _ _ ((hq r).trans (Finset.mem_Ico.mp hs).1), zero_mul], EReal.coe_zero]
    show k0_pay42 (F := Ideal) (ix2 r c) = 0
    pointwise [k0_pay42]

theorem lane_step {b : ℕ} (f : ℕ → ℝ) (l : Fin 128) :
    (if b + 1 ≤ (l : ℕ) then f (l + 1) else 0) + (if (l : ℕ) = b then f (b + 1) else 0) = if b ≤ (l : ℕ) then f (l + 1) else 0 := by
  by_cases h : (l : ℕ) = b
  · rw [if_neg (by omega), if_pos h, if_pos (by omega), h, zero_add]
  · rw [if_neg h, add_zero]
    by_cases h' : b ≤ (l : ℕ)
    · rw [if_pos h', if_pos (by omega)]
    · rw [if_neg h', if_neg (by omega)]

theorem inv_succ (hA : ∀ r l, e.x0 (ix2 r l) = (A r l : EReal)) (hK : ∀ (s : Fin 8192) l, e.x1 (ix2 s l) = (K s l : EReal))
    (hV : ∀ (s : Fin 8192) l, e.x2 (ix2 s l) = (V s l : EReal)) (k : Fin (k0_t1_loop e.i).trips)
    (I : Inv e A K V k (kb e.i k + 1)) : Inv e A K V (k + 1) (kb e.i k) := by
  have q0 := q0_at (v0 := e.v0) (a := A) (by rw [e.v0_eq]; exact hA)
  have q1 := q1_at (v0 := e.v0) (a := A) (by rw [e.v0_eq]; exact hA)
  have hk : ∀ c x, e.kblk k (ix2 c x) = (K (128 * kb e.i k + c) x : EReal) := fun c x => (e.kblk_at k c x).trans (hK _ x)
  have hv : ∀ c x, k0_pay2 (e.vblk k) (ix2 c x) = (V (128 * kb e.i k + c) x : EReal) := fun c x =>
    Eq.trans (by pointwise [k0_pay2]) ((e.vblk_at k c x).trans (hV _ x))
  have z0 : ∀ r (c : Fin 128), ∑ x : Fin 128, (if (x : ℕ) / 64 = 0 then A r x else 0) * K (128 * kb e.i k + c) x = zz A K 0 r (128 * kb e.i k + c) := fun r c => rfl
  have z1 : ∀ r (c : Fin 128), ∑ x : Fin 128, (if (x : ℕ) / 64 = 1 then A r x else 0) * K (128 * kb e.i k + c) x = zz A K 1 r (128 * kb e.i k + c) := fun r c => rfl
  refine ⟨fun r => ?_, fun r => ?_, fun r c => ?_, fun r l => ?_, fun r l => ?_⟩
  · rw [e.succ k]
    exact (car_at (lm0_at q0 hk z0) I.c0 r).1
  · rw [e.succ k]
    exact (car_at (lm1_at q1 hk z1) I.c1 r).2
  · rw [e.succ k]
    refine (acc1_at (log1_at q1 hk z1 I.c1) hv (acc0_at (log0_at q0 hk z0 I.c0) hv I.acc) r c).trans ?_
    rw [from_block _ (kb_lt e.i k), add_assoc, ← Finset.sum_add_distrib]
    refine congrArg (fun u : ℝ => ((_ + u : ℝ) : EReal)) (Finset.sum_congr rfl fun x _ => ?_)
    rcases (show (c : ℕ) / 64 = 0 ∨ (c : ℕ) / 64 = 1 by omega) with h | h
    · rw [h, if_pos rfl, if_neg (by decide), mul_zero, add_zero]
    · rw [h, if_neg (by decide), if_pos rfl, mul_zero, zero_add]
  · refine (e.cm_succ k r l).1.trans ((cm_at I.c0 I.m0 r l).1.trans ?_)
    rw [lane_step (fun n => tail (zz A K 0 r) (qrow e.i r) (128 * n))]
  · refine (e.cm_succ k r l).2.trans ((cm_at I.c1 I.m1 r l).2.trans ?_)
    rw [lane_step (fun n => tail (zz A K 1 r) (qrow e.i r) (128 * n))]

theorem inv_all (hA : ∀ r l, e.x0 (ix2 r l) = (A r l : EReal)) (hK : ∀ (s : Fin 8192) l, e.x1 (ix2 s l) = (K s l : EReal))
    (hV : ∀ (s : Fin 8192) l, e.x2 (ix2 s l) = (V s l : EReal)) (k : ℕ) (h : k ≤ 2 * ((e.i 1 : ℕ) + 1)) :
    Inv e A K V k (2 * ((e.i 1 : ℕ) + 1) - k) := by
  induction k with
  | zero => exact inv_zero
  | succ k ih =>
    have I := ih (by omega)
    have hk : k < (k0_t1_loop e.i).trips := by rw [trips]; omega
    have e1 : 2 * ((e.i 1 : ℕ) + 1) - k = kb e.i k + 1 := by unfold kb; omega
    have e2 : 2 * ((e.i 1 : ℕ) + 1) - (k + 1) = kb e.i k := by unfold kb; omega
    rw [e1] at I
    rw [e2]
    exact inv_succ hA hK hV ⟨k, hk⟩ I
end

/-! ### What the grid point leaves -/

section
variable (e : Point) {A : Fin 256 → Fin 128 → ℝ} {K V : ℕ → Fin 128 → ℝ}

/-- The numbers of trips, as the program spells them. -/
theorem loop_word (i : grid0.Coords) : Scf.trips (0#32) (Scalar.addi (0#32) (Scalar.muli (Scalar.divsi (Scalar.subi
      (Scalar.muli (Scalar.addi (BitVec.ofNat 32 ↑(i 1)) 1#32) 2#32) 0#32) 1#32) 1#32)) 1#32 = 2 * ((i 1 : ℕ) + 1) := trips i
theorem rest_word (i : grid0.Coords) : Scf.trips (Scalar.addi (0#32) (Scalar.muli (Scalar.divsi (Scalar.subi
      (Scalar.muli (Scalar.addi (BitVec.ofNat 32 ↑(i 1)) 1#32) 2#32) 0#32) 1#32) 1#32))
    (Scalar.addi (0#32) (Scalar.subi (Scalar.muli (Scalar.addi (BitVec.ofNat 32 ↑(i 1)) 1#32) 2#32) 0#32)) 1#32 = 0 := trips_rest i

theorem out_y (hA : ∀ r l, e.x0 (ix2 r l) = (A r l : EReal)) (hK : ∀ (s : Fin 8192) l, e.x1 (ix2 s l) = (K s l : EReal))
    (hV : ∀ (s : Fin 8192) l, e.x2 (ix2 s l) = (V s l : EReal)) (r : Fin 256) (c : Fin 128) :
    out0_A_3 e.c e.i e.arg2 e.h2 e.arg3 e.h3 e.arg4 e.h4 e.arg5 e.h5 e.arg6 e.h6 e.x0 e.x1 e.x2 (ix2 r c)
      = ((∑ s ∈ Finset.range 8192, att (zz A K (c / 64) r) (qrow e.i r) s * V s c : ℝ) : EReal) := by
  have I := inv_all (V := V) hA hK hV (2 * ((e.i 1 : ℕ) + 1)) le_rfl
  rw [Nat.sub_self] at I
  have h := I.acc r c
  rw [Finset.range_eq_Ico]
  refine Eq.trans ?_ h
  unfold out0_A_3 kernelRun0_A
  dsimp only
  unfold kernelRun0_A.sl.r
  rw [rest_word, loop_word]
  exact View.read_writes_cons_unit_of_mem VO0_3 VO0_3.junk inb_S256x128_S256x128_0_0 _ _ (ix2 r c) (ix2 r c) rfl fun a => by
    fin_cases a <;> exact (Nat.zero_add _).symm

theorem out_cm (hA : ∀ r l, e.x0 (ix2 r l) = (A r l : EReal)) (hK : ∀ (s : Fin 8192) l, e.x1 (ix2 s l) = (K s l : EReal))
    (hV : ∀ (s : Fin 8192) l, e.x2 (ix2 s l) = (V s l : EReal)) (r : Fin 256) (l : Fin 128) :
    out0_A_4 e.c e.i e.arg2 e.h2 e.arg3 e.h3 e.arg4 e.h4 e.arg5 e.h5 e.arg6 e.h6 e.x0 e.x1 e.x2 (ix2 r (⟨l, by omega⟩ : Fin 256))
        = (tail (zz A K 0 r) (qrow e.i r) (128 * (l + 1)) : EReal)
      ∧ out0_A_4 e.c e.i e.arg2 e.h2 e.arg3 e.h3 e.arg4 e.h4 e.arg5 e.h5 e.arg6 e.h6 e.x0 e.x1 e.x2 (ix2 r (⟨128 + l, by omega⟩ : Fin 256))
        = (tail (zz A K 1 r) (qrow e.i r) (128 * (l + 1)) : EReal) := by
  have I := inv_all (V := V) hA hK hV (2 * ((e.i 1 : ℕ) + 1)) le_rfl
  rw [Nat.sub_self] at I
  obtain ⟨k, hk⟩ : ∃ k : Fin (k0_t1_loop e.i).trips, 2 * ((e.i 1 : ℕ) + 1) = k + 1 :=
    ⟨⟨2 * (e.i 1 : ℕ) + 1, by rw [trips]; omega⟩, by show _ = 2 * (e.i 1 : ℕ) + 1 + 1; ring⟩
  have hc := e.cm_succ k r l
  have h0 := I.m0 r l
  have h1 := I.m1 r l
  rw [if_pos (Nat.zero_le _)] at h0 h1
  have ho : ∀ y, out0_A_4 e.c e.i e.arg2 e.h2 e.arg3 e.h3 e.arg4 e.h4 e.arg5 e.h5 e.arg6 e.h6 e.x0 e.x1 e.x2 y
      = VO0_4.read (Elt Ideal) (VO0_4.writes (Elt Ideal) VO0_4.junk ((e.st (2 * ((e.i 1 : ℕ) + 1))).2 ++ kernelRun0_A.sl.H4_1)) y := fun y => by
    unfold out0_A_4 kernelRun0_A
    dsimp only
    rw [rest_word, loop_word]
    rfl
  have hh := Point.halves VO0_4 VO0_4.junk ((e.st k).2 ++ kernelRun0_A.sl.H4_1)
    (k0_pay9 (e.st k).1.1 (e.lane k) (e.cm0 k)) (k0_pay44 (e.st k).1.2.1 (e.lane k) (e.cm1 k)) r l
  rw [ho, ho, hk, e.succ k]
  rw [hk] at h0 h1
  refine ⟨Eq.trans ?_ (hh.1.trans (hc.1.symm.trans h0)), Eq.trans ?_ (hh.2.trans (hc.2.symm.trans h1))⟩
  · refine congrArg (VO0_4.read (Elt Ideal) _) (funext fun a => Fin.ext ?_)
    fin_cases a <;> exact (Nat.zero_add _).symm.trans (congrArg (0 + ·) (Nat.one_mul _).symm)
  · refine congrArg (VO0_4.read (Elt Ideal) _) (funext fun a => Fin.ext ?_)
    fin_cases a
    · exact (Nat.zero_add _).symm.trans (congrArg (0 + ·) (Nat.one_mul _).symm)
    · exact congrArg (128 + ·) (Nat.one_mul _).symm
end

end Cert.AttnFwd
-- ==== Proof.AttnBwdTrip.lean ====
module

public import proofs.«01_k».proof.Proof.AttnFwdTrip

/-! The backward attention call: one grid point takes a pair of heads and a tile of 256 queries, and
    walks the key blocks up to the diagonal. -/

@[expose] public section

set_option maxRecDepth 16384

namespace Cert.AttnBwd

open Idealize.ShloMosaic Idealize.ShloMosaic.TcCoe Idealize.SL.Sem
open Cert.AttnKernelIdeal Cert.AttnKernelIdeal.Gen Cert.Stick
open Cert.AttnFwd (mul_word add_word split_sum)

/-! ### The words -/

theorem trips (i : grid1.Coords) : (k1_t1_loop i).trips = 2 * ((i 1 : ℕ) + 1) := by
  have h : ∀ n : Fin 32, Scf.trips (0#32) (Scalar.addi (0#32) (Scalar.muli (Scalar.divsi (Scalar.subi
      (Scalar.muli (Scalar.addi (BitVec.ofNat 32 (n : ℕ)) 1#32) 2#32) 0#32) 1#32) 1#32)) 1#32 = 2 * ((n : ℕ) + 1) := by decide +kernel
  exact h (i 1)

theorem trips_rest (i : grid1.Coords) : (k1_t2_loop i).trips = 0 := by
  have h : ∀ n : Fin 32, Scf.trips (Scalar.addi (0#32) (Scalar.muli (Scalar.divsi (Scalar.subi
      (Scalar.muli (Scalar.addi (BitVec.ofNat 32 (n : ℕ)) 1#32) 2#32) 0#32) 1#32) 1#32))
      (Scalar.addi (0#32) (Scalar.subi (Scalar.muli (Scalar.addi (BitVec.ofNat 32 (n : ℕ)) 1#32) 2#32) 0#32)) 1#32 = 0 := by decide +kernel
  exact h (i 1)

theorem k_lt (i : grid1.Coords) (k : Fin (k1_t1_loop i).trips) : (k : ℕ) < 64 := by
  have hk := lt_of_lt_of_eq k.isLt (trips i)
  have hi : (i 1 : ℕ) < 32 := (i 1).isLt
  omega

theorem block_word (n : ℕ) : Scf.iv 0#32 1#32 n = BitVec.ofNat 32 n := by
  apply BitVec.eq_of_toNat_eq
  simp [Scf.iv]

theorem block_row (i : grid1.Coords) (k : Fin (k1_t1_loop i).trips) : k1_off1 i k = ![128 * (k : ℕ), 0] := by
  have h : (Scalar.muli (Scf.iv 0#32 1#32 k) 128#32).toNat = 128 * (k : ℕ) := by
    rw [block_word, show (128#32 : BitVec 32) = BitVec.ofNat 32 128 from rfl, mul_word, BitVec.toNat_ofNat]
    have := k_lt i k
    omega
  funext a
  fin_cases a
  · exact h
  · rfl

/-- The query of row `r`. -/
def qrow (i : grid1.Coords) (r : Fin 256) : ℕ := 256 * (i 1 : ℕ) + r

theorem qrow_lt (i : grid1.Coords) (r : Fin 256) : qrow i r < 8192 := by
  have h : (i 1 : ℕ) < 32 := (i 1).isLt
  unfold qrow; omega

/-- The causal mask of trip `k`. -/
noncomputable def mask (i : grid1.Coords) (k : Fin (k1_t1_loop i).trips) : IVec S256x128 1 :=
  k1_pay10 i (k1_pay2 (BitVec.ofNat 32 (i 1))) (iota Kind.tc S256x128 32 [1] iota_S256x128_d1_w32) 0#32 1#32 k

theorem mask_at (i : grid1.Coords) (k : Fin (k1_t1_loop i).trips) (r : Fin 256) (c : Fin 128) :
    mask i k (ix2 r c) = BitVec.ofBool (decide (128 * (k : ℕ) + c < qrow i r)) := by
  refine Eq.trans (b := IntOp.cmpi .slt (IntOp.addi (BitVec.ofNat 32 (c : ℕ)) (Scalar.muli (Scf.iv 0#32 1#32 k) 128#32))
    (IntOp.addi (BitVec.ofNat 32 (r : ℕ)) (Scalar.muli (BitVec.ofNat 32 (i 1 : ℕ)) 256#32))) ?_ ?_
  · unfold mask
    pointwise [k1_pay10, k1_pay2]
  · have h1 := k_lt i k
    have h2 := qrow_lt i r
    rw [block_word, show (128#32 : BitVec 32) = BitVec.ofNat 32 128 from rfl, show (256#32 : BitVec 32) = BitVec.ofNat 32 256 from rfl,
      mul_word, mul_word, add_word, add_word, show (r : ℕ) + (i 1 : ℕ) * 256 = qrow i r from by unfold qrow; ring,
      slt_word (by omega) (by omega), show (c : ℕ) + (k : ℕ) * 128 = 128 * (k : ℕ) + c from by ring]

/-- The lanes of a head. -/
theorem head0_at (c : Fin 128) : k1_pay57 (ix2 (0 : Fin 1) c) = BitVec.ofBool (decide ((c : ℕ) / 64 = 0)) := by
  refine Eq.trans (b := IntOp.cmpi .slt (BitVec.ofNat 32 (c : ℕ)) (BitVec.ofNat 32 64)) ?_ ?_
  · pointwise [k1_pay57]
  · rw [slt_word (by omega) (by omega)]
    exact congrArg _ (by simp only [decide_eq_decide]; omega)

theorem head1_at (c : Fin 128) : k1_pay58 (ix2 (0 : Fin 1) c) = BitVec.ofBool (decide ((c : ℕ) / 64 = 1)) := by
  refine Eq.trans (b := IntOp.xori (k1_pay57 (ix2 (0 : Fin 1) c)) 1#1) ?_ ?_
  · pointwise [k1_pay58]
  · rw [head0_at]
    by_cases h : (c : ℕ) / 64 = 0
    · rw [show decide ((c : ℕ) / 64 = 0) = true from by simpa using h, show decide ((c : ℕ) / 64 = 1) = false from by simp; omega]; rfl
    · rw [show decide ((c : ℕ) / 64 = 0) = false from by simpa using h, show decide ((c : ℕ) / 64 = 1) = true from by simp; omega]; rfl

/-- The triangles of ones: the later keys of a block, and the earlier ones. -/
theorem later_at (d c : Fin 128) : k1_pay65 (F := Ideal) (ix2 d c) = ((if c ≤ d then 1 else 0 : ℝ) : EReal) := by
  refine Eq.trans (b := FloatOps.sitofp (F := Ideal) .f32 (BitVec.setWidth 32 (IntOp.cmpi .sge (BitVec.ofNat 32 (d : ℕ)) (BitVec.ofNat 32 (c : ℕ))))) ?_ ?_
  · pointwise [k1_pay65]
  · rw [sge_word (by omega) (by omega), bit_coe]
    simp only [Fin.le_def]

theorem earlier_at (d c : Fin 128) : k1_pay1 (F := Ideal) k1_pay66 (ix2 d c) = ((if d ≤ c then 1 else 0 : ℝ) : EReal) := by
  refine Eq.trans (b := FloatOps.sitofp (F := Ideal) .f32 (BitVec.setWidth 32 (IntOp.cmpi .sle (BitVec.ofNat 32 (d : ℕ)) (BitVec.ofNat 32 (c : ℕ))))) ?_ ?_
  · pointwise [k1_pay1, k1_pay66]
  · rw [WordCmp.cmpi_sle_ofNat (by omega) (by omega), bit_coe]
    simp only [Fin.le_def]

/-- One head of the tile's queries and cotangents, the other head's lanes zero. -/
theorem q0_at {v : Vec Ideal S256x128 .bf16} {a : Fin 256 → Fin 128 → ℝ} (h : ∀ r l, v (ix2 r l) = (a r l : EReal)) (r : Fin 256) (c : Fin 128) :
    k1_pay59 v (ix2 r c) = ((if (c : ℕ) / 64 = 0 then a r c else 0 : ℝ) : EReal) := by
  refine Eq.trans (b := Scalar.select (k1_pay57 (ix2 (0 : Fin 1) c)) (v (ix2 r c)) 0) ?_ ?_
  · pointwise [k1_pay59, k1_pay56]
  · rw [head0_at, select_ofBool, h]; exact ite_coe rfl

theorem q1_at {v : Vec Ideal S256x128 .bf16} {a : Fin 256 → Fin 128 → ℝ} (h : ∀ r l, v (ix2 r l) = (a r l : EReal)) (r : Fin 256) (c : Fin 128) :
    k1_pay60 v (ix2 r c) = ((if (c : ℕ) / 64 = 1 then a r c else 0 : ℝ) : EReal) := by
  refine Eq.trans (b := Scalar.select (k1_pay58 (ix2 (0 : Fin 1) c)) (v (ix2 r c)) 0) ?_ ?_
  · pointwise [k1_pay60, k1_pay56]
  · rw [head1_at, select_ofBool, h]; exact ite_coe rfl

theorem d0_at {v : Vec Ideal S256x128 .f32} {a : Fin 256 → Fin 128 → ℝ} (h : ∀ r l, v (ix2 r l) = (a r l : EReal)) (r : Fin 256) (c : Fin 128) :
    k1_pay61 v (ix2 r c) = ((if (c : ℕ) / 64 = 0 then a r c else 0 : ℝ) : EReal) := by
  refine Eq.trans (b := Scalar.select (k1_pay57 (ix2 (0 : Fin 1) c)) (v (ix2 r c)) 0) ?_ ?_
  · pointwise [k1_pay61]
  · rw [head0_at, select_ofBool, h]; exact ite_coe rfl

theorem d1_at {v : Vec Ideal S256x128 .f32} {a : Fin 256 → Fin 128 → ℝ} (h : ∀ r l, v (ix2 r l) = (a r l : EReal)) (r : Fin 256) (c : Fin 128) :
    k1_pay62 v (ix2 r c) = ((if (c : ℕ) / 64 = 1 then a r c else 0 : ℝ) : EReal) := by
  refine Eq.trans (b := Scalar.select (k1_pay58 (ix2 (0 : Fin 1) c)) (v (ix2 r c)) 0) ?_ ?_
  · pointwise [k1_pay62]
  · rw [head1_at, select_ofBool, h]; exact ite_coe rfl

/-! ### One trip -/

section
variable {T : Fin 256 → ℕ} {b : ℕ} {m : IVec S256x128 1}
variable {v9 : FVec Ideal S256x128 .bf16} {kk vv : Vec Ideal S128x128 .bf16} {A D : Fin 256 → Fin 128 → ℝ} {B V : Fin 128 → Fin 128 → ℝ}
variable {Z W : Fin 256 → ℕ → ℝ}

/-- The score of a query and a key. -/
theorem score0_at (hq : ∀ r x, v9 (ix2 r x) = (A r x : EReal)) (hk : ∀ c x, kk (ix2 c x) = (B c x : EReal))
    (hZ : ∀ r (c : Fin 128), ∑ x, A r x * B c x = Z r (128 * b + c)) (r : Fin 256) (c : Fin 128) :
    k1_pay11 v9 kk (ix2 r c) = (Z r (128 * b + c) : EReal) := by
  refine Eq.trans (b := ∑ x : Fin 128, v9 (ix2 r x) * kk (ix2 c x)) ?_ ?_
  · pointwise [k1_pay11, k1_pay8]
  · rw [sum_mul_coe (hq r) (hk c), hZ]

theorem score1_at (hq : ∀ r x, v9 (ix2 r x) = (A r x : EReal)) (hk : ∀ c x, kk (ix2 c x) = (B c x : EReal))
    (hZ : ∀ r (c : Fin 128), ∑ x, A r x * B c x = Z r (128 * b + c)) (r : Fin 256) (c : Fin 128) :
    k1_pay23 v9 (k1_pay8 kk) (ix2 r c) = (Z r (128 * b + c) : EReal) := by
  refine Eq.trans (b := ∑ x : Fin 128, v9 (ix2 r x) * kk (ix2 c x)) ?_ ?_
  · pointwise [k1_pay23, k1_pay8]
  · rw [sum_mul_coe (hq r) (hk c), hZ]

/-- The log of what a key leaves of the stick, written out from its score. -/
noncomputable def lmOf (m : IVec S256x128 1) (s : FVec Ideal S256x128 .f32) (r : Fin 256) (c : Fin 128) : EReal :=
  Scalar.select (m (ix2 r c)) (0 - (max (s (ix2 r c)) 0 + Ideal.log (1 + Ideal.exp (0 - FloatOps.absf (F := Ideal) (φ := .f32) (s (ix2 r c)))))) 0

theorem lmOf_at {s : FVec Ideal S256x128 .f32} (hm : ∀ r (c : Fin 128), m (ix2 r c) = BitVec.ofBool (decide (128 * b + c < T r)))
    (hs : ∀ r (c : Fin 128), s (ix2 r c) = (Z r (128 * b + c) : EReal)) (r : Fin 256) (c : Fin 128) :
    lmOf m s r c = (lm (Z r) (T r) (128 * b + c) : EReal) := by
  rw [lmOf, hm, hs, select_ofBool, neg_sp]; exact ite_coe rfl

/-- A lane of the saved logs, picked by the number of the block. -/
theorem pick {y : FVec Ideal S256x128 .f32} {M : Fin 256 → Fin 128 → ℝ} (hy : ∀ r l, y (ix2 r l) = (M r l : EReal)) (hb : b < 64) (r : Fin 256) :
    ∑ l : Fin 128, Scalar.select (IntOp.cmpi .eq (kernelRun1_B.sl.v6 (ix2 (0 : Fin 1) l)) (BitVec.ofNat 32 b)) (y (ix2 r l)) 0
      = (M r ⟨b, by omega⟩ : EReal) := by
  have h6 : ∀ l : Fin 128, kernelRun1_B.sl.v6 (ix2 (0 : Fin 1) l) = BitVec.ofNat 32 (l : ℕ) := fun l => by pointwise [kernelRun1_B.sl.v6]
  rw [Finset.sum_eq_single (⟨b, by omega⟩ : Fin 128)]
  · rw [h6, eq_word (by omega) (by omega), select_ofBool, if_pos rfl, hy]
  · intro l _ hl
    rw [h6, eq_word (by omega) (by omega), select_ofBool, if_neg fun h => hl (Fin.ext h)]
  · exact fun h => absurd (Finset.mem_univ _) h

/-- The log of the weight of a key, from the score, the carried log and the block's logs. -/
theorem logOf {s : FVec Ideal S256x128 .f32} (hb : b < 64) (hm : ∀ r (c : Fin 128), m (ix2 r c) = BitVec.ofBool (decide (128 * b + c < T r)))
    (hs : ∀ r (c : Fin 128), s (ix2 r c) = (Z r (128 * b + c) : EReal)) {car : Fin 256 → EReal}
    (hc : ∀ r, car r = (tail (Z r) (T r) (128 * (b + 1)) : EReal)) (r : Fin 256) (c : Fin 128) :
    s (ix2 r c) + car r + (∑ x : Fin 128, lmOf m s r x * k1_pay65 (F := Ideal) (ix2 x c) + ∑ x : Fin 128, (lmOf m s r x - lmOf m s r x) * k1_pay65 (F := Ideal) (ix2 x c))
      = ((Z r (128 * b + c) + tail (Z r) (T r) (128 * b + c) : ℝ) : EReal) := by
  rw [split_sum (lmOf_at hm hs r) (fun x => later_at x c), hs, hc, tail_inside (Z r) (T r) hb c, ← EReal.coe_add, ← EReal.coe_add, add_assoc]

/-- The weight, from its log. -/
theorem attOf (hm : ∀ r (c : Fin 128), m (ix2 r c) = BitVec.ofBool (decide (128 * b + c < T r))) {x : EReal} {r : Fin 256} {c : Fin 128}
    (hx : x = ((Z r (128 * b + c) + tail (Z r) (T r) (128 * b + c) : ℝ) : EReal)) :
    Scalar.select (m (ix2 r c)) (Ideal.exp x) 0 = (att (Z r) (T r) (128 * b + c) : EReal) := by
  rw [hm, select_ofBool, hx, Ideal.exp_coe]; exact ite_coe rfl

/-- The gradient of the score, from the weight times its cotangent and the earlier keys' sum. -/
theorem dzOf (hm : ∀ r (c : Fin 128), m (ix2 r c) = BitVec.ofBool (decide (128 * b + c < T r))) {s e g : FVec Ideal S256x128 .f32} {car : FVec Ideal S256x1 .f32}
    (hs : ∀ r (c : Fin 128), s (ix2 r c) = (Z r (128 * b + c) : EReal))
    (he : ∀ r (c : Fin 128), e (ix2 r c) = Ideal.exp (0 - FloatOps.absf (F := Ideal) (φ := .f32) (s (ix2 r c))))
    (hg : ∀ r (c : Fin 128), g (ix2 r c) = (gg (Z r) (W r) (T r) (128 * b + c) : EReal))
    (hc : ∀ r, car (ix2 r (0 : Fin 1)) = (pre (Z r) (W r) (T r) (128 * b) : EReal)) (r : Fin 256) (c : Fin 128) :
    Scalar.select (m (ix2 r c)) (g (ix2 r c) - Scalar.select (FloatOps.cmpf (F := Ideal) (φ := .f32) .oge (s (ix2 r c)) 0) (Ideal.div 1 (1 + e (ix2 r c))) (e (ix2 r c) * Ideal.div 1 (1 + e (ix2 r c)))
        * (car (ix2 r (0 : Fin 1)) + (∑ x : Fin 128, g (ix2 r x) * k1_pay1 (F := Ideal) k1_pay66 (ix2 x c)
          + ∑ x : Fin 128, (g (ix2 r x) - g (ix2 r x)) * k1_pay1 (F := Ideal) k1_pay66 (ix2 x c)))) 0
      = (dz (Z r) (W r) (T r) (128 * b + c) : EReal) := by
  have h1 : Scalar.select (FloatOps.cmpf (F := Ideal) (φ := .f32) .oge (s (ix2 r c)) 0) (Ideal.div 1 (1 + e (ix2 r c))) (e (ix2 r c) * Ideal.div 1 (1 + e (ix2 r c)))
      = (sg (Z r (128 * b + c)) : EReal) := by
    have hz := hs r c
    have := kernel_sg (Z r (128 * b + c)) (e := e (ix2 r c)) (by rw [he, hz])
    rw [← hz] at this
    rw [← this]
    show Scalar.select (BitVec.ofBool (decide (0 ≤ s (ix2 r c)))) _ _ = _
    exact select_ofBool _ _ _
  rw [h1, split_sum (hg r) (fun x => earlier_at x c), hg, hc, ← EReal.coe_add, ← pre_inside, ← EReal.coe_mul, ← EReal.coe_sub, hm, select_ofBool]
  exact ite_coe rfl

/-! The two heads' steps, as the program writes them. -/

theorem att0_at {i : grid1.Coords} {k : Fin (k1_t1_loop i).trips} {y : FVec Ideal S256x128 .f32} {M : Fin 256 → Fin 128 → ℝ}
    (hq : ∀ r x, v9 (ix2 r x) = (A r x : EReal)) (hk : ∀ c x, kk (ix2 c x) = (B c x : EReal))
    (hZ : ∀ r (c : Fin 128), ∑ x, A r x * B c x = Z r (128 * (k : ℕ) + c)) (hy : ∀ r l, y (ix2 r l) = (M r l : EReal))
    (hM : ∀ r, M r ⟨k, by have := k_lt i k; omega⟩ = tail (Z r) (qrow i r) (128 * ((k : ℕ) + 1))) (r : Fin 256) (c : Fin 128) :
    k1_pay14 (mask i k) (k1_pay13 i kernelRun1_B.sl.v6 v9 y k1_pay65 (k1_pay2 (BitVec.ofNat 32 (i 1))) (iota Kind.tc S256x128 32 [1] iota_S256x128_d1_w32) 0#32 1#32 k kk) (ix2 r c)
      = (att (Z r) (qrow i r) (128 * (k : ℕ) + c) : EReal) := by
  refine Eq.trans (b := Scalar.select (mask i k (ix2 r c)) (Ideal.exp (k1_pay13 i kernelRun1_B.sl.v6 v9 y k1_pay65 (k1_pay2 (BitVec.ofNat 32 (i 1)))
    (iota Kind.tc S256x128 32 [1] iota_S256x128_d1_w32) 0#32 1#32 k kk (ix2 r c))) 0) ?_ (attOf (mask_at i k) ?_)
  · pointwise [k1_pay14]
  · refine Eq.trans (b := k1_pay11 v9 kk (ix2 r c)
      + (∑ l : Fin 128, Scalar.select (IntOp.cmpi .eq (kernelRun1_B.sl.v6 (ix2 (0 : Fin 1) l)) (Scf.iv 0#32 1#32 k)) (y (ix2 r l)) 0)
      + (∑ x : Fin 128, lmOf (mask i k) (k1_pay11 v9 kk) r x * k1_pay65 (F := Ideal) (ix2 x c)
        + ∑ x : Fin 128, (lmOf (mask i k) (k1_pay11 v9 kk) r x - lmOf (mask i k) (k1_pay11 v9 kk) r x) * k1_pay65 (F := Ideal) (ix2 x c))) ?_ ?_
    · unfold lmOf mask
      pointwise [k1_pay13, k1_pay12]
    · rw [block_word]
      exact logOf (k_lt i k) (mask_at i k) (score0_at hq hk hZ) (car := fun r => ∑ l : Fin 128, Scalar.select (IntOp.cmpi .eq (kernelRun1_B.sl.v6 (ix2 (0 : Fin 1) l)) (BitVec.ofNat 32 k)) (y (ix2 r l)) 0)
        (fun r => (pick hy (k_lt i k) r).trans (congrArg _ (hM r))) r c

theorem att1_at {i : grid1.Coords} {k : Fin (k1_t1_loop i).trips} {y : FVec Ideal S256x128 .f32} {M : Fin 256 → Fin 128 → ℝ}
    (hq : ∀ r x, v9 (ix2 r x) = (A r x : EReal)) (hk : ∀ c x, kk (ix2 c x) = (B c x : EReal))
    (hZ : ∀ r (c : Fin 128), ∑ x, A r x * B c x = Z r (128 * (k : ℕ) + c)) (hy : ∀ r l, y (ix2 r l) = (M r l : EReal))
    (hM : ∀ r, M r ⟨k, by have := k_lt i k; omega⟩ = tail (Z r) (qrow i r) (128 * ((k : ℕ) + 1))) (r : Fin 256) (c : Fin 128) :
    k1_pay25 kernelRun1_B.sl.v6 v9 y k1_pay65 (Scf.iv 0#32 1#32 k) (k1_pay8 kk) (mask i k) (ix2 r c) = (att (Z r) (qrow i r) (128 * (k : ℕ) + c) : EReal) := by
  refine Eq.trans (b := Scalar.select (mask i k (ix2 r c)) (Ideal.exp (k1_pay23 v9 (k1_pay8 kk) (ix2 r c)
      + (∑ l : Fin 128, Scalar.select (IntOp.cmpi .eq (kernelRun1_B.sl.v6 (ix2 (0 : Fin 1) l)) (Scf.iv 0#32 1#32 k)) (y (ix2 r l)) 0)
      + (∑ x : Fin 128, lmOf (mask i k) (k1_pay23 v9 (k1_pay8 kk)) r x * k1_pay65 (F := Ideal) (ix2 x c)
        + ∑ x : Fin 128, (lmOf (mask i k) (k1_pay23 v9 (k1_pay8 kk)) r x - lmOf (mask i k) (k1_pay23 v9 (k1_pay8 kk)) r x) * k1_pay65 (F := Ideal) (ix2 x c)))) 0) ?_
    (attOf (mask_at i k) ?_)
  · unfold lmOf
    pointwise [k1_pay25, k1_pay24]
  · rw [block_word]
    exact logOf (k_lt i k) (mask_at i k) (score1_at hq hk hZ) (car := fun r => ∑ l : Fin 128, Scalar.select (IntOp.cmpi .eq (kernelRun1_B.sl.v6 (ix2 (0 : Fin 1) l)) (BitVec.ofNat 32 k)) (y (ix2 r l)) 0)
      (fun r => (pick hy (k_lt i k) r).trans (congrArg _ (hM r))) r c

/-- A weight times its cotangent. -/
theorem gg0_at {d : FVec Ideal S256x128 .bf16} {l : FVec Ideal S256x128 .f32} (hd : ∀ r x, d (ix2 r x) = (D r x : EReal)) (hv : ∀ c x, vv (ix2 c x) = (V c x : EReal))
    (hW : ∀ r (c : Fin 128), ∑ x, D r x * V c x = W r (128 * b + c)) (ha : ∀ r (c : Fin 128), k1_pay14 m l (ix2 r c) = (att (Z r) (T r) (128 * b + c) : EReal))
    (r : Fin 256) (c : Fin 128) : k1_pay15 d (k1_pay9 vv) m l (ix2 r c) = (gg (Z r) (W r) (T r) (128 * b + c) : EReal) := by
  refine Eq.trans (b := k1_pay14 m l (ix2 r c) * ∑ x : Fin 128, d (ix2 r x) * vv (ix2 c x)) ?_ ?_
  · pointwise [k1_pay15, k1_pay9]
  · rw [sum_mul_coe (hd r) (hv c), hW, ha, ← EReal.coe_mul, gg]

theorem gg1_at {d : FVec Ideal S256x128 .bf16} {y : FVec Ideal S256x128 .f32} {w : BitVec 32} (hd : ∀ r x, d (ix2 r x) = (D r x : EReal)) (hv : ∀ c x, vv (ix2 c x) = (V c x : EReal))
    (hW : ∀ r (c : Fin 128), ∑ x, D r x * V c x = W r (128 * b + c))
    (ha : ∀ r (c : Fin 128), k1_pay25 kernelRun1_B.sl.v6 v9 y k1_pay65 w (k1_pay8 kk) m (ix2 r c) = (att (Z r) (T r) (128 * b + c) : EReal)) (r : Fin 256) (c : Fin 128) :
    k1_pay26 kernelRun1_B.sl.v6 v9 d y k1_pay65 w (k1_pay8 kk) (k1_pay9 vv) m (ix2 r c) = (gg (Z r) (W r) (T r) (128 * b + c) : EReal) := by
  refine Eq.trans (b := k1_pay25 kernelRun1_B.sl.v6 v9 y k1_pay65 w (k1_pay8 kk) m (ix2 r c) * ∑ x : Fin 128, d (ix2 r x) * vv (ix2 c x)) ?_ ?_
  · pointwise [k1_pay26, k1_pay9]
  · rw [sum_mul_coe (hd r) (hv c), hW, ha, ← EReal.coe_mul, gg]

/-- The earlier keys' sum, carried to the next block. -/
theorem car0_at {car : FVec Ideal S256x1 .f32} {g : FVec Ideal S256x128 .f32}
    (hg : ∀ r (c : Fin 128), g (ix2 r c) = (gg (Z r) (W r) (T r) (128 * b + c) : EReal))
    (hc : ∀ r, car (ix2 r (0 : Fin 1)) = (pre (Z r) (W r) (T r) (128 * b) : EReal)) (r : Fin 256) :
    k1_pay22 car g (ix2 r (0 : Fin 1)) = (pre (Z r) (W r) (T r) (128 * (b + 1)) : EReal) := by
  refine Eq.trans (b := car (ix2 r (0 : Fin 1)) + ∑ x : Fin 128, g (ix2 r x)) ?_ ?_
  · pointwise [k1_pay22]
  · rw [hc, sum_coe (hg r), ← EReal.coe_add, ← pre_block]

theorem car1_at {car : FVec Ideal S256x1 .f32} {g : FVec Ideal S256x128 .f32}
    (hg : ∀ r (c : Fin 128), g (ix2 r c) = (gg (Z r) (W r) (T r) (128 * b + c) : EReal))
    (hc : ∀ r, car (ix2 r (0 : Fin 1)) = (pre (Z r) (W r) (T r) (128 * b) : EReal)) (r : Fin 256) :
    k1_pay5 car g (ix2 r (0 : Fin 1)) = (pre (Z r) (W r) (T r) (128 * (b + 1)) : EReal) := by
  refine Eq.trans (b := car (ix2 r (0 : Fin 1)) + ∑ x : Fin 128, g (ix2 r x)) ?_ ?_
  · pointwise [k1_pay5]
  · rw [hc, sum_coe (hg r), ← EReal.coe_add, ← pre_block]

/-- The gradient of the score. -/
theorem dz0_at (hm : ∀ r (c : Fin 128), m (ix2 r c) = BitVec.ofBool (decide (128 * b + c < T r))) {d : FVec Ideal S256x128 .bf16} {l : FVec Ideal S256x128 .f32} {car : FVec Ideal S256x1 .f32}
    (hs : ∀ r (c : Fin 128), k1_pay11 v9 kk (ix2 r c) = (Z r (128 * b + c) : EReal))
    (hg : ∀ r (c : Fin 128), k1_pay15 d (k1_pay9 vv) m l (ix2 r c) = (gg (Z r) (W r) (T r) (128 * b + c) : EReal))
    (hc : ∀ r, car (ix2 r (0 : Fin 1)) = (pre (Z r) (W r) (T r) (128 * b) : EReal)) (r : Fin 256) (c : Fin 128) :
    k1_pay16 d (k1_pay1 k1_pay66) car (k1_pay9 vv) m (k1_pay11 v9 kk) (k1_pay12 v9 kk) l (ix2 r c) = (dz (Z r) (W r) (T r) (128 * b + c) : EReal) := by
  refine Eq.trans ?_ (dzOf hm (e := k1_pay12 v9 kk) hs (fun r c => ?_) hg hc r c)
  · pointwise [k1_pay16]
  · pointwise [k1_pay12]

theorem dz1_at (hm : ∀ r (c : Fin 128), m (ix2 r c) = BitVec.ofBool (decide (128 * b + c < T r))) {g : FVec Ideal S256x128 .f32} {car : FVec Ideal S256x1 .f32}
    (hs : ∀ r (c : Fin 128), k1_pay23 v9 (k1_pay8 kk) (ix2 r c) = (Z r (128 * b + c) : EReal))
    (hg : ∀ r (c : Fin 128), g (ix2 r c) = (gg (Z r) (W r) (T r) (128 * b + c) : EReal))
    (hc : ∀ r, car (ix2 r (0 : Fin 1)) = (pre (Z r) (W r) (T r) (128 * b) : EReal)) (r : Fin 256) (c : Fin 128) :
    k1_pay27 (k1_pay1 k1_pay66) car m (k1_pay23 v9 (k1_pay8 kk)) (k1_pay24 v9 (k1_pay8 kk)) g (ix2 r c) = (dz (Z r) (W r) (T r) (128 * b + c) : EReal) := by
  refine Eq.trans ?_ (dzOf hm (e := k1_pay24 v9 (k1_pay8 kk)) hs (fun r c => ?_) hg hc r c)
  · pointwise [k1_pay27]
  · pointwise [k1_pay24]

/-- The gradient of the queries, one block more. -/
theorem dq0_at {d : FVec Ideal S256x128 .bf16} {z e l acc : FVec Ideal S256x128 .f32} {car : FVec Ideal S256x1 .f32} {G : Fin 256 → Fin 128 → ℝ} {C : Fin 256 → Fin 128 → ℝ}
    (hz : ∀ r c, k1_pay16 d (k1_pay1 k1_pay66) car (k1_pay9 vv) m z e l (ix2 r c) = (G r c : EReal)) (hk : ∀ c x, kk (ix2 c x) = (B c x : EReal))
    (ha : ∀ r c, acc (ix2 r c) = (C r c : EReal)) (r : Fin 256) (c : Fin 128) :
    k1_pay17 k1_pay57 d (k1_pay1 k1_pay66) car acc (k1_pay8 kk) (k1_pay9 vv) m z e l (ix2 r c)
      = ((C r c + ∑ x : Fin 128, G r x * (if (c : ℕ) / 64 = 0 then B x c else 0) : ℝ) : EReal) := by
  refine Eq.trans (b := acc (ix2 r c) + ∑ x : Fin 128, k1_pay16 d (k1_pay1 k1_pay66) car (k1_pay9 vv) m z e l (ix2 r x)
    * Scalar.select (k1_pay57 (ix2 (0 : Fin 1) c)) (kk (ix2 x c)) 0) ?_ ?_
  · pointwise [k1_pay17, k1_pay8]
  · rw [sum_mul_coe (hz r) (b := fun x => if (c : ℕ) / 64 = 0 then B x c else 0) (fun x => by rw [head0_at, select_ofBool, hk]; exact ite_coe rfl), ha, ← EReal.coe_add]

theorem dq1_at {z e g acc : FVec Ideal S256x128 .f32} {car : FVec Ideal S256x1 .f32} {G : Fin 256 → Fin 128 → ℝ} {C : Fin 256 → Fin 128 → ℝ}
    (hz : ∀ r c, k1_pay27 (k1_pay1 k1_pay66) car m z e g (ix2 r c) = (G r c : EReal)) (hk : ∀ c x, kk (ix2 c x) = (B c x : EReal))
    (ha : ∀ r c, acc (ix2 r c) = (C r c : EReal)) (r : Fin 256) (c : Fin 128) :
    k1_pay28 k1_pay58 (k1_pay1 k1_pay66) car (k1_pay8 kk) m acc z e g (ix2 r c)
      = ((C r c + ∑ x : Fin 128, G r x * (if (c : ℕ) / 64 = 1 then B x c else 0) : ℝ) : EReal) := by
  refine Eq.trans (b := acc (ix2 r c) + ∑ x : Fin 128, k1_pay27 (k1_pay1 k1_pay66) car m z e g (ix2 r x)
    * Scalar.select (k1_pay58 (ix2 (0 : Fin 1) c)) (kk (ix2 x c)) 0) ?_ ?_
  · pointwise [k1_pay28, k1_pay8]
  · rw [sum_mul_coe (hz r) (b := fun x => if (c : ℕ) / 64 = 1 then B x c else 0) (fun x => by rw [head1_at, select_ofBool, hk]; exact ite_coe rfl), ha, ← EReal.coe_add]

/-- The gradients of the keys and of the values, one tile of queries more. -/
theorem dk0_at {d : FVec Ideal S256x128 .bf16} {z e l : FVec Ideal S256x128 .f32} {car : FVec Ideal S256x1 .f32} {G : Fin 256 → Fin 128 → ℝ} {old : Vec Ideal S128x128 .f32}
    (hz : ∀ r c, k1_pay16 d (k1_pay1 k1_pay66) car (k1_pay9 vv) m z e l (ix2 r c) = (G r c : EReal)) (hq : ∀ r x, v9 (ix2 r x) = (A r x : EReal)) (c x : Fin 128) :
    k1_pay18 v9 d (k1_pay1 k1_pay66) car (k1_pay9 vv) m z e l old (ix2 c x) = old (ix2 c x) + ((∑ r : Fin 256, G r c * A r x : ℝ) : EReal) := by
  refine Eq.trans (b := old (ix2 c x) + ∑ r : Fin 256, k1_pay16 d (k1_pay1 k1_pay66) car (k1_pay9 vv) m z e l (ix2 r c) * v9 (ix2 r x)) ?_ ?_
  · pointwise [k1_pay18]
  · rw [sum_mul_coe (fun r => hz r c) (fun r => hq r x)]

theorem dk1_at {z e g : FVec Ideal S256x128 .f32} {car : FVec Ideal S256x1 .f32} {G : Fin 256 → Fin 128 → ℝ} {old : Vec Ideal S128x128 .f32}
    (hz : ∀ r c, k1_pay27 (k1_pay1 k1_pay66) car m z e g (ix2 r c) = (G r c : EReal)) (hq : ∀ r x, v9 (ix2 r x) = (A r x : EReal)) (c x : Fin 128) :
    k1_pay29 v9 (k1_pay1 k1_pay66) car m z e g old (ix2 c x) = old (ix2 c x) + ((∑ r : Fin 256, G r c * A r x : ℝ) : EReal) := by
  refine Eq.trans (b := old (ix2 c x) + ∑ r : Fin 256, k1_pay27 (k1_pay1 k1_pay66) car m z e g (ix2 r c) * v9 (ix2 r x)) ?_ ?_
  · pointwise [k1_pay29]
  · rw [sum_mul_coe (fun r => hz r c) (fun r => hq r x)]

theorem dv0_at {d : FVec Ideal S256x128 .bf16} {l : FVec Ideal S256x128 .f32} {G : Fin 256 → Fin 128 → ℝ} {old : Vec Ideal S128x128 .f32}
    (ha : ∀ r c, k1_pay14 m l (ix2 r c) = (G r c : EReal)) (hd : ∀ r x, d (ix2 r x) = (D r x : EReal)) (c x : Fin 128) :
    k1_pay21 d (k1_pay19 old) (k1_pay20 m l) trip_k1_t1.sl.cst_47 (ix2 c x) = old (ix2 c x) + ((∑ r : Fin 256, G r c * D r x : ℝ) : EReal) := by
  refine Eq.trans (b := old (ix2 c x) + ∑ r : Fin 256, k1_pay14 m l (ix2 r c) * d (ix2 r x)) ?_ ?_
  · pointwise [k1_pay21, k1_pay19, k1_pay20, trip_k1_t1.sl.cst_47]
  · rw [sum_mul_coe (fun r => ha r c) (fun r => hd r x)]

theorem dv1_at {d : FVec Ideal S256x128 .bf16} {a : FVec Ideal S256x128 .f32} {G : Fin 256 → Fin 128 → ℝ} {old : Vec Ideal S128x128 .f32}
    (ha : ∀ r c, a (ix2 r c) = (G r c : EReal)) (hd : ∀ r x, d (ix2 r x) = (D r x : EReal)) (c x : Fin 128) :
    k1_pay30 d a old (ix2 c x) = old (ix2 c x) + ((∑ r : Fin 256, G r c * D r x : ℝ) : EReal) := by
  refine Eq.trans (b := old (ix2 c x) + ∑ r : Fin 256, a (ix2 r c) * d (ix2 r x)) ?_ ?_
  · pointwise [k1_pay30]
  · rw [sum_mul_coe (fun r => ha r c) (fun r => hd r x)]

end
end Cert.AttnBwd
-- ==== Proof.AttnBwd.lean ====
module

public import proofs.«01_k».proof.Proof.AttnFwd
public import proofs.«01_k».proof.Proof.AttnBwdTrip
public import Idealize.ShloMosaic.Lib.WritesUnit
public import Idealize.ShloMosaic.Lib.VecWindow

/-! The backward attention call, continued: the loop over the key blocks, and what a grid point leaves
    of the gradients of its queries and of the pair's keys and values. -/

@[expose] public section

set_option maxRecDepth 16384

namespace Cert.AttnBwd

open Idealize.ShloMosaic Idealize.ShloMosaic.TcCoe Idealize.SL.Sem
open Cert.AttnKernelIdeal Cert.AttnKernelIdeal.Gen Cert.Stick
open Cert.AttnFwd (zz)

/-! ### Rows written twice and read back -/

section
variable (v : View sig .tc .vmem S8192x128 .f32) (G : BufTy.Contents (Elt Ideal) v.ty) (L : List (View.Piece (Elt Ideal) S8192x128 .f32))
variable {off : Fin 2 → ℕ} (inb : ∀ a : Fin 2, off a + (![128, 128] : Fin 2 → ℕ) a ≤ S8192x128.size a) {o : ℕ}
variable (w0 w1 : Vec Ideal S128x128 .f32)

theorem twice_mem (hoff : off = ![o, 0]) (c x : Fin 128) (s : Fin 8192) (hs : (s : ℕ) = o + c) :
    v.read (Elt Ideal) (v.writes (Elt Ideal) G (⟨Rect.unit (s := S8192x128) off ![128, 128] inb, w1⟩ :: ⟨Rect.unit (s := S8192x128) off ![128, 128] inb, w0⟩ :: L)) (ix2 s x)
      = w1 (ix2 c x) :=
  View.read_writes_cons_rows_of_mem v G inb w1 _ (ix2 s x) (ix2 c x) hoff hs rfl

theorem twice_not_mem (hoff : off = ![o, 0]) (s : Fin 8192) (x : Fin 128) (hs : (s : ℕ) < o ∨ o + 128 ≤ (s : ℕ)) :
    v.read (Elt Ideal) (v.writes (Elt Ideal) G (⟨Rect.unit (s := S8192x128) off ![128, 128] inb, w1⟩ :: ⟨Rect.unit (s := S8192x128) off ![128, 128] inb, w0⟩ :: L)) (ix2 s x)
      = v.read (Elt Ideal) (v.writes (Elt Ideal) G L) (ix2 s x) :=
  (View.read_writes_cons_rows_of_not_mem v G inb w1 _ (ix2 s x) hoff rfl hs).trans (View.read_writes_cons_rows_of_not_mem v G inb w0 L (ix2 s x) hoff rfl hs)

theorem rows_at (f : BufTy.Contents (Elt Ideal) v.ty) (hoff : off = ![o, 0]) (c x : Fin 128) (s : Fin 8192) (hs : (s : ℕ) = o + c) :
    View.readAt (Elt Ideal) v (Rect.unit (s := S8192x128) off ![128, 128] inb).toLoadRect f (ix2 c x) = v.read (Elt Ideal) f (ix2 s x) := by
  refine (View.readAt_apply ..).trans (congrArg (v.read (Elt Ideal) f) (funext fun a => Fin.ext ?_))
  fin_cases a
  · exact (congrArg₂ (· + ·) (congrFun hoff 0) (Nat.one_mul _)).trans hs.symm
  · exact (congrArg₂ (· + ·) (congrFun hoff 1) (Nat.one_mul _)).trans (Nat.zero_add _)

theorem once_cov (hoff : off = ![o, 0]) (c x : Fin 128) (s : Fin 8192) (hs : (s : ℕ) = o + c) :
    v.readCov [(⟨Rect.unit (s := S8192x128) off ![128, 128] inb, w0⟩ : View.Piece (Elt Ideal) S8192x128 .f32)] (Rect.unit (s := S8192x128) off ![128, 128] inb).toLoadRect (ix2 c x)
      = w0 (ix2 c x) :=
  (rows_at v inb _ hoff c x s hs).trans (View.read_writes_cons_rows_of_mem v _ inb w0 _ (ix2 s x) (ix2 c x) hoff hs rfl)
end

/-- One grid point of the call: its blocks and what the input blocks hold. -/
structure Point where
  c : Dev nD
  i : grid1.Coords
  arg2 : Memref sig .tc .vmem S256x128 .bf16
  h2 : arg2.IsWhole
  arg3 : Memref sig .tc .vmem S8192x128 .bf16
  h3 : arg3.IsWhole
  arg4 : Memref sig .tc .vmem S8192x128 .bf16
  h4 : arg4.IsWhole
  arg5 : Memref sig .tc .vmem S256x256 .f32
  h5 : arg5.IsWhole
  arg6 : Memref sig .tc .vmem S256x128 .f32
  h6 : arg6.IsWhole
  arg7 : Memref sig .tc .vmem S256x128 .f32
  h7 : arg7.IsWhole
  arg8 : Memref sig .tc .vmem S8192x128 .f32
  h8 : arg8.IsWhole
  arg9 : Memref sig .tc .vmem S8192x128 .f32
  h9 : arg9.IsWhole
  x0 : Vec Ideal S256x128 .bf16
  x1 : Vec Ideal S8192x128 .bf16
  x2 : Vec Ideal S8192x128 .bf16
  x3 : Vec Ideal S256x256 .f32
  x4 : Vec Ideal S256x128 .f32
  /-- The contents of the two accumulated blocks before the loop. -/
  G8 : BufTy.Contents (Elt Ideal) arg8.view.ty
  G9 : BufTy.Contents (Elt Ideal) arg9.view.ty

namespace Point
variable (e : Point)

/-- The tile of queries, the tile of cotangents and the two heads' saved logs, as the loop reads them. -/
noncomputable def v3 : Vec Ideal S256x128 .bf16 :=
  View.readAt (Elt Ideal) e.arg2.view (Rect.unit (s := S256x128) ![0, 0] S256x128.size inb_S256x128_S256x128_0_0).toLoadRect (e.h2.unread e.x0)
noncomputable def v5 : Vec Ideal S256x128 .f32 :=
  View.readAt (Elt Ideal) e.arg6.view (Rect.unit (s := S256x128) ![0, 0] S256x128.size inb_S256x128_S256x128_0_0).toLoadRect (e.h6.unread e.x4)
noncomputable def v28 : Vec Ideal S256x128 .f32 :=
  View.readAt (Elt Ideal) e.arg5.view (Rect.unit (s := S256x256) ![0, 0] S256x128.size inb_S256x256_S256x128_0_0).toLoadRect (e.h5.unread e.x3)
noncomputable def v30 : Vec Ideal S256x128 .f32 :=
  View.readAt (Elt Ideal) e.arg5.view (Rect.unit (s := S256x256) ![0, 128] S256x128.size inb_S256x256_S256x128_0_128).toLoadRect (e.h5.unread e.x3)

/-- The state after `k` trips. -/
noncomputable def st (k : ℕ) :=
  st_k1_t1 (F := Ideal) Variants.none e.c none e.i e.arg2 e.h2 e.arg3 e.h3 e.arg4 e.h4 e.arg5 e.h5 e.arg6 e.h6 e.arg7 e.h7 e.arg8 e.h8 e.arg9 e.h9
    (BitVec.ofNat 32 (e.i 1)) kernelRun1_B.sl.v6 k1_pay57 k1_pay58 (k1_pay59 e.v3) (k1_pay60 e.v3) (k1_pay61 e.v5) (k1_pay62 e.v5)
    (k1_pay63 e.v28) (k1_pay64 e.v30) k1_pay65 k1_pay66 (iota Kind.tc S256x128 32 [1] iota_S256x128_d1_w32) (e.h3.unread e.x1) (e.h4.unread e.x2)
    e.G8 e.G9 (k1_pay3, k1_pay3, k1_pay4) k

/-- The block of keys of trip `k`, and of values. -/
noncomputable def kblk (k : Fin (k1_t1_loop e.i).trips) : Vec Ideal S128x128 .bf16 :=
  View.readAt (Elt Ideal) e.arg3.view (Rect.unit (s := S8192x128) (k1_off1 e.i k) S128x128.size (k1_off1_inb e.i k)).toLoadRect (e.h3.unread e.x1)
noncomputable def vblk (k : Fin (k1_t1_loop e.i).trips) : Vec Ideal S128x128 .bf16 :=
  View.readAt (Elt Ideal) e.arg4.view (Rect.unit (s := S8192x128) (k1_off1 e.i k) S128x128.size (k1_off1_inb e.i k)).toLoadRect (e.h4.unread e.x2)

/-- What the two accumulated blocks hold before trip `k`. -/
noncomputable def f8 (k : ℕ) : BufTy.Contents (Elt Ideal) e.arg8.view.ty := e.arg8.view.writes (Elt Ideal) e.G8 (e.st k).2.1
noncomputable def f9 (k : ℕ) : BufTy.Contents (Elt Ideal) e.arg9.view.ty := e.arg9.view.writes (Elt Ideal) e.G9 (e.st k).2.2

/-- The first head's log weights, and the two heads' weights times their cotangents. -/
noncomputable def l0 (k : Fin (k1_t1_loop e.i).trips) : FVec Ideal S256x128 .f32 :=
  k1_pay13 e.i kernelRun1_B.sl.v6 (k1_pay59 e.v3) (k1_pay63 e.v28) k1_pay65 (k1_pay2 (BitVec.ofNat 32 (e.i 1))) (iota Kind.tc S256x128 32 [1] iota_S256x128_d1_w32) 0#32 1#32 k (e.kblk k)
noncomputable def g0 (k : Fin (k1_t1_loop e.i).trips) : FVec Ideal S256x128 .f32 := k1_pay15 (k1_pay61 e.v5) (k1_pay9 (e.vblk k)) (mask e.i k) (e.l0 k)
noncomputable def a1 (k : Fin (k1_t1_loop e.i).trips) : FVec Ideal S256x128 .f32 :=
  k1_pay25 kernelRun1_B.sl.v6 (k1_pay60 e.v3) (k1_pay64 e.v30) k1_pay65 (Scf.iv 0#32 1#32 k) (k1_pay8 (e.kblk k)) (mask e.i k)
noncomputable def g1 (k : Fin (k1_t1_loop e.i).trips) : FVec Ideal S256x128 .f32 :=
  k1_pay26 kernelRun1_B.sl.v6 (k1_pay60 e.v3) (k1_pay62 e.v5) (k1_pay64 e.v30) k1_pay65 (Scf.iv 0#32 1#32 k) (k1_pay8 (e.kblk k)) (k1_pay9 (e.vblk k)) (mask e.i k)

/-- The rows of the two accumulated blocks after the first head's part of trip `k`. -/
noncomputable def k0 (k : Fin (k1_t1_loop e.i).trips) : FVec Ideal S128x128 .f32 :=
  k1_pay18 (k1_pay59 e.v3) (k1_pay61 e.v5) (k1_pay1 k1_pay66) (e.st k).1.1 (k1_pay9 (e.vblk k)) (mask e.i k) (k1_pay11 (k1_pay59 e.v3) (e.kblk k)) (k1_pay12 (k1_pay59 e.v3) (e.kblk k)) (e.l0 k)
    (View.readAt (Elt Ideal) e.arg8.view (Rect.unit (s := S8192x128) (k1_off1 e.i k) S128x128.size (k1_off1_inb e.i k)).toLoadRect (e.f8 k))
noncomputable def w0 (k : Fin (k1_t1_loop e.i).trips) : FVec Ideal S128x128 .f32 :=
  k1_pay21 (k1_pay61 e.v5) (k1_pay19 (View.readAt (Elt Ideal) e.arg9.view (Rect.unit (s := S8192x128) (k1_off1 e.i k) S128x128.size (k1_off1_inb e.i k)).toLoadRect (e.f9 k)))
    (k1_pay20 (mask e.i k) (e.l0 k)) trip_k1_t1.sl.cst_47

theorem succ (k : Fin (k1_t1_loop e.i).trips) : e.st (k + 1) =
    ((k1_pay22 (e.st k).1.1 (e.g0 k), k1_pay5 (e.st k).1.2.1 (e.g1 k),
      k1_pay28 k1_pay58 (k1_pay1 k1_pay66) (e.st k).1.2.1 (k1_pay8 (e.kblk k)) (mask e.i k)
        (k1_pay17 k1_pay57 (k1_pay61 e.v5) (k1_pay1 k1_pay66) (e.st k).1.1 (e.st k).1.2.2 (k1_pay8 (e.kblk k)) (k1_pay9 (e.vblk k)) (mask e.i k)
          (k1_pay11 (k1_pay59 e.v3) (e.kblk k)) (k1_pay12 (k1_pay59 e.v3) (e.kblk k)) (e.l0 k))
        (k1_pay23 (k1_pay60 e.v3) (k1_pay8 (e.kblk k))) (k1_pay24 (k1_pay60 e.v3) (k1_pay8 (e.kblk k))) (e.g1 k)),
     ⟨Rect.unit (s := S8192x128) (k1_off1 e.i k) ![128, 128] (k1_off1_inb e.i k),
        k1_pay29 (k1_pay60 e.v3) (k1_pay1 k1_pay66) (e.st k).1.2.1 (mask e.i k) (k1_pay23 (k1_pay60 e.v3) (k1_pay8 (e.kblk k))) (k1_pay24 (k1_pay60 e.v3) (k1_pay8 (e.kblk k))) (e.g1 k)
          (e.arg8.view.readCov [⟨Rect.unit (s := S8192x128) (k1_off1 e.i k) ![128, 128] (k1_off1_inb e.i k), e.k0 k⟩]
            (Rect.unit (s := S8192x128) (k1_off1 e.i k) ![128, 128] (k1_off1_inb e.i k)).toLoadRect)⟩
      :: ⟨Rect.unit (s := S8192x128) (k1_off1 e.i k) ![128, 128] (k1_off1_inb e.i k), e.k0 k⟩ :: (e.st k).2.1,
     ⟨Rect.unit (s := S8192x128) (k1_off1 e.i k) ![128, 128] (k1_off1_inb e.i k),
        k1_pay30 (k1_pay62 e.v5) (e.a1 k)
          (e.arg9.view.readCov [⟨Rect.unit (s := S8192x128) (k1_off1 e.i k) ![128, 128] (k1_off1_inb e.i k), e.w0 k⟩]
            (Rect.unit (s := S8192x128) (k1_off1 e.i k) ![128, 128] (k1_off1_inb e.i k)).toLoadRect)⟩
      :: ⟨Rect.unit (s := S8192x128) (k1_off1 e.i k) ![128, 128] (k1_off1_inb e.i k), e.w0 k⟩ :: (e.st k).2.2) := by
  refine (st_k1_t1_succ ..).trans ?_
  unfold tripR_k1_t1 tripL_k1_t1 trip_k1_t1
  rfl

theorem kblk_at (k : Fin (k1_t1_loop e.i).trips) (c x : Fin 128) :
    e.kblk k (ix2 c x) = e.x1 (ix2 (⟨128 * (k : ℕ) + c, by have := k_lt e.i k; omega⟩ : Fin 8192) x) := by
  refine (View.readAt_apply ..).trans ?_
  rw [e.h3.read_unread]
  refine congrArg e.x1 (funext fun a => Fin.ext ?_)
  fin_cases a
  · exact congrArg₂ (· + ·) (congrFun (block_row e.i k) 0) (Nat.one_mul _)
  · exact (congrArg₂ (· + ·) (congrFun (block_row e.i k) 1) (Nat.one_mul _)).trans (Nat.zero_add _)

theorem vblk_at (k : Fin (k1_t1_loop e.i).trips) (c x : Fin 128) :
    e.vblk k (ix2 c x) = e.x2 (ix2 (⟨128 * (k : ℕ) + c, by have := k_lt e.i k; omega⟩ : Fin 8192) x) := by
  refine (View.readAt_apply ..).trans ?_
  rw [e.h4.read_unread]
  refine congrArg e.x2 (funext fun a => Fin.ext ?_)
  fin_cases a
  · exact congrArg₂ (· + ·) (congrFun (block_row e.i k) 0) (Nat.one_mul _)
  · exact (congrArg₂ (· + ·) (congrFun (block_row e.i k) 1) (Nat.one_mul _)).trans (Nat.zero_add _)

theorem v3_eq : e.v3 = e.x0 := by
  funext y
  refine (View.readAt_apply ..).trans ?_
  rw [e.h2.read_unread]
  refine congrArg e.x0 (funext fun a => Fin.ext ?_)
  fin_cases a <;> exact (Nat.zero_add _).trans (Nat.one_mul _)

theorem v5_eq : e.v5 = e.x4 := by
  funext y
  refine (View.readAt_apply ..).trans ?_
  rw [e.h6.read_unread]
  refine congrArg e.x4 (funext fun a => Fin.ext ?_)
  fin_cases a <;> exact (Nat.zero_add _).trans (Nat.one_mul _)

theorem v28_at (r : Fin 256) (l : Fin 128) : k1_pay63 e.v28 (ix2 r l) = e.x3 (ix2 r (⟨l, by omega⟩ : Fin 256)) := by
  refine Eq.trans (b := e.v28 (ix2 r l)) (by pointwise [k1_pay63]) ((View.readAt_apply ..).trans ?_)
  rw [e.h5.read_unread]
  refine congrArg e.x3 (funext fun a => Fin.ext ?_)
  fin_cases a <;> exact (Nat.zero_add _).trans (Nat.one_mul _)

theorem v30_at (r : Fin 256) (l : Fin 128) : k1_pay64 e.v30 (ix2 r l) = e.x3 (ix2 r (⟨128 + l, by omega⟩ : Fin 256)) := by
  refine Eq.trans (b := e.v30 (ix2 r l)) (by pointwise [k1_pay64]) ((View.readAt_apply ..).trans ?_)
  rw [e.h5.read_unread]
  refine congrArg e.x3 (funext fun a => Fin.ext ?_)
  fin_cases a
  · exact (Nat.zero_add _).trans (Nat.one_mul _)
  · exact congrArg (128 + ·) (Nat.one_mul _)

end Point

/-- Of two heads a column belongs to one. -/
theorem two_heads {ι : Type} [Fintype ι] (G : ℕ → ι → ℝ) (B : ι → ℝ) {n : ℕ} (hn : n < 2) :
    ∑ x, G 0 x * (if n = 0 then B x else 0) + ∑ x, G 1 x * (if n = 1 then B x else 0) = ∑ x, G n x * B x := by
  rw [← Finset.sum_add_distrib]
  refine Finset.sum_congr rfl fun x _ => ?_
  rcases (show n = 0 ∨ n = 1 by omega) with rfl | rfl
  · rw [if_pos rfl, if_neg (by decide), mul_zero, add_zero]
  · rw [if_neg (by decide), if_pos rfl, mul_zero, zero_add]

/-- What a tile of queries adds to the gradient of a key, and of a value. -/
noncomputable def addK (A D : Fin 256 → Fin 128 → ℝ) (K V : ℕ → Fin 128 → ℝ) (T : Fin 256 → ℕ) (s : ℕ) (x : Fin 128) : ℝ :=
  ∑ r, dz (zz A K (x / 64) r) (zz D V (x / 64) r) (T r) s * A r x
noncomputable def addV (A D : Fin 256 → Fin 128 → ℝ) (K : ℕ → Fin 128 → ℝ) (T : Fin 256 → ℕ) (s : ℕ) (x : Fin 128) : ℝ :=
  ∑ r, att (zz A K (x / 64) r) (T r) s * D r x

/-- What the input blocks and the accumulated blocks hold. -/
structure Holds (e : Point) (A D : Fin 256 → Fin 128 → ℝ) (K V : ℕ → Fin 128 → ℝ) (C8 C9 : ℕ → Fin 128 → ℝ) : Prop where
  hA : ∀ r l, e.x0 (ix2 r l) = (A r l : EReal)
  hD : ∀ r l, e.x4 (ix2 r l) = (D r l : EReal)
  hK : ∀ (s : Fin 8192) l, e.x1 (ix2 s l) = (K s l : EReal)
  hV : ∀ (s : Fin 8192) l, e.x2 (ix2 s l) = (V s l : EReal)
  hM0 : ∀ r (l : Fin 128), e.x3 (ix2 r (⟨l, by omega⟩ : Fin 256)) = (tail (zz A K 0 r) (qrow e.i r) (128 * (l + 1)) : EReal)
  hM1 : ∀ r (l : Fin 128), e.x3 (ix2 r (⟨128 + l, by omega⟩ : Fin 256)) = (tail (zz A K 1 r) (qrow e.i r) (128 * (l + 1)) : EReal)
  h8 : ∀ (s : Fin 8192) x, e.arg8.view.read (Elt Ideal) e.G8 (ix2 s x) = (C8 s x : EReal)
  h9 : ∀ (s : Fin 8192) x, e.arg9.view.read (Elt Ideal) e.G9 (ix2 s x) = (C9 s x : EReal)

/-- What holds before a trip. -/
structure Inv (e : Point) (A D : Fin 256 → Fin 128 → ℝ) (K V : ℕ → Fin 128 → ℝ) (C8 C9 : ℕ → Fin 128 → ℝ) (k : ℕ) : Prop where
  c0 : ∀ r, (e.st k).1.1 (ix2 r (0 : Fin 1)) = (pre (zz A K 0 r) (zz D V 0 r) (qrow e.i r) (128 * k) : EReal)
  c1 : ∀ r, (e.st k).1.2.1 (ix2 r (0 : Fin 1)) = (pre (zz A K 1 r) (zz D V 1 r) (qrow e.i r) (128 * k) : EReal)
  acc : ∀ r (c : Fin 128), (e.st k).1.2.2 (ix2 r c)
    = ((∑ s ∈ Finset.range (128 * k), dz (zz A K (c / 64) r) (zz D V (c / 64) r) (qrow e.i r) s * K s c : ℝ) : EReal)
  d8 : ∀ (s : Fin 8192) x, e.arg8.view.read (Elt Ideal) (e.f8 k) (ix2 s x)
    = ((C8 s x + if (s : ℕ) < 128 * k then addK A D K V (qrow e.i) s x else 0 : ℝ) : EReal)
  d9 : ∀ (s : Fin 8192) x, e.arg9.view.read (Elt Ideal) (e.f9 k) (ix2 s x)
    = ((C9 s x + if (s : ℕ) < 128 * k then addV A D K (qrow e.i) s x else 0 : ℝ) : EReal)

section
variable {e : Point} {A D : Fin 256 → Fin 128 → ℝ} {K V : ℕ → Fin 128 → ℝ} {C8 C9 : ℕ → Fin 128 → ℝ}

theorem inv_zero (H : Holds e A D K V C8 C9) : Inv e A D K V C8 C9 0 := by
  refine ⟨fun r => ?_, fun r => ?_, fun r c => ?_, fun s x => ?_, fun s x => ?_⟩
  · rw [Nat.mul_zero, pre, Finset.range_zero, Finset.sum_empty, EReal.coe_zero]
    show k1_pay3 (F := Ideal) (ix2 r (0 : Fin 1)) = 0
    pointwise [k1_pay3]
  · rw [Nat.mul_zero, pre, Finset.range_zero, Finset.sum_empty, EReal.coe_zero]
    show k1_pay3 (F := Ideal) (ix2 r (0 : Fin 1)) = 0
    pointwise [k1_pay3]
  · rw [Nat.mul_zero, Finset.range_zero, Finset.sum_empty, EReal.coe_zero]
    show k1_pay4 (F := Ideal) (ix2 r c) = 0
    pointwise [k1_pay4]
  · rw [Nat.mul_zero, if_neg (Nat.not_lt_zero _), add_zero]
    exact H.h8 s x
  · rw [Nat.mul_zero, if_neg (Nat.not_lt_zero _), add_zero]
    exact H.h9 s x

/-- A block of keys is in, the rows outside it as they were. -/
theorem row_step (f C : ℕ → ℝ) (k : ℕ) {s : ℕ} (h : s < 128 * k ∨ 128 * k + 128 ≤ s) :
    C s + (if s < 128 * k then f s else 0) = C s + if s < 128 * (k + 1) then f s else 0 := by
  rcases h with h | h
  · rw [if_pos h, if_pos (by omega)]
  · rw [if_neg (by omega), if_neg (by omega)]

theorem inv_succ (H : Holds e A D K V C8 C9) (k : Fin (k1_t1_loop e.i).trips) (I : Inv e A D K V C8 C9 k) : Inv e A D K V C8 C9 (k + 1) := by
  have q0 := q0_at (v := e.v3) (a := A) (by rw [e.v3_eq]; exact H.hA)
  have q1 := q1_at (v := e.v3) (a := A) (by rw [e.v3_eq]; exact H.hA)
  have p0 := d0_at (v := e.v5) (a := D) (by rw [e.v5_eq]; exact H.hD)
  have p1 := d1_at (v := e.v5) (a := D) (by rw [e.v5_eq]; exact H.hD)
  have hk : ∀ c x, e.kblk k (ix2 c x) = (K (128 * (k : ℕ) + c) x : EReal) := fun c x => (e.kblk_at k c x).trans (H.hK _ x)
  have hv : ∀ c x, e.vblk k (ix2 c x) = (V (128 * (k : ℕ) + c) x : EReal) := fun c x => (e.vblk_at k c x).trans (H.hV _ x)
  have z0 : ∀ r (c : Fin 128), ∑ x : Fin 128, (if (x : ℕ) / 64 = 0 then A r x else 0) * K (128 * (k : ℕ) + c) x = zz A K 0 r (128 * (k : ℕ) + c) := fun r c => rfl
  have z1 : ∀ r (c : Fin 128), ∑ x : Fin 128, (if (x : ℕ) / 64 = 1 then A r x else 0) * K (128 * (k : ℕ) + c) x = zz A K 1 r (128 * (k : ℕ) + c) := fun r c => rfl
  have y0 : ∀ r (c : Fin 128), ∑ x : Fin 128, (if (x : ℕ) / 64 = 0 then D r x else 0) * V (128 * (k : ℕ) + c) x = zz D V 0 r (128 * (k : ℕ) + c) := fun r c => rfl
  have y1 : ∀ r (c : Fin 128), ∑ x : Fin 128, (if (x : ℕ) / 64 = 1 then D r x else 0) * V (128 * (k : ℕ) + c) x = zz D V 1 r (128 * (k : ℕ) + c) := fun r c => rfl
  have a0 := att0_at q0 hk z0 (y := k1_pay63 e.v28) (M := fun r l => tail (zz A K 0 r) (qrow e.i r) (128 * (l + 1))) (fun r l => (e.v28_at r l).trans (H.hM0 r l)) (fun r => rfl)
  have a1 := att1_at q1 hk z1 (y := k1_pay64 e.v30) (M := fun r l => tail (zz A K 1 r) (qrow e.i r) (128 * (l + 1))) (fun r l => (e.v30_at r l).trans (H.hM1 r l)) (fun r => rfl)
  have g0 := gg0_at p0 hv y0 a0
  have g1 := gg1_at p1 hv y1 a1
  have d0 := dz0_at (mask_at e.i k) (score0_at q0 hk z0) g0 I.c0
  have d1 := dz1_at (mask_at e.i k) (score1_at q1 hk z1) g1 I.c1
  have hr : ∀ s : Fin 8192, ((s : ℕ) < 128 * (k : ℕ) ∨ 128 * (k : ℕ) + 128 ≤ (s : ℕ)) ∨ ∃ c : Fin 128, (s : ℕ) = 128 * (k : ℕ) + c := fun s => by
    by_cases h : (s : ℕ) < 128 * (k : ℕ) ∨ 128 * (k : ℕ) + 128 ≤ (s : ℕ)
    · exact Or.inl h
    · exact Or.inr ⟨⟨s - 128 * (k : ℕ), by omega⟩, by show (s : ℕ) = 128 * (k : ℕ) + (s - 128 * (k : ℕ)); omega⟩
  refine ⟨fun r => ?_, fun r => ?_, fun r c => ?_, fun s x => ?_, fun s x => ?_⟩
  · rw [e.succ k]
    exact car0_at g0 I.c0 r
  · rw [e.succ k]
    exact car1_at g1 I.c1 r
  · rw [e.succ k]
    refine (dq1_at d1 hk (dq0_at d0 hk I.acc) r c).trans ?_
    rw [add_assoc, two_heads (fun n (x : Fin 128) => dz (zz A K n r) (zz D V n r) (qrow e.i r) (128 * (k : ℕ) + x)) (fun x : Fin 128 => K (128 * (k : ℕ) + x) c) (by omega)]
    rw [show 128 * ((k : ℕ) + 1) = 128 * (k : ℕ) + 128 by ring, Finset.sum_range_add, Finset.sum_range (n := 128)]
  · unfold Point.f8
    rw [e.succ k]
    rcases hr s with h | ⟨c, h⟩
    · exact (twice_not_mem _ _ _ _ _ _ (block_row e.i k) s x h).trans ((I.d8 s x).trans (congrArg _ (row_step (fun s => addK A D K V (qrow e.i) s x) (fun s => C8 s x) k h)))
    · refine (twice_mem _ _ _ _ _ _ (block_row e.i k) c x s h).trans ?_
      refine (dk1_at d1 q1 c x).trans ?_
      rw [once_cov _ _ _ (block_row e.i k) c x s h]
      unfold Point.k0
      refine (congrArg (· + _) (dk0_at d0 q0 c x)).trans ?_
      rw [rows_at _ _ _ (block_row e.i k) c x s h, I.d8 s x, if_neg (by omega), if_pos (by omega), add_zero, ← EReal.coe_add, ← EReal.coe_add, add_assoc,
        two_heads (fun n r => dz (zz A K n r) (zz D V n r) (qrow e.i r) (128 * (k : ℕ) + c)) (fun r => A r x) (by omega), addK, h]
  · unfold Point.f9
    rw [e.succ k]
    rcases hr s with h | ⟨c, h⟩
    · exact (twice_not_mem _ _ _ _ _ _ (block_row e.i k) s x h).trans ((I.d9 s x).trans (congrArg _ (row_step (fun s => addV A D K (qrow e.i) s x) (fun s => C9 s x) k h)))
    · refine (twice_mem _ _ _ _ _ _ (block_row e.i k) c x s h).trans ?_
      refine (dv1_at a1 p1 c x).trans ?_
      rw [once_cov _ _ _ (block_row e.i k) c x s h]
      unfold Point.w0
      refine (congrArg (· + _) (dv0_at a0 p0 c x)).trans ?_
      rw [rows_at _ _ _ (block_row e.i k) c x s h, I.d9 s x, if_neg (by omega), if_pos (by omega), add_zero, ← EReal.coe_add, ← EReal.coe_add, add_assoc,
        two_heads (fun n r => att (zz A K n r) (qrow e.i r) (128 * (k : ℕ) + c)) (fun r => D r x) (by omega), addV, h]

theorem inv_all (H : Holds e A D K V C8 C9) (k : ℕ) (h : k ≤ 2 * ((e.i 1 : ℕ) + 1)) : Inv e A D K V C8 C9 k := by
  induction k with
  | zero => exact inv_zero H
  | succ k ih => exact inv_succ H ⟨k, by rw [trips]; omega⟩ (ih (by omega))

end

/-! ### What the grid point leaves -/

/-- The numbers of trips, as the program spells them. -/
theorem loop_word (i : grid1.Coords) : Scf.trips (0#32) (Scalar.addi (0#32) (Scalar.muli (Scalar.divsi (Scalar.subi
      (Scalar.muli (Scalar.addi (BitVec.ofNat 32 ↑(i 1)) 1#32) 2#32) 0#32) 1#32) 1#32)) 1#32 = 2 * ((i 1 : ℕ) + 1) := trips i
theorem rest_word (i : grid1.Coords) : Scf.trips (Scalar.addi (0#32) (Scalar.muli (Scalar.divsi (Scalar.subi
      (Scalar.muli (Scalar.addi (BitVec.ofNat 32 ↑(i 1)) 1#32) 2#32) 0#32) 1#32) 1#32))
    (Scalar.addi (0#32) (Scalar.subi (Scalar.muli (Scalar.addi (BitVec.ofNat 32 ↑(i 1)) 1#32) 2#32) 0#32)) 1#32 = 0 := trips_rest i

/-- The gradient of the tile's queries: the carried block times one eighth, stored whole. -/
theorem stored (L : Vec Ideal S256x128 .f32) (r : Fin 256) (c : Fin 128) (w : Vec Ideal S256x128 .f32) (h : ∀ y, w y = k1_pay7 (F := Ideal) L y) :
    VO1_5.read (Elt Ideal) (VO1_5.writes (Elt Ideal) VO1_5.junk [⟨Rect.unit (s := S256x128) ![0, 0] ![256, 128] inb_S256x128_S256x128_0_0, w⟩]) (ix2 r c)
      = L (ix2 r c) * Ideal.ofBits .f32 0x3E000000#32 := by
  refine (View.read_writes_cons_unit_of_mem VO1_5 VO1_5.junk inb_S256x128_S256x128_0_0 w _ (ix2 r c) (ix2 r c) rfl fun a => by
    fin_cases a <;> exact (Nat.zero_add _).symm).trans ((h _).trans ?_)
  pointwise [k1_pay7]

section
variable (e : Point) {A D : Fin 256 → Fin 128 → ℝ} {K V : ℕ → Fin 128 → ℝ} {C8 C9 : ℕ → Fin 128 → ℝ}

/-- The carried block after the loop: the keys past the diagonal give nothing. -/
theorem acc_all (H : Holds e A D K V C8 C9) (r : Fin 256) (c : Fin 128) :
    (e.st (2 * ((e.i 1 : ℕ) + 1))).1.2.2 (ix2 r c) * Ideal.ofBits .f32 0x3E000000#32
      = (((∑ s ∈ Finset.range 8192, dz (zz A K (c / 64) r) (zz D V (c / 64) r) (qrow e.i r) s * K s c) * (1 / 8) : ℝ) : EReal) := by
  have I := inv_all H (2 * ((e.i 1 : ℕ) + 1)) le_rfl
  have hi : (e.i 1 : ℕ) < 32 := (e.i 1).isLt
  rw [I.acc r c, cEighth, ← EReal.coe_mul]
  congr 2
  refine Finset.sum_subset (fun s hs => Finset.mem_range.mpr (by have := Finset.mem_range.mp hs; omega)) fun s _ hs => ?_
  rw [Finset.mem_range, not_lt] at hs
  rw [dz_of_le _ _ _ (show qrow e.i r ≤ s by unfold qrow; omega), zero_mul]

/-- The accumulated blocks after the loop: every key takes what the tile adds. -/
theorem row_all (f C : ℕ → ℝ) (i : grid1.Coords) (hf : ∀ s, 256 * ((i 1 : ℕ) + 1) ≤ s → f s = 0) (s : ℕ) :
    C s + (if s < 128 * (2 * ((i 1 : ℕ) + 1)) then f s else 0) = C s + f s := by
  split_ifs with h
  · rfl
  · rw [hf s (by omega)]

theorem addK_of_le (s : ℕ) (h : 256 * ((e.i 1 : ℕ) + 1) ≤ s) (x : Fin 128) : addK A D K V (qrow e.i) s x = 0 :=
  Finset.sum_eq_zero fun r _ => by rw [dz_of_le _ _ _ (show qrow e.i r ≤ s by unfold qrow; omega), zero_mul]

theorem addV_of_le (s : ℕ) (h : 256 * ((e.i 1 : ℕ) + 1) ≤ s) (x : Fin 128) : addV A D K (qrow e.i) s x = 0 :=
  Finset.sum_eq_zero fun r _ => by rw [att_of_le _ _ (show qrow e.i r ≤ s by unfold qrow; omega), zero_mul]

theorem d8_all (H : Holds e A D K V C8 C9) (s : Fin 8192) (x : Fin 128) :
    e.arg8.view.read (Elt Ideal) (e.f8 (2 * ((e.i 1 : ℕ) + 1))) (ix2 s x) = ((C8 s x + addK A D K V (qrow e.i) s x : ℝ) : EReal) :=
  ((inv_all H _ le_rfl).d8 s x).trans (congrArg _ (row_all (fun s => addK A D K V (qrow e.i) s x) (fun s => C8 s x) e.i (fun s h => addK_of_le e s h x) s))

theorem d9_all (H : Holds e A D K V C8 C9) (s : Fin 8192) (x : Fin 128) :
    e.arg9.view.read (Elt Ideal) (e.f9 (2 * ((e.i 1 : ℕ) + 1))) (ix2 s x) = ((C9 s x + addV A D K (qrow e.i) s x : ℝ) : EReal) :=
  ((inv_all H _ le_rfl).d9 s x).trans (congrArg _ (row_all (fun s => addV A D K (qrow e.i) s x) (fun s => C9 s x) e.i (fun s h => addV_of_le e s h x) s))

/-- The first tile of a pair: the accumulated blocks start at zero. -/
theorem out_A_5 (hc) (h8 : e.G8 = e.arg8.view.writes (Elt Ideal) e.arg8.view.junk kernelRun1_A.sl.H6_1) (h9 : e.G9 = e.arg9.view.writes (Elt Ideal) e.arg9.view.junk kernelRun1_A.sl.H7_1)
    (H : Holds e A D K V C8 C9) (r : Fin 256) (c : Fin 128) :
    out1_A_5 e.c e.i e.arg2 e.h2 e.arg3 e.h3 e.arg4 e.h4 e.arg5 e.h5 e.arg6 e.h6 e.arg7 e.h7 e.arg8 e.h8 e.arg9 e.h9 hc e.x0 e.x1 e.x2 e.x3 e.x4 (ix2 r c)
      = (((∑ s ∈ Finset.range 8192, dz (zz A K (c / 64) r) (zz D V (c / 64) r) (qrow e.i r) s * K s c) * (1 / 8) : ℝ) : EReal) := by
  refine Eq.trans ?_ (acc_all e H r c)
  unfold Point.st
  rw [h8, h9]
  unfold out1_A_5 kernelRun1_A
  dsimp only
  rw [rest_word, loop_word]
  exact stored _ r c _ fun y => rfl

theorem out_A_6 (hc) (h8 : e.G8 = e.arg8.view.writes (Elt Ideal) e.arg8.view.junk kernelRun1_A.sl.H6_1) (h9 : e.G9 = e.arg9.view.writes (Elt Ideal) e.arg9.view.junk kernelRun1_A.sl.H7_1)
    (H : Holds e A D K V C8 C9) (s : Fin 8192) (x : Fin 128) :
    out1_A_6 e.c e.i e.arg2 e.h2 e.arg3 e.h3 e.arg4 e.h4 e.arg5 e.h5 e.arg6 e.h6 e.arg7 e.h7 e.arg8 e.h8 e.arg9 e.h9 hc e.x0 e.x1 e.x2 e.x3 e.x4 (ix2 s x)
      = ((C8 s x + addK A D K V (qrow e.i) s x : ℝ) : EReal) := by
  refine Eq.trans ?_ (d8_all e H s x)
  unfold out1_A_6
  refine (congrFun (View.read_writes_of_cover VO1_6 VO1_6.junk e.arg8.view e.arg8.view.junk _ (fun y => cover1_A_6 e.c e.i e.arg2 e.h2 e.arg3 e.h3 e.arg4 e.h4 e.arg5 e.h5 e.arg6 e.h6 e.arg7 e.h7 e.arg8 e.h8 e.arg9 e.h9 hc e.x0 e.x1 e.x2 e.x3 e.x4 y)) _).trans ?_
  unfold Point.f8 Point.st
  rw [h8, h9, ← View.writes_append]
  unfold kernelRun1_A
  dsimp only
  rw [rest_word, loop_word]
  rfl

theorem out_A_7 (hc) (h8 : e.G8 = e.arg8.view.writes (Elt Ideal) e.arg8.view.junk kernelRun1_A.sl.H6_1) (h9 : e.G9 = e.arg9.view.writes (Elt Ideal) e.arg9.view.junk kernelRun1_A.sl.H7_1)
    (H : Holds e A D K V C8 C9) (s : Fin 8192) (x : Fin 128) :
    out1_A_7 e.c e.i e.arg2 e.h2 e.arg3 e.h3 e.arg4 e.h4 e.arg5 e.h5 e.arg6 e.h6 e.arg7 e.h7 e.arg8 e.h8 e.arg9 e.h9 hc e.x0 e.x1 e.x2 e.x3 e.x4 (ix2 s x)
      = ((C9 s x + addV A D K (qrow e.i) s x : ℝ) : EReal) := by
  refine Eq.trans ?_ (d9_all e H s x)
  unfold out1_A_7
  refine (congrFun (View.read_writes_of_cover VO1_7 VO1_7.junk e.arg9.view e.arg9.view.junk _ (fun y => cover1_A_7 e.c e.i e.arg2 e.h2 e.arg3 e.h3 e.arg4 e.h4 e.arg5 e.h5 e.arg6 e.h6 e.arg7 e.h7 e.arg8 e.h8 e.arg9 e.h9 hc e.x0 e.x1 e.x2 e.x3 e.x4 y)) _).trans ?_
  unfold Point.f9 Point.st
  rw [h8, h9, ← View.writes_append]
  unfold kernelRun1_A
  dsimp only
  rw [rest_word, loop_word]
  rfl

/-- What the accumulated blocks hold at the first tile. -/
theorem zero_8 (s : Fin 8192) (x : Fin 128) :
    e.arg8.view.read (Elt Ideal) (e.arg8.view.writes (Elt Ideal) e.arg8.view.junk kernelRun1_A.sl.H6_1) (ix2 s x) = ((0 : ℝ) : EReal) := by
  refine (View.read_writes_cons_rows_of_mem e.arg8.view e.arg8.view.junk inb_S8192x128_S8192x128_0_0 _ _ (ix2 s x) (ix2 s x) (o := 0) rfl (Nat.zero_add _).symm rfl).trans ?_
  rw [EReal.coe_zero]
  show k1_pay54 (F := Ideal) (ix2 s x) = 0
  pointwise [k1_pay54]

theorem zero_9 (s : Fin 8192) (x : Fin 128) :
    e.arg9.view.read (Elt Ideal) (e.arg9.view.writes (Elt Ideal) e.arg9.view.junk kernelRun1_A.sl.H7_1) (ix2 s x) = ((0 : ℝ) : EReal) := by
  refine (View.read_writes_cons_rows_of_mem e.arg9.view e.arg9.view.junk inb_S8192x128_S8192x128_0_0 _ _ (ix2 s x) (ix2 s x) (o := 0) rfl (Nat.zero_add _).symm rfl).trans ?_
  rw [EReal.coe_zero]
  show k1_pay55 (F := Ideal) (ix2 s x) = 0
  pointwise [k1_pay55]

/-- The later tiles of a pair: the accumulated blocks go on from the tile before. -/
theorem out_B_5 (hc) {y6 y7 : Vec Ideal S8192x128 .f32} (h8 : e.G8 = e.h8.unread y6) (h9 : e.G9 = e.h9.unread y7)
    (H : Holds e A D K V C8 C9) (r : Fin 256) (c : Fin 128) :
    out1_B_5 e.c e.i e.arg2 e.h2 e.arg3 e.h3 e.arg4 e.h4 e.arg5 e.h5 e.arg6 e.h6 e.arg7 e.h7 e.arg8 e.h8 e.arg9 e.h9 hc e.x0 e.x1 e.x2 e.x3 e.x4 y6 y7 (ix2 r c)
      = (((∑ s ∈ Finset.range 8192, dz (zz A K (c / 64) r) (zz D V (c / 64) r) (qrow e.i r) s * K s c) * (1 / 8) : ℝ) : EReal) := by
  refine Eq.trans ?_ (acc_all e H r c)
  unfold Point.st
  rw [h8, h9]
  unfold out1_B_5 kernelRun1_B
  dsimp only
  rw [rest_word, loop_word]
  exact stored _ r c _ fun y => rfl

theorem out_B_6 (hc) {y6 y7 : Vec Ideal S8192x128 .f32} (h8 : e.G8 = e.h8.unread y6) (h9 : e.G9 = e.h9.unread y7)
    (H : Holds e A D K V C8 C9) (s : Fin 8192) (x : Fin 128) :
    out1_B_6 e.c e.i e.arg2 e.h2 e.arg3 e.h3 e.arg4 e.h4 e.arg5 e.h5 e.arg6 e.h6 e.arg7 e.h7 e.arg8 e.h8 e.arg9 e.h9 hc e.x0 e.x1 e.x2 e.x3 e.x4 y6 y7 (ix2 s x)
      = ((C8 s x + addK A D K V (qrow e.i) s x : ℝ) : EReal) := by
  refine Eq.trans ?_ (d8_all e H s x)
  unfold out1_B_6 Point.f8 Point.st
  rw [h8, h9]
  unfold kernelRun1_B
  dsimp only
  rw [rest_word, loop_word]
  rfl

theorem out_B_7 (hc) {y6 y7 : Vec Ideal S8192x128 .f32} (h8 : e.G8 = e.h8.unread y6) (h9 : e.G9 = e.h9.unread y7)
    (H : Holds e A D K V C8 C9) (s : Fin 8192) (x : Fin 128) :
    out1_B_7 e.c e.i e.arg2 e.h2 e.arg3 e.h3 e.arg4 e.h4 e.arg5 e.h5 e.arg6 e.h6 e.arg7 e.h7 e.arg8 e.h8 e.arg9 e.h9 hc e.x0 e.x1 e.x2 e.x3 e.x4 y6 y7 (ix2 s x)
      = ((C9 s x + addV A D K (qrow e.i) s x : ℝ) : EReal) := by
  refine Eq.trans ?_ (d9_all e H s x)
  unfold out1_B_7 Point.f9 Point.st
  rw [h8, h9]
  unfold kernelRun1_B
  dsimp only
  rw [rest_word, loop_word]
  rfl
end

end Cert.AttnBwd
-- ==== Proof.AttnRun.lean ====
module

public import proofs.«01_k».proof.Proof.AttnFwd
public import proofs.«01_k».proof.Proof.AttnBwd
public import proofs.«01_k».proof.Proof.Gen.AttnKernelIdeal.Frame
public import Idealize.ShloMosaic.Lib.Pipeline.ValueKit
public import Idealize.ShloMosaic.Lib.Pointwise

/-! The two attention calls as arrays: from what the grid points leave to the output, the saved logs and
    the three gradients. -/

@[expose] public section

set_option maxRecDepth 16384

namespace Cert.AttnRun

open Idealize.ShloMosaic Idealize.ShloMosaic.TcCoe Idealize.SL.Sem
open Cert.AttnKernelIdeal Cert.AttnKernelIdeal.Gen Cert.Stick
open Cert.AttnFwd (zz)

/-- The score of query `t` and key `s` in head `a` of pair `p`, from the three packed arrays. -/
noncomputable def zf (X : ℕ → ℕ → ℝ) (p a t s : ℕ) : ℝ :=
  ∑ x : Fin 128, (if (x : ℕ) / 64 = a then X t (128 * p + x) else 0) * X s (512 + 128 * p + x)

/-- The cotangent of the weights: of the incoming rows with the values. -/
noncomputable def wf (X D : ℕ → ℕ → ℝ) (p a t s : ℕ) : ℝ :=
  ∑ x : Fin 128, (if (x : ℕ) / 64 = a then D t (128 * p + x) else 0) * X s (1024 + 128 * p + x)

/-- The output, the saved logs and the three gradients, as functions of the packed arrays. -/
noncomputable def yv (X : ℕ → ℕ → ℝ) (t j : ℕ) : ℝ :=
  ∑ s ∈ Finset.range 8192, att (zf X (j / 128) (j % 128 / 64) t) t s * X s (1024 + j)
noncomputable def cmv (X : ℕ → ℕ → ℝ) (t j : ℕ) : ℝ :=
  tail (zf X (j / 256) (j % 256 / 128) t) t (128 * (j % 128 + 1))
noncomputable def qv (X D : ℕ → ℕ → ℝ) (t j : ℕ) : ℝ :=
  (∑ s ∈ Finset.range 8192, dz (zf X (j / 128) (j % 128 / 64) t) (wf X D (j / 128) (j % 128 / 64) t) t s * X s (512 + j)) * (1 / 8)
noncomputable def kv (X D : ℕ → ℕ → ℝ) (n s j : ℕ) : ℝ :=
  ∑ t ∈ Finset.range n, dz (zf X (j / 128) (j % 128 / 64) t) (wf X D (j / 128) (j % 128 / 64) t) t s * X t j
noncomputable def vv (X D : ℕ → ℕ → ℝ) (n s j : ℕ) : ℝ :=
  ∑ t ∈ Finset.range n, att (zf X (j / 128) (j % 128 / 64) t) t s * D t j

theorem col (p : ℕ) (l : Fin 128) : (128 * p + l) / 128 = p ∧ (128 * p + l) % 128 / 64 = (l : ℕ) / 64 := by omega

theorem cmv_at (X : ℕ → ℕ → ℝ) (t p a : ℕ) (ha : a < 2) (l : Fin 128) :
    cmv X t (p * 256 + (a * 128 + l)) = tail (zf X p a t) t (128 * (l + 1)) := by
  unfold cmv
  rw [show (p * 256 + (a * 128 + (l : ℕ))) / 256 = p by omega, show (p * 256 + (a * 128 + (l : ℕ))) % 256 / 128 = a by omega,
    show (p * 256 + (a * 128 + (l : ℕ))) % 128 = l by omega]

/-! ### The forward call -/

theorem idx0 : ∀ t : Fin cfg0.N, win0_0.index t = ![t.val % 32, t.val / 32] ∧ win0_1.index t = ![0, 4 + t.val / 32] ∧ win0_2.index t = ![0, 8 + t.val / 32]
    ∧ win0_3.index t = ![t.val % 32, t.val / 32] ∧ win0_4.index t = ![t.val % 32, t.val / 32] ∧ (grid0.coords t 1 : ℕ) = t.val % 32 ∧ t.val < 128 :=
  (by decide +kernel : ∀ t : Fin grid0.N, _)

theorem lt0 (t : Fin cfg0.N) : t.val < 128 := (idx0 t).2.2.2.2.2.2

section
variable (V : (c : Dev nD) → (b : Ref sig .tc) → Buf (Elt Ideal) ((c : Thread nD τ).loc b)) (c : Dev nD) (t : Fin cfg0.N)

theorem blk0_0 (r : Fin 256) (l : Fin 128) : iblk0 V c 0 t (ix2 r l)
    = V c main_v5 (ix2 (⟨t.val % 32 * 256 + r.val, by omega⟩ : Fin 8192) (⟨t.val / 32 * 128 + l.val, by have := lt0 t; omega⟩ : Fin 1536)) := by blk_point [iblk0, idx0 t]
theorem blk0_1 (s : Fin 8192) (l : Fin 128) : iblk0 V c 1 t (ix2 s l)
    = V c main_v5 (ix2 s (⟨(4 + t.val / 32) * 128 + l.val, by have := lt0 t; omega⟩ : Fin 1536)) := by blk_point [iblk0, idx0 t]
theorem blk0_2 (s : Fin 8192) (l : Fin 128) : iblk0 V c 2 t (ix2 s l)
    = V c main_v5 (ix2 s (⟨(8 + t.val / 32) * 128 + l.val, by have := lt0 t; omega⟩ : Fin 1536)) := by blk_point [iblk0, idx0 t]

/-- The point's blocks. -/
noncomputable def pt0 : AttnFwd.Point where
  c := c
  i := grid0.coords t
  arg2 := ms0_0 t
  h2 := hs0_0 t
  arg3 := ms0_1 t
  h3 := hs0_1 t
  arg4 := ms0_2 t
  h4 := hs0_2 t
  arg5 := ms0_3 t
  h5 := hs0_3 t
  arg6 := ms0_4 t
  h6 := hs0_4 t
  x0 := iblk0 V c 0 t
  x1 := iblk0 V c 1 t
  x2 := iblk0 V c 2 t

variable {V c} {X : ℕ → ℕ → ℝ} (hX : ∀ (s : Fin 8192) (j : Fin 1536), V c main_v5 (ix2 s j) = (X s j : EReal))
include hX

omit hX in
theorem qrow0 (r : Fin 256) : AttnFwd.qrow (grid0.coords t) r = t.val % 32 * 256 + r := by
  show 256 * (grid0.coords t 1 : ℕ) + r = _
  rw [(idx0 t).2.2.2.2.2.1]; omega

omit hX in
theorem cast_col (X : ℕ → ℕ → ℝ) (s : ℕ) {i j : ℕ} (h : i = j) : ((X s i : ℝ) : EReal) = X s j := h ▸ rfl

/-- The blocks of a point as real numbers. -/
theorem a_at (r : Fin 256) (l : Fin 128) : iblk0 V c 0 t (ix2 r l) = (X (t.val % 32 * 256 + r) (128 * (t.val / 32) + l) : EReal) :=
  (blk0_0 V c t r l).trans ((hX _ _).trans (cast_col X _ (show t.val / 32 * 128 + l.val = _ by omega)))
theorem k_at (s : Fin 8192) (l : Fin 128) : iblk0 V c 1 t (ix2 s l) = (X s (512 + 128 * (t.val / 32) + l) : EReal) :=
  (blk0_1 V c t s l).trans ((hX _ _).trans (cast_col X _ (show (4 + t.val / 32) * 128 + l.val = _ by omega)))
theorem v_at (s : Fin 8192) (l : Fin 128) : iblk0 V c 2 t (ix2 s l) = (X s (1024 + 128 * (t.val / 32) + l) : EReal) :=
  (blk0_2 V c t s l).trans ((hX _ _).trans (cast_col X _ (show (8 + t.val / 32) * 128 + l.val = _ by omega)))

theorem y_at (r : Fin 256) (l : Fin 128) : (outsAt0 V c t).1 (ix2 r l) = (yv X (t.val % 32 * 256 + r) (128 * (t.val / 32) + l) : EReal) := by
  refine (AttnFwd.out_y (pt0 V c t) (A := fun r l => X (t.val % 32 * 256 + r) (128 * (t.val / 32) + l)) (K := fun s l => X s (512 + 128 * (t.val / 32) + l))
    (V := fun s l => X s (1024 + 128 * (t.val / 32) + l)) (a_at t hX) (k_at t hX) (v_at t hX) r l).trans ?_
  rw [show AttnFwd.qrow (pt0 V c t).i r = _ from qrow0 t r]
  unfold yv
  rw [(col _ l).1, (col _ l).2, ← Nat.add_assoc]
  rfl

set_option maxHeartbeats 2000000 in
theorem cm_halves (r : Fin 256) (l : Fin 128) :
    (outsAt0 V c t).2 (ix2 r (⟨l, by omega⟩ : Fin 256)) = (tail (zf X (t.val / 32) 0 (t.val % 32 * 256 + r)) (t.val % 32 * 256 + r) (128 * (l + 1)) : EReal)
    ∧ (outsAt0 V c t).2 (ix2 r (⟨128 + l, by omega⟩ : Fin 256)) = (tail (zf X (t.val / 32) 1 (t.val % 32 * 256 + r)) (t.val % 32 * 256 + r) (128 * (l + 1)) : EReal) := by
  have h := AttnFwd.out_cm (pt0 V c t) (A := fun r l => X (t.val % 32 * 256 + r) (128 * (t.val / 32) + l)) (K := fun s l => X s (512 + 128 * (t.val / 32) + l))
    (V := fun s l => X s (1024 + 128 * (t.val / 32) + l)) (a_at t hX) (k_at t hX) (v_at t hX) r l
  rw [show AttnFwd.qrow (pt0 V c t).i r = _ from qrow0 t r] at h
  rw [show (outsAt0 V c t).2 = _ from rfl]
  exact h

theorem cm_at (r : Fin 256) (l : Fin 256) : (outsAt0 V c t).2 (ix2 r l) = (cmv X (t.val % 32 * 256 + r) (t.val / 32 * 256 + l) : EReal) := by
  by_cases hl : (l : ℕ) < 128
  · refine ((cm_halves t hX r ⟨l, hl⟩).1).trans ?_
    rw [show (l : ℕ) = 0 * 128 + l by omega, cmv_at X _ _ 0 (by omega) ⟨l, hl⟩, show 0 * 128 + (l : ℕ) = l by omega]
  · have hs : l = (⟨128 + ((⟨l - 128, by omega⟩ : Fin 128) : ℕ), by show 128 + ((l : ℕ) - 128) < 256; omega⟩ : Fin 256) :=
      Fin.ext (show (l : ℕ) = 128 + ((l : ℕ) - 128) by omega)
    refine (congrArg (fun l => (outsAt0 V c t).2 (ix2 r l)) hs).trans (((cm_halves t hX r ⟨l - 128, by omega⟩).2).trans ?_)
    refine Eq.trans ?_ (cast_col (cmv X) _ (show t.val / 32 * 256 + (1 * 128 + ((⟨l - 128, by omega⟩ : Fin 128) : ℕ)) = _ by
      show t.val / 32 * 256 + (1 * 128 + ((l : ℕ) - 128)) = _; omega))
    rw [cmv_at X _ _ 1 (by omega)]

theorem y_all : (dat0 V c).arrAt 3 cfg0.N = fun i => ((yv X (i 0).val (i 1).val : ℝ) : EReal) := by
  refine (dat0 V c).arrAt_eq_of_covers 3 _ (by decide +kernel) fun t hf y => ?_
  blk_simp
  rw [after0_3]
  have hy : y = ix2 (y 0) (y 1) := by blk_ext
  rw [(idx0 t).2.2.2.1]
  refine (congrArg _ hy).trans ((y_at t hX (y 0) (y 1)).trans ?_)
  show _ = ((yv X (t.val % 32 * 256 + (y 0).val) (t.val / 32 * 128 + (y 1).val) : ℝ) : EReal)
  rw [Nat.mul_comm (t.val / 32) 128]

theorem cm_all : (dat0 V c).arrAt 4 cfg0.N = fun i => ((cmv X (i 0).val (i 1).val : ℝ) : EReal) := by
  refine (dat0 V c).arrAt_eq_of_covers 4 _ (by decide +kernel) fun t hf y => ?_
  blk_simp
  rw [after0_4]
  have hy : y = ix2 (y 0) (y 1) := by blk_ext
  rw [(idx0 t).2.2.2.2.1]
  exact (congrArg _ hy).trans (cm_at t hX (y 0) (y 1))
end

/-! ### The backward call -/

theorem idx1 : ∀ t : Fin cfg1.N, win1_0.index t = ![t.val % 32, t.val / 32] ∧ win1_1.index t = ![0, 4 + t.val / 32] ∧ win1_2.index t = ![0, 8 + t.val / 32]
    ∧ win1_3.index t = ![t.val % 32, t.val / 32] ∧ win1_4.index t = ![t.val % 32, t.val / 32] ∧ win1_5.index t = ![t.val % 32, t.val / 32]
    ∧ win1_6.index t = ![0, t.val / 32] ∧ win1_7.index t = ![0, t.val / 32] ∧ (grid1.coords t 1 : ℕ) = t.val % 32 ∧ t.val < 128 :=
  (by decide +kernel : ∀ t : Fin grid1.N, _)

theorem lt1 (t : Fin cfg1.N) : t.val < 128 := (idx1 t).2.2.2.2.2.2.2.2.2

section
variable (V : (c : Dev nD) → (b : Ref sig .tc) → Buf (Elt Ideal) ((c : Thread nD τ).loc b)) (c : Dev nD) (t : Fin cfg1.N)

theorem blk1_0 (r : Fin 256) (l : Fin 128) : iblk1 V c 0 t (ix2 r l)
    = V c main_v5 (ix2 (⟨t.val % 32 * 256 + r.val, by omega⟩ : Fin 8192) (⟨t.val / 32 * 128 + l.val, by have := lt1 t; omega⟩ : Fin 1536)) := by blk_point [iblk1, idx1 t]
theorem blk1_1 (s : Fin 8192) (l : Fin 128) : iblk1 V c 1 t (ix2 s l)
    = V c main_v5 (ix2 s (⟨(4 + t.val / 32) * 128 + l.val, by have := lt1 t; omega⟩ : Fin 1536)) := by blk_point [iblk1, idx1 t]
theorem blk1_2 (s : Fin 8192) (l : Fin 128) : iblk1 V c 2 t (ix2 s l)
    = V c main_v5 (ix2 s (⟨(8 + t.val / 32) * 128 + l.val, by have := lt1 t; omega⟩ : Fin 1536)) := by blk_point [iblk1, idx1 t]
theorem blk1_3 (r : Fin 256) (l : Fin 256) : iblk1 V c 3 t (ix2 r l)
    = V c main_v6_1 (ix2 (⟨t.val % 32 * 256 + r.val, by omega⟩ : Fin 8192) (⟨t.val / 32 * 256 + l.val, by have := lt1 t; omega⟩ : Fin 1024)) := by blk_point [iblk1, idx1 t]
theorem blk1_4 (r : Fin 256) (l : Fin 128) : iblk1 V c 4 t (ix2 r l)
    = V c main_arg3 (ix2 (⟨t.val % 32 * 256 + r.val, by omega⟩ : Fin 8192) (⟨t.val / 32 * 128 + l.val, by have := lt1 t; omega⟩ : Fin 512)) := by blk_point [iblk1, idx1 t]

/-- The point's blocks, with the two accumulated blocks' contents before its loop. -/
noncomputable def pt1 (G8 : BufTy.Contents (Elt Ideal) (ms1_6 t).view.ty) (G9 : BufTy.Contents (Elt Ideal) (ms1_7 t).view.ty) : AttnBwd.Point where
  c := c
  i := grid1.coords t
  arg2 := ms1_0 t
  h2 := hs1_0 t
  arg3 := ms1_1 t
  h3 := hs1_1 t
  arg4 := ms1_2 t
  h4 := hs1_2 t
  arg5 := ms1_3 t
  h5 := hs1_3 t
  arg6 := ms1_4 t
  h6 := hs1_4 t
  arg7 := ms1_5 t
  h7 := hs1_5 t
  arg8 := ms1_6 t
  h8 := hs1_6 t
  arg9 := ms1_7 t
  h9 := hs1_7 t
  x0 := iblk1 V c 0 t
  x1 := iblk1 V c 1 t
  x2 := iblk1 V c 2 t
  x3 := iblk1 V c 3 t
  x4 := iblk1 V c 4 t
  G8 := G8
  G9 := G9

theorem qrow1 (r : Fin 256) : AttnBwd.qrow (grid1.coords t) r = t.val % 32 * 256 + r := by
  show 256 * (grid1.coords t 1 : ℕ) + r = _
  rw [(idx1 t).2.2.2.2.2.2.2.2.1]; omega

/-- The blocks' real numbers. -/
def tA (X : ℕ → ℕ → ℝ) (t : ℕ) (r : Fin 256) (l : Fin 128) : ℝ := X (t % 32 * 256 + r) (128 * (t / 32) + l)
def tK (X : ℕ → ℕ → ℝ) (t s : ℕ) (l : Fin 128) : ℝ := X s (512 + 128 * (t / 32) + l)
def tV (X : ℕ → ℕ → ℝ) (t s : ℕ) (l : Fin 128) : ℝ := X s (1024 + 128 * (t / 32) + l)

variable {V c} {X D : ℕ → ℕ → ℝ} (hX : ∀ (s : Fin 8192) (j : Fin 1536), V c main_v5 (ix2 s j) = (X s j : EReal))
  (hD : ∀ (s : Fin 8192) (j : Fin 512), V c main_arg3 (ix2 s j) = (D s j : EReal))
  (hM : ∀ (s : Fin 8192) (j : Fin 1024), V c main_v6_1 (ix2 s j) = (cmv X s j : EReal))
include hX hD hM

theorem holds1 (G8 G9) {C8 C9 : ℕ → Fin 128 → ℝ}
    (h8 : ∀ (s : Fin 8192) x, (ms1_6 t).view.read (Elt Ideal) G8 (ix2 s x) = (C8 s x : EReal))
    (h9 : ∀ (s : Fin 8192) x, (ms1_7 t).view.read (Elt Ideal) G9 (ix2 s x) = (C9 s x : EReal)) :
    AttnBwd.Holds (pt1 V c t G8 G9) (tA X t) (tA D t) (tK X t) (tV X t) C8 C9 where
  hA r l := (blk1_0 V c t r l).trans ((hX _ _).trans (cast_col X _ (show t.val / 32 * 128 + l.val = _ by omega)))
  hD r l := (blk1_4 V c t r l).trans ((hD _ _).trans (cast_col D _ (show t.val / 32 * 128 + l.val = _ by omega)))
  hK s l := (blk1_1 V c t s l).trans ((hX _ _).trans (cast_col X _ (show (4 + t.val / 32) * 128 + l.val = _ by omega)))
  hV s l := (blk1_2 V c t s l).trans ((hX _ _).trans (cast_col X _ (show (8 + t.val / 32) * 128 + l.val = _ by omega)))
  hM0 r l := by
    refine (blk1_3 V c t r _).trans ((hM _ _).trans ?_)
    show ((cmv X (t.val % 32 * 256 + r) (t.val / 32 * 256 + l) : ℝ) : EReal) = _
    rw [show (l : ℕ) = 0 * 128 + l by omega, cmv_at X _ _ 0 (by omega) l, show 0 * 128 + (l : ℕ) = l by omega,
      show AttnBwd.qrow (pt1 V c t G8 G9).i r = _ from qrow1 t r]
    rfl
  hM1 r l := by
    refine (blk1_3 V c t r _).trans ((hM _ _).trans ?_)
    show ((cmv X (t.val % 32 * 256 + r) (t.val / 32 * 256 + (1 * 128 + l)) : ℝ) : EReal) = _
    rw [cmv_at X _ _ 1 (by omega) l, show AttnBwd.qrow (pt1 V c t G8 G9).i r = _ from qrow1 t r]
    rfl
  h8 := h8
  h9 := h9

omit hX hD hM in
/-- One tile more of the sums over the queries. -/
theorem kv_step (n s : ℕ) (x : Fin 128) : kv X D (n % 32 * 256) s (128 * (n / 32) + x)
    + AttnBwd.addK (tA X n) (tA D n) (tK X n) (tV X n) (fun r => n % 32 * 256 + r) s x = kv X D ((n % 32 + 1) * 256) s (128 * (n / 32) + x) := by
  unfold kv AttnBwd.addK
  rw [Nat.add_mul, Nat.one_mul, Finset.sum_range_add, Finset.sum_range (n := 256), (col _ x).1, (col _ x).2]
  rfl

omit hX hD hM in
theorem vv_step (n s : ℕ) (x : Fin 128) : vv X D (n % 32 * 256) s (128 * (n / 32) + x)
    + AttnBwd.addV (tA X n) (tA D n) (tK X n) (fun r => n % 32 * 256 + r) s x = vv X D ((n % 32 + 1) * 256) s (128 * (n / 32) + x) := by
  unfold vv AttnBwd.addV
  rw [Nat.add_mul, Nat.one_mul, Finset.sum_range_add, Finset.sum_range (n := 256), (col _ x).1, (col _ x).2]
  rfl

/-- What a point leaves, from what it finds in the two accumulated blocks. -/
structure Left (X D : ℕ → ℕ → ℝ) (t : ℕ) (o : Vec Ideal S256x128 .f32 × Vec Ideal S8192x128 .f32 × Vec Ideal S8192x128 .f32) : Prop where
  dq : ∀ (r : Fin 256) (l : Fin 128), o.1 (ix2 r l) = (qv X D (t % 32 * 256 + r) (128 * (t / 32) + l) : EReal)
  dk : ∀ (s : Fin 8192) (x : Fin 128), o.2.1 (ix2 s x) = (kv X D ((t % 32 + 1) * 256) s (128 * (t / 32) + x) : EReal)
  dv : ∀ (s : Fin 8192) (x : Fin 128), o.2.2 (ix2 s x) = (vv X D ((t % 32 + 1) * 256) s (128 * (t / 32) + x) : EReal)

omit hX hD hM in
theorem qv_eq (n : ℕ) (r : Fin 256) (l : Fin 128) :
    (∑ s ∈ Finset.range 8192, dz (zz (tA X n) (tK X n) (l / 64) r) (zz (tA D n) (tV X n) (l / 64) r) (n % 32 * 256 + r) s * tK X n s l) * (1 / 8)
      = qv X D (n % 32 * 256 + r) (128 * (n / 32) + l) := by
  unfold qv
  rw [(col _ l).1, (col _ l).2, ← Nat.add_assoc]
  rfl

set_option maxHeartbeats 2000000 in
theorem left_A (h0 : t.val % 32 = 0) : Left X D t.val (outsAt1 V c t.val t.isLt) := by
  let G8 := (ms1_6 t).view.writes (Elt Ideal) (ms1_6 t).view.junk kernelRun1_A.sl.H6_1
  let G9 := (ms1_7 t).view.writes (Elt Ideal) (ms1_7 t).view.junk kernelRun1_A.sl.H7_1
  have H := holds1 t hX hD hM G8 G9 (C8 := fun _ _ => 0) (C9 := fun _ _ => 0) (AttnBwd.zero_8 (pt1 V c t G8 G9)) (AttnBwd.zero_9 (pt1 V c t G8 G9))
  have hq : AttnBwd.qrow (pt1 V c t G8 G9).i = fun r : Fin 256 => t.val % 32 * 256 + (r : ℕ) := funext (qrow1 t)
  rw [outsAt1_A]
  · refine ⟨fun r l => ?_, fun s x => ?_, fun s x => ?_⟩
    · refine (AttnBwd.out_A_5 (pt1 V c t G8 G9) ((hcond1_0 t).mpr h0) rfl rfl H r l).trans ?_
      rw [hq, ← qv_eq]
    · refine (AttnBwd.out_A_6 (pt1 V c t G8 G9) ((hcond1_0 t).mpr h0) rfl rfl H s x).trans ?_
      rw [hq, ← kv_step]
      refine congrArg (fun u : ℝ => ((u + _ : ℝ) : EReal)) ?_
      rw [h0]; rfl
    · refine (AttnBwd.out_A_7 (pt1 V c t G8 G9) ((hcond1_0 t).mpr h0) rfl rfl H s x).trans ?_
      rw [hq, ← vv_step]
      refine congrArg (fun u : ℝ => ((u + _ : ℝ) : EReal)) ?_
      rw [h0]; rfl
  · exact h0

set_option maxHeartbeats 2000000 in
theorem left_B (h0 : ¬ t.val % 32 = 0) (L : Left X D (t.val - 1) (outsAt1 V c (t.val - 1) (Nat.lt_of_le_of_lt (Nat.sub_le _ _) t.isLt))) :
    Left X D t.val (outsAt1 V c t.val t.isLt) := by
  let y6 := (outsAt1 V c (t.val - 1) (Nat.lt_of_le_of_lt (Nat.sub_le _ _) t.isLt)).2.1
  let y7 := (outsAt1 V c (t.val - 1) (Nat.lt_of_le_of_lt (Nat.sub_le _ _) t.isLt)).2.2
  let G8 := (hs1_6 t).unread y6
  let G9 := (hs1_7 t).unread y7
  have e1 : (t.val - 1) % 32 + 1 = t.val % 32 := by omega
  have e2 : (t.val - 1) / 32 = t.val / 32 := by omega
  have dk := L.dk
  have dv := L.dv
  rw [e1, e2] at dk dv
  have H := holds1 t hX hD hM G8 G9 (C8 := fun s x => kv X D (t.val % 32 * 256) s (128 * (t.val / 32) + x)) (C9 := fun s x => vv X D (t.val % 32 * 256) s (128 * (t.val / 32) + x))
    (fun s x => (congrFun ((hs1_6 t).read_unread y6) _).trans (dk s x)) (fun s x => (congrFun ((hs1_7 t).read_unread y7) _).trans (dv s x))
  have hq : AttnBwd.qrow (pt1 V c t G8 G9).i = fun r : Fin 256 => t.val % 32 * 256 + (r : ℕ) := funext (qrow1 t)
  rw [outsAt1_B]
  · refine ⟨fun r l => ?_, fun s x => ?_, fun s x => ?_⟩
    · refine (AttnBwd.out_B_5 (pt1 V c t G8 G9) (fun h => h0 ((hcond1_0 t).mp h)) rfl rfl H r l).trans ?_
      rw [hq, ← qv_eq]
    · refine (AttnBwd.out_B_6 (pt1 V c t G8 G9) (fun h => h0 ((hcond1_0 t).mp h)) rfl rfl H s x).trans ?_
      rw [hq, ← kv_step]
    · refine (AttnBwd.out_B_7 (pt1 V c t G8 G9) (fun h => h0 ((hcond1_0 t).mp h)) rfl rfl H s x).trans ?_
      rw [hq, ← vv_step]

theorem left_all : ∀ (n : ℕ) (hn : n < cfg1.N), Left X D n (outsAt1 V c n hn)
  | 0, hn => left_A ⟨0, hn⟩ hX hD hM rfl
  | n + 1, hn => by
    by_cases h0 : (n + 1) % 32 = 0
    · exact left_A ⟨n + 1, hn⟩ hX hD hM h0
    · exact left_B ⟨n + 1, hn⟩ hX hD hM h0 (left_all n (Nat.lt_of_succ_lt hn))

theorem dq_all : (dat1 V c).arrAt 5 cfg1.N = fun i => ((qv X D (i 0).val (i 1).val : ℝ) : EReal) := by
  refine (dat1 V c).arrAt_eq_of_covers 5 _ (by decide +kernel) fun t hf y => ?_
  blk_simp
  rw [after1_5]
  have hy : y = ix2 (y 0) (y 1) := by blk_ext
  rw [(idx1 t).2.2.2.2.2.1]
  refine (congrArg _ hy).trans (((left_all hX hD hM t.val t.isLt).dq (y 0) (y 1)).trans ?_)
  show _ = ((qv X D (t.val % 32 * 256 + (y 0).val) (t.val / 32 * 128 + (y 1).val) : ℝ) : EReal)
  rw [Nat.mul_comm (t.val / 32) 128]

theorem dk_all : (dat1 V c).arrAt 6 cfg1.N = fun i => ((kv X D 8192 (i 0).val (i 1).val : ℝ) : EReal) := by
  refine (dat1 V c).arrAt_eq_of_covers 6 _ (by decide +kernel) fun t hf y => ?_
  blk_simp
  rw [after1_6]
  have hy : y = ix2 (y 0) (y 1) := by blk_ext
  rw [(idx1 t).2.2.2.2.2.2.1]
  refine (congrArg _ hy).trans (((left_all hX hD hM t.val t.isLt).dk (y 0) (y 1)).trans ?_)
  show _ = ((kv X D 8192 (0 * 8192 + (y 0).val) (t.val / 32 * 128 + (y 1).val) : ℝ) : EReal)
  rw [Nat.zero_mul, Nat.zero_add, Nat.mul_comm (t.val / 32) 128, show (t.val % 32 + 1) * 256 = 8192 by rw [(flush1_6 t).mp hf]]

theorem dv_all : (dat1 V c).arrAt 7 cfg1.N = fun i => ((vv X D 8192 (i 0).val (i 1).val : ℝ) : EReal) := by
  refine (dat1 V c).arrAt_eq_of_covers 7 _ (by decide +kernel) fun t hf y => ?_
  blk_simp
  rw [after1_7]
  have hy : y = ix2 (y 0) (y 1) := by blk_ext
  rw [(idx1 t).2.2.2.2.2.2.2.1]
  refine (congrArg _ hy).trans (((left_all hX hD hM t.val t.isLt).dv (y 0) (y 1)).trans ?_)
  show _ = ((vv X D 8192 (0 * 8192 + (y 0).val) (t.val / 32 * 128 + (y 1).val) : ℝ) : EReal)
  rw [Nat.zero_mul, Nat.zero_add, Nat.mul_comm (t.val / 32) 128, show (t.val % 32 + 1) * 256 = 8192 by rw [(flush1_7 t).mp hf]]
end

end Cert.AttnRun
-- ==== Proof.AttnRef.lean ====
/-
  The reference of the attention and of its gradients at finite arguments, as sums of real numbers.
-/
module

public import proofs.«01_k».proof.Proof.Gen.AttnReferenceIdeal.Run
public import proofs.«01_k».proof.Proof.Gen.AttnReferenceIdeal.Read
public import proofs.«01_k».proof.Proof.StickIdeal
public import Idealize.ShloMosaic.Lib.Pointwise

@[expose] public section

set_option maxRecDepth 16384

noncomputable section

namespace Cert.AttnRef

open Idealize.ShloMosaic Idealize.ShloMosaic.TcCoe Idealize.SL.Sem
open Cert.AttnReferenceIdeal Cert.AttnReferenceIdeal.Read
open Cert.Stick

/-! ## The sum over a window of a line -/

theorem foldl_add {n : ℕ} (f : Fin n → EReal) (v : EReal) : (List.finRange n).foldl (fun r i => r + f i) v = v + ∑ i, f i := by
  rw [← List.sum_ofFn, List.ofFn_eq_map]
  generalize List.finRange n = l
  induction l generalizing v with
  | nil => simp
  | cons a l ih => rw [List.foldl_cons, ih, List.map_cons, List.sum_cons, add_assoc]

/-- A window sum over the last of three axes, from zero. -/
theorem window_sum {A B N : ℕ} {u : Shape} (lo hi : ℕ) (x : (⟨3, ![A, B, N]⟩ : Shape).Idx → EReal) (v : u.Idx → EReal) (hu : 0 < u.numel)
    (hv : v (Shape.Idx.first hu) = 0)
    (hw : (⟨3, ![A, B, N]⟩ : Shape).ReduceWindows (![1, 1, N] : Fin 3 → Nat) ![1, 1, 1] ![0, 0, lo] ![0, 0, hi] ⟨3, ![A, B, N]⟩)
    (h : Fin A) (t : Fin B) (s : Fin N) :
    Host.reduceWindow (s := ⟨3, ![A, B, N]⟩) (· + ·) (![1, 1, N] : Fin 3 → Nat) ![1, 1, 1] ![0, 0, lo] ![0, 0, hi] x v hw hu (ix3 h t s)
      = ∑ n : Fin N, if hn : lo ≤ s.val + n.val ∧ s.val + n.val - lo < N then x (ix3 h t ⟨s.val + n.val - lo, hn.2⟩) else 0 := by
  let G : (⟨3, ![1, 1, N]⟩ : Shape).Idx → EReal := fun y =>
    if hin : ∀ a : Fin 3, (![0, 0, lo] : Fin 3 → ℕ) a ≤ (ix3 h t s a).val * (![1, 1, 1] : Fin 3 → ℕ) a + (y a).val
        ∧ (ix3 h t s a).val * (![1, 1, 1] : Fin 3 → ℕ) a + (y a).val - (![0, 0, lo] : Fin 3 → ℕ) a < (![A, B, N] : Fin 3 → ℕ) a then
      x (fun a => ⟨(ix3 h t s a).val * (![1, 1, 1] : Fin 3 → ℕ) a + (y a).val - (![0, 0, lo] : Fin 3 → ℕ) a, (hin a).2⟩) else 0
  have key : ∑ i, G ((Shape.rowMajor ⟨3, ![1, 1, N]⟩).symm i) = ∑ y, G y := Equiv.sum_comp _ G
  unfold Host.reduceWindow
  refine (foldl_add _ _).trans ?_
  rw [hv, zero_add]
  refine (Finset.sum_congr rfl fun i _ => ?_).trans (key.trans ?_)
  · exact dite_congr rfl (fun _ => rfl) fun _ => rfl
  rw [sum_idx3]
  simp only [Finset.univ_unique, Finset.sum_singleton]
  refine Finset.sum_congr rfl fun n _ => ?_
  by_cases hn : lo ≤ s.val + n.val ∧ s.val + n.val - lo < N
  · have hin : ∀ a : Fin 3, (![0, 0, lo] : Fin 3 → ℕ) a ≤ (ix3 h t s a).val * (![1, 1, 1] : Fin 3 → ℕ) a + (ix3 (0 : Fin 1) (0 : Fin 1) n a).val
        ∧ (ix3 h t s a).val * (![1, 1, 1] : Fin 3 → ℕ) a + (ix3 (0 : Fin 1) (0 : Fin 1) n a).val - (![0, 0, lo] : Fin 3 → ℕ) a < (![A, B, N] : Fin 3 → ℕ) a := by
      intro a
      fin_cases a
      · simpa using h.isLt
      · simpa using t.isLt
      · simpa using hn
    rw [dif_pos hn]
    refine (dif_pos hin).trans (congrArg x (funext fun a => Fin.ext ?_))
    fin_cases a <;> simp
  · rw [dif_neg hn]
    refine dif_neg fun hin => hn ?_
    simpa using hin 2

theorem window_add {A B N : ℕ} {u : Shape} (lo hi : ℕ) (x : FVec Ideal ⟨3, ![A, B, N]⟩ .f32) (v : FVec Ideal u .f32) (hu : 0 < u.numel)
    (hv : v (Shape.Idx.first hu) = 0)
    (hw : (⟨3, ![A, B, N]⟩ : Shape).ReduceWindows (![1, 1, N] : Fin 3 → Nat) ![1, 1, 1] ![0, 0, lo] ![0, 0, hi] ⟨3, ![A, B, N]⟩)
    (h : Fin A) (t : Fin B) (s : Fin N) :
    Host.reduceWindowAdd (F := Ideal) (φ := .f32) (s := ⟨3, ![A, B, N]⟩) (![1, 1, N] : Fin 3 → Nat) ![1, 1, 1] ![0, 0, lo] ![0, 0, hi] x v hw hu (ix3 h t s)
      = ∑ n : Fin N, if hn : lo ≤ s.val + n.val ∧ s.val + n.val - lo < N then x (ix3 h t ⟨s.val + n.val - lo, hn.2⟩) else 0 :=
  window_sum lo hi x (fun _ : (⟨0, ![]⟩ : Shape).Idx => v (Shape.Idx.first hu)) (by decide) hv hw h t s

theorem sum_upper (f : ℕ → ℝ) {s : ℕ} (hs : s < 8192) :
    ∑ n : Fin 8192, (if s + n.val < 8192 then f (s + n.val) else 0) = ∑ r ∈ Finset.Ico s 8192, f r := by
  rw [Fin.sum_univ_eq_sum_range (fun n => if s + n < 8192 then f (s + n) else 0), ← Finset.sum_filter, Finset.sum_Ico_eq_sum_range]
  exact Finset.sum_congr (by ext; simp; omega) fun _ _ => rfl

theorem sum_lower (f : ℕ → ℝ) {s : ℕ} (hs : s < 8192) :
    ∑ n : Fin 8192, (if 8191 ≤ s + n.val then f (s + n.val - 8191) else 0) = ∑ r ∈ Finset.range (s + 1), f r := by
  rw [Fin.sum_univ_eq_sum_range (fun n => if 8191 ≤ s + n then f (s + n - 8191) else 0), ← Finset.sum_filter,
    show (Finset.range 8192).filter (fun n => 8191 ≤ s + n) = Finset.Ico (8191 - s) 8192 from by ext; simp; omega,
    Finset.sum_Ico_eq_sum_range]
  exact Finset.sum_congr (by ext; simp; omega) fun i _ => congrArg f (by omega)

/-! ## The stages at finite arguments -/

variable {x0 x1 x2 x3 : FVec Ideal S8192x512 .f32} {q k v d : Fin 8192 → Fin 512 → ℝ}
  (h0 : ∀ i j, x0 (ix2 i j) = q i j) (h1 : ∀ i j, x1 (ix2 i j) = k i j) (h2 : ∀ i j, x2 (ix2 i j) = v i j)
  (h3 : ∀ i j, x3 (ix2 i j) = d i j) (h : Fin 8) (t s : Fin 8192)

include h0 h1 in
theorem score_at : val_main_v4 (F := Ideal) x0 x1 (ix3 h t s) = score q k h t s := by
  refine Eq.trans (b := (∑ x : Fin 64, x0 (ix2 t ⟨h * 64 + x, by omega⟩) * x1 (ix2 s ⟨h * 64 + x, by omega⟩)) * Ideal.ofBits .f32 0x3E000000#32) ?_ ?_
  · pointwise [val_main_v4, val_main_v2, val_main_v0, val_main_v1, val_main_v3, val_main_cst]
  · rw [cEighth, sum_mul_coe (fun _ => h0 _ _) (fun _ => h1 _ _), ← EReal.coe_mul, score, dif_pos s.isLt]

include h2 h3 in
theorem cot_at : val_main_v26 (F := Ideal) x2 x3 (ix3 h t s) = cot v d h t s := by
  refine Eq.trans (b := ∑ x : Fin 64, x3 (ix2 t ⟨h * 64 + x, by omega⟩) * x2 (ix2 s ⟨h * 64 + x, by omega⟩)) ?_ ?_
  · pointwise [val_main_v26, val_main_v25, val_main_v24, val_main_v20]
  · rw [sum_mul_coe (fun _ => h3 _ _) (fun _ => h2 _ _), cot, dif_pos s.isLt]

theorem mask0 : val_main_v13_1 (F := Ideal) (ix3 h t s) = BitVec.ofBool (decide (s.val < t.val)) := by
  refine Eq.trans ?_ (slt_word (by omega : s.val < 2 ^ 31) (by omega : t.val < 2 ^ 31))
  pointwise [val_main_v13_1, val_main_v10, val_main_v8, val_main_v6, val_main_v5, val_main_v9, val_main_v7]

theorem mask1 : val_main_v19_1 (F := Ideal) (ix3 h t s) = BitVec.ofBool (decide (s.val < t.val)) := mask0 h t s

include h0 h1 in
theorem sp_neg_at : val_main_call3_v1_0 (F := Ideal) x0 x1 (ix3 h t s) = sp (-score q k h t s) := by
  have e : -val_main_v4 (F := Ideal) x0 x1 (ix3 h t s) = ((-score q k h t s : ℝ) : EReal) := by rw [score_at h0 h1, EReal.coe_neg]
  refine Eq.trans ?_ (ref_sp e)
  pointwise [val_main_call3_v1_0, val_main_call3_call0_v4, val_main_call3_call0_v3, val_main_call3_v0, val_main_call3_call0_v2, val_main_call3_call0_cst, val_main_call3_call0_v6, val_main_call3_call0_v5, val_main_call3_call0_v11, val_main_call3_call0_v1, val_main_call3_call0_v0, val_main_call3_call0_v10, val_main_call3_call0_v9, val_main_call3_call0_v8, val_main_call3_call0_v7]

include h0 h1 in
theorem sp_at : val_main_call0_v1_0 (F := Ideal) x0 x1 (ix3 h t s) = sp (score q k h t s) := by
  have e : - -val_main_v4 (F := Ideal) x0 x1 (ix3 h t s) = ((score q k h t s : ℝ) : EReal) := by rw [score_at h0 h1, neg_neg]
  refine Eq.trans ?_ (ref_sp e)
  pointwise [val_main_call0_v1_0, val_main_call0_call0_v4, val_main_call0_call0_v3, val_main_call0_v0, val_main_v11, val_main_call0_call0_v2, val_main_call0_call0_cst, val_main_call0_call0_v6, val_main_call0_call0_v5, val_main_call0_call0_v11, val_main_call0_call0_v1, val_main_call0_call0_v0, val_main_call0_call0_v10, val_main_call0_call0_v9, val_main_call0_call0_v8, val_main_call0_call0_v7]

include h0 h1 in
theorem exp_neg_at : val_main_v16_1 (F := Ideal) x0 x1 (ix3 h t s) = Real.exp (-score q k h t s - sp (-score q k h t s)) := by
  have e : -val_main_v4 (F := Ideal) x0 x1 (ix3 h t s) = ((-score q k h t s : ℝ) : EReal) := by rw [score_at h0 h1, EReal.coe_neg]
  refine Eq.trans ?_ (ref_exp e (sp_neg_at h0 h1 h t s))
  pointwise [val_main_v16_1, val_main_call3_call0_v21, val_main_call3_call0_v16, val_main_call3_call0_v14, val_main_call3_v0, val_main_call3_call0_v13, val_main_call3_call0_cst_0, val_main_call3_call0_v15, val_main_call3_call0_cst_1, val_main_call3_call0_v20, val_main_call3_call0_v18, val_main_call3_call0_v17, val_main_call3_call0_cst_2, val_main_call3_call0_v19, val_main_call3_call0_cst_3]

include h0 h1 in
theorem exp_at : val_main_v12_1 (F := Ideal) x0 x1 (ix3 h t s) = Real.exp (score q k h t s - sp (score q k h t s)) := by
  have e : - -val_main_v4 (F := Ideal) x0 x1 (ix3 h t s) = ((score q k h t s : ℝ) : EReal) := by rw [score_at h0 h1, neg_neg]
  refine Eq.trans ?_ (ref_exp e (sp_at h0 h1 h t s))
  pointwise [val_main_v12_1, val_main_call0_call0_v21, val_main_call0_call0_v16, val_main_call0_call0_v14, val_main_call0_v0, val_main_v11, val_main_call0_call0_v13, val_main_call0_call0_cst_0, val_main_call0_call0_v15, val_main_call0_call0_cst_1, val_main_call0_call0_v20, val_main_call0_call0_v18, val_main_call0_call0_v17, val_main_call0_call0_cst_2, val_main_call0_call0_v19, val_main_call0_call0_cst_3]

include h0 h1 in
theorem lm_at : val_main_v13_0 (F := Ideal) x0 x1 (ix3 h t s) = lm (score q k h t) t s := by
  refine Eq.trans (b := Scalar.select (val_main_v13_1 (F := Ideal) (ix3 h t s)) (-val_main_call0_v1_0 (F := Ideal) x0 x1 (ix3 h t s)) 0) ?_ ?_
  · pointwise [val_main_v13_0, val_main_v12_0, val_main_call1_v2, val_main_call1_v0, val_main_cst_0, id]
  · rw [mask0, select_ofBool, sp_at h0 h1, ← EReal.coe_neg, ite_coe rfl, lm]

include h0 h1 in
theorem tail_at : val_main_v14 (F := Ideal) x0 x1 (ix3 h t s) = tail (score q k h t) t s := by
  refine (window_add (A := 8) (B := 8192) (N := 8192) 0 8191 (val_main_v13_0 (F := Ideal) x0 x1) (val_main_call2_v0 (F := Ideal)) Gen.h_S_ ?_ _ h t s).trans ?_
  · pointwise [val_main_call2_v0, val_main_call2_cst]
  · rw [tail, ← sum_upper _ s.isLt, coe_sum]
    refine Finset.sum_congr rfl fun n _ => ?_
    simp only [Nat.zero_le, true_and, Nat.sub_zero]
    split_ifs with hn
    · exact lm_at h0 h1 h t ⟨s.val + n.val, hn⟩
    · rfl

include h0 h1 in
theorem expo_at : val_main_v18 (F := Ideal) x0 x1 (ix3 h t s)
    = Real.exp (-sp (-score q k h t s) + (tail (score q k h t) t s - lm (score q k h t) t s)) := by
  refine Eq.trans (b := Ideal.exp (-val_main_call3_v1_0 (F := Ideal) x0 x1 (ix3 h t s)
    + (val_main_v14 (F := Ideal) x0 x1 (ix3 h t s) - val_main_v13_0 (F := Ideal) x0 x1 (ix3 h t s)))) ?_ ?_
  · pointwise [val_main_v18, val_main_v17, val_main_v16_0, val_main_v15]
  · rw [sp_neg_at h0 h1, tail_at h0 h1, lm_at h0 h1, ← EReal.coe_neg, ← EReal.coe_sub, ← EReal.coe_add, Ideal.exp_coe]

include h0 h1 in
theorem att_at : val_main_v19_0 (F := Ideal) x0 x1 (ix3 h t s) = att (score q k h t) t s := by
  refine Eq.trans (b := Scalar.select (val_main_v19_1 (F := Ideal) (ix3 h t s)) (val_main_v18 (F := Ideal) x0 x1 (ix3 h t s)) 0) ?_ ?_
  · pointwise [val_main_v19_0, val_main_call4_v2, val_main_call4_v0, val_main_cst_1, id]
  · rw [mask1, select_ofBool, expo_at h0 h1, ite_coe rfl, att]
    congr 1
    split_ifs with hs
    · rw [log_att _ _ hs]
    · rfl

include h0 h1 h2 h3 in
theorem gg_at : val_main_v31 (F := Ideal) x0 x1 x2 x3 (ix3 h t s) = gg (score q k h t) (cot v d h t) t s := by
  refine Eq.trans (b := Scalar.select (val_main_v19_1 (F := Ideal) (ix3 h t s))
    (val_main_v26 (F := Ideal) x2 x3 (ix3 h t s) * val_main_v18 (F := Ideal) x0 x1 (ix3 h t s)) 0) ?_ ?_
  · pointwise [val_main_v31, val_main_v30, val_main_call5_v0, val_main_call5_cst]
  · rw [mask1, select_ofBool, cot_at h2 h3, expo_at h0 h1, ← EReal.coe_mul, ite_coe rfl, gg, att]
    congr 1
    split_ifs with hs
    · rw [log_att _ _ hs, mul_comm]
    · rw [zero_mul]

include h0 h1 h2 h3 in
theorem pre_at : val_main_v34 (F := Ideal) x0 x1 x2 x3 (ix3 h t s) = pre (score q k h t) (cot v d h t) t (s.val + 1) := by
  refine (window_add (A := 8) (B := 8192) (N := 8192) 8191 0 (val_main_v31 (F := Ideal) x0 x1 x2 x3) (val_main_call7_v0 (F := Ideal)) Gen.h_S_ ?_ _ h t s).trans ?_
  · pointwise [val_main_call7_v0, val_main_call7_cst]
  · rw [pre, ← sum_lower _ s.isLt, coe_sum]
    refine Finset.sum_congr rfl fun n _ => ?_
    have := s.isLt
    have := n.isLt
    by_cases hn : 8191 ≤ s.val + n.val
    · rw [if_pos hn, dif_pos ⟨hn, by omega⟩]
      exact gg_at h0 h1 h2 h3 h t ⟨s.val + n.val - 8191, by omega⟩
    · rw [if_neg hn, dif_neg fun hh => hn hh.1]; rfl

include h0 h1 h2 h3 in
theorem dz_at : val_main_v39 (F := Ideal) x0 x1 x2 x3 (ix3 h t s) = dz (score q k h t) (cot v d h t) t s := by
  refine Eq.trans (b := -(-val_main_v31 (F := Ideal) x0 x1 x2 x3 (ix3 h t s) * val_main_v16_1 (F := Ideal) x0 x1 (ix3 h t s))
    + -(-(-Scalar.select (val_main_v13_1 (F := Ideal) (ix3 h t s))
        (-val_main_v31 (F := Ideal) x0 x1 x2 x3 (ix3 h t s) + val_main_v34 (F := Ideal) x0 x1 x2 x3 (ix3 h t s)) 0
      * val_main_v12_1 (F := Ideal) x0 x1 (ix3 h t s)))) ?_ ?_
  · pointwise [val_main_v39, val_main_v32, val_main_call6_v1, val_main_call6_v0, val_main_v38, val_main_v37, val_main_call9_v1, val_main_call9_v0, val_main_v36, val_main_v35, val_main_v33, val_main_call8_v0, val_main_call8_cst]
  · rw [mask0, select_ofBool, gg_at h0 h1 h2 h3, pre_at h0 h1 h2 h3, exp_at h0 h1, exp_neg_at h0 h1, ← dz_ref, ← EReal.coe_neg,
      ← EReal.coe_add, ite_coe rfl]
    simp only [← EReal.coe_neg, ← EReal.coe_mul, ← EReal.coe_add]

/-! ## The results -/

variable (j : Fin 512)

include h0 h1 h2 in
theorem ref_y : val_main_v23 (F := Ideal) x0 x1 x2 (ix2 t j) = outY q k v t j := by
  refine Eq.trans (b := ∑ s : Fin 8192, x2 (ix2 s j) * val_main_v19_0 (F := Ideal) x0 x1 (ix3 (hd j) t s)) ?_ ?_
  · pointwise [val_main_v23, val_main_v22, val_main_v21, val_main_v20, hd]
  · rw [sum_mul_coe (fun _ => h2 _ _) (fun _ => att_at h0 h1 _ _ _), outY]
    simp only [mul_comm]

include h0 h1 h2 h3 in
theorem ref_dq : val_main_v47 (F := Ideal) x0 x1 x2 x3 (ix2 t j) = outQ q k v d t j := by
  refine Eq.trans (b := ∑ s : Fin 8192, (val_main_v39 (F := Ideal) x0 x1 x2 x3 (ix3 (hd j) t s) * Ideal.ofBits .f32 0x3E000000#32) * x1 (ix2 s j)) ?_ ?_
  · pointwise [val_main_v47, val_main_v45, val_main_v44, val_main_v41, val_main_v40, val_main_cst_2, val_main_v1, hd]
  · rw [sum_mul_coe (fun _ => by rw [dz_at h0 h1 h2 h3, cEighth, ← EReal.coe_mul]) (fun _ => h1 _ _), outQ, Finset.sum_mul]
    simp only [mul_right_comm]

include h0 h1 h2 h3 in
theorem ref_dk : val_main_v46 (F := Ideal) x0 x1 x2 x3 (ix2 s j) = outK q k v d s j := by
  refine Eq.trans (b := ∑ t : Fin 8192, (val_main_v39 (F := Ideal) x0 x1 x2 x3 (ix3 (hd j) t s) * Ideal.ofBits .f32 0x3E000000#32) * x0 (ix2 t j)) ?_ ?_
  · pointwise [val_main_v46, val_main_v43, val_main_v42, val_main_v41, val_main_v40, val_main_cst_2, val_main_v0, hd]
  · rw [sum_mul_coe (fun _ => by rw [dz_at h0 h1 h2 h3, cEighth, ← EReal.coe_mul]) (fun _ => h0 _ _), outK, Finset.sum_mul]
    simp only [mul_right_comm]

include h0 h1 h3 in
theorem ref_dv : val_main_v29 (F := Ideal) x0 x1 x3 (ix2 s j) = outV q k d s j := by
  refine Eq.trans (b := ∑ t : Fin 8192, x3 (ix2 t j) * val_main_v19_0 (F := Ideal) x0 x1 (ix3 (hd j) t s)) ?_ ?_
  · pointwise [val_main_v29, val_main_v28, val_main_v27, val_main_v25, val_main_v24, hd]
  · rw [sum_mul_coe (fun _ => h3 _ _) (fun _ => att_at h0 h1 _ _ _), outV]
    simp only [mul_comm]

end Cert.AttnRef

end
-- ==== Proof.Attn.lean ====
module

public import proofs.«01_k».proof.Defs
public import proofs.«01_k».proof.Proof.AttnRun
public import proofs.«01_k».proof.Proof.AttnRef
public import proofs.«01_k».proof.Proof.Gen.AttnKernelIdeal.Frame
public import Idealize.ShloMosaic.Lib.Pipeline.ValueKit
public import Idealize.ShloMosaic.Lib.Pointwise
public import Idealize.ShloMosaic.Lib.StableHlo.RunRead
public import Idealize.ShloMosaic.Adequacy
public import Idealize.ShloMosaic.Init

/-! The attention's two calls against the reference: the host's packing of the arguments, the run of both calls, and the
    equality of the output and of the three gradients at finite arguments. -/

@[expose] public section
set_option maxRecDepth 16384
namespace Cert.Attn

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.AttnKernelIdeal Cert.AttnKernelIdeal.Gen Cert.Stick Cert.AttnRun

local notation "𝕄" => MT nD τ sig Unit (Elt Ideal) ℕ (UR sig nD τ) ℕ

theorem real_of_abs {x : EReal} (h : BitVec.ofBool (decide ((FloatOps.absf (F := Ideal) (φ := .f32) x : EReal) < Ideal.ofBits .f32 0x7F800000#32)) = 1#1) : ∃ r : ℝ, x = r := by
  have h1 : (FloatOps.absf (F := Ideal) (φ := .f32) x : EReal) < Ideal.ofBits .f32 0x7F800000#32 := by
    by_contra hc
    rw [decide_eq_false hc] at h
    exact absurd h (by decide)
  rw [cInf] at h1
  induction x using EReal.rec with
  | bot => exact absurd h1 (by show ¬ max (⊥ : EReal) (-⊥) < ⊤; simp)
  | top => exact absurd h1 (by show ¬ max (⊤ : EReal) (-⊤) < ⊤; simp)
  | coe r => exact ⟨r, rfl⟩

instance finite_facts : Cert.Pre_attn_finite.Facts := ⟨Cert.AttnKernelIdeal.Gen.facts.bcast_S_S8192x512⟩

theorem reals_of {a b d e : FVec Ideal Cert.Pre_attn_finite.S8192x512 .f32}
    (h : (Cert.Pre_attn_finite.fn (F := Ideal) a b d e).1 = (fun _ => 1#1) ∧ (Cert.Pre_attn_finite.fn (F := Ideal) a b d e).2.1 = (fun _ => 1#1)
      ∧ (Cert.Pre_attn_finite.fn (F := Ideal) a b d e).2.2.1 = (fun _ => 1#1) ∧ (Cert.Pre_attn_finite.fn (F := Ideal) a b d e).2.2.2 = (fun _ => 1#1)) :
    ∃ q k v w : Fin 8192 → Fin 512 → ℝ, (∀ i j, a (ix2 i j) = (q i j : EReal)) ∧ (∀ i j, b (ix2 i j) = (k i j : EReal))
      ∧ (∀ i j, d (ix2 i j) = (v i j : EReal)) ∧ ∀ i j, e (ix2 i j) = (w i j : EReal) := by
  have ha : ∀ i j, ∃ r : ℝ, a (ix2 i j) = (r : EReal) := fun i j => real_of_abs (by have h' := congrFun h.1 (ix2 i j); pointwise [Cert.Pre_attn_finite.fn] at h'; exact h')
  have hb : ∀ i j, ∃ r : ℝ, b (ix2 i j) = (r : EReal) := fun i j => real_of_abs (by have h' := congrFun h.2.1 (ix2 i j); pointwise [Cert.Pre_attn_finite.fn] at h'; exact h')
  have hd : ∀ i j, ∃ r : ℝ, d (ix2 i j) = (r : EReal) := fun i j => real_of_abs (by have h' := congrFun h.2.2.1 (ix2 i j); pointwise [Cert.Pre_attn_finite.fn] at h'; exact h')
  have he : ∀ i j, ∃ r : ℝ, e (ix2 i j) = (r : EReal) := fun i j => real_of_abs (by have h' := congrFun h.2.2.2 (ix2 i j); pointwise [Cert.Pre_attn_finite.fn] at h'; exact h')
  choose q hq using ha
  choose k hk using hb
  choose v hv using hd
  choose w hw using he
  exact ⟨q, k, v, w, hq, hk, hv, hw⟩

/-- A table read at numbers: zero outside. -/
noncomputable def tab {n : ℕ} (q : Fin 8192 → Fin n → ℝ) (t j : ℕ) : ℝ := if h : t < 8192 ∧ j < n then q ⟨t, h.1⟩ ⟨j, h.2⟩ else 0

theorem tab_at {n : ℕ} (q : Fin 8192 → Fin n → ℝ) (t j : ℕ) (ht : t < 8192) (hj : j < n) : tab q t j = q ⟨t, ht⟩ ⟨j, hj⟩ := dif_pos ⟨ht, hj⟩
theorem tab_out {n : ℕ} (q : Fin 8192 → Fin n → ℝ) (t j : ℕ) (ht : ¬ t < 8192) : tab q t j = 0 := dif_neg fun h => ht h.1

/-- The three packed arrays. -/
noncomputable def pack (q k v : Fin 8192 → Fin 512 → ℝ) (t j : ℕ) : ℝ :=
  if j < 512 then tab q t j * (1 / 8) else if j < 1024 then tab k t (j - 512) else tab v t (j - 1024)

section
variable (q k v d : Fin 8192 → Fin 512 → ℝ)

theorem pack_q (t j : ℕ) (hj : j < 512) : pack q k v t j = tab q t j * (1 / 8) := if_pos hj
theorem pack_k (t j : ℕ) (hj : j < 512) : pack q k v t (512 + j) = tab k t j := by
  unfold pack
  rw [if_neg (by omega), if_pos (by omega), Nat.add_sub_cancel_left]
theorem pack_v (t j : ℕ) : pack q k v t (1024 + j) = tab v t j := by
  unfold pack
  rw [if_neg (by omega), if_neg (by omega), Nat.add_sub_cancel_left]

/-- A sum over both heads of a pair, one of them masked, is the sum over the other. -/
theorem one_head (a : ℕ) (ha : a < 2) (f g : ℕ → ℝ) :
    ∑ x : Fin 128, (if (x : ℕ) / 64 = a then f x else 0) * g x = ∑ x : Fin 64, f (64 * a + x) * g (64 * a + x) := by
  rw [← Finset.sum_range (fun x => (if x / 64 = a then f x else 0) * g x), ← Finset.sum_range (fun x => f (64 * a + x) * g (64 * a + x)),
    show 128 = 64 + 64 from rfl, Finset.sum_range_add]
  obtain rfl | rfl : a = 0 ∨ a = 1 := by omega
  · rw [Finset.sum_eq_zero (s := Finset.range 64) (f := fun x => (if (64 + x) / 64 = 0 then f (64 + x) else 0) * g (64 + x))
      fun x hx => by rw [if_neg (by omega), zero_mul], add_zero]
    refine Finset.sum_congr rfl fun x hx => ?_
    have := Finset.mem_range.mp hx
    rw [if_pos (by omega), Nat.mul_zero, Nat.zero_add]
  · rw [Finset.sum_eq_zero (s := Finset.range 64) (f := fun x => (if x / 64 = 1 then f x else 0) * g x)
      fun x hx => by have := Finset.mem_range.mp hx; rw [if_neg (by omega), zero_mul], zero_add]
    refine Finset.sum_congr rfl fun x hx => ?_
    have := Finset.mem_range.mp hx
    rw [if_pos (by omega), Nat.mul_one]

theorem zf_pack (h : Fin 8) (t : Fin 8192) : zf (pack q k v) (h / 2) (h % 2) t = score q k h t := by
  funext s
  unfold zf
  refine (Finset.sum_congr rfl fun x _ => ?_).trans ((one_head (h % 2) (by omega) (fun x => tab q t (128 * (h / 2) + x)) (fun x => tab k s (128 * (h / 2) + x) * (1 / 8))).trans ?_)
  · rw [pack_q _ _ _ _ _ (by omega), Nat.add_assoc, pack_k _ _ _ _ _ (by omega)]
    split <;> ring
  · unfold score
    by_cases hs : s < 8192
    · rw [dif_pos hs, Finset.sum_mul]
      refine Finset.sum_congr rfl fun x _ => ?_
      have e : 128 * ((h : ℕ) / 2) + (64 * ((h : ℕ) % 2) + x) = h * 64 + x := by omega
      simp only [e]
      rw [tab_at _ _ _ t.isLt (by omega), tab_at _ _ _ hs (by omega), mul_assoc]
    · rw [dif_neg hs]
      exact Finset.sum_eq_zero fun x _ => by rw [tab_out _ _ _ hs, zero_mul, mul_zero]

theorem wf_pack (h : Fin 8) (t : Fin 8192) : wf (pack q k v) (tab d) (h / 2) (h % 2) t = cot v d h t := by
  funext s
  unfold wf
  refine (Finset.sum_congr rfl fun x _ => ?_).trans ((one_head (h % 2) (by omega) (fun x => tab d t (128 * (h / 2) + x)) (fun x => tab v s (128 * (h / 2) + x))).trans ?_)
  · rw [Nat.add_assoc, pack_v]
  · unfold cot
    by_cases hs : s < 8192
    · rw [dif_pos hs]
      refine Finset.sum_congr rfl fun x _ => ?_
      have e : 128 * ((h : ℕ) / 2) + (64 * ((h : ℕ) % 2) + x) = h * 64 + x := by omega
      simp only [e]
      rw [tab_at _ _ _ t.isLt (by omega), tab_at _ _ _ hs (by omega)]
    · rw [dif_neg hs]
      exact Finset.sum_eq_zero fun x _ => by rw [tab_out _ _ _ hs, mul_zero]

theorem heads (j : Fin 512) : (j : ℕ) / 128 = (hd j : ℕ) / 2 ∧ (j : ℕ) % 128 / 64 = (hd j : ℕ) % 2 := by
  show (j : ℕ) / 128 = (j : ℕ) / 64 / 2 ∧ (j : ℕ) % 128 / 64 = (j : ℕ) / 64 % 2
  omega

theorem yv_eq (t : Fin 8192) (j : Fin 512) : yv (pack q k v) t j = outY q k v t j := by
  unfold yv outY
  rw [Finset.sum_range, (heads j).1, (heads j).2, zf_pack]
  refine Finset.sum_congr rfl fun s _ => ?_
  rw [pack_v, tab_at v s j s.isLt j.isLt]

theorem qv_eq' (t : Fin 8192) (j : Fin 512) : qv (pack q k v) (tab d) t j = outQ q k v d t j := by
  unfold qv outQ
  rw [Finset.sum_range, (heads j).1, (heads j).2, zf_pack, wf_pack]
  refine congrArg (· * (1 / 8 : ℝ)) (Finset.sum_congr rfl fun s _ => ?_)
  rw [pack_k _ _ _ _ _ j.isLt, tab_at k s j s.isLt j.isLt]

theorem kv_eq (s : Fin 8192) (j : Fin 512) : kv (pack q k v) (tab d) 8192 s j = outK q k v d s j := by
  unfold kv outK
  rw [Finset.sum_range, (heads j).1, (heads j).2, Finset.sum_mul]
  refine Finset.sum_congr rfl fun t _ => ?_
  rw [zf_pack, wf_pack, pack_q _ _ _ _ _ j.isLt, tab_at q t j t.isLt j.isLt, mul_assoc]

theorem vv_eq (s : Fin 8192) (j : Fin 512) : vv (pack q k v) (tab d) 8192 s j = outV q k d s j := by
  unfold vv outV
  rw [Finset.sum_range, (heads j).1, (heads j).2]
  refine Finset.sum_congr rfl fun t _ => ?_
  rw [zf_pack, tab_at d t j t.isLt j.isLt]
end

variable (m : (ℓ : Loc nD τ sig) → Buf (Elt Ideal) ℓ) (ρ : Dev nD → PrngReg)

theorem packed (c : Dev nD) (s : Fin 8192) (j : Fin 1536) : V1 (F := Ideal) m ρ c main_v5 (ix2 s j) =
    if h : (j : ℕ) < 512 then HMul.hMul (α := EReal) (β := EReal) (γ := EReal) (m ((c : Thread nD τ).loc main_arg0) (ix2 s (⟨j, h⟩ : Fin 512))) (Ideal.ofBits .f32 0x3E000000#32)
    else if h : (j : ℕ) - 512 < 512 then m ((c : Thread nD τ).loc main_arg1) (ix2 s (⟨j - 512, h⟩ : Fin 512))
    else m ((c : Thread nD τ).loc main_arg2) (ix2 s (⟨j - 512 - 512, by omega⟩ : Fin 512)) := by
  show StableHlo.after hostOps0 (W0 m ρ c) (Proc.devRef .tc main_v5) (ix2 s j) = _
  after_reads_simp
  pointwise
  refine dite_congr rfl (fun h => ?_) fun h => dite_congr rfl (fun h => ?_) fun h => ?_
  · after_reads_simp
    pointwise
  · after_reads_simp
    pointwise
  · after_reads_simp
    pointwise

set_option backward.isDefEq.respectTransparency.types false in
theorem run : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Ha, -, Hb, -, Hc, -⟩, -⟩
      imodintro
      isplitl [Ha]; · iexact Ha
      isplitl [Hc]; · iexists _; iexact Hc
      iexists ∅; iexact Hb)
    (QY := fun c s => ∀ b ∈ Pipeline.ucRefs τ sig, s.mem (((c : Thread nD τ)).1, b) = W3 m ρ c b)
    (hfin := fun c s => by
      iintro ⟨⟨Ha, -⟩, Hs⟩
      unfold StableHlo.held
      imodintro
      iapply (pointsTo_read_all (Pipeline.ucRefs τ sig) (fun b => (((c : Thread nD τ)).1, b)) (W3 m ρ c) s)
      isplitl [Ha] <;> iassumption)
    (hQ := fun s h _ => h)

section
variable (q k v d : Fin 8192 → Fin 512 → ℝ) (c : Dev nD)
  (hq : ∀ i j, m ((c : Thread nD τ).loc main_arg0) (ix2 i j) = (q i j : EReal)) (hk : ∀ i j, m ((c : Thread nD τ).loc main_arg1) (ix2 i j) = (k i j : EReal))
  (hv : ∀ i j, m ((c : Thread nD τ).loc main_arg2) (ix2 i j) = (v i j : EReal)) (hd : ∀ i j, m ((c : Thread nD τ).loc main_arg3) (ix2 i j) = (d i j : EReal))

include hq hk hv in
theorem packed_at (s : Fin 8192) (j : Fin 1536) : V1 (F := Ideal) m ρ c main_v5 (ix2 s j) = (pack q k v s j : EReal) := by
  rw [packed]
  unfold pack
  by_cases h0 : (j : ℕ) < 512
  · rw [dif_pos h0, if_pos h0, hq, cEighth, ← EReal.coe_mul, tab_at q s j s.isLt h0]
  · rw [dif_neg h0, if_neg h0]
    by_cases h1 : (j : ℕ) - 512 < 512
    · rw [dif_pos h1, if_pos (by omega), hk, tab_at k s (j - 512) s.isLt h1]
    · rw [dif_neg h1, if_neg (by omega), hv, tab_at v s (j - 1024) s.isLt (by omega)]
      simp only [Nat.sub_sub]

include hq hk hv in
theorem y_val : W3 (F := Ideal) m ρ c (Proc.devRef .tc main_v6_0) = fun i => (yv (pack q k v) (i 0).val (i 1).val : EReal) :=
  (W3_of m ρ c main_v6_0 (by decide)).trans ((W2_arr m ρ c 3).trans (y_all (packed_at m ρ q k v c hq hk hv)))

include hq hk hv in
theorem cm_val (s : Fin 8192) (j : Fin 1024) : V2 (F := Ideal) m ρ c main_v6_1 (ix2 s j) = (cmv (pack q k v) s j : EReal) :=
  congrFun ((W2_arr m ρ c 4).trans (cm_all (packed_at m ρ q k v c hq hk hv))) (ix2 s j)

include hq hk hv in
theorem packed_at' (s : Fin 8192) (j : Fin 1536) : V2 (F := Ideal) m ρ c main_v5 (ix2 s j) = (pack q k v s j : EReal) :=
  (congrFun (W2_of m ρ c main_v5 (by decide)) (ix2 s j)).trans (packed_at m ρ q k v c hq hk hv s j)

include hd in
theorem ct_at (s : Fin 8192) (j : Fin 512) : V2 (F := Ideal) m ρ c main_arg3 (ix2 s j) = (tab d s j : EReal) :=
  (congrFun (W2_args m ρ c main_arg3 (by decide)) (ix2 s j)).trans ((hd s j).trans (by rw [tab_at d s j s.isLt j.isLt]))

end

/-- The calls' four results are the reference's, at finite arguments. -/
theorem algebraic : Cert.algebraic_AttnKernelIdeal_AttnReferenceIdeal_pre_attn_finite := fun m g m' g' hp hag => by
  refine ⟨_, _, _, _, (θ_run _ _ _).mono (fun r h c => ⟨h c _ (mem_uc main_v6_0 (by decide)), h c _ (mem_uc main_v7_0 (by decide)), h c _ (mem_uc main_v7_1 (by decide)),
    h c _ (mem_uc main_v7_2 (by decide)), (h c _ (mem_uc main_arg0 (by decide))).trans (W3_main_arg0 m g c), (h c _ (mem_uc main_arg1 (by decide))).trans (W3_main_arg1 m g c),
    (h c _ (mem_uc main_arg2 (by decide))).trans (W3_main_arg2 m g c), (h c _ (mem_uc main_arg3 (by decide))).trans (W3_main_arg3 m g c)⟩) (run m g),
    (θ_run _ _ _).mono (fun r h c => ?_) (Cert.AttnReferenceIdeal.Value.run m' g')⟩
  obtain ⟨hy, hdq, hdk, hdv, keep⟩ := h c
  obtain ⟨a0, a1, a2, a3⟩ := hag c
  obtain ⟨q, k, v, d, hq, hk, hv, hd⟩ := reals_of (hp c)
  have hX := packed_at' m g q k v c hq hk hv
  have hD := ct_at m g d c hd
  have hM := cm_val m g q k v c hq hk hv
  refine ⟨hy.trans ?_, hdq.trans ?_, hdk.trans ?_, hdv.trans ?_, keep⟩
  · rw [Cert.AttnReferenceIdeal.Read.val_main_v23_eq, a0, a1, a2]
    refine (funext fun i => ?_).trans (y_val m g q k v c hq hk hv).symm
    rw [show i = ix2 (i 0) (i 1) by blk_ext]
    exact (AttnRef.ref_y hq hk hv (i 0) (i 1)).trans (congrArg _ (yv_eq q k v (i 0) (i 1)).symm)
  · rw [Cert.AttnReferenceIdeal.Read.val_main_v47_eq, a0, a1, a2, a3]
    refine (funext fun i => ?_).trans ((W3_arr m g c 5).trans (dq_all hX hD hM)).symm
    rw [show i = ix2 (i 0) (i 1) by blk_ext]
    exact (AttnRef.ref_dq hq hk hv hd (i 0) (i 1)).trans (congrArg _ (qv_eq' q k v d (i 0) (i 1)).symm)
  · rw [Cert.AttnReferenceIdeal.Read.val_main_v46_eq, a0, a1, a2, a3]
    refine (funext fun i => ?_).trans ((W3_arr m g c 6).trans (dk_all hX hD hM)).symm
    rw [show i = ix2 (i 0) (i 1) by blk_ext]
    exact (AttnRef.ref_dk hq hk hv hd (i 0) (i 1)).trans (congrArg _ (kv_eq q k v d (i 0) (i 1)).symm)
  · rw [Cert.AttnReferenceIdeal.Read.val_main_v29_eq, a0, a1, a3]
    refine (funext fun i => ?_).trans ((W3_arr m g c 7).trans (dv_all hX hD hM)).symm
    rw [show i = ix2 (i 0) (i 1) by blk_ext]
    exact (AttnRef.ref_dv hq hk hd (i 0) (i 1)).trans (congrArg _ (vv_eq q k v d (i 0) (i 1)).symm)

end Cert.Attn
-- ==== Proof.Norm.lean ====
/- Laws on the extended reals of the root-mean-square norm `x ↦ x · (mean x² + ε)^(-1/2) · g` and of its gradient, and the
   values of the literals the programs write. Nothing here mentions a program. -/
module

public import Idealize.ShloMosaic.PureOps.Ideal.Laws
public import Idealize.ShloMosaic.Lib.IdealHost

@[expose] public section

noncomputable section

namespace Cert.Norm

open Idealize.ShloMosaic

/-! ## Literals -/

theorem c1024 : Ideal.ofBits .f32 0x44800000#32 = ((1024 : ℝ) : EReal) := by
  simp [Ideal.ofBits, Ideal.ieee, -EReal.coe_mul]; norm_num
theorem cInv1024 : Ideal.ofBits .f32 0x3A800000#32 = ((1 / 1024 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem cNegHalf : Ideal.ofBits .f32 0xBF000000#32 = ((-(1 / 2) : ℝ) : EReal) := by
  simp [Ideal.ofBits, Ideal.ieee, -EReal.coe_mul]; norm_num
theorem cTwo : Ideal.ofBits .f32 0x40000000#32 = ((2 : ℝ) : EReal) := by
  simp [Ideal.ofBits, Ideal.ieee, -EReal.coe_mul]; norm_num
/-- the norm's ε, whose value matters only through its sign -/
theorem cEps : ∃ e : ℝ, 0 < e ∧ Ideal.ofBits .f32 0x358637BD#32 = (e : EReal) := by
  refine ⟨_, ?_, by simp only [Ideal.ofBits, Ideal.ieee]; simp [-EReal.coe_mul]; rfl⟩
  norm_num

/-! ## Sums and squares -/

theorem sq_nonneg (x : EReal) : 0 ≤ x * x := by
  induction x using EReal.rec with
  | bot => simp
  | top => simp
  | coe r => exact_mod_cast mul_self_nonneg r

theorem add_self (x : EReal) : x + x = ((2 : ℝ) : EReal) * x := by
  induction x using EReal.rec with
  | bot => simp [EReal.coe_mul_bot_of_pos]
  | top => simp [EReal.coe_mul_top_of_pos]
  | coe r => rw [← EReal.coe_add, ← EReal.coe_mul, two_mul]

/-- a nonnegative real factor goes into a finite sum -/
theorem mul_sum_real {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-! ## The norm -/

/-- mean square plus ε, as the programs write it -/
abbrev meanSq {n : ℕ} (N e : EReal) (x : Fin n → EReal) : EReal := Ideal.div (∑ k, x k * x k) N + e

theorem meanSq_pos {n : ℕ} {N e : ℝ} (hN : 0 < N) (he : 0 < e) (x : Fin n → EReal) : 0 < meanSq (N : EReal) (e : EReal) x := by
  unfold meanSq
  rw [Ideal.div_coe hN.ne']
  have h1 : (0 : EReal) ≤ (∑ k, x k * x k) * ((1 / N : ℝ) : EReal) :=
    mul_nonneg (Finset.sum_nonneg fun k _ => sq_nonneg _) (by exact_mod_cast (by positivity : (0 : ℝ) ≤ 1 / N))
  calc (0 : EReal) < (e : EReal) := by exact_mod_cast he
    _ = 0 + (e : EReal) := (zero_add _).symm
    _ ≤ _ := by gcongr

/-- the quotient `a^(-1/2) / a` is the cube of `a^(-1/2)`, at every positive `a`, `⊤` included -/
theorem rsqrt_div_self {a : EReal} (ha : 0 < a) :
    Ideal.div (Ideal.rsqrt a) a = Ideal.rsqrt a * Ideal.rsqrt a * Ideal.rsqrt a := by
  induction a using EReal.rec with
  | bot => simp at ha
  | top => simp [Ideal.div]
  | coe r =>
    have hr : 0 < r := by exact_mod_cast ha
    rw [Ideal.div_coe hr.ne', Ideal.rsqrt_coe, if_neg (not_lt.mpr hr.le), if_neg hr.ne', ← EReal.coe_mul, ← EReal.coe_mul, ← EReal.coe_mul]
    congr 1
    have h := Real.mul_self_sqrt hr.le
    have h0 : Real.sqrt r ≠ 0 := (Real.sqrt_pos.mpr hr).ne'
    field_simp
    nlinarith [h]

/-- The gradient of the norm in its argument, written by hand (left) and as the chain rule leaves it (right): the products
    are re-associated and the two equal halves of the chain rule's `x · x` term are added. No distributive law is used, so
    nothing need be finite. -/
theorem grad_eq (N a x y m : EReal) {n : ℝ} (hN : N = (n : EReal)) (hn : n ≠ 0) (ha : 0 < a) :
    Ideal.rsqrt a * y - x * (Ideal.rsqrt a * Ideal.rsqrt a * Ideal.rsqrt a) * Ideal.div m N
      = y * Ideal.rsqrt a + x * Ideal.div (m * (((-(1 / 2) : ℝ) : EReal) * Ideal.div (Ideal.rsqrt a) a)) N
        + Ideal.div (m * (((-(1 / 2) : ℝ) : EReal) * Ideal.div (Ideal.rsqrt a) a)) N * x := by
  rw [rsqrt_div_self ha, hN, Ideal.div_coe hn, Ideal.div_coe hn]
  generalize Ideal.rsqrt a * Ideal.rsqrt a * Ideal.rsqrt a = r3
  rw [mul_comm _ x, add_assoc, add_self, sub_eq_add_neg, mul_comm y]
  congr 1
  have h : ((2 : ℝ) : EReal) * ((-(1 / 2) : ℝ) : EReal) = -1 := by
    rw [← EReal.coe_mul]; norm_num
  calc -(x * r3 * (m * ((1 / n : ℝ) : EReal))) = -1 * (x * r3 * (m * ((1 / n : ℝ) : EReal))) := by rw [neg_one_mul]
    _ = (((2 : ℝ) : EReal) * ((-(1 / 2) : ℝ) : EReal)) * (x * r3 * (m * ((1 / n : ℝ) : EReal))) := by rw [h]
    _ = _ := by ac_rfl

/-- a sum over a row in two parts -/
theorem sum_two (p q n : ℕ) (h : p + q = n) (f : Fin n → EReal) :
    ∑ x, f x = ∑ l : Fin p, f ⟨l.val, by omega⟩ + ∑ l : Fin q, f ⟨p + l.val, by omega⟩ := by
  subst h; rw [Fin.sum_univ_add]; rfl

/-! ## The norm of a row of 1024 -/

/-- the scale of the norm of a row -/
def rho (x : Fin 1024 → EReal) : EReal :=
  meanSq (Ideal.ofBits .f32 0x44800000#32) (Ideal.ofBits .f32 0x358637BD#32) x

theorem rho_pos (x : Fin 1024 → EReal) : 0 < rho x := by
  obtain ⟨e, he, h⟩ := cEps
  unfold rho; rw [c1024, h]; exact meanSq_pos (by norm_num) he x

/-- the gradient of the norm of the row `x` with the gain `g`, at the cotangent `y`, as a kernel writes it by hand -/
def normGrad (x g y : Fin 1024 → EReal) (j : Fin 1024) : EReal :=
  Ideal.rsqrt (rho x) * (y j * g j) - x j * (Ideal.rsqrt (rho x) * Ideal.rsqrt (rho x) * Ideal.rsqrt (rho x))
    * Ideal.div (∑ k, y k * g k * x k) (Ideal.ofBits .f32 0x44800000#32)

/-- the same gradient as the chain rule leaves it -/
theorem normGrad_eq (x g y : Fin 1024 → EReal) (j : Fin 1024) : normGrad x g y j
    = y j * g j * Ideal.rsqrt (rho x)
      + x j * Ideal.div ((∑ k, x k * (y k * g k)) * (((-(1 / 2) : ℝ) : EReal) * Ideal.div (Ideal.rsqrt (rho x)) (rho x))) (Ideal.ofBits .f32 0x44800000#32)
      + Ideal.div ((∑ k, x k * (y k * g k)) * (((-(1 / 2) : ℝ) : EReal) * Ideal.div (Ideal.rsqrt (rho x)) (rho x))) (Ideal.ofBits .f32 0x44800000#32) * x j := by
  simp only [mul_comm (x _) (y _ * g _)]
  exact grad_eq _ _ _ _ _ c1024 (by norm_num) (rho_pos x)

end Cert.Norm

end
-- ==== Proof.Loss.lean ====
/- The loss and the gradients of the last norm: what each grid point of the kernel leaves in its blocks, and what the
   reference computes at an index, both as functions of one row of `x`, of the target and of the gain. -/
module

public import proofs.«01_k».proof.Proof.Gen.LossKernelIdeal.Value
public import proofs.«01_k».proof.Proof.Gen.LossReferenceIdeal.Read
public import proofs.«01_k».proof.Proof.Norm
public import Idealize.ShloMosaic.Lib.Pipeline.ValueKit
public import Idealize.ShloMosaic.Lib.Pointwise

@[expose] public section

set_option maxRecDepth 16384

noncomputable section

namespace Cert.Loss

open Idealize.ShloMosaic Idealize.ShloMosaic.TcCoe Idealize.SL.Sem
open Idealize.ShloMosaic.Pipeline (Dat)
open Cert.LossKernelIdeal Cert.LossKernelIdeal.Gen
open Cert.LossReferenceIdeal.Read
open Cert.Norm

/-- the error of a row: normed, times the gain, less the target -/
def err (x g t : Fin 1024 → EReal) (k : Fin 1024) : EReal := x k * Ideal.rsqrt (rho x) * g k - t k
/-- the cotangent the loss sends to the normed row -/
def ct (x g t : Fin 1024 → EReal) (k : Fin 1024) : EReal := err x g t k * Ideal.ofBits .f32 0x3A800000#32

/-! ## The kernel's values -/

variable (x : FVec Ideal S256x1024 .f32) (g : FVec Ideal S1x1024 .f32) (t : FVec Ideal S256x1024 .f32)

/-- row `i` of a block -/
abbrev row (x : FVec Ideal S256x1024 .f32) (i : Fin 256) (k : Fin 1024) : EReal := x (ix2 i k)
/-- the gain's one row -/
abbrev gain (g : FVec Ideal S1x1024 .f32) (k : Fin 1024) : EReal := g (ix2 0 k)

theorem pay1_at (i : Fin 256) (a : Fin 1) : k0_pay1 (F := Ideal) x (ix2 i a) = Ideal.rsqrt (rho (row x i)) := by
  pointwise [k0_pay1, rho]

theorem pay6_eq : k0_pay6 (F := Ideal) x = x := by funext j; pointwise [k0_pay6]
theorem pay7_eq : k0_pay7 (F := Ideal) g = g := by funext j; pointwise [k0_pay7]

theorem pay8_at (i : Fin 256) (k : Fin 1024) :
    k0_pay8 (F := Ideal) x g t (ix2 i k) = err (row x i) (gain g) (row t i) k := by
  pointwise [k0_pay8, k0_pay6, k0_pay7, err, rho]

theorem pay10_at (i : Fin 256) (k : Fin 1024) :
    k0_pay10 (F := Ideal) x g t (ix2 i k) = ct (row x i) (gain g) (row t i) k := by
  pointwise [k0_pay10, ct]; rw [pay8_at]

/-- what the body stores in the gradient of `x` -/
theorem pay2_at (i : Fin 256) (j : Fin 1024) :
    k0_pay2 (F := Ideal) (k0_pay6 x) (k0_pay7 g) (k0_pay10 x g t) (ix2 i j)
      = Ideal.rsqrt (rho (row x i)) * (ct (row x i) (gain g) (row t i) j * gain g j)
        - row x i j * (Ideal.rsqrt (rho (row x i)) * Ideal.rsqrt (rho (row x i)) * Ideal.rsqrt (rho (row x i)))
          * Ideal.div (∑ k, ct (row x i) (gain g) (row t i) k * gain g k * row x i k) (Ideal.ofBits .f32 0x44800000#32) := by
  rw [pay6_eq, pay7_eq]
  pointwise [k0_pay2]
  simp only [pay1_at, pay10_at]

/-- what the body adds to the gradient of the gain -/
theorem pay3_at (acc : FVec Ideal S1x1024 .f32) (a : Fin 1) (j : Fin 1024) :
    k0_pay3 (F := Ideal) (k0_pay6 x) (k0_pay10 x g t) acc (ix2 a j)
      = acc (ix2 a j) + ∑ i : Fin 256, ct (row x i) (gain g) (row t i) j * row x i j * Ideal.rsqrt (rho (row x i)) := by
  rw [pay6_eq]
  pointwise [k0_pay3]
  simp only [pay1_at, pay10_at]

/-- what the body adds to the loss -/
theorem pay9_at (acc : FVec Ideal S1x1 .f32) (a b : Fin 1) :
    k0_pay9 (F := Ideal) x g t acc (ix2 a b)
      = acc (ix2 a b) + Ideal.ofBits .f32 0x3F000000#32 * ∑ i : Fin 256,
          Ideal.div (∑ k, err (row x i) (gain g) (row t i) k * err (row x i) (gain g) (row t i) k) (Ideal.ofBits .f32 0x44800000#32) := by
  pointwise [k0_pay9]
  simp only [pay8_at]

/-! ## The reference's values -/

variable (X : FVec Ideal Cert.LossReferenceIdeal.S1x8192x1024 .f32) (G : FVec Ideal Cert.LossReferenceIdeal.S1024 .f32)
  (T : FVec Ideal Cert.LossReferenceIdeal.S1x8192x1024 .f32)

/-- row `i` of an argument -/
abbrev Row (X : FVec Ideal Cert.LossReferenceIdeal.S1x8192x1024 .f32) (i : Fin 8192) (k : Fin 1024) : EReal := X (ix3 0 i k)
abbrev Gain (G : FVec Ideal Cert.LossReferenceIdeal.S1024 .f32) (k : Fin 1024) : EReal := G (ix1 k)

theorem ref_x (i : Fin 8192) (k : Fin 1024) : val_main_v1 (F := Ideal) X (ix2 i k) = Row X i k := by
  pointwise [val_main_v1]

theorem ref_rho (i : Fin 8192) (a : Fin 1) : val_main_v8 (F := Ideal) X (ix2 i a) = rho (Row X i) := by
  pointwise [val_main_v8, val_main_v7, val_main_v6, val_main_v5, val_main_v4, val_main_v3, val_main_v2, val_main_v1, val_main_cst, val_main_cst_0, val_main_cst_1, rho]

theorem ref_r (i : Fin 8192) (a : Fin 1) : val_main_v9 (F := Ideal) X (ix2 i a) = Ideal.rsqrt (rho (Row X i)) := by
  pointwise [val_main_v9]; rw [ref_rho]

theorem ref_xr (i : Fin 8192) (k : Fin 1024) : val_main_v14 (F := Ideal) X (ix2 i k) = Row X i k * Ideal.rsqrt (rho (Row X i)) := by
  pointwise [val_main_v14, val_main_v13]; rw [ref_r, ref_x]

theorem ref_err (i : Fin 8192) (k : Fin 1024) : val_main_v18 (F := Ideal) X G T (ix2 i k) = err (Row X i) (Gain G) (Row T i) k := by
  pointwise [val_main_v18, val_main_v17, val_main_v16, val_main_v15, val_main_v0, err]; rw [ref_xr]

theorem ref_ct (i : Fin 8192) (k : Fin 1024) : val_main_v32 (F := Ideal) X G T (ix2 i k) = ct (Row X i) (Gain G) (Row T i) k := by
  pointwise [val_main_v32, val_main_v31, val_main_v30, val_main_v29, val_main_v28, val_main_v27, val_main_v21, val_main_v20, val_main_cst_3, val_main_cst_8, val_main_cst_9, val_main_cst_10]
  rw [ref_err, ct, cHalf, c1024, cTwo, cInv1024, Ideal.div_coe (by norm_num), mul_comm (err _ _ _ _), ← mul_assoc,
    ← EReal.coe_mul, ← EReal.coe_mul]
  norm_num

theorem ref_loss (a b : Fin 1) : val_main_v53 (F := Ideal) X G T (ix2 a b)
    = Ideal.ofBits .f32 0x3F000000#32 * ∑ i : Fin 8192,
          Ideal.div (∑ k, err (Row X i) (Gain G) (Row T i) k * err (Row X i) (Gain G) (Row T i) k) (Ideal.ofBits .f32 0x44800000#32) := by
  pointwise [val_main_v53, val_main_v26, val_main_v25, val_main_v24, val_main_v23, val_main_v22, val_main_v19, val_main_cst_7, val_main_cst_6, val_main_cst_5, val_main_cst_4]
  simp only [ref_err]

theorem ref_dg (a : Fin 1) (j : Fin 1024) : val_main_v54 (F := Ideal) X G T (ix2 a j)
    = ∑ i : Fin 8192, ct (Row X i) (Gain G) (Row T i) j * Row X i j * Ideal.rsqrt (rho (Row X i)) := by
  pointwise [val_main_v54, val_main_v38, val_main_v35, val_main_v34, val_main_v33, val_main_cst_11, val_main_cst_12]
  simp only [ref_ct, ref_xr, Finset.univ_unique, Finset.sum_singleton]
  exact Finset.sum_congr rfl fun i _ => by rw [mul_comm, ← mul_assoc]

theorem ref_dx (i : Fin 8192) (j : Fin 1024) : val_main_v52 (F := Ideal) X G T (ix2 i j)
    = Ideal.rsqrt (rho (Row X i)) * (ct (Row X i) (Gain G) (Row T i) j * Gain G j)
        - Row X i j * (Ideal.rsqrt (rho (Row X i)) * Ideal.rsqrt (rho (Row X i)) * Ideal.rsqrt (rho (Row X i)))
          * Ideal.div (∑ k, ct (Row X i) (Gain G) (Row T i) k * Gain G k * Row X i k) (Ideal.ofBits .f32 0x44800000#32) := by
  rw [grad_eq (Ideal.ofBits .f32 0x44800000#32) (rho (Row X i)) _ _ _ c1024 (by norm_num) (rho_pos _)]
  pointwise [val_main_v52, val_main_v51, val_main_v50, val_main_v49, val_main_v48, val_main_v47, val_main_v46, val_main_v45, val_main_v44, val_main_v43, val_main_v42, val_main_v41, val_main_v40, val_main_v39, val_main_v37, val_main_v36, val_main_v15, val_main_v12, val_main_v11, val_main_v10, val_main_cst_2, val_main_cst_13, val_main_cst_14, val_main_cst_15]
  simp only [ref_ct, ref_x, ref_r, ref_rho, cNegHalf, Finset.univ_unique, Finset.sum_singleton, mul_comm (Row X i _) (_ * _)]

end Cert.Loss
end
-- ==== Proof.LossRun.lean ====
/- The loss and the gradients of the last norm: the kernel's three result arrays after its run are the reference's. -/
module

public import proofs.«01_k».proof.Proof.Loss
public import proofs.«01_k».proof.Defs

@[expose] public section

set_option maxRecDepth 16384

noncomputable section

namespace Cert.Loss

open Idealize.ShloMosaic Idealize.ShloMosaic.TcCoe Idealize.SL.Sem
open Idealize.ShloMosaic.Pipeline (Dat)
open Cert.LossKernelIdeal Cert.LossKernelIdeal.Gen
open Cert.LossReferenceIdeal.Read
open Cert.Norm

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ t.val < 32 :=
  (by decide +kernel : ∀ t : Fin grid0.N, _)

theorem pt_lt (t : Fin cfg0.N) (i : Fin 256) : t.val * 256 + i.val < 8192 := by
  have := (idx t).2.2.2.2.2.2; omega

/-- the array row a block's row `i` sits at -/
abbrev at_ (t : Fin cfg0.N) (i : Fin 256) : Fin 8192 := ⟨t.val * 256 + i.val, pt_lt t i⟩

theorem blk_x (c : Dev nD) (t : Fin cfg0.N) (i : Fin 256) :
    row (iblk m c 0 t) i = Row (m ((c : Thread nD τ).loc main_arg0)) (at_ t i) := by
  funext k
  show iblk m c 0 t (ix2 i k) = m ((c : Thread nD τ).loc main_arg0) (ix3 0 (at_ t i) k)
  blk_point [iblk, idx t]

theorem blk_g (c : Dev nD) (t : Fin cfg0.N) :
    gain (iblk m c 1 t) = Gain (m ((c : Thread nD τ).loc main_arg1)) := by
  funext k
  show iblk m c 1 t (ix2 0 k) = m ((c : Thread nD τ).loc main_arg1) (ix1 k)
  blk_point [iblk, idx t]

theorem blk_t (c : Dev nD) (t : Fin cfg0.N) (i : Fin 256) :
    row (iblk m c 2 t) i = Row (m ((c : Thread nD τ).loc main_arg2)) (at_ t i) := by
  funext k
  show iblk m c 2 t (ix2 i k) = m ((c : Thread nD τ).loc main_arg2) (ix3 0 (at_ t i) k)
  blk_point [iblk, idx t]

/-- the arguments' row `i` and gain, by short names -/
abbrev RX (c : Dev nD) := Row (m ((c : Thread nD τ).loc main_arg0))
abbrev RG (c : Dev nD) := Gain (m ((c : Thread nD τ).loc main_arg1))
abbrev RT (c : Dev nD) := Row (m ((c : Thread nD τ).loc main_arg2))

/-- every point stores the gradient of its own rows -/
theorem dx_block (c : Dev nD) (t : Fin cfg0.N) (i : Fin 256) (j : Fin 1024) :
    (outsAt0 m c t.val t.isLt).2.1 (ix2 i j)
      = val_main_v52 (F := Ideal) (m ((c : Thread nD τ).loc main_arg0)) (m ((c : Thread nD τ).loc main_arg1))
          (m ((c : Thread nD τ).loc main_arg2)) (ix2 (at_ t i) j) := by
  refine Eq.trans ?_ (ref_dx _ _ _ _ _).symm
  by_cases h : t.val % 32 = 0
  · rw [outsAt0_A m c t h]; frame_out
    refine (pay2_at _ _ _ i j).trans ?_
    rw [blk_x, blk_g, blk_t]
  · rw [outsAt0_B m c t h]; frame_out
    refine (pay2_at _ _ _ i j).trans ?_
    rw [blk_x, blk_g, blk_t]

theorem final_dx (c : Dev nD) : (dats m 0 c).arrAt 4 cfg0.N
    = val_main_v52 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have hy : y = ix2 (y 0) (y 1) := by blk_ext
  have he : ((win0_4.blk t).view.emb y) = ix2 (at_ t (y 0)) (y 1) := by blk_ext [idx t]
  rw [he]
  exact (congrArg _ hy).trans (dx_block m c t (y 0) (y 1))

theorem last_of_flush (t : Fin cfg0.N) (h : t.val % 32 = 31) : t.val + 1 = cfg0.N := by
  have := (idx t).2.2.2.2.2.2
  show t.val + 1 = grid0.N
  rw [N_0]; omega

/-- after the last point the gain's gradient has every row's part -/
theorem dg_at (c : Dev nD) (t : Fin cfg0.N) (ht : t.val % 32 = 31) (a : Fin 1) (j : Fin 1024) :
    (outsAt0 m c t.val t.isLt).2.2 (ix2 a j)
      = val_main_v54 (F := Ideal) (m ((c : Thread nD τ).loc main_arg0)) (m ((c : Thread nD τ).loc main_arg1))
          (m ((c : Thread nD τ).loc main_arg2)) (ix2 a j) := by
  rw [ref_dg, Pipeline.eq_sum_fin_of_reset_step_apply_last (fun n h => (outsAt0 m c n h).2.2) 32 (fun _ => 0)
    (fun t y => ∑ i : Fin 256, ct (RX m c (at_ t i)) (RG m c) (RT m c (at_ t i)) (y 1) * RX m c (at_ t i) (y 1) * Ideal.rsqrt (rho (RX m c (at_ t i))))
    (fun t h y => by
      rw [outsAt0_A m c t h]; frame_out
      idx_vars y
      refine (pay3_at _ _ _ _ _ _).trans (congrArg₂ (· + ·) (by pointwise [k0_pay5]) (Finset.sum_congr rfl fun i _ => ?_))
      rw [blk_x, blk_g, blk_t])
    (fun t h y => by
      rw [outsAt0_B m c t h]; frame_out
      idx_vars y
      refine (pay3_at _ _ _ _ _ _).trans (congrArg₂ (· + ·) rfl (Finset.sum_congr rfl fun i _ => ?_))
      rw [blk_x, blk_g, blk_t])
    (le_of_eq N_0) t (last_of_flush t ht) _, zero_add]
  exact Fin.sum_mul_add_congr fun t i hl => rfl

theorem final_dg (c : Dev nD) : (dats m 0 c).arrAt 5 cfg0.N
    = val_main_v54 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have hy : y = ix2 (y 0) (y 1) := by blk_ext
  have he : ((win0_5.blk t).view.emb y) = ix2 (y 0) (y 1) := by blk_ext [idx t]
  rw [he]
  exact (congrArg _ hy).trans (dg_at m c t ((flush0_5 t).mp hf) (y 0) (y 1))

/-- after the last point the loss has every row's part; the factor one half goes into the sum -/
theorem loss_at (c : Dev nD) (t : Fin cfg0.N) (ht : t.val % 32 = 31) (a b : Fin 1) :
    (outsAt0 m c t.val t.isLt).1 (ix2 a b)
      = val_main_v53 (F := Ideal) (m ((c : Thread nD τ).loc main_arg0)) (m ((c : Thread nD τ).loc main_arg1))
          (m ((c : Thread nD τ).loc main_arg2)) (ix2 a b) := by
  rw [ref_loss, Pipeline.eq_sum_fin_of_reset_step_apply_last (fun n h => (outsAt0 m c n h).1) 32 (fun _ => 0)
    (fun t y => Ideal.ofBits .f32 0x3F000000#32 * ∑ i : Fin 256, Ideal.div (∑ k, err (RX m c (at_ t i)) (RG m c) (RT m c (at_ t i)) k
      * err (RX m c (at_ t i)) (RG m c) (RT m c (at_ t i)) k) (Ideal.ofBits .f32 0x44800000#32))
    (fun t h y => by
      rw [outsAt0_A m c t h]; frame_out
      idx_vars y
      refine (pay9_at _ _ _ _ _ _).trans (congrArg₂ (· + ·) (by pointwise [k0_pay4]) (congrArg _ (Finset.sum_congr rfl fun i _ => ?_)))
      rw [blk_x, blk_g, blk_t])
    (fun t h y => by
      rw [outsAt0_B m c t h]; frame_out
      idx_vars y
      refine (pay9_at _ _ _ _ _ _).trans (congrArg₂ (· + ·) rfl (congrArg _ (Finset.sum_congr rfl fun i _ => ?_)))
      rw [blk_x, blk_g, blk_t])
    (le_of_eq N_0) t (last_of_flush t ht) _, zero_add, cHalf, mul_sum_real _ _ (by norm_num)]
  simp only [mul_sum_real _ _ (by norm_num : (0 : ℝ) ≤ 1 / 2)]
  exact Fin.sum_mul_add_congr fun t i hl => rfl

theorem final_loss (c : Dev nD) : (dats m 0 c).arrAt 3 cfg0.N
    = val_main_v53 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hy : y = ix2 (y 0) (y 1) := by blk_ext
  have he : ((win0_3.blk t).view.emb y) = ix2 (y 0) (y 1) := by blk_ext [idx t]
  rw [he]
  exact (congrArg _ hy).trans (loss_at m c t ((flush0_3 t).mp hf) (y 0) (y 1))

/-! ## The claim -/

theorem algebraic : Cert.algebraic_LossKernelIdeal_LossReferenceIdeal := fun m g m' g' _ hag => by
  refine ⟨_, _, _, Value.run_blocks m g, (θ_run _ _ _).mono (fun r h c => ?_) (Cert.LossReferenceIdeal.Value.run m' g')⟩
  obtain ⟨h53, h52, h54, k0, k1, k2⟩ := h c
  obtain ⟨a0, a1, a2⟩ := hag c
  refine ⟨h53.trans ?_, h52.trans ?_, h54.trans ?_, k0, k1, k2⟩
  · rw [final_loss, a0, a1, a2]; rfl
  · rw [final_dx, val_main_v52_eq, a0, a1, a2]
  · rw [final_dg, a0, a1, a2]; rfl

end Cert.Loss

end
-- ==== Proof.Inproj.lean ====
/- The first norm under the input projection: the gradient of the block's input and of the norm's gain. The cotangents of the five
   groups of columns go through the transposed projection, then through the norm. -/
module

public import proofs.«01_k».proof.Proof.Gen.InprojKernelIdeal.Value
public import proofs.«01_k».proof.Proof.Gen.InprojReferenceIdeal.Run
public import proofs.«01_k».proof.Proof.Gen.InprojReferenceIdeal.Read
public import proofs.«01_k».proof.Proof.Norm
public import proofs.«01_k».proof.Defs
public import Idealize.ShloMosaic.Lib.Pipeline.ValueKit
public import Idealize.ShloMosaic.Lib.Pointwise

@[expose] public section

set_option maxRecDepth 16384

noncomputable section

namespace Cert.Inproj

open Idealize.ShloMosaic Idealize.ShloMosaic.TcCoe Idealize.SL.Sem
open Idealize.ShloMosaic.Pipeline (Dat)
open Cert.InprojKernelIdeal Cert.InprojKernelIdeal.Gen
open Cert.InprojReferenceIdeal.Read
open Cert.Norm

/-- the cotangent of the normed row: the five pieces of the projection's cotangent against the five groups of its columns -/
def dh (a q k v : Fin 512 → EReal) (p : Fin 256 → EReal) (w : Fin 1024 → Fin 2304 → EReal) (j : Fin 1024) : EReal :=
  (((∑ l : Fin 512, a l * w j ⟨l.val, by omega⟩ + ∑ l : Fin 512, q l * w j ⟨512 + l.val, by omega⟩)
    + ∑ l : Fin 512, k l * w j ⟨1024 + l.val, by omega⟩) + ∑ l : Fin 512, v l * w j ⟨1536 + l.val, by omega⟩)
    + ∑ l : Fin 256, p l * w j ⟨2048 + l.val, by omega⟩

/-! ## The kernel's values -/

theorem pay1_at (a q k v : FVec Ideal S256x512 .f32) (p : FVec Ideal S256x256 .f32) (w0 w1 w2 w3 : FVec Ideal S512x1024 .bf16)
    (w4 : FVec Ideal S256x1024 .bf16) (i : Fin 256) (j : Fin 1024) :
    k0_pay1 (F := Ideal) a w0 q w1 k w2 v w3 p w4 (ix2 i j)
      = (((∑ l : Fin 512, a (ix2 i l) * w0 (ix2 l j) + ∑ l : Fin 512, q (ix2 i l) * w1 (ix2 l j))
        + ∑ l : Fin 512, k (ix2 i l) * w2 (ix2 l j)) + ∑ l : Fin 512, v (ix2 i l) * w3 (ix2 l j))
        + ∑ l : Fin 256, p (ix2 i l) * w4 (ix2 l j) := by
  pointwise [k0_pay1]

variable (y x : FVec Ideal S256x1024 .f32) (g : FVec Ideal S1x1024 .f32)

theorem pay2_at (i : Fin 256) (a : Fin 1) : k0_pay2 (F := Ideal) x (ix2 i a) = Ideal.rsqrt (rho fun k => x (ix2 i k)) := by
  pointwise [k0_pay2, rho]

theorem pay3_at (r : FVec Ideal S256x1024 .f32) (i : Fin 256) (j : Fin 1024) :
    k0_pay3 (F := Ideal) y x g r (ix2 i j)
      = r (ix2 i j) + normGrad (fun k => x (ix2 i k)) (fun k => g (ix2 0 k)) (fun k => y (ix2 i k)) j := by
  pointwise [k0_pay3, normGrad]
  simp only [pay2_at]

theorem pay5_at (acc : FVec Ideal S1x1024 .f32) (a : Fin 1) (j : Fin 1024) :
    k0_pay5 (F := Ideal) y x acc (ix2 a j)
      = acc (ix2 a j) + ∑ i : Fin 256, y (ix2 i j) * x (ix2 i j) * Ideal.rsqrt (rho fun k => x (ix2 i k)) := by
  pointwise [k0_pay5]
  simp only [pay2_at]

/-! ## The reference's values -/

variable (A Q K V : FVec Ideal Cert.InprojReferenceIdeal.S8192x512 .f32) (P : FVec Ideal Cert.InprojReferenceIdeal.S8192x256 .f32)
  (W : FVec Ideal Cert.InprojReferenceIdeal.S1024x2304 .f32) (X : FVec Ideal Cert.InprojReferenceIdeal.S8192x1024 .f32)
  (G : FVec Ideal Cert.InprojReferenceIdeal.S1024 .f32) (R : FVec Ideal Cert.InprojReferenceIdeal.S8192x1024 .f32)

/-- the normed row's cotangent, of the arguments -/
def DH (i : Fin 8192) : Fin 1024 → EReal :=
  dh (fun l => A (ix2 i l)) (fun l => Q (ix2 i l)) (fun l => K (ix2 i l)) (fun l => V (ix2 i l)) (fun l => P (ix2 i l))
    (fun j l => W (ix2 j l))

theorem ref_dh (i : Fin 8192) (j : Fin 1024) : val_main_v18 (F := Ideal) A Q K V P W (ix2 i j) = DH A Q K V P W i j := by
  pointwise [val_main_v18, val_main_v17]
  unfold DH dh
  rw [sum_two 2048 256 2304 rfl, sum_two 1536 512 2048 rfl, sum_two 1024 512 1536 rfl, sum_two 512 512 1024 rfl]
  refine congrArg₂ (· + ·) (congrArg₂ (· + ·) (congrArg₂ (· + ·) (congrArg₂ (· + ·) ?_ ?_) ?_) ?_) ?_ <;>
  · refine Finset.sum_congr rfl fun l _ => congrArg (· * _) ?_
    have hl := l.isLt
    dsimp only
    split_ifs <;> first | omega | rfl | (congr 2; exact Fin.ext (by dsimp only; omega))

/-- the row `i` of the input, and the gain -/
abbrev XR (i : Fin 8192) : Fin 1024 → EReal := fun k => X (ix2 i k)
abbrev GR : Fin 1024 → EReal := fun k => G (ix1 k)

theorem ref_rho (i : Fin 8192) (a : Fin 1) : val_main_v6 (F := Ideal) X (ix2 i a) = rho (XR X i) := by
  pointwise [val_main_v6, val_main_v5, val_main_v4, val_main_v3, val_main_v2, val_main_v1, val_main_v0, val_main_cst, val_main_cst_0, val_main_cst_1, rho, meanSq]

theorem ref_dx (i : Fin 8192) (j : Fin 1024) : val_main_v39 (F := Ideal) A Q K V P W X G R (ix2 i j)
    = R (ix2 i j) + normGrad (XR X i) (GR G) (DH A Q K V P W i) j := by
  rw [normGrad_eq]
  pointwise [val_main_v39, val_main_v37, val_main_v30, val_main_v29, val_main_v23, val_main_v22, val_main_v13, val_main_v28, val_main_v7, val_main_v36, val_main_v35, val_main_v34, val_main_v33, val_main_v31, val_main_v27, val_main_v26, val_main_v25, val_main_cst_5, val_main_v10, val_main_v9, val_main_cst_2, val_main_v8, val_main_v32, val_main_cst_6, val_main_cst_7, val_main_v38]
  simp only [ref_dh, ref_rho, Finset.univ_unique, Finset.sum_singleton]
  rw [cNegHalf, ← add_assoc, ← add_assoc]

theorem ref_dg (a : Fin 1) (j : Fin 1024) : val_main_v40 (F := Ideal) A Q K V P W X (ix2 a j)
    = ∑ i : Fin 8192, DH A Q K V P W i j * X (ix2 i j) * Ideal.rsqrt (rho (XR X i)) := by
  pointwise [val_main_v40, val_main_v24, val_main_v21, val_main_v20, val_main_v19, val_main_v12, val_main_v11, val_main_v7, val_main_cst_3, val_main_cst_4]
  simp only [ref_dh, ref_rho, Finset.univ_unique, Finset.sum_singleton]
  exact Finset.sum_congr rfl fun i _ => by rw [mul_comm, ← mul_assoc]

/-! ## The blocks -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![0, 0] ∧ t.val < 32 :=
  (by decide +kernel : ∀ t : Fin grid0.N, _)

theorem pt_lt (t : Fin cfg0.N) (i : Fin 256) : t.val * 256 + i.val < 8192 := by
  have := (idx t).2.2.2.2.2.2.2.2.2.2.2; omega

/-- the array row a block's row `i` sits at -/
abbrev at_ (t : Fin cfg0.N) (i : Fin 256) : Fin 8192 := ⟨t.val * 256 + i.val, pt_lt t i⟩

section
variable (c : Dev nD) (t : Fin cfg0.N)
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)

theorem blk_0 (i : Fin 256) (k : Fin 512) : iblk m c 0 t (ix2 i k) = A0 m c (ix2 (at_ t i) k) := by blk_point [iblk, idx t]
theorem blk_1 (i : Fin 256) (k : Fin 512) : iblk m c 1 t (ix2 i k) = A1 m c (ix2 (at_ t i) k) := by blk_point [iblk, idx t]
theorem blk_2 (i : Fin 256) (k : Fin 512) : iblk m c 2 t (ix2 i k) = A2 m c (ix2 (at_ t i) k) := by blk_point [iblk, idx t]
theorem blk_3 (i : Fin 256) (k : Fin 512) : iblk m c 3 t (ix2 i k) = A3 m c (ix2 (at_ t i) k) := by blk_point [iblk, idx t]
theorem blk_4 (i : Fin 256) (k : Fin 256) : iblk m c 4 t (ix2 i k) = A4 m c (ix2 (at_ t i) k) := by blk_point [iblk, idx t]
theorem blk_5 (l : Fin 2304) (k : Fin 1024) : iblk m c 5 t (ix2 l k) = A5 m c (ix2 k l) := by blk_point [iblk, idx t]
theorem blk_6 (i : Fin 256) : (fun k => iblk m c 6 t (ix2 i k)) = XR (A6 m c) (at_ t i) := by
  funext k; show iblk m c 6 t (ix2 i k) = A6 m c (ix2 (at_ t i) k); blk_point [iblk, idx t]
theorem blk_7 : (fun k => iblk m c 7 t (ix2 0 k)) = GR (A7 m c) := by
  funext k; show iblk m c 7 t (ix2 0 k) = A7 m c (ix1 k); blk_point [iblk, idx t]
theorem blk_8 (i : Fin 256) (k : Fin 1024) : iblk m c 8 t (ix2 i k) = A8 m c (ix2 (at_ t i) k) := by blk_point [iblk, idx t]
end

/-- a slice of the weight's rows -/
theorem ld_512 (B : Vec Ideal S2304x1024 .bf16) (o : ℕ) (h : ∀ a, (![o, 0] : Fin 2 → ℕ) a + S512x1024.size a ≤ S2304x1024.size a)
    (l : Fin 512) (j : Fin 1024) (hl : o + l.val < 2304) :
    View.ld B (Rect.unit (s := S2304x1024) ![o, 0] S512x1024.size h) (ix2 l j) = B (ix2 ⟨o + l.val, hl⟩ j) :=
  congrArg B (funext fun a => Fin.ext (by
    fin_cases a
    · exact congrArg (o + ·) (Nat.one_mul _)
    · exact (Nat.zero_add _).trans (Nat.one_mul _)))

theorem ld_256 (B : Vec Ideal S2304x1024 .bf16) (o : ℕ) (h : ∀ a, (![o, 0] : Fin 2 → ℕ) a + S256x1024.size a ≤ S2304x1024.size a)
    (l : Fin 256) (j : Fin 1024) (hl : o + l.val < 2304) :
    View.ld B (Rect.unit (s := S2304x1024) ![o, 0] S256x1024.size h) (ix2 l j) = B (ix2 ⟨o + l.val, hl⟩ j) :=
  congrArg B (funext fun a => Fin.ext (by
    fin_cases a
    · exact congrArg (o + ·) (Nat.one_mul _)
    · exact (Nat.zero_add _).trans (Nat.one_mul _)))

/-- the sum of the five products of a block, of the arguments' rows -/
theorem blk_dh (c : Dev nD) (t : Fin cfg0.N) (i : Fin 256) (j : Fin 1024) :
    k0_pay1 (F := Ideal) (iblk m c 0 t) (View.ld (iblk m c 5 t) (Rect.unit ![0, 0] ![512, 1024] inb_S2304x1024_S512x1024_0_0))
        (iblk m c 1 t) (View.ld (iblk m c 5 t) (Rect.unit ![512, 0] ![512, 1024] inb_S2304x1024_S512x1024_512_0))
        (iblk m c 2 t) (View.ld (iblk m c 5 t) (Rect.unit ![1024, 0] ![512, 1024] inb_S2304x1024_S512x1024_1024_0))
        (iblk m c 3 t) (View.ld (iblk m c 5 t) (Rect.unit ![1536, 0] ![512, 1024] inb_S2304x1024_S512x1024_1536_0))
        (iblk m c 4 t) (View.ld (iblk m c 5 t) (Rect.unit ![2048, 0] ![256, 1024] inb_S2304x1024_S256x1024_2048_0)) (ix2 i j)
      = DH (A0 m c) (A1 m c) (A2 m c) (A3 m c) (A4 m c) (A5 m c) (at_ t i) j := by
  refine (pay1_at _ _ _ _ _ _ _ _ _ _ i j).trans ?_
  simp only [blk_0, blk_1, blk_2, blk_3, blk_4]
  unfold DH dh
  refine congrArg₂ (· + ·) (congrArg₂ (· + ·) (congrArg₂ (· + ·) (congrArg₂ (· + ·) ?_ ?_) ?_) ?_) ?_
  · exact Finset.sum_congr rfl fun l _ => congrArg₂ (fun a b : EReal => a * b) rfl ((ld_512 _ 0 _ l j (by omega)).trans ((congrArg (fun n => iblk m c 5 t (ix2 n j)) (Fin.ext (Nat.zero_add _))).trans (blk_5 m c t ⟨l.val, by omega⟩ j)))
  · exact Finset.sum_congr rfl fun l _ => congrArg₂ (fun a b : EReal => a * b) rfl ((ld_512 _ 512 _ l j (by omega)).trans (blk_5 m c t _ j))
  · exact Finset.sum_congr rfl fun l _ => congrArg₂ (fun a b : EReal => a * b) rfl ((ld_512 _ 1024 _ l j (by omega)).trans (blk_5 m c t _ j))
  · exact Finset.sum_congr rfl fun l _ => congrArg₂ (fun a b : EReal => a * b) rfl ((ld_512 _ 1536 _ l j (by omega)).trans (blk_5 m c t _ j))
  · exact Finset.sum_congr rfl fun l _ => congrArg₂ (fun a b : EReal => a * b) rfl ((ld_256 _ 2048 _ l j (by omega)).trans (blk_5 m c t _ j))

theorem dx_block (c : Dev nD) (t : Fin cfg0.N) (i : Fin 256) (j : Fin 1024) :
    (outsAt0 m c t.val t.isLt).1 (ix2 i j)
      = val_main_v39 (F := Ideal) (A0 m c) (A1 m c) (A2 m c) (A3 m c) (A4 m c) (A5 m c) (A6 m c) (A7 m c) (A8 m c) (ix2 (at_ t i) j) := by
  refine Eq.trans ?_ (ref_dx _ _ _ _ _ _ _ _ _ _ _).symm
  by_cases h : t.val % 32 = 0
  · rw [outsAt0_A m c t h]; frame_out
    refine (pay3_at _ _ _ _ i j).trans ?_
    rw [blk_6, blk_7, blk_8]
    exact congrArg (fun y => _ + normGrad _ _ y j) (funext (blk_dh m c t i))
  · rw [outsAt0_B m c t h]; frame_out
    refine (pay3_at _ _ _ _ i j).trans ?_
    rw [blk_6, blk_7, blk_8]
    exact congrArg (fun y => _ + normGrad _ _ y j) (funext (blk_dh m c t i))

theorem final_dx (c : Dev nD) : (dats m 0 c).arrAt 9 cfg0.N
    = val_main_v39 (F := Ideal) (A0 m c) (A1 m c) (A2 m c) (A3 m c) (A4 m c) (A5 m c) (A6 m c) (A7 m c) (A8 m c) := by
  refine (dats m 0 c).arrAt_eq_of_covers 9 _ (by decide +kernel) fun t hf y => ?_
  blk_simp
  rw [after0_9]
  have hy : y = ix2 (y 0) (y 1) := by blk_ext
  have he : ((win0_9.blk t).view.emb y) = ix2 (at_ t (y 0)) (y 1) := by blk_ext [idx t]
  rw [he]
  exact (congrArg _ hy).trans (dx_block m c t (y 0) (y 1))

theorem last_of_flush (t : Fin cfg0.N) (h : t.val % 32 = 31) : t.val + 1 = cfg0.N := by
  have := (idx t).2.2.2.2.2.2.2.2.2.2.2
  show t.val + 1 = grid0.N
  rw [N_0]; omega

/-- a row's part of the gain's gradient -/
def gPart (c : Dev nD) (i : Fin 8192) (j : Fin 1024) : EReal :=
  DH (A0 m c) (A1 m c) (A2 m c) (A3 m c) (A4 m c) (A5 m c) i j * A6 m c (ix2 i j) * Ideal.rsqrt (rho (XR (A6 m c) i))

theorem gPart_blk (c : Dev nD) (t : Fin cfg0.N) (i : Fin 256) (j : Fin 1024) (d : EReal)
    (hd : d = DH (A0 m c) (A1 m c) (A2 m c) (A3 m c) (A4 m c) (A5 m c) (at_ t i) j) :
    d * iblk m c 6 t (ix2 i j) * Ideal.rsqrt (rho fun k => iblk m c 6 t (ix2 i k)) = gPart m c (at_ t i) j := by
  rw [hd, show iblk m c 6 t (ix2 i j) = A6 m c (ix2 (at_ t i) j) from congrFun (blk_6 m c t i) j, blk_6]; rfl

/-- after the last point the gain's gradient has every row's part -/
theorem dg_at (c : Dev nD) (t : Fin cfg0.N) (ht : t.val % 32 = 31) (a : Fin 1) (j : Fin 1024) :
    (outsAt0 m c t.val t.isLt).2 (ix2 a j)
      = val_main_v40 (F := Ideal) (A0 m c) (A1 m c) (A2 m c) (A3 m c) (A4 m c) (A5 m c) (A6 m c) (ix2 a j) := by
  rw [ref_dg, Pipeline.eq_sum_fin_of_reset_step_apply_last (fun n h => (outsAt0 m c n h).2) 32 (fun _ => 0)
    (fun t y => ∑ i : Fin 256, gPart m c (at_ t i) (y 1))
    (fun t h y => by
      rw [outsAt0_A m c t h]; frame_out
      idx_vars y
      refine (pay5_at _ _ _ _ _).trans (congrArg₂ (· + ·) (by pointwise [k0_pay4]) (Finset.sum_congr rfl fun i _ => ?_))
      exact gPart_blk m c t i _ _ (blk_dh m c t i _))
    (fun t h y => by
      rw [outsAt0_B m c t h]; frame_out
      idx_vars y
      refine (pay5_at _ _ _ _ _).trans (congrArg₂ (· + ·) rfl (Finset.sum_congr rfl fun i _ => ?_))
      exact gPart_blk m c t i _ _ (blk_dh m c t i _))
    (le_of_eq N_0) t (last_of_flush t ht) _, zero_add]
  exact Fin.sum_mul_add_congr fun t i hl => rfl

theorem final_dg (c : Dev nD) : (dats m 0 c).arrAt 10 cfg0.N
    = val_main_v40 (F := Ideal) (A0 m c) (A1 m c) (A2 m c) (A3 m c) (A4 m c) (A5 m c) (A6 m c) := by
  refine (dats m 0 c).arrAt_eq_of_covers 10 _ (by decide +kernel) fun t hf y => ?_
  blk_simp
  rw [after0_10]
  have hy : y = ix2 (y 0) (y 1) := by blk_ext
  have he : ((win0_10.blk t).view.emb y) = ix2 (y 0) (y 1) := by blk_ext [idx t]
  rw [he]
  exact (congrArg _ hy).trans (dg_at m c t ((flush0_10 t).mp hf) (y 0) (y 1))

/-! ## The claim -/

theorem algebraic : Cert.algebraic_InprojKernelIdeal_InprojReferenceIdeal := fun m g m' g' _ hag => by
  refine ⟨_, _, Value.run_blocks m g, (θ_run _ _ _).mono (fun r h c => ?_) (Cert.InprojReferenceIdeal.Value.run m' g')⟩
  obtain ⟨h39, h40, k⟩ := h c
  obtain ⟨a0, a1, a2, a3, a4, a5, a6, a7, a8⟩ := hag c
  refine ⟨h39.trans ?_, h40.trans ?_, k⟩
  · rw [final_dx, val_main_v39_eq, a0, a1, a2, a3, a4, a5, a6, a7, a8]
  · rw [final_dg, a0, a1, a2, a3, a4, a5, a6]; rfl

end Cert.Inproj

end
-- ==== Proof.Group.lean ====
/- A row of 128 lanes in two groups of 64: a group's sum written as the product with a zero-one matrix, the sum in two parts (a
   value and what its shorter copy leaves) whose second part is zero, and the root-mean-square norm of each group with its gradient.
   Nothing here mentions a program. -/
module

public import proofs.«01_k».proof.Proof.Norm

@[expose] public section

noncomputable section

namespace Cert.Norm

open Idealize.ShloMosaic

/-! ## Finite values -/

/-- a value that is a real -/
def Fine (x : EReal) : Prop := ∃ r : ℝ, x = (r : EReal)

theorem Fine.coe (r : ℝ) : Fine (r : EReal) := ⟨r, rfl⟩
theorem Fine.mul {x y : EReal} : Fine x → Fine y → Fine (x * y) := fun ⟨a, ha⟩ ⟨b, hb⟩ => ⟨a * b, by rw [ha, hb, EReal.coe_mul]⟩
theorem Fine.add {x y : EReal} : Fine x → Fine y → Fine (x + y) := fun ⟨a, ha⟩ ⟨b, hb⟩ => ⟨a + b, by rw [ha, hb, EReal.coe_add]⟩
theorem Fine.sub {x y : EReal} : Fine x → Fine y → Fine (x - y) := fun ⟨a, ha⟩ ⟨b, hb⟩ => ⟨a - b, by rw [ha, hb, EReal.coe_sub]⟩
theorem Fine.zero : Fine 0 := ⟨0, rfl⟩
theorem Fine.sum {ι : Type*} (s : Finset ι) {f : ι → EReal} (h : ∀ i, Fine (f i)) : Fine (∑ i ∈ s, f i) := by
  classical
  induction s using Finset.induction_on with
  | empty => exact Fine.zero
  | insert a s ha ih => rw [Finset.sum_insert ha]; exact (h a).add ih
theorem Fine.sub_self {x : EReal} : Fine x → x - x = 0 := fun ⟨a, ha⟩ => by rw [ha, ← EReal.coe_sub, _root_.sub_self, EReal.coe_zero]

theorem Fine.of_abs {x : EReal} (h : BitVec.ofBool (decide ((FloatOps.absf (F := Ideal) (φ := .f32) x : EReal) < Ideal.ofBits .f32 0x7F800000#32)) = 1#1) : Fine x := by
  induction x using EReal.rec with
  | coe r => exact ⟨r, rfl⟩
  | top => exfalso; revert h; simp [FloatOps.absf, Ideal.ofBits, Ideal.ieee]
  | bot => exfalso; revert h; simp [FloatOps.absf, Ideal.ofBits, Ideal.ieee]

/-! ## Groups -/

/-- the zero-one matrix of two groups of 64 lanes -/
def sel (k j : Fin 128) : EReal := if k.val / 64 = j.val / 64 then 1 else 0

theorem sum_sel (f : Fin 128 → EReal) (j : Fin 128) :
    ∑ k, f k * sel k j = ∑ d : Fin 64, f ⟨64 * (j.val / 64) + d.val, by omega⟩ := by
  have hz : ∀ (g : Fin 64 → EReal), (∀ d, g d = 0) → ∑ d, g d = 0 := fun g h => Finset.sum_eq_zero fun d _ => h d
  rw [sum_two 64 64 128 rfl]
  unfold sel
  obtain h | h : j.val / 64 = 0 ∨ j.val / 64 = 1 := by omega
  · rw [hz (fun l => f ⟨64 + l.val, by omega⟩ * _) (fun d => by rw [if_neg (by dsimp only; omega), mul_zero]), add_zero]
    refine Finset.sum_congr rfl fun d _ => ?_
    rw [if_pos (by dsimp only; omega), mul_one]
    exact congrArg f (Fin.ext (by dsimp only; omega))
  · rw [hz (fun l => f ⟨l.val, by omega⟩ * _) (fun d => by rw [if_neg (by dsimp only; omega), mul_zero]), zero_add]
    refine Finset.sum_congr rfl fun d _ => ?_
    rw [if_pos (by dsimp only; omega), mul_one]
    exact congrArg f (Fin.ext (by dsimp only; omega))

/-- a group's sum in two parts, as the kernels write it -/
def twoSum (s : Fin 128 → Fin 128 → EReal) (f : Fin 128 → EReal) (j : Fin 128) : EReal :=
  ∑ k, f k * s k j + ∑ k, (f k - f k) * s k j

theorem twoSum_eq {s : Fin 128 → Fin 128 → EReal} (hs : ∀ k j, s k j = sel k j) {f : Fin 128 → EReal} (hf : ∀ k, Fine (f k)) (j : Fin 128) :
    twoSum s f j = ∑ d : Fin 64, f ⟨64 * (j.val / 64) + d.val, by omega⟩ := by
  unfold twoSum
  simp only [hs, (hf _).sub_self, zero_mul, Finset.sum_const_zero, add_zero]
  exact sum_sel f j

/-! ## The norm of a group -/

theorem c64 : Ideal.ofBits .f32 0x42800000#32 = ((64 : ℝ) : EReal) := by
  simp [Ideal.ofBits, Ideal.ieee, -EReal.coe_mul]; norm_num
theorem cInv64 : Ideal.ofBits .f32 0x3C800000#32 = ((1 / 64 : ℝ) : EReal) := by
  simp [Ideal.ofBits, Ideal.ieee, -EReal.coe_mul]; norm_num

theorem mul_inv64 (x : EReal) : x * Ideal.ofBits .f32 0x3C800000#32 = Ideal.div x (Ideal.ofBits .f32 0x42800000#32) := by
  rw [cInv64, c64, Ideal.div_coe (by norm_num)]

/-- the scale of the norm of a group -/
def rho64 (x : Fin 64 → EReal) : EReal := meanSq (Ideal.ofBits .f32 0x42800000#32) (Ideal.ofBits .f32 0x358637BD#32) x

theorem rho64_pos (x : Fin 64 → EReal) : 0 < rho64 x := by
  obtain ⟨e, he, h⟩ := cEps
  unfold rho64; rw [c64, h]; exact meanSq_pos (by norm_num) he x

/-- the gradient of the norm of the group `x`, at the cotangent `y` times the gain, as a kernel writes it by hand -/
def groupGrad (x y : Fin 64 → EReal) (j : Fin 64) : EReal :=
  Ideal.rsqrt (rho64 x) * y j - x j * (Ideal.rsqrt (rho64 x) * Ideal.rsqrt (rho64 x) * Ideal.rsqrt (rho64 x))
    * Ideal.div (∑ k, y k * x k) (Ideal.ofBits .f32 0x42800000#32)

/-- the same gradient as the chain rule leaves it -/
theorem groupGrad_eq (x y : Fin 64 → EReal) (j : Fin 64) : groupGrad x y j
    = y j * Ideal.rsqrt (rho64 x)
      + x j * Ideal.div ((∑ k, x k * y k) * (((-(1 / 2) : ℝ) : EReal) * Ideal.div (Ideal.rsqrt (rho64 x)) (rho64 x))) (Ideal.ofBits .f32 0x42800000#32)
      + Ideal.div ((∑ k, x k * y k) * (((-(1 / 2) : ℝ) : EReal) * Ideal.div (Ideal.rsqrt (rho64 x)) (rho64 x))) (Ideal.ofBits .f32 0x42800000#32) * x j := by
  simp only [mul_comm (x _) (y _)]
  exact grad_eq _ _ _ _ _ c64 (by norm_num) (rho64_pos x)

/-- the inverse root of a lane's group, in two parts -/
def twoR (s : Fin 128 → Fin 128 → EReal) (x : Fin 128 → EReal) (j : Fin 128) : EReal :=
  Ideal.rsqrt (twoSum s (fun k => x k * x k) j * Ideal.ofBits .f32 0x3C800000#32 + Ideal.ofBits .f32 0x358637BD#32)

/-- the group's lanes of a row -/
abbrev lanes (x : Fin 128 → EReal) (j : Fin 128) : Fin 64 → EReal := fun d => x ⟨64 * (j.val / 64) + d.val, by omega⟩
/-- a lane within its group -/
abbrev lane (j : Fin 128) : Fin 64 := ⟨j.val % 64, by omega⟩

theorem lanes_lane (x : Fin 128 → EReal) (j : Fin 128) : lanes x j (lane j) = x j :=
  congrArg x (Fin.ext (Nat.div_add_mod _ _))

theorem twoR_eq {s : Fin 128 → Fin 128 → EReal} (hs : ∀ k j, s k j = sel k j) {x : Fin 128 → EReal} (hx : ∀ k, Fine (x k)) (j : Fin 128) :
    twoR s x j = Ideal.rsqrt (rho64 (lanes x j)) := by
  unfold twoR
  rw [twoSum_eq hs (fun k => (hx k).mul (hx k)), mul_inv64]
  rfl

/-- the gradient of the groups' norms, in two parts; `y` is the cotangent times the gain -/
def twoGrad (s : Fin 128 → Fin 128 → EReal) (x y : Fin 128 → EReal) (j : Fin 128) : EReal :=
  twoR s x j * y j - x j * (twoR s x j * twoR s x j * twoR s x j) * (twoSum s (fun k => y k * x k) j * Ideal.ofBits .f32 0x3C800000#32)

theorem twoGrad_eq {s : Fin 128 → Fin 128 → EReal} (hs : ∀ k j, s k j = sel k j) {x y : Fin 128 → EReal}
    (hx : ∀ k, Fine (x k)) (hy : ∀ k, Fine (y k)) (j : Fin 128) :
    twoGrad s x y j = groupGrad (lanes x j) (lanes y j) (lane j) := by
  unfold twoGrad groupGrad
  rw [twoR_eq hs hx, twoSum_eq hs (fun k => (hy k).mul (hx k)), mul_inv64, lanes_lane, lanes_lane]

end Cert.Norm

end
-- ==== Proof.Mix.lean ====
/- The per-head norm of the mixed heads: the gradients of the three mixers' results and of the norm's gain. A row's cotangent goes
   through the transposed output projection, then through the norm of each head of 64 channels; the kernel takes the heads two at a
   time and writes each sum over a head in two parts. -/
module

public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Group
public import proofs.«01_k».proof.Defs
public import Idealize.ShloMosaic.Lib.Pipeline.ValueKit
public import Idealize.ShloMosaic.Lib.Pointwise

@[expose] public section

set_option maxRecDepth 16384

noncomputable section

namespace Cert.Mix

open Idealize.ShloMosaic Idealize.ShloMosaic.TcCoe Idealize.SL.Sem
open Idealize.ShloMosaic.Pipeline (Dat)
open Cert.MixKernelIdeal Cert.MixKernelIdeal.Gen
open Cert.MixReferenceIdeal.Read
open Cert.Norm

/-! ## The kernel's values -/

theorem pay2_at (x : FVec Ideal S256x1024 .f32) (w : FVec Ideal S1024x1024 .bf16) (i : Fin 256) (j : Fin 1024) :
    k0_pay2 (F := Ideal) x w (ix2 i j) = ∑ k : Fin 1024, x (ix2 i k) * w (ix2 k j) := by
  pointwise [k0_pay2]

variable (x : FVec Ideal S256x1024 .f32) (w : FVec Ideal S1024x1024 .bf16) (d : FVec Ideal S256x1024 .f32)
  (s : FVec Ideal S128x128 .bf16) (y : FVec Ideal S256x128 .f32) (g acc : FVec Ideal S1x128 .f32)

theorem dy0_at (i : Fin 256) (j : Fin 128) : k0_pay10 (F := Ideal) k0_pay3 y (k0_pay4 y) (k0_pay6 x w g) (k0_pay8 x w y g) (k0_pay9 x w y g) (ix2 i j)
    = twoGrad (fun k j => k0_pay3 (F := Ideal) (ix2 k j)) (fun k => y (ix2 i k)) (fun k => k0_pay2 (F := Ideal) x w (ix2 i ⟨0 + k.val, by omega⟩) * g (ix2 0 k)) j := by
  unfold twoGrad twoR twoSum
  simp only [Nat.zero_add]
  pointwise [k0_pay10, k0_pay4, k0_pay6, k0_pay8, k0_pay9, k0_pay7, k0_pay5]

theorem dg0_at (a : Fin 1) (j : Fin 128) : k0_pay11 (F := Ideal) y (k0_pay4 y) (k0_pay5 x w) acc (ix2 a j)
    = acc (ix2 a j) + ∑ i : Fin 256, k0_pay2 (F := Ideal) x w (ix2 i ⟨0 + j.val, by omega⟩) * y (ix2 i j) * twoR (fun k j => k0_pay3 (F := Ideal) (ix2 k j)) (fun k => y (ix2 i k)) j := by
  unfold twoR twoSum
  simp only [Nat.zero_add]
  pointwise [k0_pay11, k0_pay4, k0_pay5]

theorem dy1_at (i : Fin 256) (j : Fin 128) : k0_pay15 (F := Ideal) s y (k0_pay12 s y) (k0_pay14 d g) (ix2 i j)
    = twoGrad (fun k j => s (ix2 k j)) (fun k => y (ix2 i k)) (fun k => d (ix2 i ⟨128 + k.val, by omega⟩) * g (ix2 0 k)) j := by
  unfold twoGrad twoR twoSum
  pointwise [k0_pay15, k0_pay12, k0_pay14, k0_pay13]

theorem dg1_at (a : Fin 1) (j : Fin 128) : k0_pay16 (F := Ideal) y (k0_pay12 s y) (k0_pay13 d) acc (ix2 a j)
    = acc (ix2 a j) + ∑ i : Fin 256, d (ix2 i ⟨128 + j.val, by omega⟩) * y (ix2 i j) * twoR (fun k j => s (ix2 k j)) (fun k => y (ix2 i k)) j := by
  unfold twoR twoSum
  pointwise [k0_pay16, k0_pay12, k0_pay13]

theorem dy2_at (i : Fin 256) (j : Fin 128) : k0_pay19 (F := Ideal) s y (k0_pay17 s y) (k0_pay18 d) g (ix2 i j)
    = twoGrad (fun k j => s (ix2 k j)) (fun k => y (ix2 i k)) (fun k => d (ix2 i ⟨256 + k.val, by omega⟩) * g (ix2 0 k)) j := by
  unfold twoGrad twoR twoSum
  pointwise [k0_pay19, k0_pay17, k0_pay18]

theorem dg2_at (a : Fin 1) (j : Fin 128) : k0_pay20 (F := Ideal) y (k0_pay17 s y) (k0_pay18 d) acc (ix2 a j)
    = acc (ix2 a j) + ∑ i : Fin 256, d (ix2 i ⟨256 + j.val, by omega⟩) * y (ix2 i j) * twoR (fun k j => s (ix2 k j)) (fun k => y (ix2 i k)) j := by
  unfold twoR twoSum
  pointwise [k0_pay20, k0_pay17, k0_pay18]

theorem dy3_at (i : Fin 256) (j : Fin 128) : k0_pay24 (F := Ideal) d s y (k0_pay21 s y) g (ix2 i j)
    = twoGrad (fun k j => s (ix2 k j)) (fun k => y (ix2 i k)) (fun k => d (ix2 i ⟨384 + k.val, by omega⟩) * g (ix2 0 k)) j := by
  unfold twoGrad twoR twoSum
  pointwise [k0_pay24, k0_pay21, k0_pay22, k0_pay23]

theorem dg3_at (a : Fin 1) (j : Fin 128) : k0_pay25 (F := Ideal) d y (k0_pay21 s y) acc (ix2 a j)
    = acc (ix2 a j) + ∑ i : Fin 256, d (ix2 i ⟨384 + j.val, by omega⟩) * y (ix2 i j) * twoR (fun k j => s (ix2 k j)) (fun k => y (ix2 i k)) j := by
  unfold twoR twoSum
  pointwise [k0_pay25, k0_pay21, k0_pay22, k0_pay23]

theorem dy4_at (i : Fin 256) (j : Fin 128) : k0_pay30 (F := Ideal) d s y (k0_pay26 s y) k0_pay27 g (ix2 i j)
    = twoGrad (fun k j => s (ix2 k j)) (fun k => y (ix2 i k)) (fun k => d (ix2 i ⟨512 + k.val, by omega⟩) * g (ix2 0 k)) j := by
  unfold twoGrad twoR twoSum
  pointwise [k0_pay30, k0_pay26, k0_pay27, k0_pay28, k0_pay29]

theorem dg4_at (a : Fin 1) (j : Fin 128) : k0_pay31 (F := Ideal) d y (k0_pay26 s y) k0_pay27 acc (ix2 a j)
    = acc (ix2 a j) + ∑ i : Fin 256, d (ix2 i ⟨512 + j.val, by omega⟩) * y (ix2 i j) * twoR (fun k j => s (ix2 k j)) (fun k => y (ix2 i k)) j := by
  unfold twoR twoSum
  pointwise [k0_pay31, k0_pay26, k0_pay27, k0_pay28, k0_pay29]

theorem dy5_at (i : Fin 256) (j : Fin 128) : k0_pay38 (F := Ideal) d s y (k0_pay34 y) (k0_pay35 s y) (constant S256x128 .f32 0x00000000#32) g (ix2 i j)
    = twoGrad (fun k j => s (ix2 k j)) (fun k => y (ix2 i k)) (fun k => d (ix2 i ⟨640 + k.val, by omega⟩) * g (ix2 0 k)) j := by
  unfold twoGrad twoR twoSum
  pointwise [k0_pay38, k0_pay34, k0_pay35, k0_pay36, k0_pay37, k0_pay32, k0_pay33]

theorem dg5_at (a : Fin 1) (j : Fin 128) : k0_pay39 (F := Ideal) d s y (k0_pay34 y) (k0_pay35 s y) (constant S256x128 .f32 0x00000000#32) acc (ix2 a j)
    = acc (ix2 a j) + ∑ i : Fin 256, d (ix2 i ⟨640 + j.val, by omega⟩) * y (ix2 i j) * twoR (fun k j => s (ix2 k j)) (fun k => y (ix2 i k)) j := by
  unfold twoR twoSum
  pointwise [k0_pay39, k0_pay34, k0_pay35, k0_pay36, k0_pay37, k0_pay32, k0_pay33]

theorem dy6_at (i : Fin 256) (j : Fin 128) : k0_pay45 (F := Ideal) d s y (k0_pay41 y) (k0_pay42 y) g (ix2 i j)
    = twoGrad (fun k j => s (ix2 k j)) (fun k => y (ix2 i k)) (fun k => d (ix2 i ⟨768 + k.val, by omega⟩) * g (ix2 0 k)) j := by
  unfold twoGrad twoR twoSum
  pointwise [k0_pay45, k0_pay41, k0_pay42, k0_pay43, k0_pay44, k0_pay40]

theorem dg6_at (a : Fin 1) (j : Fin 128) : k0_pay46 (F := Ideal) d s y (k0_pay41 y) (k0_pay42 y) acc (ix2 a j)
    = acc (ix2 a j) + ∑ i : Fin 256, d (ix2 i ⟨768 + j.val, by omega⟩) * y (ix2 i j) * twoR (fun k j => s (ix2 k j)) (fun k => y (ix2 i k)) j := by
  unfold twoR twoSum
  pointwise [k0_pay46, k0_pay41, k0_pay42, k0_pay43, k0_pay44, k0_pay40]

theorem dy7_at (i : Fin 256) (j : Fin 128) : k0_pay49 (F := Ideal) d s y g (ix2 i j)
    = twoGrad (fun k j => s (ix2 k j)) (fun k => y (ix2 i k)) (fun k => d (ix2 i ⟨896 + k.val, by omega⟩) * g (ix2 0 k)) j := by
  unfold twoGrad twoR twoSum
  pointwise [k0_pay49, k0_pay47, k0_pay48]

theorem dg7_at (a : Fin 1) (j : Fin 128) : k0_pay50 (F := Ideal) d s y acc (ix2 a j)
    = acc (ix2 a j) + ∑ i : Fin 256, d (ix2 i ⟨896 + j.val, by omega⟩) * y (ix2 i j) * twoR (fun k j => s (ix2 k j)) (fun k => y (ix2 i k)) j := by
  unfold twoR twoSum
  pointwise [k0_pay50, k0_pay47, k0_pay48]

/-- the programs' zero-one matrix -/
theorem pay3_at (k j : Fin 128) : k0_pay3 (F := Ideal) (ix2 k j) = sel k j := by
  pointwise [k0_pay3]
  have h : ∀ k j : Fin 128, BitVec.setWidth 32 (IntOp.cmpi CmpIPredicate.eq (IntOp.shrsi ArithUnit.vector (BitVec.ofNat 32 k) 6#32)
      (IntOp.shrsi ArithUnit.vector (BitVec.ofNat 32 j) 6#32)) = if k.val / 64 = j.val / 64 then 1#32 else 0#32 := by decide +kernel
  rw [h]
  unfold sel
  split <;> simp [FloatOps.sitofp]

/-! ## The reference's values -/

variable (DX : FVec Ideal Cert.MixReferenceIdeal.S8192x1024 .f32) (YA YC : FVec Ideal Cert.MixReferenceIdeal.S8192x256 .f32)
  (YB : FVec Ideal Cert.MixReferenceIdeal.S8192x512 .f32) (G : FVec Ideal Cert.MixReferenceIdeal.S1024 .f32)
  (W : FVec Ideal Cert.MixReferenceIdeal.S1024x1024 .f32)

/-- a row of the three mixers' results side by side -/
def Y (i : Fin 8192) (j : Fin 1024) : EReal :=
  if h : j.val < 256 then YA (ix2 i ⟨j.val, h⟩) else if h' : j.val < 768 then YB (ix2 i ⟨j.val - 256, by omega⟩) else YC (ix2 i ⟨j.val - 768, by omega⟩)

/-- a row's cotangent behind the output projection -/
def D (i : Fin 8192) (j : Fin 1024) : EReal := ∑ k : Fin 1024, DX (ix2 i k) * W (ix2 j k)

/-- a head of a row -/
abbrev head (f : Fin 1024 → EReal) (h : Fin 16) : Fin 64 → EReal := fun d => f ⟨h.val * 64 + d.val, by omega⟩

theorem ref_y (i : Fin 8192) (h : Fin 16) (d : Fin 64) : val_main_v1 (F := Ideal) YA YB YC (ix3 i h d) = head (Y YA YC YB i) h d := by
  pointwise [val_main_v1, val_main_v0]
  unfold head Y
  dsimp only
  split_ifs <;> first | omega | rfl | (rw [dif_pos (by omega)]) | (rw [dif_neg (by omega)]; exact congrArg (fun k => YC (ix2 i k)) (Fin.ext (by dsimp only; omega)))

theorem ref_d (i : Fin 8192) (h : Fin 16) (d : Fin 64) : val_main_v22 (F := Ideal) DX W (ix3 i h d) = head (D DX W i) h d := by
  pointwise [val_main_v22, val_main_v21]
  rfl

theorem ref_rho (i : Fin 8192) (h : Fin 16) (a : Fin 1) : val_main_v8 (F := Ideal) YA YB YC (ix3 i h a) = rho64 (head (Y YA YC YB i) h) := by
  unfold rho64
  pointwise [val_main_v8, val_main_v6, val_main_v4, val_main_v3, val_main_v2, val_main_v5, val_main_v7, val_main_cst, val_main_cst_0, val_main_cst_1, meanSq]
  simp only [ref_y]

theorem ref_dy (i : Fin 8192) (h : Fin 16) (d : Fin 64) : val_main_v43 (F := Ideal) DX YA YB YC G W (ix3 i h d)
    = groupGrad (head (Y YA YC YB i) h) (fun d => head (D DX W i) h d * G (ix1 ⟨h.val * 64 + d.val, by omega⟩)) d := by
  rw [groupGrad_eq]
  pointwise [val_main_v43, val_main_v41, val_main_v34, val_main_v27, val_main_v26, val_main_v16, val_main_v15, val_main_v33, val_main_v9, val_main_v40, val_main_v39, val_main_v38, val_main_v37, val_main_v35, val_main_v32, val_main_v31, val_main_v30, val_main_cst_5, val_main_v12, val_main_v11, val_main_cst_2, val_main_v10, val_main_v36, val_main_cst_6, val_main_cst_7, val_main_v42]
  simp only [ref_y, ref_d, ref_rho, Finset.univ_unique, Finset.sum_singleton]
  rw [cNegHalf]

theorem ref_dg (a : Fin 1) (j : Fin 1024) : val_main_v48 (F := Ideal) DX YA YB YC W (ix2 a j)
    = ∑ i : Fin 8192, D DX W i j * Y YA YC YB i j * Ideal.rsqrt (rho64 (head (Y YA YC YB i) ⟨j.val / 64, by omega⟩)) := by
  pointwise [val_main_v48, val_main_v29, val_main_v28, val_main_v25, val_main_v24, val_main_v23, val_main_v14, val_main_v13, val_main_v9, val_main_cst_3, val_main_cst_4]
  simp only [ref_y, ref_d, ref_rho, Finset.univ_unique, Finset.sum_singleton]
  have e : ∀ f : Fin 1024 → EReal, head f ⟨j.val / 64, by omega⟩ ⟨j.val % 64, by omega⟩ = f j := fun f => congrArg f (Fin.ext (Nat.div_add_mod' _ _))
  exact Finset.sum_congr rfl fun i _ => by rw [e, e, mul_comm, mul_assoc]

/-! ## The blocks -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] ∧ t.val < 32 :=
  (by decide +kernel : ∀ t : Fin grid0.N, _)

theorem pt_lt (t : Fin cfg0.N) (i : Fin 256) : t.val * 256 + i.val < 8192 := by
  have := (idx t).2.2.2.2.2.2.2.2.2.2; omega

/-- the array row a block's row `i` sits at -/
abbrev at_ (t : Fin cfg0.N) (i : Fin 256) : Fin 8192 := ⟨t.val * 256 + i.val, pt_lt t i⟩

section
variable (c : Dev nD) (t : Fin cfg0.N)
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)

theorem blk_0 (i : Fin 256) (k : Fin 1024) : iblk m c 0 t (ix2 i k) = A0 m c (ix2 (at_ t i) k) := by blk_point [iblk, idx t]
theorem blk_1 (i : Fin 256) (k : Fin 256) : iblk m c 1 t (ix2 i k) = A1 m c (ix2 (at_ t i) k) := by blk_point [iblk, idx t]
theorem blk_2 (i : Fin 256) (k : Fin 512) : iblk m c 2 t (ix2 i k) = A2 m c (ix2 (at_ t i) k) := by blk_point [iblk, idx t]
theorem blk_3 (i : Fin 256) (k : Fin 256) : iblk m c 3 t (ix2 i k) = A3 m c (ix2 (at_ t i) k) := by blk_point [iblk, idx t]
theorem blk_4 (a : Fin 1) (k : Fin 1024) : iblk m c 4 t (ix2 a k) = A4 m c (ix1 k) := by blk_point [iblk, idx t]
theorem blk_5 (l : Fin 1024) (k : Fin 1024) : iblk m c 5 t (ix2 l k) = A5 m c (ix2 k l) := by blk_point [iblk, idx t]
end

/-- a row's gradient, at a channel -/
def dyRow (Y E : Fin 1024 → EReal) (j : Fin 1024) : EReal :=
  groupGrad (head Y ⟨j.val / 64, by omega⟩) (head E ⟨j.val / 64, by omega⟩) ⟨j.val % 64, by omega⟩

theorem head_lanes (o : ℕ) (ho : o % 128 = 0) (hb : o + 128 ≤ 1024) {x : Fin 128 → EReal} {Y : Fin 1024 → EReal}
    (hx : ∀ k : Fin 128, x k = Y ⟨o + k.val, by omega⟩) (l : Fin 128) (J : Fin 1024) (hJ : J.val = o + l.val) :
    lanes x l = head Y ⟨J.val / 64, by omega⟩ := by
  funext d
  exact (hx _).trans (congrArg Y (Fin.ext (by dsimp only; omega)))

theorem chunk_dy (o : ℕ) (ho : o % 128 = 0) (hb : o + 128 ≤ 1024) {s : Fin 128 → Fin 128 → EReal} (hs : ∀ k j, s k j = sel k j)
    {x y : Fin 128 → EReal} {Y E : Fin 1024 → EReal} (hY : ∀ k, Fine (Y k)) (hE : ∀ k, Fine (E k))
    (hx : ∀ k : Fin 128, x k = Y ⟨o + k.val, by omega⟩) (hy : ∀ k : Fin 128, y k = E ⟨o + k.val, by omega⟩)
    (l : Fin 128) (J : Fin 1024) (hJ : J.val = o + l.val) : twoGrad s x y l = dyRow Y E J := by
  rw [twoGrad_eq hs (fun k => hx k ▸ hY _) (fun k => hy k ▸ hE _), head_lanes o ho hb hx l J hJ, head_lanes o ho hb hy l J hJ]
  exact congrArg _ (Fin.ext (by dsimp only; omega))

theorem chunk_r (o : ℕ) (ho : o % 128 = 0) (hb : o + 128 ≤ 1024) {s : Fin 128 → Fin 128 → EReal} (hs : ∀ k j, s k j = sel k j)
    {x : Fin 128 → EReal} {Y : Fin 1024 → EReal} (hY : ∀ k, Fine (Y k)) (hx : ∀ k : Fin 128, x k = Y ⟨o + k.val, by omega⟩)
    (l : Fin 128) (J : Fin 1024) (hJ : J.val = o + l.val) :
    twoR s x l = Ideal.rsqrt (rho64 (head Y ⟨J.val / 64, by omega⟩)) := by
  rw [twoR_eq hs (fun k => hx k ▸ hY _), head_lanes o ho hb hx l J hJ]

/-- 128 columns of a block -/
theorem ld_cols {R C : ℕ} (B : Vec Ideal ⟨2, ![R, C]⟩ .f32) (o : ℕ) (h : ∀ a, (![0, o] : Fin 2 → ℕ) a + (![R, 128] : Fin 2 → ℕ) a ≤ (⟨2, ![R, C]⟩ : Shape).size a)
    (i : Fin R) (k : Fin 128) (hk : o + k.val < C) :
    View.ld B (Rect.unit (s := ⟨2, ![R, C]⟩) ![0, o] ![R, 128] h) (ix2 i k) = B (ix2 i ⟨o + k.val, hk⟩) :=
  congrArg B (funext fun a => Fin.ext (by
    fin_cases a
    · exact (Nat.zero_add _).trans (Nat.one_mul _)
    · exact congrArg (o + ·) (Nat.one_mul _)))

/-- an entry of a list of stores of 128 columns, at a column the last store leaves -/
theorem canon_skip (o : ℕ) (hb) (w : (Rect.unit (s := S1x1024) ![0, o] ![1, 128] hb).shape.Idx → Elt Ideal .f32)
    (L : List (View.Piece (Elt Ideal) S1x1024 .f32)) (y : S1x1024.Idx) (h : o + 128 ≤ (y 1).val) :
    View.canon (⟨Rect.unit (s := S1x1024) ![0, o] ![1, 128] hb, w⟩ :: L) y = View.canon L y := by
  refine View.canon_cons_of_not_mem _ _ fun hm => ?_
  obtain ⟨x, hx⟩ := (Rect.unit (s := S1x1024) ![0, o] ![1, 128] hb).exists_idx_of_mem hm
  have h1 := congrArg (fun z : S1x1024.Idx => (z 1).val) hx
  have h2 := Rect.idx_unit_val (s := S1x1024) ![0, o] ![1, 128] hb x 1
  have h3 : (x 1).val < 128 := (x 1).isLt
  have h4 : (y 1).val = o + (x 1).val := by rw [← h1]; exact h2
  omega

section
variable (c : Dev nD) (t : Fin cfg0.N)

abbrev YR (i : Fin 8192) : Fin 1024 → EReal := Y (A1 m c) (A3 m c) (A2 m c) i
def ER (i : Fin 8192) (j : Fin 1024) : EReal := D (A0 m c) (A5 m c) i j * A4 m c (ix1 j)

theorem row_a (o : ℕ) (hb) (ho : o + 128 ≤ 256) (i : Fin 256) (k : Fin 128) :
    View.ld (iblk m c 1 t) (Rect.unit (s := S256x256) ![0, o] ![256, 128] hb) (ix2 i k) = YR m c (at_ t i) ⟨o + k.val, by omega⟩ := by
  refine (ld_cols _ o hb i k (by omega)).trans ((blk_1 m c t i _).trans ?_)
  unfold YR Y; rw [dif_pos (show o + k.val < 256 by omega)]
theorem row_b (o : ℕ) (hb) (ho : o + 128 ≤ 512) (i : Fin 256) (k : Fin 128) (p : ℕ) (hp : p = 256 + o) :
    View.ld (iblk m c 2 t) (Rect.unit (s := S256x512) ![0, o] ![256, 128] hb) (ix2 i k) = YR m c (at_ t i) ⟨p + k.val, by omega⟩ := by
  subst hp
  refine (ld_cols _ o hb i k (by omega)).trans ((blk_2 m c t i _).trans ?_)
  unfold YR Y; rw [dif_neg (show ¬ 256 + o + k.val < 256 by omega), dif_pos (show 256 + o + k.val < 768 by omega)]
  congr 2; exact Fin.ext (by dsimp only; omega)
theorem row_c (o : ℕ) (hb) (ho : o + 128 ≤ 256) (i : Fin 256) (k : Fin 128) (p : ℕ) (hp : p = 768 + o) :
    View.ld (iblk m c 3 t) (Rect.unit (s := S256x256) ![0, o] ![256, 128] hb) (ix2 i k) = YR m c (at_ t i) ⟨p + k.val, by omega⟩ := by
  subst hp
  refine (ld_cols _ o hb i k (by omega)).trans ((blk_3 m c t i _).trans ?_)
  unfold YR Y; rw [dif_neg (show ¬ 768 + o + k.val < 256 by omega), dif_neg (show ¬ 768 + o + k.val < 768 by omega)]
  congr 2; exact Fin.ext (by dsimp only; omega)
theorem row_d (i : Fin 256) (k : Fin 1024) : k0_pay2 (F := Ideal) (iblk m c 0 t) (iblk m c 5 t) (ix2 i k) = D (A0 m c) (A5 m c) (at_ t i) k := by
  rw [pay2_at]; unfold D; simp only [blk_0, blk_5]
theorem row_e (o : ℕ) (hb) (ho : o + 128 ≤ 1024) (i : Fin 256) (k : Fin 128) (a : Fin 1) :
    HMul.hMul (α := EReal) (β := EReal) (γ := EReal) (k0_pay2 (F := Ideal) (iblk m c 0 t) (iblk m c 5 t) (ix2 i ⟨o + k.val, by omega⟩))
      (View.ld (iblk m c 4 t) (Rect.unit (s := S1x1024) ![0, o] ![1, 128] hb) (ix2 a k)) = ER m c (at_ t i) ⟨o + k.val, by omega⟩ :=
  congrArg₂ (fun a b : EReal => a * b) (row_d m c t i _) ((ld_cols _ o hb a k (by omega)).trans (blk_4 m c t a _))
end

theorem dya_block (c : Dev nD) (hY : ∀ i k, Fine (YR m c i k)) (hE : ∀ i k, Fine (ER m c i k)) (t : Fin cfg0.N) (i : Fin 256) (j : Fin 256) :
    (outsAt0 m c t.val t.isLt).1 (ix2 i j) = dyRow (YR m c (at_ t i)) (ER m c (at_ t i)) ⟨0 + j.val, by omega⟩ := by
  by_cases h : t.val % 32 = 0
  · rw [outsAt0_A m c t h]; frame_out
    canon_tiles x hx
    · obtain ⟨p, q, rfl⟩ : ∃ (p : Fin 256) (q : Fin 128), x = ix2 p q := ⟨x 0, x 1, by blk_ext⟩
      obtain rfl : i = p := Fin.ext hx0
      have e : j.val = 128 + q.val := hx1
      exact (dy1_at _ _ _ _ i q).trans (chunk_dy 128 rfl (by decide) pay3_at (hY _) (hE _) (row_a m c t 128 _ (by decide) i)
        (fun k => row_e m c t 128 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 0 + q.val := (show j.val = q.val from hx1).trans (Nat.zero_add _).symm
      exact (dy0_at _ _ _ _ i q).trans (chunk_dy 0 rfl (by decide) pay3_at (hY _) (hE _) (row_a m c t 0 _ (by decide) i)
        (fun k => row_e m c t 0 _ (by decide) i k 0) q _ (by dsimp only; omega))
  · rw [outsAt0_B m c t h]; frame_out
    canon_tiles x hx
    · obtain ⟨p, q, rfl⟩ : ∃ (p : Fin 256) (q : Fin 128), x = ix2 p q := ⟨x 0, x 1, by blk_ext⟩
      obtain rfl : i = p := Fin.ext hx0
      have e : j.val = 128 + q.val := hx1
      exact (dy1_at _ _ _ _ i q).trans (chunk_dy 128 rfl (by decide) pay3_at (hY _) (hE _) (row_a m c t 128 _ (by decide) i)
        (fun k => row_e m c t 128 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 0 + q.val := (show j.val = q.val from hx1).trans (Nat.zero_add _).symm
      exact (dy0_at _ _ _ _ i q).trans (chunk_dy 0 rfl (by decide) pay3_at (hY _) (hE _) (row_a m c t 0 _ (by decide) i)
        (fun k => row_e m c t 0 _ (by decide) i k 0) q _ (by dsimp only; omega))

theorem dyb_block (c : Dev nD) (hY : ∀ i k, Fine (YR m c i k)) (hE : ∀ i k, Fine (ER m c i k)) (t : Fin cfg0.N) (i : Fin 256) (j : Fin 512) :
    (outsAt0 m c t.val t.isLt).2.1 (ix2 i j) = dyRow (YR m c (at_ t i)) (ER m c (at_ t i)) ⟨256 + j.val, by omega⟩ := by
  by_cases h : t.val % 32 = 0
  · rw [outsAt0_A m c t h]; frame_out
    canon_tiles x hx
    · obtain ⟨p, q, rfl⟩ : ∃ (p : Fin 256) (q : Fin 128), x = ix2 p q := ⟨x 0, x 1, by blk_ext⟩
      obtain rfl : i = p := Fin.ext hx0
      have e : j.val = 384 + q.val := hx1
      exact (dy5_at _ _ _ _ i q).trans (chunk_dy 640 rfl (by decide) pay3_at (hY _) (hE _) (fun k => row_b m c t 384 _ (by decide) i k 640 rfl)
        (fun k => row_e m c t 640 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 256 + q.val := hx1
      exact (dy4_at _ _ _ _ i q).trans (chunk_dy 512 rfl (by decide) pay3_at (hY _) (hE _) (fun k => row_b m c t 256 _ (by decide) i k 512 rfl)
        (fun k => row_e m c t 512 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 128 + q.val := hx1
      exact (dy3_at _ _ _ _ i q).trans (chunk_dy 384 rfl (by decide) pay3_at (hY _) (hE _) (fun k => row_b m c t 128 _ (by decide) i k 384 rfl)
        (fun k => row_e m c t 384 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 0 + q.val := (show j.val = q.val from hx1).trans (Nat.zero_add _).symm
      exact (dy2_at _ _ _ _ i q).trans (chunk_dy 256 rfl (by decide) pay3_at (hY _) (hE _) (fun k => row_b m c t 0 _ (by decide) i k 256 rfl)
        (fun k => row_e m c t 256 _ (by decide) i k 0) q _ (by dsimp only; omega))
  · rw [outsAt0_B m c t h]; frame_out
    canon_tiles x hx
    · obtain ⟨p, q, rfl⟩ : ∃ (p : Fin 256) (q : Fin 128), x = ix2 p q := ⟨x 0, x 1, by blk_ext⟩
      obtain rfl : i = p := Fin.ext hx0
      have e : j.val = 384 + q.val := hx1
      exact (dy5_at _ _ _ _ i q).trans (chunk_dy 640 rfl (by decide) pay3_at (hY _) (hE _) (fun k => row_b m c t 384 _ (by decide) i k 640 rfl)
        (fun k => row_e m c t 640 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 256 + q.val := hx1
      exact (dy4_at _ _ _ _ i q).trans (chunk_dy 512 rfl (by decide) pay3_at (hY _) (hE _) (fun k => row_b m c t 256 _ (by decide) i k 512 rfl)
        (fun k => row_e m c t 512 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 128 + q.val := hx1
      exact (dy3_at _ _ _ _ i q).trans (chunk_dy 384 rfl (by decide) pay3_at (hY _) (hE _) (fun k => row_b m c t 128 _ (by decide) i k 384 rfl)
        (fun k => row_e m c t 384 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 0 + q.val := (show j.val = q.val from hx1).trans (Nat.zero_add _).symm
      exact (dy2_at _ _ _ _ i q).trans (chunk_dy 256 rfl (by decide) pay3_at (hY _) (hE _) (fun k => row_b m c t 0 _ (by decide) i k 256 rfl)
        (fun k => row_e m c t 256 _ (by decide) i k 0) q _ (by dsimp only; omega))

theorem dyc_block (c : Dev nD) (hY : ∀ i k, Fine (YR m c i k)) (hE : ∀ i k, Fine (ER m c i k)) (t : Fin cfg0.N) (i : Fin 256) (j : Fin 256) :
    (outsAt0 m c t.val t.isLt).2.2.1 (ix2 i j) = dyRow (YR m c (at_ t i)) (ER m c (at_ t i)) ⟨768 + j.val, by omega⟩ := by
  by_cases h : t.val % 32 = 0
  · rw [outsAt0_A m c t h]; frame_out
    canon_tiles x hx
    · obtain ⟨p, q, rfl⟩ : ∃ (p : Fin 256) (q : Fin 128), x = ix2 p q := ⟨x 0, x 1, by blk_ext⟩
      obtain rfl : i = p := Fin.ext hx0
      have e : j.val = 128 + q.val := hx1
      exact (dy7_at _ _ _ _ i q).trans (chunk_dy 896 rfl (by decide) pay3_at (hY _) (hE _) (fun k => row_c m c t 128 _ (by decide) i k 896 rfl)
        (fun k => row_e m c t 896 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 0 + q.val := (show j.val = q.val from hx1).trans (Nat.zero_add _).symm
      exact (dy6_at _ _ _ _ i q).trans (chunk_dy 768 rfl (by decide) pay3_at (hY _) (hE _) (fun k => row_c m c t 0 _ (by decide) i k 768 rfl)
        (fun k => row_e m c t 768 _ (by decide) i k 0) q _ (by dsimp only; omega))
  · rw [outsAt0_B m c t h]; frame_out
    canon_tiles x hx
    · obtain ⟨p, q, rfl⟩ : ∃ (p : Fin 256) (q : Fin 128), x = ix2 p q := ⟨x 0, x 1, by blk_ext⟩
      obtain rfl : i = p := Fin.ext hx0
      have e : j.val = 128 + q.val := hx1
      exact (dy7_at _ _ _ _ i q).trans (chunk_dy 896 rfl (by decide) pay3_at (hY _) (hE _) (fun k => row_c m c t 128 _ (by decide) i k 896 rfl)
        (fun k => row_e m c t 896 _ (by decide) i k 0) q _ (by dsimp only; omega))
    · obtain ⟨p, q, rfl⟩ : ∃ (p : Fin 256) (q : Fin 128), x = ix2 p q := ⟨x 0, x 1, by blk_ext⟩
      obtain rfl : i = p := Fin.ext hx0
      have e : j.val = 0 + q.val := (show j.val = q.val from hx1).trans (Nat.zero_add _).symm
      exact (dy6_at _ _ _ _ i q).trans (chunk_dy 768 rfl (by decide) pay3_at (hY _) (hE _) (fun k => row_c m c t 0 _ (by decide) i k 768 rfl)
        (fun k => row_e m c t 768 _ (by decide) i k 0) q _ (by dsimp only; omega))

/-- a row's part of the gain's gradient -/
def gPart (c : Dev nD) (i : Fin 8192) (J : Fin 1024) : EReal :=
  D (A0 m c) (A5 m c) i J * YR m c i J * Ideal.rsqrt (rho64 (head (YR m c i) ⟨J.val / 64, by omega⟩))

theorem chunk_g (c : Dev nD) (hY : ∀ i k, Fine (YR m c i k)) (t : Fin cfg0.N) (o : ℕ) (ho : o % 128 = 0) (hb : o + 128 ≤ 1024)
    {y : FVec Ideal S256x128 .f32} (i : Fin 256) (hx : ∀ k : Fin 128, y (ix2 i k) = YR m c (at_ t i) ⟨o + k.val, by omega⟩)
    (l : Fin 128) (J : Fin 1024) (hJ : J.val = o + l.val) :
    HMul.hMul (α := EReal) (β := EReal) (γ := EReal)
      (HMul.hMul (α := EReal) (β := EReal) (γ := EReal) (k0_pay2 (F := Ideal) (iblk m c 0 t) (iblk m c 5 t) (ix2 i ⟨o + l.val, by omega⟩)) (y (ix2 i l)))
      (twoR (fun k j => k0_pay3 (F := Ideal) (ix2 k j)) (fun k => y (ix2 i k)) l) = gPart m c (at_ t i) J := by
  have e : (⟨o + l.val, by omega⟩ : Fin 1024) = J := Fin.ext hJ.symm
  rw [chunk_r o ho hb pay3_at (hY _) hx l J hJ, row_d, hx, e]
  rfl

theorem canon_zero (hb) (y : S1x1024.Idx) :
    View.canon [(⟨Rect.unit (s := S1x1024) ![0, 0] ![1, 1024] hb, k0_pay1 (F := Ideal)⟩ : View.Piece (Elt Ideal) S1x1024 .f32)] y = 0 := by
  refine (congrFun (View.canon_cons_unit_zero (by decide) hb _ _) y).trans ?_
  pointwise [k0_pay1]

theorem canon_skip_lt (o : ℕ) (hb) (w : (Rect.unit (s := S1x1024) ![0, o] ![1, 128] hb).shape.Idx → Elt Ideal .f32)
    (L : List (View.Piece (Elt Ideal) S1x1024 .f32)) (y : S1x1024.Idx) (h : (y 1).val < o) :
    View.canon (⟨Rect.unit (s := S1x1024) ![0, o] ![1, 128] hb, w⟩ :: L) y = View.canon L y := by
  refine View.canon_cons_of_not_mem _ _ fun hm => ?_
  obtain ⟨x, hx⟩ := (Rect.unit (s := S1x1024) ![0, o] ![1, 128] hb).exists_idx_of_mem hm
  have h1 := congrArg (fun z : S1x1024.Idx => (z 1).val) hx
  have h2 := Rect.idx_unit_val (s := S1x1024) ![0, o] ![1, 128] hb x 1
  have h4 : (y 1).val = o + (x 1).val := by rw [← h1]; exact h2
  omega

theorem canon_hit (o : ℕ) (hb) (w : (Rect.unit (s := S1x1024) ![0, o] ![1, 128] hb).shape.Idx → Elt Ideal .f32)
    (L : List (View.Piece (Elt Ideal) S1x1024 .f32)) (a : Fin 1) (j : Fin 1024) (q : Fin 128) (h : j.val = o + q.val) :
    View.canon (⟨Rect.unit (s := S1x1024) ![0, o] ![1, 128] hb, w⟩ :: L) (ix2 a j) = w (ix2 a q) := by
  have e : (ix2 a j : S1x1024.Idx) = (Rect.unit (s := S1x1024) ![0, o] ![1, 128] hb).emb (ix2 a q) := by
    funext k
    fin_cases k
    · exact Fin.ext (by show a.val = 0 + 1 * a.val; omega)
    · exact Fin.ext (by show j.val = o + 1 * q.val; omega)
  rw [e]
  exact View.canon_cons_emb _ w L (ix2 a q)

theorem dg_A (c : Dev nD) (hY : ∀ i k, Fine (YR m c i k)) (t : Fin cfg0.N) (h : t.val % 32 = 0) (a : Fin 1) (j : Fin 1024) :
    (outsAt0 m c t.val t.isLt).2.2.2 (ix2 a j)
      = HAdd.hAdd (α := EReal) (β := EReal) (γ := EReal) (0) (∑ i : Fin 256, gPart m c (at_ t i) j) := by
  rw [outsAt0_A m c t h]; frame_out
  have hj : j.val / 128 = 0 ∨ j.val / 128 = 1 ∨ j.val / 128 = 2 ∨ j.val / 128 = 3 ∨ j.val / 128 = 4 ∨ j.val / 128 = 5 ∨ j.val / 128 = 6 ∨ j.val / 128 = 7 := by omega
  rcases hj with hj | hj | hj | hj | hj | hj | hj | hj
  · obtain ⟨q, e⟩ : ∃ q : Fin 128, j.val = 0 + q.val := ⟨⟨j.val - 0, by omega⟩, by dsimp only; omega⟩
    refine (canon_skip_lt 896 _ _ _ _ (by show j.val < 896; omega)).trans ?_
    refine (canon_skip_lt 768 _ _ _ _ (by show j.val < 768; omega)).trans ?_
    refine (canon_skip_lt 640 _ _ _ _ (by show j.val < 640; omega)).trans ?_
    refine (canon_skip_lt 512 _ _ _ _ (by show j.val < 512; omega)).trans ?_
    refine (canon_skip_lt 384 _ _ _ _ (by show j.val < 384; omega)).trans ?_
    refine (canon_skip_lt 256 _ _ _ _ (by show j.val < 256; omega)).trans ?_
    refine (canon_skip_lt 128 _ _ _ _ (by show j.val < 128; omega)).trans ?_
    refine (canon_hit 0 _ _ _ a j q e).trans ?_
    refine (dg0_at _ _ _ _ a q).trans (congrArg₂ (· + ·) ?_ (Finset.sum_congr rfl fun i _ => chunk_g m c hY t 0 rfl (by decide) i (row_a m c t 0 _ (by decide) i) q j e))
    · rw [View.readCov_eq_canon']
      exact canon_zero _ _
  · obtain ⟨q, e⟩ : ∃ q : Fin 128, j.val = 128 + q.val := ⟨⟨j.val - 128, by omega⟩, by dsimp only; omega⟩
    refine (canon_skip_lt 896 _ _ _ _ (by show j.val < 896; omega)).trans ?_
    refine (canon_skip_lt 768 _ _ _ _ (by show j.val < 768; omega)).trans ?_
    refine (canon_skip_lt 640 _ _ _ _ (by show j.val < 640; omega)).trans ?_
    refine (canon_skip_lt 512 _ _ _ _ (by show j.val < 512; omega)).trans ?_
    refine (canon_skip_lt 384 _ _ _ _ (by show j.val < 384; omega)).trans ?_
    refine (canon_skip_lt 256 _ _ _ _ (by show j.val < 256; omega)).trans ?_
    refine (canon_hit 128 _ _ _ a j q e).trans ?_
    refine (dg1_at _ _ _ _ a q).trans (congrArg₂ (· + ·) ?_ (Finset.sum_congr rfl fun i _ => chunk_g m c hY t 128 rfl (by decide) i (row_a m c t 128 _ (by decide) i) q j e))
    · rw [View.readCov_eq_canon']
      refine (canon_skip 0 _ _ _ _ (Nat.le_trans (by decide : 0 + 128 ≤ 128) (Nat.le_add_right 128 _))).trans ?_
      exact canon_zero _ _
  · obtain ⟨q, e⟩ : ∃ q : Fin 128, j.val = 256 + q.val := ⟨⟨j.val - 256, by omega⟩, by dsimp only; omega⟩
    refine (canon_skip_lt 896 _ _ _ _ (by show j.val < 896; omega)).trans ?_
    refine (canon_skip_lt 768 _ _ _ _ (by show j.val < 768; omega)).trans ?_
    refine (canon_skip_lt 640 _ _ _ _ (by show j.val < 640; omega)).trans ?_
    refine (canon_skip_lt 512 _ _ _ _ (by show j.val < 512; omega)).trans ?_
    refine (canon_skip_lt 384 _ _ _ _ (by show j.val < 384; omega)).trans ?_
    refine (canon_hit 256 _ _ _ a j q e).trans ?_
    refine (dg2_at _ _ _ _ a q).trans (congrArg₂ (· + ·) ?_ (Finset.sum_congr rfl fun i _ => chunk_g m c hY t 256 rfl (by decide) i (fun k => row_b m c t 0 _ (by decide) i k 256 rfl) q j e))
    · rw [View.readCov_eq_canon']
      refine (canon_skip 128 _ _ _ _ (Nat.le_trans (by decide : 128 + 128 ≤ 256) (Nat.le_add_right 256 _))).trans ?_
      refine (canon_skip 0 _ _ _ _ (Nat.le_trans (by decide : 0 + 128 ≤ 256) (Nat.le_add_right 256 _))).trans ?_
      exact canon_zero _ _
  · obtain ⟨q, e⟩ : ∃ q : Fin 128, j.val = 384 + q.val := ⟨⟨j.val - 384, by omega⟩, by dsimp only; omega⟩
    refine (canon_skip_lt 896 _ _ _ _ (by show j.val < 896; omega)).trans ?_
    refine (canon_skip_lt 768 _ _ _ _ (by show j.val < 768; omega)).trans ?_
    refine (canon_skip_lt 640 _ _ _ _ (by show j.val < 640; omega)).trans ?_
    refine (canon_skip_lt 512 _ _ _ _ (by show j.val < 512; omega)).trans ?_
    refine (canon_hit 384 _ _ _ a j q e).trans ?_
    refine (dg3_at _ _ _ _ a q).trans (congrArg₂ (· + ·) ?_ (Finset.sum_congr rfl fun i _ => chunk_g m c hY t 384 rfl (by decide) i (fun k => row_b m c t 128 _ (by decide) i k 384 rfl) q j e))
    · rw [View.readCov_eq_canon']
      refine (canon_skip 256 _ _ _ _ (Nat.le_trans (by decide : 256 + 128 ≤ 384) (Nat.le_add_right 384 _))).trans ?_
      refine (canon_skip 128 _ _ _ _ (Nat.le_trans (by decide : 128 + 128 ≤ 384) (Nat.le_add_right 384 _))).trans ?_
      refine (canon_skip 0 _ _ _ _ (Nat.le_trans (by decide : 0 + 128 ≤ 384) (Nat.le_add_right 384 _))).trans ?_
      exact canon_zero _ _
  · obtain ⟨q, e⟩ : ∃ q : Fin 128, j.val = 512 + q.val := ⟨⟨j.val - 512, by omega⟩, by dsimp only; omega⟩
    refine (canon_skip_lt 896 _ _ _ _ (by show j.val < 896; omega)).trans ?_
    refine (canon_skip_lt 768 _ _ _ _ (by show j.val < 768; omega)).trans ?_
    refine (canon_skip_lt 640 _ _ _ _ (by show j.val < 640; omega)).trans ?_
    refine (canon_hit 512 _ _ _ a j q e).trans ?_
    refine (dg4_at _ _ _ _ a q).trans (congrArg₂ (· + ·) ?_ (Finset.sum_congr rfl fun i _ => chunk_g m c hY t 512 rfl (by decide) i (fun k => row_b m c t 256 _ (by decide) i k 512 rfl) q j e))
    · rw [View.readCov_eq_canon']
      refine (canon_skip 384 _ _ _ _ (Nat.le_trans (by decide : 384 + 128 ≤ 512) (Nat.le_add_right 512 _))).trans ?_
      refine (canon_skip 256 _ _ _ _ (Nat.le_trans (by decide : 256 + 128 ≤ 512) (Nat.le_add_right 512 _))).trans ?_
      refine (canon_skip 128 _ _ _ _ (Nat.le_trans (by decide : 128 + 128 ≤ 512) (Nat.le_add_right 512 _))).trans ?_
      refine (canon_skip 0 _ _ _ _ (Nat.le_trans (by decide : 0 + 128 ≤ 512) (Nat.le_add_right 512 _))).trans ?_
      exact canon_zero _ _
  · obtain ⟨q, e⟩ : ∃ q : Fin 128, j.val = 640 + q.val := ⟨⟨j.val - 640, by omega⟩, by dsimp only; omega⟩
    refine (canon_skip_lt 896 _ _ _ _ (by show j.val < 896; omega)).trans ?_
    refine (canon_skip_lt 768 _ _ _ _ (by show j.val < 768; omega)).trans ?_
    refine (canon_hit 640 _ _ _ a j q e).trans ?_
    refine (dg5_at _ _ _ _ a q).trans (congrArg₂ (· + ·) ?_ (Finset.sum_congr rfl fun i _ => chunk_g m c hY t 640 rfl (by decide) i (fun k => row_b m c t 384 _ (by decide) i k 640 rfl) q j e))
    · rw [View.readCov_eq_canon']
      refine (canon_skip 512 _ _ _ _ (Nat.le_trans (by decide : 512 + 128 ≤ 640) (Nat.le_add_right 640 _))).trans ?_
      refine (canon_skip 384 _ _ _ _ (Nat.le_trans (by decide : 384 + 128 ≤ 640) (Nat.le_add_right 640 _))).trans ?_
      refine (canon_skip 256 _ _ _ _ (Nat.le_trans (by decide : 256 + 128 ≤ 640) (Nat.le_add_right 640 _))).trans ?_
      refine (canon_skip 128 _ _ _ _ (Nat.le_trans (by decide : 128 + 128 ≤ 640) (Nat.le_add_right 640 _))).trans ?_
      refine (canon_skip 0 _ _ _ _ (Nat.le_trans (by decide : 0 + 128 ≤ 640) (Nat.le_add_right 640 _))).trans ?_
      exact canon_zero _ _
  · obtain ⟨q, e⟩ : ∃ q : Fin 128, j.val = 768 + q.val := ⟨⟨j.val - 768, by omega⟩, by dsimp only; omega⟩
    refine (canon_skip_lt 896 _ _ _ _ (by show j.val < 896; omega)).trans ?_
    refine (canon_hit 768 _ _ _ a j q e).trans ?_
    refine (dg6_at _ _ _ _ a q).trans (congrArg₂ (· + ·) ?_ (Finset.sum_congr rfl fun i _ => chunk_g m c hY t 768 rfl (by decide) i (fun k => row_c m c t 0 _ (by decide) i k 768 rfl) q j e))
    · rw [View.readCov_eq_canon']
      refine (canon_skip 640 _ _ _ _ (Nat.le_trans (by decide : 640 + 128 ≤ 768) (Nat.le_add_right 768 _))).trans ?_
      refine (canon_skip 512 _ _ _ _ (Nat.le_trans (by decide : 512 + 128 ≤ 768) (Nat.le_add_right 768 _))).trans ?_
      refine (canon_skip 384 _ _ _ _ (Nat.le_trans (by decide : 384 + 128 ≤ 768) (Nat.le_add_right 768 _))).trans ?_
      refine (canon_skip 256 _ _ _ _ (Nat.le_trans (by decide : 256 + 128 ≤ 768) (Nat.le_add_right 768 _))).trans ?_
      refine (canon_skip 128 _ _ _ _ (Nat.le_trans (by decide : 128 + 128 ≤ 768) (Nat.le_add_right 768 _))).trans ?_
      refine (canon_skip 0 _ _ _ _ (Nat.le_trans (by decide : 0 + 128 ≤ 768) (Nat.le_add_right 768 _))).trans ?_
      exact canon_zero _ _
  · obtain ⟨q, e⟩ : ∃ q : Fin 128, j.val = 896 + q.val := ⟨⟨j.val - 896, by omega⟩, by dsimp only; omega⟩
    refine (canon_hit 896 _ _ _ a j q e).trans ?_
    refine (dg7_at _ _ _ _ a q).trans (congrArg₂ (· + ·) ?_ (Finset.sum_congr rfl fun i _ => chunk_g m c hY t 896 rfl (by decide) i (fun k => row_c m c t 128 _ (by decide) i k 896 rfl) q j e))
    · rw [View.readCov_eq_canon']
      refine (canon_skip 768 _ _ _ _ (Nat.le_trans (by decide : 768 + 128 ≤ 896) (Nat.le_add_right 896 _))).trans ?_
      refine (canon_skip 640 _ _ _ _ (Nat.le_trans (by decide : 640 + 128 ≤ 896) (Nat.le_add_right 896 _))).trans ?_
      refine (canon_skip 512 _ _ _ _ (Nat.le_trans (by decide : 512 + 128 ≤ 896) (Nat.le_add_right 896 _))).trans ?_
      refine (canon_skip 384 _ _ _ _ (Nat.le_trans (by decide : 384 + 128 ≤ 896) (Nat.le_add_right 896 _))).trans ?_
      refine (canon_skip 256 _ _ _ _ (Nat.le_trans (by decide : 256 + 128 ≤ 896) (Nat.le_add_right 896 _))).trans ?_
      refine (canon_skip 128 _ _ _ _ (Nat.le_trans (by decide : 128 + 128 ≤ 896) (Nat.le_add_right 896 _))).trans ?_
      refine (canon_skip 0 _ _ _ _ (Nat.le_trans (by decide : 0 + 128 ≤ 896) (Nat.le_add_right 896 _))).trans ?_
      exact canon_zero _ _

theorem dg_B (c : Dev nD) (hY : ∀ i k, Fine (YR m c i k)) (t : Fin cfg0.N) (h : ¬ t.val % 32 = 0) (a : Fin 1) (j : Fin 1024) :
    (outsAt0 m c t.val t.isLt).2.2.2 (ix2 a j)
      = HAdd.hAdd (α := EReal) (β := EReal) (γ := EReal) ((outsAt0 m c (t.val - 1) (Nat.lt_of_le_of_lt (Nat.sub_le _ _) t.isLt)).2.2.2 (ix2 a j)) (∑ i : Fin 256, gPart m c (at_ t i) j) := by
  rw [outsAt0_B m c t h]; frame_out
  canon_tiles x hx
  · obtain ⟨p, q, rfl⟩ : ∃ (p : Fin 1) (q : Fin 128), x = ix2 p q := ⟨x 0, x 1, by blk_ext⟩
    obtain rfl : a = p := Fin.ext hx0
    have e : j.val = 896 + q.val := hx1
    refine (dg7_at _ _ _ _ a q).trans (congrArg₂ (· + ·) ?_ (Finset.sum_congr rfl fun i _ => chunk_g m c hY t 896 rfl (by decide) i (fun k => row_c m c t 128 _ (by decide) i k 896 rfl) q j e))
    · exact (ld_cols _ 896 _ a q (by omega)).trans (congrArg (outsAt0 m c (t.val - 1) _).2.2.2 (congrArg (ix2 a) (Fin.ext e.symm)))
  · obtain ⟨p, q, rfl⟩ : ∃ (p : Fin 1) (q : Fin 128), x = ix2 p q := ⟨x 0, x 1, by blk_ext⟩
    obtain rfl : a = p := Fin.ext hx0
    have e : j.val = 768 + q.val := hx1
    refine (dg6_at _ _ _ _ a q).trans (congrArg₂ (· + ·) ?_ (Finset.sum_congr rfl fun i _ => chunk_g m c hY t 768 rfl (by decide) i (fun k => row_c m c t 0 _ (by decide) i k 768 rfl) q j e))
    · exact (ld_cols _ 768 _ a q (by omega)).trans (congrArg (outsAt0 m c (t.val - 1) _).2.2.2 (congrArg (ix2 a) (Fin.ext e.symm)))
  · obtain ⟨p, q, rfl⟩ : ∃ (p : Fin 1) (q : Fin 128), x = ix2 p q := ⟨x 0, x 1, by blk_ext⟩
    obtain rfl : a = p := Fin.ext hx0
    have e : j.val = 640 + q.val := hx1
    refine (dg5_at _ _ _ _ a q).trans (congrArg₂ (· + ·) ?_ (Finset.sum_congr rfl fun i _ => chunk_g m c hY t 640 rfl (by decide) i (fun k => row_b m c t 384 _ (by decide) i k 640 rfl) q j e))
    · exact (ld_cols _ 640 _ a q (by omega)).trans (congrArg (outsAt0 m c (t.val - 1) _).2.2.2 (congrArg (ix2 a) (Fin.ext e.symm)))
  · obtain ⟨p, q, rfl⟩ : ∃ (p : Fin 1) (q : Fin 128), x = ix2 p q := ⟨x 0, x 1, by blk_ext⟩
    obtain rfl : a = p := Fin.ext hx0
    have e : j.val = 512 + q.val := hx1
    refine (dg4_at _ _ _ _ a q).trans (congrArg₂ (· + ·) ?_ (Finset.sum_congr rfl fun i _ => chunk_g m c hY t 512 rfl (by decide) i (fun k => row_b m c t 256 _ (by decide) i k 512 rfl) q j e))
    · exact (ld_cols _ 512 _ a q (by omega)).trans (congrArg (outsAt0 m c (t.val - 1) _).2.2.2 (congrArg (ix2 a) (Fin.ext e.symm)))
  · obtain ⟨p, q, rfl⟩ : ∃ (p : Fin 1) (q : Fin 128), x = ix2 p q := ⟨x 0, x 1, by blk_ext⟩
    obtain rfl : a = p := Fin.ext hx0
    have e : j.val = 384 + q.val := hx1
    refine (dg3_at _ _ _ _ a q).trans (congrArg₂ (· + ·) ?_ (Finset.sum_congr rfl fun i _ => chunk_g m c hY t 384 rfl (by decide) i (fun k => row_b m c t 128 _ (by decide) i k 384 rfl) q j e))
    · exact (ld_cols _ 384 _ a q (by omega)).trans (congrArg (outsAt0 m c (t.val - 1) _).2.2.2 (congrArg (ix2 a) (Fin.ext e.symm)))
  · obtain ⟨p, q, rfl⟩ : ∃ (p : Fin 1) (q : Fin 128), x = ix2 p q := ⟨x 0, x 1, by blk_ext⟩
    obtain rfl : a = p := Fin.ext hx0
    have e : j.val = 256 + q.val := hx1
    refine (dg2_at _ _ _ _ a q).trans (congrArg₂ (· + ·) ?_ (Finset.sum_congr rfl fun i _ => chunk_g m c hY t 256 rfl (by decide) i (fun k => row_b m c t 0 _ (by decide) i k 256 rfl) q j e))
    · exact (ld_cols _ 256 _ a q (by omega)).trans (congrArg (outsAt0 m c (t.val - 1) _).2.2.2 (congrArg (ix2 a) (Fin.ext e.symm)))
  · obtain ⟨p, q, rfl⟩ : ∃ (p : Fin 1) (q : Fin 128), x = ix2 p q := ⟨x 0, x 1, by blk_ext⟩
    obtain rfl : a = p := Fin.ext hx0
    have e : j.val = 128 + q.val := hx1
    refine (dg1_at _ _ _ _ a q).trans (congrArg₂ (· + ·) ?_ (Finset.sum_congr rfl fun i _ => chunk_g m c hY t 128 rfl (by decide) i (row_a m c t 128 _ (by decide) i) q j e))
    · exact (ld_cols _ 128 _ a q (by omega)).trans (congrArg (outsAt0 m c (t.val - 1) _).2.2.2 (congrArg (ix2 a) (Fin.ext e.symm)))
  · obtain ⟨p, q, rfl⟩ : ∃ (p : Fin 1) (q : Fin 128), x = ix2 p q := ⟨x 0, x 1, by blk_ext⟩
    obtain rfl : a = p := Fin.ext hx0
    have e : j.val = 0 + q.val := (show j.val = q.val from hx1).trans (Nat.zero_add _).symm
    refine (dg0_at _ _ _ _ a q).trans (congrArg₂ (· + ·) ?_ (Finset.sum_congr rfl fun i _ => chunk_g m c hY t 0 rfl (by decide) i (row_a m c t 0 _ (by decide) i) q j e))
    · exact (ld_cols _ 0 _ a q (by omega)).trans (congrArg (outsAt0 m c (t.val - 1) _).2.2.2 (congrArg (ix2 a) (Fin.ext e.symm)))

/-! ## The results -/

theorem ref_row (i : Fin 8192) (J : Fin 1024) : val_main_v44 (F := Ideal) DX YA YB YC G W (ix2 i J)
    = dyRow (Y YA YC YB i) (fun j => D DX W i j * G (ix1 j)) J := by
  pointwise [val_main_v44]
  rw [ref_dy]
  rfl

section
variable (c : Dev nD) (hY : ∀ i k, Fine (YR m c i k)) (hE : ∀ i k, Fine (ER m c i k))
include hY hE

theorem final_dya : (dats m 0 c).arrAt 6 cfg0.N
    = val_main_v45 (F := Ideal) (A0 m c) (A1 m c) (A2 m c) (A3 m c) (A4 m c) (A5 m c) := by
  refine (dats m 0 c).arrAt_eq_of_covers 6 _ (by decide +kernel) fun t hf y => ?_
  blk_simp
  rw [after0_6]
  have hy : y = ix2 (y 0) (y 1) := by blk_ext
  have he : ((win0_6.blk t).view.emb y) = ix2 (at_ t (y 0)) (y 1) := by blk_ext [idx t]
  rw [he]
  refine ((congrArg _ hy).trans (dya_block m c hY hE t (y 0) (y 1))).trans (Eq.symm ?_)
  pointwise [val_main_v45]
  exact (ref_row _ _ _ _ _ _ _ _).trans (congrArg (dyRow _ _) (Fin.ext (by first | rfl | (dsimp only; done) | (dsimp only; omega))))

theorem final_dyb : (dats m 0 c).arrAt 7 cfg0.N
    = val_main_v46 (F := Ideal) (A0 m c) (A1 m c) (A2 m c) (A3 m c) (A4 m c) (A5 m c) := by
  refine (dats m 0 c).arrAt_eq_of_covers 7 _ (by decide +kernel) fun t hf y => ?_
  blk_simp
  rw [after0_7]
  have hy : y = ix2 (y 0) (y 1) := by blk_ext
  have he : ((win0_7.blk t).view.emb y) = ix2 (at_ t (y 0)) (y 1) := by blk_ext [idx t]
  rw [he]
  refine ((congrArg _ hy).trans (dyb_block m c hY hE t (y 0) (y 1))).trans (Eq.symm ?_)
  pointwise [val_main_v46]
  exact (ref_row _ _ _ _ _ _ _ _).trans (congrArg (dyRow _ _) (Fin.ext (by first | rfl | (dsimp only; done) | (dsimp only; omega))))

theorem final_dyc : (dats m 0 c).arrAt 8 cfg0.N
    = val_main_v47 (F := Ideal) (A0 m c) (A1 m c) (A2 m c) (A3 m c) (A4 m c) (A5 m c) := by
  refine (dats m 0 c).arrAt_eq_of_covers 8 _ (by decide +kernel) fun t hf y => ?_
  blk_simp
  rw [after0_8]
  have hy : y = ix2 (y 0) (y 1) := by blk_ext
  have he : ((win0_8.blk t).view.emb y) = ix2 (at_ t (y 0)) (y 1) := by blk_ext [idx t]
  rw [he]
  refine ((congrArg _ hy).trans (dyc_block m c hY hE t (y 0) (y 1))).trans (Eq.symm ?_)
  pointwise [val_main_v47]
  exact (ref_row _ _ _ _ _ _ _ _).trans (congrArg (dyRow _ _) (Fin.ext (by first | rfl | (dsimp only; done) | (dsimp only; omega))))
end

theorem last_of_flush (t : Fin cfg0.N) (h : t.val % 32 = 31) : t.val + 1 = cfg0.N := by
  have := (idx t).2.2.2.2.2.2.2.2.2.2
  show t.val + 1 = grid0.N
  rw [N_0]; omega

theorem dg_last (c : Dev nD) (hY : ∀ i k, Fine (YR m c i k)) (t : Fin cfg0.N) (ht : t.val % 32 = 31) (a : Fin 1) (j : Fin 1024) :
    (outsAt0 m c t.val t.isLt).2.2.2 (ix2 a j) = val_main_v48 (F := Ideal) (A0 m c) (A1 m c) (A2 m c) (A3 m c) (A5 m c) (ix2 a j) := by
  rw [ref_dg, Pipeline.eq_sum_fin_of_reset_step_apply_last (fun n h => (outsAt0 m c n h).2.2.2) 32 (fun _ => 0)
    (fun t y => ∑ i : Fin 256, gPart m c (at_ t i) (y 1))
    (fun t h y => by
      idx_vars y
      exact dg_A m c hY t h _ _)
    (fun t h y => by
      idx_vars y
      exact dg_B m c hY t h _ _)
    (le_of_eq N_0) t (last_of_flush t ht) _, zero_add]
  exact Fin.sum_mul_add_congr fun t i hl => rfl

theorem final_dg (c : Dev nD) (hY : ∀ i k, Fine (YR m c i k)) : (dats m 0 c).arrAt 9 cfg0.N
    = val_main_v48 (F := Ideal) (A0 m c) (A1 m c) (A2 m c) (A3 m c) (A5 m c) := by
  refine (dats m 0 c).arrAt_eq_of_covers 9 _ (by decide +kernel) fun t hf y => ?_
  blk_simp
  rw [after0_9]
  have hy : y = ix2 (y 0) (y 1) := by blk_ext
  have he : ((win0_9.blk t).view.emb y) = ix2 (y 0) (y 1) := by blk_ext [idx t]
  rw [he]
  exact (congrArg _ hy).trans (dg_last m c hY t ((flush0_9 t).mp hf) (y 0) (y 1))

/-! ## The claim -/

instance finite_facts : Cert.Pre_mix_finite.Facts := ⟨by decide, by decide, by decide, by decide, by decide⟩

theorem fine_of {a : FVec Ideal Cert.Pre_mix_finite.S8192x1024 .f32} {b d : FVec Ideal Cert.Pre_mix_finite.S8192x256 .f32}
    {e : FVec Ideal Cert.Pre_mix_finite.S8192x512 .f32} {g : FVec Ideal Cert.Pre_mix_finite.S1024 .f32} {w : FVec Ideal Cert.Pre_mix_finite.S1024x1024 .f32}
    (h : (Cert.Pre_mix_finite.fn (F := Ideal) a b e d g w).1 = (fun _ => 1#1) ∧ (Cert.Pre_mix_finite.fn (F := Ideal) a b e d g w).2.1 = (fun _ => 1#1)
      ∧ (Cert.Pre_mix_finite.fn (F := Ideal) a b e d g w).2.2.1 = (fun _ => 1#1) ∧ (Cert.Pre_mix_finite.fn (F := Ideal) a b e d g w).2.2.2.1 = (fun _ => 1#1)
      ∧ (Cert.Pre_mix_finite.fn (F := Ideal) a b e d g w).2.2.2.2.1 = (fun _ => 1#1) ∧ (Cert.Pre_mix_finite.fn (F := Ideal) a b e d g w).2.2.2.2.2 = (fun _ => 1#1)) :
    (∀ i j, Fine (a (ix2 i j))) ∧ (∀ i j, Fine (b (ix2 i j))) ∧ (∀ i j, Fine (e (ix2 i j))) ∧ (∀ i j, Fine (d (ix2 i j)))
      ∧ (∀ j, Fine (g (ix1 j))) ∧ ∀ i j, Fine (w (ix2 i j)) := by
  obtain ⟨h0, h1, h2, h3, h4, h5⟩ := h
  refine ⟨fun i j => ?_, fun i j => ?_, fun i j => ?_, fun i j => ?_, fun j => ?_, fun i j => ?_⟩
  · have h' := congrFun h0 (ix2 i j); pointwise [Cert.Pre_mix_finite.fn] at h'; exact Fine.of_abs h'
  · have h' := congrFun h1 (ix2 i j); pointwise [Cert.Pre_mix_finite.fn] at h'; exact Fine.of_abs h'
  · have h' := congrFun h2 (ix2 i j); pointwise [Cert.Pre_mix_finite.fn] at h'; exact Fine.of_abs h'
  · have h' := congrFun h3 (ix2 i j); pointwise [Cert.Pre_mix_finite.fn] at h'; exact Fine.of_abs h'
  · have h' := congrFun h4 (ix1 j); pointwise [Cert.Pre_mix_finite.fn] at h'; exact Fine.of_abs h'
  · have h' := congrFun h5 (ix2 i j); pointwise [Cert.Pre_mix_finite.fn] at h'; exact Fine.of_abs h'

theorem algebraic : Cert.algebraic_MixKernelIdeal_MixReferenceIdeal_pre_mix_finite := fun m g m' g' hp hag => by
  refine ⟨_, _, _, _, Value.run_blocks m g, (θ_run _ _ _).mono (fun r h c => ?_) (Cert.MixReferenceIdeal.Value.run m' g')⟩
  obtain ⟨h45, h46, h47, h48, k⟩ := h c
  obtain ⟨a0, a1, a2, a3, a4, a5⟩ := hag c
  obtain ⟨f0, f1, f2, f3, f4, f5⟩ := fine_of (hp c)
  have hY : ∀ i k, Fine (YR m c i k) := fun i k => by
    unfold YR Y
    split_ifs
    · exact f1 _ _
    · exact f2 _ _
    · exact f3 _ _
  have hE : ∀ i k, Fine (ER m c i k) := fun i k => Fine.mul (Fine.sum _ fun j => Fine.mul (f0 _ _) (f5 _ _)) (f4 _)
  refine ⟨h45.trans ?_, h46.trans ?_, h47.trans ?_, h48.trans ?_, k⟩
  · rw [final_dya m c hY hE, val_main_v45_eq, a0, a1, a2, a3, a4, a5]
  · rw [final_dyb m c hY hE, val_main_v46_eq, a0, a1, a2, a3, a4, a5]
  · rw [final_dyc m c hY hE, val_main_v47_eq, a0, a1, a2, a3, a4, a5]
  · rw [final_dg m c hY, a0, a1, a2, a3, a5]; rfl

end Cert.Mix

end
-- ==== Proof.Gate.lean ====
/- The gate of the feed-forward and the causal convolution before it: the gradients of the convolution's result (the two halves), of its
   weights and of its bias. The kernel goes over column chunks and, inside one, over row blocks; a block's first rows take the rows before
   it from a small block of the eight rows above. -/
module

public import proofs.«01_k».proof.Proof.Gen.GateKernelIdeal.Value
public import proofs.«01_k».proof.Proof.Gen.GateReferenceIdeal.Run
public import proofs.«01_k».proof.Proof.Gen.GateReferenceIdeal.Read
public import proofs.«01_k».proof.Proof.Group
public import proofs.«01_k».proof.Defs
public import Idealize.ShloMosaic.Lib.Pipeline.ValueKit
public import Idealize.ShloMosaic.Lib.Pointwise
public import Idealize.ShloMosaic.Lib.WritesUnit

@[expose] public section

set_option maxRecDepth 16384

noncomputable section

namespace Cert.Gate

open Idealize.ShloMosaic Idealize.ShloMosaic.TcCoe Idealize.SL.Sem
open Idealize.ShloMosaic.Pipeline (Dat)
open Cert.GateKernelIdeal Cert.GateKernelIdeal.Gen
open Cert.GateReferenceIdeal.Read
open Cert.Norm

/-! ## The blocks' places -/

theorem idx : ∀ t : Fin cfg0.N, win0_0.index t = ![t.val % 16, 0] ∧ win0_1.index t = ![t.val % 16, t.val / 16]
    ∧ win0_2.index t = ![t.val % 16, t.val / 16 + 11] ∧ win0_3.index t = ![t.val % 16 * 64 - 1, t.val / 16]
    ∧ win0_4.index t = ![t.val % 16 * 64 - 1, t.val / 16 + 11] ∧ win0_5.index t = ![0, t.val / 16]
    ∧ win0_6.index t = ![0, t.val / 16 + 11] ∧ win0_7.index t = ![0, t.val / 16] ∧ win0_8.index t = ![t.val % 16, t.val / 16]
    ∧ win0_9.index t = ![t.val % 16, t.val / 16] ∧ win0_10.index t = ![0, t.val / 16] ∧ win0_11.index t = ![0, t.val / 16] ∧ t.val < 176 :=
  (by decide +kernel : ∀ t : Fin grid0.N, _)

theorem first : ∀ t : Fin cfg0.N, Scalar.cmpi .sgt (BitVec.ofNat 32 ((grid0.coords t) 1).val) 0#32 = if t.val % 16 = 0 then 0#1 else 1#1 :=
  (by decide +kernel : ∀ t : Fin grid0.N, _)

theorem lt_row (t : Fin cfg0.N) (i : Fin 512) : t.val % 16 * 512 + i.val < 8192 := by omega
theorem lt_col (t : Fin cfg0.N) (j : Fin 256) : t.val / 16 * 256 + j.val < 2816 := by
  have := (idx t).2.2.2.2.2.2.2.2.2.2.2.2; omega

/-- the array row and column of a block's row and column -/
abbrev row (t : Fin cfg0.N) (i : Fin 512) : Fin 8192 := ⟨t.val % 16 * 512 + i.val, lt_row t i⟩
abbrev col (t : Fin cfg0.N) (j : Fin 256) : Fin 2816 := ⟨t.val / 16 * 256 + j.val, lt_col t j⟩

/-! ## The convolution -/

/-- a column moved down by two rows less k, zero above the first row -/
def down (f : Fin 8192 → EReal) (k : Fin 3) (i : Fin 8192) : EReal :=
  if h : 2 ≤ i.val + k.val then f ⟨i.val + k.val - 2, by omega⟩ else 0

theorem lt_prev (t : Fin cfg0.N) (a : Fin 8) : (t.val % 16 * 64 - 1) * 8 + a.val < 8192 := by omega

theorem down_1 (f : Fin 8192 → EReal) (t : Fin cfg0.N) (i : Fin 512) : down f 1 (row t i)
    = if h : 1 ≤ i.val then f (row t ⟨i.val - 1, by omega⟩) else if t.val % 16 = 0 then 0 else f ⟨(t.val % 16 * 64 - 1) * 8 + 7, lt_prev t 7⟩ := by
  unfold down
  have h1 : ((1 : Fin 3) : ℕ) = 1 := rfl
  simp only [h1]
  split_ifs <;> first | omega | rfl | exact congrArg f (Fin.ext (by dsimp only; omega))

theorem down_0 (f : Fin 8192 → EReal) (t : Fin cfg0.N) (i : Fin 512) : down f 0 (row t i)
    = if h : 2 ≤ i.val then f (row t ⟨i.val - 2, by omega⟩) else if t.val % 16 = 0 then 0 else f ⟨(t.val % 16 * 64 - 1) * 8 + (6 + i.val % 2), lt_prev t ⟨6 + i.val % 2, by omega⟩⟩ := by
  unfold down
  have h1 : ((0 : Fin 3) : ℕ) = 0 := rfl
  simp only [h1]
  split_ifs <;> first | omega | rfl | exact congrArg f (Fin.ext (by dsimp only; omega))

theorem down_2 (f : Fin 8192 → EReal) (i : Fin 8192) : down f 2 i = f i := by
  unfold down
  rw [dif_pos (by show 2 ≤ i.val + 2; omega)]
  exact congrArg f (Fin.ext (by show i.val + 2 - 2 = i.val; omega))

theorem lt_one : ∀ i : Fin 512, IntOp.cmpi CmpIPredicate.slt (BitVec.ofNat 32 i.val) 1#32 = if i.val < 1 then 1#1 else 0#1 := by decide +kernel
theorem lt_two : ∀ i : Fin 512, IntOp.cmpi CmpIPredicate.slt (BitVec.ofNat 32 i.val) 2#32 = if i.val < 2 then 1#1 else 0#1 := by decide +kernel

theorem select_one (x y : EReal) : Scalar.select 1#1 x y = x := if_pos (by decide)
theorem select_zero (x y : EReal) : Scalar.select 0#1 x y = y := if_neg (by decide)

section
variable (t : Fin cfg0.N) (v9 : FVec Ideal S512x256 .f32) (v10 : FVec Ideal S8x256 .f32) (b : BitVec 1)

theorem pay6_at (a : Fin 8) (k : Fin 256) : k0_pay6 (F := Ideal) (grid0.coords t) v10 (ix2 a k) = if t.val % 16 = 0 then 0 else v10 (ix2 a k) := by
  unfold k0_pay6
  dsimp only
  rw [first t]
  split
  · pointwise [Scalar.select]
    rw [if_neg (by decide)]
    pointwise []
  · pointwise [Scalar.select]
    rw [if_pos (by decide)]

theorem pay11_at (a : Fin 8) (k : Fin 256) : k0_pay11 (F := Ideal) (Scalar.cmpi .sgt (BitVec.ofNat 32 ((grid0.coords t) 1).val) 0#32) v10 (ix2 a k) = if t.val % 16 = 0 then 0 else v10 (ix2 a k) :=
  pay6_at t v10 a k

theorem pay7_at (i : Fin 512) (k : Fin 256) : k0_pay7 (F := Ideal) (grid0.coords t) v9 v10 (ix2 i k)
    = if h : 1 ≤ i.val then v9 (ix2 ⟨i.val - 1, by omega⟩ k) else if t.val % 16 = 0 then 0 else v10 (ix2 7 k) := by
  pointwise [k0_pay7]
  rw [lt_one]
  by_cases h8 : i.val < 8
  · refine (dif_pos h8).trans ?_
    by_cases h1 : i.val < 1
    · rw [if_pos h1, dif_neg (by omega)]
      refine (select_one _ _).trans ((pay6_at _ _ _ _).trans ?_)
      exact congrArg (fun a : Fin 8 => if t.val % 16 = 0 then (0 : EReal) else v10 (ix2 a k)) (Fin.ext (by show (i.val + 8 - 1) % 8 = 7; omega))
    · rw [if_neg h1, dif_pos (by omega)]
      refine (select_zero _ _).trans ?_
      exact congrArg (fun a : Fin 512 => v9 (ix2 a k)) (Fin.ext (by show (i.val + 512 - 1) % 512 = i.val - 1; omega))
  · refine (dif_neg h8).trans ?_
    rw [dif_pos (by omega)]
    exact congrArg (fun a : Fin 512 => v9 (ix2 a k)) (Fin.ext (by show (8 + (i.val - 8) + 512 - 1) % 512 = i.val - 1; omega))

theorem pay8_at (i : Fin 512) (k : Fin 256) : k0_pay8 (F := Ideal) (grid0.coords t) v9 v10 (ix2 i k)
    = if h : 2 ≤ i.val then v9 (ix2 ⟨i.val - 2, by omega⟩ k) else if t.val % 16 = 0 then 0 else v10 (ix2 ⟨6 + i.val % 2, by omega⟩ k) := by
  pointwise [k0_pay8]
  rw [lt_two]
  by_cases h8 : i.val < 8
  · refine (dif_pos h8).trans ?_
    by_cases h1 : i.val < 2
    · rw [if_pos h1, dif_neg (by omega)]
      refine (select_one _ _).trans ((pay6_at _ _ _ _).trans ?_)
      exact congrArg (fun a : Fin 8 => if t.val % 16 = 0 then (0 : EReal) else v10 (ix2 a k)) (Fin.ext (by show (i.val + 8 - 2) % 8 = 6 + i.val % 2; omega))
    · rw [if_neg h1, dif_pos (by omega)]
      refine (select_zero _ _).trans ?_
      exact congrArg (fun a : Fin 512 => v9 (ix2 a k)) (Fin.ext (by show (i.val + 512 - 2) % 512 = i.val - 2; omega))
  · refine (dif_neg h8).trans ?_
    rw [dif_pos (by omega)]
    exact congrArg (fun a : Fin 512 => v9 (ix2 a k)) (Fin.ext (by show (8 + (i.val - 8) + 512 - 2) % 512 = i.val - 2; omega))

variable {v9 v10} (f : Fin 8192 → EReal) {k : Fin 256} (hc : ∀ i : Fin 512, v9 (ix2 i k) = f (row t i))
  (hp : ∀ a : Fin 8, v10 (ix2 a k) = f ⟨(t.val % 16 * 64 - 1) * 8 + a.val, lt_prev t a⟩)
include hc hp

theorem shift_1 (i : Fin 512) : k0_pay7 (F := Ideal) (grid0.coords t) v9 v10 (ix2 i k) = down f 1 (row t i) := by
  rw [pay7_at, down_1, hp]
  simp only [hc]
  rfl

theorem shift_2 (i : Fin 512) : k0_pay8 (F := Ideal) (grid0.coords t) v9 v10 (ix2 i k) = down f 0 (row t i) := by
  rw [pay8_at, down_0, hp]
  simp only [hc]

end

/-! ## The block's values -/

/-- the convolution at a row: the bias and three rows of the column, each times its weight -/
def conv (f : Fin 8192 → EReal) (w : Fin 3 → EReal) (b : EReal) (i : Fin 8192) : EReal :=
  b + down f 0 i * w 0 + down f 1 i * w 1 + down f 2 i * w 2

theorem pay5_at (x : FVec Ideal S512x1024 .f32) (w : FVec Ideal S1024x256 .bf16) (i : Fin 512) (j : Fin 256) :
    k0_pay5 (F := Ideal) x w (ix2 i j) = ∑ k : Fin 1024, x (ix2 i k) * w (ix2 k j) := by
  pointwise [k0_pay5]

section
variable (d z zu s1 s2 y : FVec Ideal S512x256 .f32) (b w0 w1 w2 acc : FVec Ideal S1x256 .f32)

theorem pay10_at (i : Fin 512) (j : Fin 256) : k0_pay10 (F := Ideal) z s1 s2 (k0_pay9 b) w0 w1 w2 (ix2 i j)
    = b (ix2 0 j) + s2 (ix2 i j) * w0 (ix2 0 j) + s1 (ix2 i j) * w1 (ix2 0 j) + z (ix2 i j) * w2 (ix2 0 j) := by
  pointwise [k0_pay10, k0_pay9]

theorem pay17_at (i : Fin 512) (j : Fin 256) : k0_pay17 (F := Ideal) d z (ix2 i j) = d (ix2 i j) * (z (ix2 i j) * Ideal.logistic (z (ix2 i j))) := by
  pointwise [k0_pay17, k0_pay16]

theorem pay18_at (i : Fin 512) (j : Fin 256) : k0_pay18 (F := Ideal) d y z s1 s2 (k0_pay14 b) (k0_pay15 w0) w1 w2 (ix2 i j)
    = d (ix2 i j) * (b (ix2 0 j) + s2 (ix2 i j) * w0 (ix2 0 j) + s1 (ix2 i j) * w1 (ix2 0 j) + z (ix2 i j) * w2 (ix2 0 j))
      * (Ideal.logistic (y (ix2 i j)) * (1 + y (ix2 i j) * (1 - Ideal.logistic (y (ix2 i j))))) := by
  pointwise [k0_pay18, k0_pay16, k0_pay14, k0_pay15]

end

variable (m : (ℓ : Loc nD τ sig) → Buf (Elt Ideal) ℓ)

section
variable (c : Dev nD) (t : Fin cfg0.N)
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)

/-- the column of the first half, and of the second half -/
abbrev lo (j : Fin 2816) : Fin 5632 := ⟨j.val, by omega⟩
abbrev hi (j : Fin 2816) : Fin 5632 := ⟨2816 + j.val, by omega⟩

theorem blk_0 (i : Fin 512) (k : Fin 1024) : iblk m c 0 t (ix2 i k) = A0 m c (ix2 (row t i) k) := by blk_point [iblk, idx t]
theorem blk_1 (i : Fin 512) (j : Fin 256) : iblk m c 1 t (ix2 i j) = A1 m c (ix2 (row t i) (lo (col t j))) := by blk_point [iblk, idx t]
theorem blk_2 (i : Fin 512) (j : Fin 256) : iblk m c 2 t (ix2 i j) = A1 m c (ix2 (row t i) (hi (col t j))) := by blk_point [iblk, idx t]
theorem blk_3 (a : Fin 8) (j : Fin 256) : iblk m c 3 t (ix2 a j) = A1 m c (ix2 ⟨(t.val % 16 * 64 - 1) * 8 + a.val, lt_prev t a⟩ (lo (col t j))) := by blk_point [iblk, idx t]
theorem blk_4 (a : Fin 8) (j : Fin 256) : iblk m c 4 t (ix2 a j) = A1 m c (ix2 ⟨(t.val % 16 * 64 - 1) * 8 + a.val, lt_prev t a⟩ (hi (col t j))) := by blk_point [iblk, idx t]
/-- the weights, the bias and four rows of zeros, one above the other -/
theorem stack_at (a : Vec Ideal S3x5632 .f32) (b : Vec Ideal S1x5632 .f32) (z : Vec Ideal S4x5632 .f32) (J : Fin 5632) :
    (∀ k : Fin 3, concatenate S8x5632 0 [⟨S3x5632, a⟩, ⟨S1x5632, b⟩, ⟨S4x5632, z⟩] concatenates_S3x5632_S1x5632_S4x5632_S8x5632_d0 (ix2 ⟨k.val, by omega⟩ J) = a (ix2 k J)) ∧
    concatenate S8x5632 0 [⟨S3x5632, a⟩, ⟨S1x5632, b⟩, ⟨S4x5632, z⟩] concatenates_S3x5632_S1x5632_S4x5632_S8x5632_d0 (ix2 3 J) = b (ix2 0 J) := by
  refine ⟨fun k => ?_, ?_⟩
  · exact concatenate_apply_piece (t := S8x5632) (0 : Fin 2) [⟨S3x5632, a⟩, ⟨S1x5632, b⟩, ⟨S4x5632, z⟩] concatenates_S3x5632_S1x5632_S4x5632_S8x5632_d0 (ix2 ⟨k.val, by omega⟩ J) 0 (show 0 < 3 by decide) S3x5632 a rfl rfl 0 rfl (ix2 k J) (fun d hd => by fin_cases d; exact absurd rfl hd; rfl) (Nat.zero_add _)
  · exact concatenate_apply_piece (t := S8x5632) (0 : Fin 2) [⟨S3x5632, a⟩, ⟨S1x5632, b⟩, ⟨S4x5632, z⟩] concatenates_S3x5632_S1x5632_S4x5632_S8x5632_d0 (ix2 3 J) 1 (show 1 < 3 by decide) S1x5632 b rfl rfl 3 rfl (ix2 0 J) (fun d hd => by fin_cases d; exact absurd rfl hd; rfl) rfl

theorem V_2 : V m c main_v2 = concatenate S8x5632 0 [⟨S3x5632, (A2 m c : Vec Ideal S3x5632 .f32)⟩, ⟨S1x5632, broadcastInDim S1x5632 ![1] bcast_S5632_S1x5632_1 (A3 m c : Vec Ideal S5632 .f32)⟩,
    ⟨S4x5632, broadcastInDim S4x5632 ![] bcast_S_S4x5632 (constant (F := Ideal) S_ .f32 0x00000000#32)⟩] concatenates_S3x5632_S1x5632_S4x5632_S8x5632_d0 := rfl

theorem at_5 (k : Fin 8) (j : Fin 256) : iblk m c 5 t (ix2 k j) = V m c main_v2 (ix2 k (lo (col t j))) := by
  show V m c main_v2 _ = V m c main_v2 _
  congr 1; blk_ext [idx t]
theorem at_6 (k : Fin 8) (j : Fin 256) : iblk m c 6 t (ix2 k j) = V m c main_v2 (ix2 k (hi (col t j))) := by
  show V m c main_v2 _ = V m c main_v2 _
  congr 1; blk_ext [idx t]
theorem blk_5 (k : Fin 3) (j : Fin 256) : iblk m c 5 t (ix2 ⟨k.val, by omega⟩ j) = A2 m c (ix2 k (lo (col t j))) := by
  rw [at_5, V_2]; exact (stack_at _ _ _ _).1 k
theorem blk_5' (j : Fin 256) : iblk m c 5 t (ix2 3 j) = A3 m c (ix1 (lo (col t j))) := by
  rw [at_5, V_2]; refine (stack_at _ _ _ _).2.trans ?_; pointwise []
theorem blk_6 (k : Fin 3) (j : Fin 256) : iblk m c 6 t (ix2 ⟨k.val, by omega⟩ j) = A2 m c (ix2 k (hi (col t j))) := by
  rw [at_6, V_2]; exact (stack_at _ _ _ _).1 k
theorem blk_6' (j : Fin 256) : iblk m c 6 t (ix2 3 j) = A3 m c (ix1 (hi (col t j))) := by
  rw [at_6, V_2]; refine (stack_at _ _ _ _).2.trans ?_; pointwise []
theorem blk_7 (l : Fin 1024) (j : Fin 256) : iblk m c 7 t (ix2 l j) = A4 m c (ix2 (col t j) l) := by blk_point [iblk, idx t]
end

/-- one row of a block of eight -/
theorem ld_row (B : Vec Ideal S8x256 .f32) (r : ℕ) (hr : r < 8) (h : ∀ a, (![r, 0] : Fin 2 → ℕ) a + (![1, 256] : Fin 2 → ℕ) a ≤ S8x256.size a)
    (a : Fin 1) (j : Fin 256) : View.ld B (Rect.unit (s := S8x256) ![r, 0] ![1, 256] h) (ix2 a j) = B (ix2 ⟨r, hr⟩ j) :=
  congrArg B (funext fun d => Fin.ext (by
    fin_cases d
    · show r + 1 * a.val = r; omega
    · exact (Nat.zero_add _).trans (Nat.one_mul _)))

section
variable (c : Dev nD) (t : Fin cfg0.N)

/-- a column of the convolution's input, its weights, its result at a row; the gradient of the gate's result -/
abbrev colZ (J : Fin 5632) : Fin 8192 → EReal := fun i => A1 m c (ix2 i J)
def ZC (i : Fin 8192) (J : Fin 5632) : EReal := conv (colZ m c J) (fun k => A2 m c (ix2 k J)) (A3 m c (ix1 J)) i
def DA (i : Fin 8192) (l : Fin 2816) : EReal := ∑ k : Fin 1024, HMul.hMul (α := EReal) (β := EReal) (γ := EReal) (A0 m c (ix2 i k)) (A4 m c (ix2 l k))

/-- the gradients of the two halves of the convolution's result -/
def gG (i : Fin 8192) (l : Fin 2816) : EReal :=
  DA m c i l * ZC m c i (hi l) * (Ideal.logistic (ZC m c i (lo l)) * (1 + ZC m c i (lo l) * (1 - Ideal.logistic (ZC m c i (lo l)))))
def gU (i : Fin 8192) (l : Fin 2816) : EReal := DA m c i l * (ZC m c i (lo l) * Ideal.logistic (ZC m c i (lo l)))

/-- the blocks the kernel computes: the gradient of the gate's result, the convolution's first half, and the two gradients -/
abbrev DB : FVec Ideal S512x256 .f32 := k0_pay5 (F := Ideal) (iblk m c 0 t) (iblk m c 7 t)
abbrev s1 : FVec Ideal S512x256 .f32 := k0_pay7 (F := Ideal) (grid0.coords t) (iblk m c 1 t) (iblk m c 3 t)
abbrev s2 : FVec Ideal S512x256 .f32 := k0_pay8 (F := Ideal) (grid0.coords t) (iblk m c 1 t) (iblk m c 3 t)
abbrev u1 : FVec Ideal S512x256 .f32 := k0_pay12 (F := Ideal) (Scalar.cmpi .sgt (BitVec.ofNat 32 ((grid0.coords t) 1).val) 0#32) (iblk m c 2 t) (iblk m c 4 t)
abbrev u2 : FVec Ideal S512x256 .f32 := k0_pay13 (F := Ideal) (Scalar.cmpi .sgt (BitVec.ofNat 32 ((grid0.coords t) 1).val) 0#32) (iblk m c 2 t) (iblk m c 4 t)
abbrev cg (r : ℕ) (h : ∀ a, (![r, 0] : Fin 2 → ℕ) a + (![1, 256] : Fin 2 → ℕ) a ≤ S8x256.size a) : FVec Ideal S1x256 .f32 := View.ld (iblk m c 5 t) (Rect.unit (s := S8x256) ![r, 0] ![1, 256] h)
abbrev cu (r : ℕ) (h : ∀ a, (![r, 0] : Fin 2 → ℕ) a + (![1, 256] : Fin 2 → ℕ) a ≤ S8x256.size a) : FVec Ideal S1x256 .f32 := View.ld (iblk m c 6 t) (Rect.unit (s := S8x256) ![r, 0] ![1, 256] h)
abbrev ZB : FVec Ideal S512x256 .f32 := k0_pay10 (F := Ideal) (iblk m c 1 t) (s1 m c t) (s2 m c t) (k0_pay9 (cg m c t 3 inb_S8x256_S1x256_3_0))
  (cg m c t 0 inb_S8x256_S1x256_0_0) (cg m c t 1 inb_S8x256_S1x256_1_0) (cg m c t 2 inb_S8x256_S1x256_2_0)
abbrev GB : FVec Ideal S512x256 .f32 := k0_pay18 (F := Ideal) (DB m c t) (ZB m c t) (iblk m c 2 t) (u1 m c t) (u2 m c t) (k0_pay14 (cu m c t 3 inb_S8x256_S1x256_3_0))
  (k0_pay15 (cu m c t 0 inb_S8x256_S1x256_0_0)) (cu m c t 1 inb_S8x256_S1x256_1_0) (cu m c t 2 inb_S8x256_S1x256_2_0)
abbrev UB : FVec Ideal S512x256 .f32 := k0_pay17 (F := Ideal) (DB m c t) (ZB m c t)

theorem s1_at (i : Fin 512) (j : Fin 256) : s1 m c t (ix2 i j) = down (colZ m c (lo (col t j))) 1 (row t i) :=
  shift_1 t (colZ m c (lo (col t j))) (fun i => blk_1 m c t i j) (fun a => blk_3 m c t a j) i
theorem s2_at (i : Fin 512) (j : Fin 256) : s2 m c t (ix2 i j) = down (colZ m c (lo (col t j))) 0 (row t i) :=
  shift_2 t (colZ m c (lo (col t j))) (fun i => blk_1 m c t i j) (fun a => blk_3 m c t a j) i
theorem u1_at (i : Fin 512) (j : Fin 256) : u1 m c t (ix2 i j) = down (colZ m c (hi (col t j))) 1 (row t i) :=
  shift_1 t (colZ m c (hi (col t j))) (fun i => blk_2 m c t i j) (fun a => blk_4 m c t a j) i
theorem u2_at (i : Fin 512) (j : Fin 256) : u2 m c t (ix2 i j) = down (colZ m c (hi (col t j))) 0 (row t i) :=
  shift_2 t (colZ m c (hi (col t j))) (fun i => blk_2 m c t i j) (fun a => blk_4 m c t a j) i

theorem DB_at (i : Fin 512) (j : Fin 256) : DB m c t (ix2 i j) = DA m c (row t i) (col t j) := by
  refine (pay5_at _ _ i j).trans ?_
  unfold DA; simp only [blk_0, blk_7]
theorem ZB_at (i : Fin 512) (j : Fin 256) : ZB m c t (ix2 i j) = ZC m c (row t i) (lo (col t j)) := by
  refine (pay10_at _ _ _ _ _ _ _ i j).trans ?_
  unfold ZC conv
  rw [s1_at, s2_at, down_2, blk_1]
  rw [show cg m c t 3 inb_S8x256_S1x256_3_0 (ix2 0 j) = _ from (ld_row _ 3 (by decide) _ 0 j).trans (blk_5' m c t j),
    show cg m c t 0 inb_S8x256_S1x256_0_0 (ix2 0 j) = _ from (ld_row _ 0 (by decide) _ 0 j).trans (blk_5 m c t 0 j),
    show cg m c t 1 inb_S8x256_S1x256_1_0 (ix2 0 j) = _ from (ld_row _ 1 (by decide) _ 0 j).trans (blk_5 m c t 1 j),
    show cg m c t 2 inb_S8x256_S1x256_2_0 (ix2 0 j) = _ from (ld_row _ 2 (by decide) _ 0 j).trans (blk_5 m c t 2 j)]
theorem GB_at (i : Fin 512) (j : Fin 256) : GB m c t (ix2 i j) = gG m c (row t i) (col t j) := by
  refine (pay18_at _ _ _ _ _ _ _ _ _ i j).trans ?_
  rw [show DB m c t (ix2 i j) = _ from DB_at m c t i j, show ZB m c t (ix2 i j) = _ from ZB_at m c t i j]
  unfold gG
  refine congrArg (fun x : EReal => DA m c (row t i) (col t j) * x * _) ?_
  unfold ZC conv
  rw [u1_at, u2_at, down_2, blk_2]
  rw [show cu m c t 3 inb_S8x256_S1x256_3_0 (ix2 0 j) = _ from (ld_row _ 3 (by decide) _ 0 j).trans (blk_6' m c t j),
    show cu m c t 0 inb_S8x256_S1x256_0_0 (ix2 0 j) = _ from (ld_row _ 0 (by decide) _ 0 j).trans (blk_6 m c t 0 j),
    show cu m c t 1 inb_S8x256_S1x256_1_0 (ix2 0 j) = _ from (ld_row _ 1 (by decide) _ 0 j).trans (blk_6 m c t 1 j),
    show cu m c t 2 inb_S8x256_S1x256_2_0 (ix2 0 j) = _ from (ld_row _ 2 (by decide) _ 0 j).trans (blk_6 m c t 2 j)]
theorem UB_at (i : Fin 512) (j : Fin 256) : UB m c t (ix2 i j) = gU m c (row t i) (col t j) := by
  refine (pay17_at _ _ i j).trans ?_
  rw [show DB m c t (ix2 i j) = _ from DB_at m c t i j, show ZB m c t (ix2 i j) = _ from ZB_at m c t i j]
  rfl
end

theorem dzg_block (c : Dev nD) (t : Fin cfg0.N) (i : Fin 512) (j : Fin 256) : (outsAt0 m c t.val t.isLt).1 (ix2 i j) = gG m c (row t i) (col t j) := by
  by_cases h : t.val % 16 = 0
  · rw [outsAt0_A m c t h]; frame_out
    exact GB_at m c t i j
  · rw [outsAt0_B m c t h]; frame_out
    exact GB_at m c t i j
theorem dzu_block (c : Dev nD) (t : Fin cfg0.N) (i : Fin 512) (j : Fin 256) : (outsAt0 m c t.val t.isLt).2.1 (ix2 i j) = gU m c (row t i) (col t j) := by
  by_cases h : t.val % 16 = 0
  · rw [outsAt0_A m c t h]; frame_out
    exact UB_at m c t i j
  · rw [outsAt0_B m c t h]; frame_out
    exact UB_at m c t i j

/-! ## The sums over the rows -/

section
variable (d z zu s1 s2 g2 y f : FVec Ideal S512x256 .f32) (b w0 w1 w2 acc : FVec Ideal S1x256 .f32) (j : Fin 256)

theorem pay19_at : k0_pay19 (F := Ideal) d g2 y z s1 s2 b w0 w1 w2 acc (ix2 0 j)
    = acc (ix2 0 j) + ∑ i : Fin 512, HMul.hMul (α := EReal) (β := EReal) (γ := EReal) (k0_pay18 (F := Ideal) d y z s1 s2 b w0 w1 w2 (ix2 i j)) (g2 (ix2 i j)) := by pointwise [k0_pay19]
theorem pay20_at : k0_pay20 (F := Ideal) f d acc (ix2 0 j) = acc (ix2 0 j) + ∑ i : Fin 512, d (ix2 i j) * f (ix2 i j) := by pointwise [k0_pay20]
theorem pay21_at : k0_pay21 (F := Ideal) d f acc (ix2 0 j) = acc (ix2 0 j) + ∑ i : Fin 512, d (ix2 i j) * f (ix2 i j) := by pointwise [k0_pay21]
theorem pay22_at : k0_pay22 (F := Ideal) d acc (ix2 0 j) = acc (ix2 0 j) + ∑ i : Fin 512, d (ix2 i j) := by pointwise [k0_pay22]
theorem pay23_at : k0_pay23 (F := Ideal) f d acc (ix2 0 j) = acc (ix2 0 j) + ∑ i : Fin 512, d (ix2 i j) * f (ix2 i j) := by pointwise [k0_pay23]
theorem pay24_at : k0_pay24 (F := Ideal) f d acc (ix2 0 j) = acc (ix2 0 j) + ∑ i : Fin 512, d (ix2 i j) * f (ix2 i j) := by pointwise [k0_pay24]
theorem pay1_at : k0_pay1 (F := Ideal) d f acc (ix2 0 j) = acc (ix2 0 j) + ∑ i : Fin 512, d (ix2 i j) * f (ix2 i j) := by pointwise [k0_pay1]
theorem pay2_at : k0_pay2 (F := Ideal) d acc (ix2 0 j) = acc (ix2 0 j) + ∑ i : Fin 512, d (ix2 i j) := by pointwise [k0_pay2]
end

/-- a list of stores of single rows, at a row the last store leaves and at the row it wrote -/
theorem canon_skip (r : ℕ) (hb) (w : (Rect.unit (s := S8x256) ![r, 0] ![1, 256] hb).shape.Idx → Elt Ideal .f32)
    (L : List (View.Piece (Elt Ideal) S8x256 .f32)) (y : S8x256.Idx) (h : (y 0).val ≠ r) :
    View.canon (⟨Rect.unit (s := S8x256) ![r, 0] ![1, 256] hb, w⟩ :: L) y = View.canon L y := by
  refine View.canon_cons_of_not_mem _ _ fun hm => h ?_
  obtain ⟨x, hx⟩ := (Rect.unit (s := S8x256) ![r, 0] ![1, 256] hb).exists_idx_of_mem hm
  have h1 := congrArg (fun z : S8x256.Idx => (z 0).val) hx
  have h2 := Rect.idx_unit_val (s := S8x256) ![r, 0] ![1, 256] hb x 0
  have h3 : (x 0).val < 1 := (x 0).isLt
  have h4 : (y 0).val = r + (x 0).val := by rw [← h1]; exact h2
  omega
theorem canon_hit (r : ℕ) (hb) (w : (Rect.unit (s := S8x256) ![r, 0] ![1, 256] hb).shape.Idx → Elt Ideal .f32)
    (L : List (View.Piece (Elt Ideal) S8x256 .f32)) (k : Fin 8) (j : Fin 256) (h : k.val = r) :
    View.canon (⟨Rect.unit (s := S8x256) ![r, 0] ![1, 256] hb, w⟩ :: L) (ix2 k j) = w (ix2 0 j) := by
  have e : (ix2 k j : S8x256.Idx) = (Rect.unit (s := S8x256) ![r, 0] ![1, 256] hb).emb (ix2 0 j) := by
    funext d
    fin_cases d
    · exact Fin.ext (by show k.val = r + 1 * 0; omega)
    · exact Fin.ext (by show j.val = 0 + 1 * j.val; omega)
  rw [e]
  exact View.canon_cons_emb _ w L (ix2 0 j)
theorem canon_zero (hb) (w : FVec Ideal S8x256 .f32) (hw : ∀ y, w y = 0) (y : S8x256.Idx) :
    View.canon [(⟨Rect.unit (s := S8x256) ![0, 0] ![8, 256] hb, w⟩ : View.Piece (Elt Ideal) S8x256 .f32)] y = 0 :=
  (congrFun (View.canon_cons_unit_zero (by decide) hb _ _) y).trans (hw y)
theorem pay3_at (y : S8x256.Idx) : k0_pay3 (F := Ideal) y = 0 := by pointwise [k0_pay3]
theorem pay4_at (y : S8x256.Idx) : k0_pay4 (F := Ideal) y = 0 := by pointwise [k0_pay4]

/-- the same with the block's earlier contents below the stores -/
theorem live_skip {sp : Space} {v : View sig .tc sp S8x256 .f32} (r : ℕ) (f : v.ty.Contents (Elt Ideal)) (hb) (w : (Rect.unit (s := S8x256) ![r, 0] ![1, 256] hb).shape.Idx → Elt Ideal .f32)
    (L : List (View.Piece (Elt Ideal) S8x256 .f32)) (k : Fin 8) (j : Fin 256) (h : k.val ≠ r) :
    v.read (Elt Ideal) (v.writes (Elt Ideal) f (⟨Rect.unit (s := S8x256) ![r, 0] ![1, 256] hb, w⟩ :: L)) (ix2 k j) = v.read (Elt Ideal) (v.writes (Elt Ideal) f L) (ix2 k j) :=
  View.read_writes_cons_rows_of_not_mem (o := r) (W := 1) v f hb w L (ix2 k j) rfl rfl (by show k.val < r ∨ r + 1 ≤ k.val; omega)
theorem live_hit {sp : Space} {v : View sig .tc sp S8x256 .f32} (r : ℕ) (f : v.ty.Contents (Elt Ideal)) (hb) (w : (Rect.unit (s := S8x256) ![r, 0] ![1, 256] hb).shape.Idx → Elt Ideal .f32)
    (L : List (View.Piece (Elt Ideal) S8x256 .f32)) (k : Fin 8) (j : Fin 256) (h : k.val = r) :
    v.read (Elt Ideal) (v.writes (Elt Ideal) f (⟨Rect.unit (s := S8x256) ![r, 0] ![1, 256] hb, w⟩ :: L)) (ix2 k j) = w (ix2 0 j) :=
  View.read_writes_cons_rows_of_mem (o := r) v f hb w L (ix2 k j) (ix2 0 j) rfl (by show k.val = r + 0; omega) rfl
theorem live_nil {sp : Space} {b : Memref sig .tc sp S8x256 .f32} (h : b.IsWhole) (X : S8x256.Idx → Elt Ideal .f32) (y : S8x256.Idx) :
    b.view.read (Elt Ideal) (b.view.writes (Elt Ideal) (h.unread X) []) y = X y :=
  congrFun (h.read_unread X) y

/-- what a row adds to row k of the block of sums: the three weights' gradients, the bias's, and nothing below -/
def term (d f : Fin 8192 → EReal) (k : ℕ) (i : Fin 8192) : EReal :=
  if k = 0 then d i * down f 0 i else if k = 1 then d i * down f 1 i else if k = 2 then d i * down f 2 i else if k = 3 then d i else 0

abbrev gradG (c : Dev nD) (l : Fin 2816) : Fin 8192 → EReal := fun i => gG m c i l
abbrev gradU (c : Dev nD) (l : Fin 2816) : Fin 8192 → EReal := fun i => gU m c i l

theorem dcg_A (c : Dev nD) (t : Fin cfg0.N) (h : t.val % 16 = 0) (k : Fin 8) (j : Fin 256) : (outsAt0 m c t.val t.isLt).2.2.1 (ix2 k j)
    = HAdd.hAdd (α := EReal) (β := EReal) (γ := EReal) 0 (∑ i : Fin 512, term (gradG m c (col t j)) (colZ m c (lo (col t j))) k.val (row t i)) := by
  rw [outsAt0_A m c t h]; frame_out
  have hk : k.val = 0 ∨ k.val = 1 ∨ k.val = 2 ∨ k.val = 3 ∨ 4 ≤ k.val := by omega
  rcases hk with hk | hk | hk | hk | hk
  · refine (canon_skip 3 _ _ _ _ (by show k.val ≠ 3; omega)).trans ?_
    refine (canon_skip 2 _ _ _ _ (by show k.val ≠ 2; omega)).trans ?_
    refine (canon_skip 1 _ _ _ _ (by show k.val ≠ 1; omega)).trans ?_
    refine (canon_hit 0 _ _ _ k j hk).trans ?_
    refine (pay19_at _ _ _ _ _ _ _ _ _ _ _ j).trans (congrArg₂ (· + ·) ?_ (Finset.sum_congr rfl fun i _ => ?_))
    · rw [View.readCov_eq_canon']
      exact canon_zero _ _ pay3_at _
    · rw [hk]
      exact congrArg₂ (· * ·) (GB_at m c t i j) (s2_at m c t i j)
  · refine (canon_skip 3 _ _ _ _ (by show k.val ≠ 3; omega)).trans ?_
    refine (canon_skip 2 _ _ _ _ (by show k.val ≠ 2; omega)).trans ?_
    refine (canon_hit 1 _ _ _ k j hk).trans ?_
    refine (pay20_at _ _ _ j).trans (congrArg₂ (· + ·) ?_ (Finset.sum_congr rfl fun i _ => ?_))
    · rw [View.readCov_eq_canon']
      refine (canon_skip 0 _ _ _ _ (by show (1 + 1 * 0 : ℕ) ≠ 0; decide)).trans ?_
      exact canon_zero _ _ pay3_at _
    · rw [hk]
      exact congrArg₂ (· * ·) (GB_at m c t i j) (s1_at m c t i j)
  · refine (canon_skip 3 _ _ _ _ (by show k.val ≠ 3; omega)).trans ?_
    refine (canon_hit 2 _ _ _ k j hk).trans ?_
    refine (pay21_at _ _ _ j).trans (congrArg₂ (· + ·) ?_ (Finset.sum_congr rfl fun i _ => ?_))
    · rw [View.readCov_eq_canon']
      refine (canon_skip 1 _ _ _ _ (by show (2 + 1 * 0 : ℕ) ≠ 1; decide)).trans ?_
      refine (canon_skip 0 _ _ _ _ (by show (2 + 1 * 0 : ℕ) ≠ 0; decide)).trans ?_
      exact canon_zero _ _ pay3_at _
    · rw [hk]
      exact congrArg₂ (· * ·) (GB_at m c t i j) ((blk_1 m c t i j).trans (down_2 (colZ m c (lo (col t j))) (row t i)).symm)
  · refine (canon_hit 3 _ _ _ k j hk).trans ?_
    refine (pay22_at _ _ j).trans (congrArg₂ (· + ·) ?_ (Finset.sum_congr rfl fun i _ => ?_))
    · rw [View.readCov_eq_canon']
      refine (canon_skip 2 _ _ _ _ (by show (3 + 1 * 0 : ℕ) ≠ 2; decide)).trans ?_
      refine (canon_skip 1 _ _ _ _ (by show (3 + 1 * 0 : ℕ) ≠ 1; decide)).trans ?_
      refine (canon_skip 0 _ _ _ _ (by show (3 + 1 * 0 : ℕ) ≠ 0; decide)).trans ?_
      exact canon_zero _ _ pay3_at _
    · rw [hk]
      exact GB_at m c t i j
  · refine (canon_skip 3 _ _ _ _ (by show k.val ≠ 3; omega)).trans ?_
    refine (canon_skip 2 _ _ _ _ (by show k.val ≠ 2; omega)).trans ?_
    refine (canon_skip 1 _ _ _ _ (by show k.val ≠ 1; omega)).trans ?_
    refine (canon_skip 0 _ _ _ _ (by show k.val ≠ 0; omega)).trans ?_
    refine (canon_zero _ _ pay3_at _).trans ?_
    rw [zero_add]
    refine (Finset.sum_eq_zero fun i _ => ?_).symm
    unfold term
    rw [if_neg (by omega), if_neg (by omega), if_neg (by omega), if_neg (by omega)]

theorem dcg_B (c : Dev nD) (t : Fin cfg0.N) (h : ¬ t.val % 16 = 0) (k : Fin 8) (j : Fin 256) : (outsAt0 m c t.val t.isLt).2.2.1 (ix2 k j)
    = HAdd.hAdd (α := EReal) (β := EReal) (γ := EReal) ((outsAt0 m c (t.val - 1) (Nat.lt_of_le_of_lt (Nat.sub_le _ _) t.isLt)).2.2.1 (ix2 k j))
      (∑ i : Fin 512, term (gradG m c (col t j)) (colZ m c (lo (col t j))) k.val (row t i)) := by
  rw [outsAt0_B m c t h]; frame_out
  have hk : k.val = 0 ∨ k.val = 1 ∨ k.val = 2 ∨ k.val = 3 ∨ 4 ≤ k.val := by omega
  rcases hk with hk | hk | hk | hk | hk
  · refine (live_skip 3 _ _ _ _ _ _ (by omega)).trans ?_
    refine (live_skip 2 _ _ _ _ _ _ (by omega)).trans ?_
    refine (live_skip 1 _ _ _ _ _ _ (by omega)).trans ?_
    refine (live_hit 0 _ _ _ _ k j hk).trans ?_
    refine (pay19_at _ _ _ _ _ _ _ _ _ _ _ j).trans (congrArg₂ (· + ·) ?_ (Finset.sum_congr rfl fun i _ => ?_))
    · exact (ld_row _ 0 (by decide) _ 0 j).trans (congrArg (fun a : Fin 8 => (outsAt0 m c (t.val - 1) _).2.2.1 (ix2 a j)) (Fin.ext hk.symm))
    · rw [hk]
      exact congrArg₂ (· * ·) (GB_at m c t i j) (s2_at m c t i j)
  · refine (live_skip 3 _ _ _ _ _ _ (by omega)).trans ?_
    refine (live_skip 2 _ _ _ _ _ _ (by omega)).trans ?_
    refine (live_hit 1 _ _ _ _ k j hk).trans ?_
    refine (pay20_at _ _ _ j).trans (congrArg₂ (· + ·) ?_ (Finset.sum_congr rfl fun i _ => ?_))
    · exact (ld_row _ 1 (by decide) _ 0 j).trans (congrArg (fun a : Fin 8 => (outsAt0 m c (t.val - 1) _).2.2.1 (ix2 a j)) (Fin.ext hk.symm))
    · rw [hk]
      exact congrArg₂ (· * ·) (GB_at m c t i j) (s1_at m c t i j)
  · refine (live_skip 3 _ _ _ _ _ _ (by omega)).trans ?_
    refine (live_hit 2 _ _ _ _ k j hk).trans ?_
    refine (pay21_at _ _ _ j).trans (congrArg₂ (· + ·) ?_ (Finset.sum_congr rfl fun i _ => ?_))
    · exact (ld_row _ 2 (by decide) _ 0 j).trans (congrArg (fun a : Fin 8 => (outsAt0 m c (t.val - 1) _).2.2.1 (ix2 a j)) (Fin.ext hk.symm))
    · rw [hk]
      exact congrArg₂ (· * ·) (GB_at m c t i j) ((blk_1 m c t i j).trans (down_2 (colZ m c (lo (col t j))) (row t i)).symm)
  · refine (live_hit 3 _ _ _ _ k j hk).trans ?_
    refine (pay22_at _ _ j).trans (congrArg₂ (· + ·) ?_ (Finset.sum_congr rfl fun i _ => ?_))
    · exact (ld_row _ 3 (by decide) _ 0 j).trans (congrArg (fun a : Fin 8 => (outsAt0 m c (t.val - 1) _).2.2.1 (ix2 a j)) (Fin.ext hk.symm))
    · rw [hk]
      exact GB_at m c t i j
  · refine (live_skip 3 _ _ _ _ _ _ (by omega)).trans ?_
    refine (live_skip 2 _ _ _ _ _ _ (by omega)).trans ?_
    refine (live_skip 1 _ _ _ _ _ _ (by omega)).trans ?_
    refine (live_skip 0 _ _ _ _ _ _ (by omega)).trans ?_
    refine (live_nil _ _ _).trans ?_
    refine (add_zero _).symm.trans (congrArg _ (Finset.sum_eq_zero fun i _ => ?_).symm)
    unfold term
    rw [if_neg (by omega), if_neg (by omega), if_neg (by omega), if_neg (by omega)]

theorem dcu_A (c : Dev nD) (t : Fin cfg0.N) (h : t.val % 16 = 0) (k : Fin 8) (j : Fin 256) : (outsAt0 m c t.val t.isLt).2.2.2 (ix2 k j)
    = HAdd.hAdd (α := EReal) (β := EReal) (γ := EReal) 0 (∑ i : Fin 512, term (gradU m c (col t j)) (colZ m c (hi (col t j))) k.val (row t i)) := by
  rw [outsAt0_A m c t h]; frame_out
  have hk : k.val = 0 ∨ k.val = 1 ∨ k.val = 2 ∨ k.val = 3 ∨ 4 ≤ k.val := by omega
  rcases hk with hk | hk | hk | hk | hk
  · refine (canon_skip 3 _ _ _ _ (by show k.val ≠ 3; omega)).trans ?_
    refine (canon_skip 2 _ _ _ _ (by show k.val ≠ 2; omega)).trans ?_
    refine (canon_skip 1 _ _ _ _ (by show k.val ≠ 1; omega)).trans ?_
    refine (canon_hit 0 _ _ _ k j hk).trans ?_
    refine (pay23_at _ _ _ j).trans (congrArg₂ (· + ·) ?_ (Finset.sum_congr rfl fun i _ => ?_))
    · rw [View.readCov_eq_canon']
      exact canon_zero _ _ pay4_at _
    · rw [hk]
      exact congrArg₂ (· * ·) (UB_at m c t i j) (u2_at m c t i j)
  · refine (canon_skip 3 _ _ _ _ (by show k.val ≠ 3; omega)).trans ?_
    refine (canon_skip 2 _ _ _ _ (by show k.val ≠ 2; omega)).trans ?_
    refine (canon_hit 1 _ _ _ k j hk).trans ?_
    refine (pay24_at _ _ _ j).trans (congrArg₂ (· + ·) ?_ (Finset.sum_congr rfl fun i _ => ?_))
    · rw [View.readCov_eq_canon']
      refine (canon_skip 0 _ _ _ _ (by show (1 + 1 * 0 : ℕ) ≠ 0; decide)).trans ?_
      exact canon_zero _ _ pay4_at _
    · rw [hk]
      exact congrArg₂ (· * ·) (UB_at m c t i j) (u1_at m c t i j)
  · refine (canon_skip 3 _ _ _ _ (by show k.val ≠ 3; omega)).trans ?_
    refine (canon_hit 2 _ _ _ k j hk).trans ?_
    refine (pay1_at _ _ _ j).trans (congrArg₂ (· + ·) ?_ (Finset.sum_congr rfl fun i _ => ?_))
    · rw [View.readCov_eq_canon']
      refine (canon_skip 1 _ _ _ _ (by show (2 + 1 * 0 : ℕ) ≠ 1; decide)).trans ?_
      refine (canon_skip 0 _ _ _ _ (by show (2 + 1 * 0 : ℕ) ≠ 0; decide)).trans ?_
      exact canon_zero _ _ pay4_at _
    · rw [hk]
      exact congrArg₂ (· * ·) (UB_at m c t i j) ((blk_2 m c t i j).trans (down_2 (colZ m c (hi (col t j))) (row t i)).symm)
  · refine (canon_hit 3 _ _ _ k j hk).trans ?_
    refine (pay2_at _ _ j).trans (congrArg₂ (· + ·) ?_ (Finset.sum_congr rfl fun i _ => ?_))
    · rw [View.readCov_eq_canon']
      refine (canon_skip 2 _ _ _ _ (by show (3 + 1 * 0 : ℕ) ≠ 2; decide)).trans ?_
      refine (canon_skip 1 _ _ _ _ (by show (3 + 1 * 0 : ℕ) ≠ 1; decide)).trans ?_
      refine (canon_skip 0 _ _ _ _ (by show (3 + 1 * 0 : ℕ) ≠ 0; decide)).trans ?_
      exact canon_zero _ _ pay4_at _
    · rw [hk]
      exact UB_at m c t i j
  · refine (canon_skip 3 _ _ _ _ (by show k.val ≠ 3; omega)).trans ?_
    refine (canon_skip 2 _ _ _ _ (by show k.val ≠ 2; omega)).trans ?_
    refine (canon_skip 1 _ _ _ _ (by show k.val ≠ 1; omega)).trans ?_
    refine (canon_skip 0 _ _ _ _ (by show k.val ≠ 0; omega)).trans ?_
    refine (canon_zero _ _ pay4_at _).trans ?_
    rw [zero_add]
    refine (Finset.sum_eq_zero fun i _ => ?_).symm
    unfold term
    rw [if_neg (by omega), if_neg (by omega), if_neg (by omega), if_neg (by omega)]

theorem dcu_B (c : Dev nD) (t : Fin cfg0.N) (h : ¬ t.val % 16 = 0) (k : Fin 8) (j : Fin 256) : (outsAt0 m c t.val t.isLt).2.2.2 (ix2 k j)
    = HAdd.hAdd (α := EReal) (β := EReal) (γ := EReal) ((outsAt0 m c (t.val - 1) (Nat.lt_of_le_of_lt (Nat.sub_le _ _) t.isLt)).2.2.2 (ix2 k j))
      (∑ i : Fin 512, term (gradU m c (col t j)) (colZ m c (hi (col t j))) k.val (row t i)) := by
  rw [outsAt0_B m c t h]; frame_out
  have hk : k.val = 0 ∨ k.val = 1 ∨ k.val = 2 ∨ k.val = 3 ∨ 4 ≤ k.val := by omega
  rcases hk with hk | hk | hk | hk | hk
  · refine (live_skip 3 _ _ _ _ _ _ (by omega)).trans ?_
    refine (live_skip 2 _ _ _ _ _ _ (by omega)).trans ?_
    refine (live_skip 1 _ _ _ _ _ _ (by omega)).trans ?_
    refine (live_hit 0 _ _ _ _ k j hk).trans ?_
    refine (pay23_at _ _ _ j).trans (congrArg₂ (· + ·) ?_ (Finset.sum_congr rfl fun i _ => ?_))
    · exact (ld_row _ 0 (by decide) _ 0 j).trans (congrArg (fun a : Fin 8 => (outsAt0 m c (t.val - 1) _).2.2.2 (ix2 a j)) (Fin.ext hk.symm))
    · rw [hk]
      exact congrArg₂ (· * ·) (UB_at m c t i j) (u2_at m c t i j)
  · refine (live_skip 3 _ _ _ _ _ _ (by omega)).trans ?_
    refine (live_skip 2 _ _ _ _ _ _ (by omega)).trans ?_
    refine (live_hit 1 _ _ _ _ k j hk).trans ?_
    refine (pay24_at _ _ _ j).trans (congrArg₂ (· + ·) ?_ (Finset.sum_congr rfl fun i _ => ?_))
    · exact (ld_row _ 1 (by decide) _ 0 j).trans (congrArg (fun a : Fin 8 => (outsAt0 m c (t.val - 1) _).2.2.2 (ix2 a j)) (Fin.ext hk.symm))
    · rw [hk]
      exact congrArg₂ (· * ·) (UB_at m c t i j) (u1_at m c t i j)
  · refine (live_skip 3 _ _ _ _ _ _ (by omega)).trans ?_
    refine (live_hit 2 _ _ _ _ k j hk).trans ?_
    refine (pay1_at _ _ _ j).trans (congrArg₂ (· + ·) ?_ (Finset.sum_congr rfl fun i _ => ?_))
    · exact (ld_row _ 2 (by decide) _ 0 j).trans (congrArg (fun a : Fin 8 => (outsAt0 m c (t.val - 1) _).2.2.2 (ix2 a j)) (Fin.ext hk.symm))
    · rw [hk]
      exact congrArg₂ (· * ·) (UB_at m c t i j) ((blk_2 m c t i j).trans (down_2 (colZ m c (hi (col t j))) (row t i)).symm)
  · refine (live_hit 3 _ _ _ _ k j hk).trans ?_
    refine (pay2_at _ _ j).trans (congrArg₂ (· + ·) ?_ (Finset.sum_congr rfl fun i _ => ?_))
    · exact (ld_row _ 3 (by decide) _ 0 j).trans (congrArg (fun a : Fin 8 => (outsAt0 m c (t.val - 1) _).2.2.2 (ix2 a j)) (Fin.ext hk.symm))
    · rw [hk]
      exact UB_at m c t i j
  · refine (live_skip 3 _ _ _ _ _ _ (by omega)).trans ?_
    refine (live_skip 2 _ _ _ _ _ _ (by omega)).trans ?_
    refine (live_skip 1 _ _ _ _ _ _ (by omega)).trans ?_
    refine (live_skip 0 _ _ _ _ _ _ (by omega)).trans ?_
    refine (live_nil _ _ _).trans ?_
    refine (add_zero _).symm.trans (congrArg _ (Finset.sum_eq_zero fun i _ => ?_).symm)
    unfold term
    rw [if_neg (by omega), if_neg (by omega), if_neg (by omega), if_neg (by omega)]

/-! ## The reference -/

section
variable (x0 : FVec Ideal S8192x1024 .f32) (x1 : FVec Ideal S8192x5632 .f32) (x2 : FVec Ideal S3x5632 .f32) (x3 : FVec Ideal S5632 .f32) (x4 : FVec Ideal S2816x1024 .f32)

theorem ref_2 (i : Fin 8192) (J : Fin 5632) : val_main_v2 (F := Ideal) x1 (ix2 i J) = down (fun i => x1 (ix2 i J)) 0 i := by
  pointwise [val_main_v2, val_main_v1, val_main_v0, val_main_cst]
  unfold down
  by_cases h : i.val < 2
  · rw [dif_pos h, dif_neg (by show ¬ 2 ≤ i.val + 0; omega)]
  · rw [dif_neg h, dif_pos (by show 2 ≤ i.val + 0; omega)]
    rfl
theorem ref_11 (i : Fin 8192) (J : Fin 5632) : val_main_v11 (F := Ideal) x1 (ix2 i J) = down (fun i => x1 (ix2 i J)) 1 i := by
  pointwise [val_main_v11, val_main_v1, val_main_v0, val_main_cst]
  unfold down
  by_cases h : i.val < 1
  · rw [dif_pos (by omega), dif_neg (by show ¬ 2 ≤ i.val + 1; omega)]
  · rw [dif_neg (by omega), dif_pos (by show 2 ≤ i.val + 1; omega)]
    refine congrArg (fun a : Fin 8192 => x1 (ix2 a J)) (Fin.ext ?_)
    simp only [Fin.val_one]
    omega
theorem ref_18 (i : Fin 8192) (J : Fin 5632) : val_main_v18 (F := Ideal) x1 (ix2 i J) = down (fun i => x1 (ix2 i J)) 2 i := by
  rw [down_2]
  pointwise [val_main_v18, val_main_v1, val_main_v0, val_main_cst]
theorem ref_24 (i : Fin 8192) (J : Fin 5632) : val_main_v24 (F := Ideal) x1 x2 x3 (ix2 i J)
    = conv (fun i => x1 (ix2 i J)) (fun k => x2 (ix2 k J)) (x3 (ix1 J)) i := by
  pointwise [val_main_v24, val_main_v17, val_main_v10, val_main_v9, val_main_v8, val_main_v7, val_main_v6, val_main_v5, val_main_v4, val_main_v3, val_main_v16, val_main_v15, val_main_v14, val_main_v13, val_main_v12, val_main_v23, val_main_v22, val_main_v21, val_main_v20, val_main_v19]
  rw [ref_2, ref_11, ref_18]
  rfl
theorem ref_30 (i : Fin 8192) (l : Fin 2816) : val_main_v30 (F := Ideal) x0 x4 (ix2 i l) = ∑ k : Fin 1024, x0 (ix2 i k) * x4 (ix2 l k) := by
  pointwise [val_main_v30]
theorem logistic_def (x : EReal) : Ideal.logistic x = Ideal.div 1 (1 + Ideal.exp (-x)) := rfl

theorem ref_31 (i : Fin 8192) (l : Fin 2816) : val_main_v31 (F := Ideal) x0 x1 x2 x3 x4 (ix2 i l)
    = HMul.hMul (α := EReal) (β := EReal) (γ := EReal) (val_main_v24 (F := Ideal) x1 x2 x3 (ix2 i (lo l)) * Ideal.logistic (val_main_v24 (F := Ideal) x1 x2 x3 (ix2 i (lo l)))) (val_main_v30 (F := Ideal) x0 x4 (ix2 i l)) := by
  pointwise [val_main_v31, val_main_v27_0, val_main_v25, val_main_v27_2, val_main_call0_v4, val_main_call0_cst_0, val_main_call0_v3, val_main_call0_v2, val_main_call0_cst, val_main_call0_v1, val_main_call0_v0]
  rw [logistic_def]

/-- the derivative of silu, put together as the kernel does and as its derivative falls apart -/
theorem silu_split {X s z : EReal} (hX : Fine X) (hs : Fine s) (hz : Fine z) : X * (s * (1 + z * (1 - s))) = X * s + z * X * (s * (1 - s)) := by
  obtain ⟨X, rfl⟩ := hX
  obtain ⟨s, rfl⟩ := hs
  obtain ⟨z, rfl⟩ := hz
  rw [← EReal.coe_one]
  simp only [← EReal.coe_sub, ← EReal.coe_mul, ← EReal.coe_add]
  exact congrArg _ (by ring)

theorem ref_33 (i : Fin 8192) (l : Fin 2816) : val_main_v33 (F := Ideal) x0 x1 x2 x3 x4 (ix2 i l)
    = HAdd.hAdd (α := EReal) (β := EReal) (γ := EReal) (HMul.hMul (α := EReal) (β := EReal) (γ := EReal) (val_main_v30 (F := Ideal) x0 x4 (ix2 i l)) (val_main_v24 (F := Ideal) x1 x2 x3 (ix2 i (hi l))) * Ideal.logistic (val_main_v24 (F := Ideal) x1 x2 x3 (ix2 i (lo l))))
      (HMul.hMul (α := EReal) (β := EReal) (γ := EReal) (val_main_v24 (F := Ideal) x1 x2 x3 (ix2 i (lo l))) (HMul.hMul (α := EReal) (β := EReal) (γ := EReal) (val_main_v30 (F := Ideal) x0 x4 (ix2 i l)) (val_main_v24 (F := Ideal) x1 x2 x3 (ix2 i (hi l))))
        * (Ideal.logistic (val_main_v24 (F := Ideal) x1 x2 x3 (ix2 i (lo l))) * (1 - Ideal.logistic (val_main_v24 (F := Ideal) x1 x2 x3 (ix2 i (lo l)))))) := by
  pointwise [val_main_v33, val_main_call1_v1, val_main_v32, val_main_v26, val_main_v27_2, val_main_call0_v4, val_main_call0_cst_0, val_main_call0_v3, val_main_call0_v2, val_main_call0_cst, val_main_call0_v1, val_main_call0_v0, val_main_v25, val_main_call1_v2, val_main_call1_v0, val_main_v27_1, val_main_call0_v7, val_main_call0_v6, val_main_call0_cst_1]
  rw [logistic_def]

theorem ref_61 (i : Fin 8192) (l : Fin 2816) : val_main_v61 (F := Ideal) x0 x1 x2 x3 x4 (ix2 i l) = val_main_v34 (F := Ideal) x0 x1 x2 x3 x4 (ix2 i (lo l)) := by
  pointwise [val_main_v61]
theorem ref_62 (i : Fin 8192) (l : Fin 2816) : val_main_v62 (F := Ideal) x0 x1 x2 x3 x4 (ix2 i l) = val_main_v34 (F := Ideal) x0 x1 x2 x3 x4 (ix2 i (hi l)) := by
  pointwise [val_main_v62]
theorem ref_63 (i : Fin 8) (l : Fin 2816) : val_main_v63 (F := Ideal) x0 x1 x2 x3 x4 (ix2 i l) = val_main_v60 (F := Ideal) x0 x1 x2 x3 x4 (ix2 i (lo l)) := by
  pointwise [val_main_v63]
theorem ref_64 (i : Fin 8) (l : Fin 2816) : val_main_v64 (F := Ideal) x0 x1 x2 x3 x4 (ix2 i l) = val_main_v60 (F := Ideal) x0 x1 x2 x3 x4 (ix2 i (hi l)) := by
  pointwise [val_main_v64]
theorem ref_34_lo (i : Fin 8192) (l : Fin 2816) : val_main_v34 (F := Ideal) x0 x1 x2 x3 x4 (ix2 i (lo l)) = val_main_v33 (F := Ideal) x0 x1 x2 x3 x4 (ix2 i l) := by
  pointwise [val_main_v34]
theorem ref_34_hi (i : Fin 8192) (l : Fin 2816) : val_main_v34 (F := Ideal) x0 x1 x2 x3 x4 (ix2 i (hi l)) = val_main_v31 (F := Ideal) x0 x1 x2 x3 x4 (ix2 i l) := by
  pointwise [val_main_v34]
theorem ref_54 (J : Fin 5632) : val_main_v54 (F := Ideal) x0 x1 x2 x3 x4 (ix1 J) = ∑ i : Fin 8192, HMul.hMul (α := EReal) (β := EReal) (γ := EReal) (val_main_v2 (F := Ideal) x1 (ix2 i J)) (val_main_v34 (F := Ideal) x0 x1 x2 x3 x4 (ix2 i J)) := by
  pointwise [val_main_v54, val_main_v53, val_main_v52, val_main_v51, val_main_cst_8, val_main_cst_9]
  exact Fin.sum_univ_one _
theorem ref_44 (J : Fin 5632) : val_main_v44 (F := Ideal) x0 x1 x2 x3 x4 (ix1 J) = ∑ i : Fin 8192, HMul.hMul (α := EReal) (β := EReal) (γ := EReal) (val_main_v11 (F := Ideal) x1 (ix2 i J)) (val_main_v34 (F := Ideal) x0 x1 x2 x3 x4 (ix2 i J)) := by
  pointwise [val_main_v44, val_main_v43, val_main_v42, val_main_v41, val_main_cst_3, val_main_cst_4]
  exact Fin.sum_univ_one _
theorem ref_38 (J : Fin 5632) : val_main_v38 (F := Ideal) x0 x1 x2 x3 x4 (ix1 J) = ∑ i : Fin 8192, HMul.hMul (α := EReal) (β := EReal) (γ := EReal) (val_main_v18 (F := Ideal) x1 (ix2 i J)) (val_main_v34 (F := Ideal) x0 x1 x2 x3 x4 (ix2 i J)) := by
  pointwise [val_main_v38, val_main_v37, val_main_v36, val_main_v35, val_main_cst_0, val_main_cst_1]
  exact Fin.sum_univ_one _
theorem ref_50 (J : Fin 5632) : val_main_v50 (F := Ideal) x0 x1 x2 x3 x4 (ix1 J) = ∑ i : Fin 8192, val_main_v34 (F := Ideal) x0 x1 x2 x3 x4 (ix2 i J) := by
  pointwise [val_main_v50, val_main_v49, val_main_v48, val_main_cst_6, val_main_cst_7]
  exact Fin.sum_univ_one _
theorem ref_60 (k : Fin 8) (J : Fin 5632) : val_main_v60 (F := Ideal) x0 x1 x2 x3 x4 (ix2 k J)
    = ∑ i : Fin 8192, term (fun i => val_main_v34 (F := Ideal) x0 x1 x2 x3 x4 (ix2 i J)) (fun i => x1 (ix2 i J)) k.val i := by
  pointwise [val_main_v60, val_main_v57, val_main_v47, val_main_v40, val_main_v39, val_main_cst_2, val_main_v46, val_main_v45, val_main_cst_5, val_main_v56, val_main_v55, val_main_cst_10, val_main_v58, val_main_v59, val_main_cst_11]
  have hk : k.val = 0 ∨ k.val = 1 ∨ k.val = 2 ∨ k.val = 3 ∨ 4 ≤ k.val := by omega
  rcases hk with hk | hk | hk | hk | hk
  · rw [dif_pos (by omega), dif_neg (by omega), dif_neg (by omega), dif_pos (by omega), zero_add, zero_add, ref_54, hk]
    exact Finset.sum_congr rfl fun i _ => by rw [ref_2]; exact mul_comm _ _
  · rw [dif_pos (by omega), dif_neg (by omega), dif_pos (by omega), dif_neg (by omega), zero_add, add_zero, ref_44, hk]
    exact Finset.sum_congr rfl fun i _ => by rw [ref_11]; exact mul_comm _ _
  · rw [dif_pos (by omega), dif_pos (by omega), dif_neg (by omega), dif_neg (by omega), add_zero, add_zero, ref_38, hk]
    exact Finset.sum_congr rfl fun i _ => by rw [ref_18]; exact mul_comm _ _
  · rw [dif_neg (by omega), dif_pos (by omega), ref_50, hk]
    rfl
  · rw [dif_neg (by omega), dif_neg (by omega)]
    refine (Finset.sum_eq_zero fun i _ => ?_).symm
    unfold term
    rw [if_neg (by omega), if_neg (by omega), if_neg (by omega), if_neg (by omega)]
end

/-! ## The arrays the kernel leaves -/

theorem ref_ZC (c : Dev nD) (i : Fin 8192) (J : Fin 5632) : val_main_v24 (F := Ideal) (A1 m c) (A2 m c) (A3 m c) (ix2 i J) = ZC m c i J := ref_24 _ _ _ i J
theorem ref_DA (c : Dev nD) (i : Fin 8192) (l : Fin 2816) : val_main_v30 (F := Ideal) (A0 m c) (A4 m c) (ix2 i l) = DA m c i l := ref_30 _ _ i l

theorem ref_gU (c : Dev nD) (i : Fin 8192) (l : Fin 2816) : val_main_v34 (F := Ideal) (A0 m c) (A1 m c) (A2 m c) (A3 m c) (A4 m c) (ix2 i (hi l)) = gU m c i l := by
  rw [ref_34_hi, ref_31, ref_ZC, ref_DA]
  exact mul_comm _ _

theorem fine_logistic {z : EReal} : Fine z → Fine (Ideal.logistic z) := by
  rintro ⟨z, rfl⟩
  exact ⟨_, Ideal.logistic_coe z⟩

/-- every value is a real number -/
structure Reals (c : Dev nD) : Prop where
  z : ∀ i J, Fine (ZC m c i J)
  d : ∀ i l, Fine (DA m c i l)

theorem ref_gG (c : Dev nD) (hr : Reals m c) (i : Fin 8192) (l : Fin 2816) :
    val_main_v34 (F := Ideal) (A0 m c) (A1 m c) (A2 m c) (A3 m c) (A4 m c) (ix2 i (lo l)) = gG m c i l := by
  rw [ref_34_lo, ref_33, ref_ZC, ref_ZC, ref_DA]
  exact (silu_split (Fine.mul (hr.d i l) (hr.z i _)) (fine_logistic (hr.z i _)) (hr.z i _)).symm

theorem final_dzg (c : Dev nD) (hr : Reals m c) : (dats m 0 c).arrAt 8 cfg0.N
    = val_main_v61 (F := Ideal) (A0 m c) (A1 m c) (A2 m c) (A3 m c) (A4 m c) := by
  refine (dats m 0 c).arrAt_eq_of_covers 8 _ (by decide +kernel) fun t hf y => ?_
  blk_simp
  rw [after0_8]
  have hy : y = ix2 (y 0) (y 1) := by blk_ext
  have he : ((win0_8.blk t).view.emb y) = ix2 (row t (y 0)) (col t (y 1)) := by blk_ext [idx t]
  rw [he]
  exact (congrArg _ hy).trans ((dzg_block m c t (y 0) (y 1)).trans ((ref_61 _ _ _ _ _ _ _).trans (ref_gG m c hr _ _)).symm)

theorem final_dzu (c : Dev nD) : (dats m 0 c).arrAt 9 cfg0.N
    = val_main_v62 (F := Ideal) (A0 m c) (A1 m c) (A2 m c) (A3 m c) (A4 m c) := by
  refine (dats m 0 c).arrAt_eq_of_covers 9 _ (by decide +kernel) fun t hf y => ?_
  blk_simp
  rw [after0_9]
  have hy : y = ix2 (y 0) (y 1) := by blk_ext
  have he : ((win0_9.blk t).view.emb y) = ix2 (row t (y 0)) (col t (y 1)) := by blk_ext [idx t]
  rw [he]
  exact (congrArg _ hy).trans ((dzu_block m c t (y 0) (y 1)).trans ((ref_62 _ _ _ _ _ _ _).trans (ref_gU m c _ _)).symm)

/-- the points of one column chunk are a run of sixteen row blocks -/
theorem run_sum (t : Fin cfg0.N) (hl : t.val % 16 = 15) (F : Fin 8192 → EReal) :
    ∑ s : Fin 16, ∑ i : Fin 512, F (row ⟨16 * (t.val / 16) + s.val, Pipeline.run_point_lt_of_flush t hl s⟩ i) = ∑ i : Fin 8192, F i :=
  Fin.sum_mul_add_congr fun s i h => congrArg F (Fin.ext (by show (16 * (t.val / 16) + s.val) % 16 * 512 + i.val = s.val * 512 + i.val; omega))

theorem dcg_last (c : Dev nD) (t : Fin cfg0.N) (hl : t.val % 16 = 15) (k : Fin 8) (j : Fin 256) :
    (outsAt0 m c t.val t.isLt).2.2.1 (ix2 k j) = ∑ i : Fin 8192, term (gradG m c (col t j)) (colZ m c (lo (col t j))) k.val i := by
  rw [Pipeline.eq_sum_fin_of_reset_step_apply_of_flush (fun n h => (outsAt0 m c n h).2.2.1) 16 (fun _ => 0)
    (fun t y => ∑ i : Fin 512, term (gradG m c (col t (y 1))) (colZ m c (lo (col t (y 1)))) (y 0).val (row t i))
    (fun t h y => by
      idx_vars y
      exact dcg_A m c t h _ _)
    (fun t h y => by
      idx_vars y
      exact dcg_B m c t h _ _)
    t hl _, zero_add]
  refine Eq.trans (Finset.sum_congr rfl fun s _ => Finset.sum_congr rfl fun i _ => ?_) (run_sum t hl fun i => term (gradG m c (col t j)) (colZ m c (lo (col t j))) k.val i)
  have e : col ⟨16 * (t.val / 16) + s.val, Pipeline.run_point_lt_of_flush t hl s⟩ j = col t j := Fin.ext (by show (16 * (t.val / 16) + s.val) / 16 * 256 + j.val = t.val / 16 * 256 + j.val; omega)
  show term (gradG m c (col ⟨16 * (t.val / 16) + s.val, Pipeline.run_point_lt_of_flush t hl s⟩ j)) (colZ m c (lo (col ⟨16 * (t.val / 16) + s.val, Pipeline.run_point_lt_of_flush t hl s⟩ j))) k.val _ = _
  rw [e]

theorem dcu_last (c : Dev nD) (t : Fin cfg0.N) (hl : t.val % 16 = 15) (k : Fin 8) (j : Fin 256) :
    (outsAt0 m c t.val t.isLt).2.2.2 (ix2 k j) = ∑ i : Fin 8192, term (gradU m c (col t j)) (colZ m c (hi (col t j))) k.val i := by
  rw [Pipeline.eq_sum_fin_of_reset_step_apply_of_flush (fun n h => (outsAt0 m c n h).2.2.2) 16 (fun _ => 0)
    (fun t y => ∑ i : Fin 512, term (gradU m c (col t (y 1))) (colZ m c (hi (col t (y 1)))) (y 0).val (row t i))
    (fun t h y => by
      idx_vars y
      exact dcu_A m c t h _ _)
    (fun t h y => by
      idx_vars y
      exact dcu_B m c t h _ _)
    t hl _, zero_add]
  refine Eq.trans (Finset.sum_congr rfl fun s _ => Finset.sum_congr rfl fun i _ => ?_) (run_sum t hl fun i => term (gradU m c (col t j)) (colZ m c (hi (col t j))) k.val i)
  have e : col ⟨16 * (t.val / 16) + s.val, Pipeline.run_point_lt_of_flush t hl s⟩ j = col t j := Fin.ext (by show (16 * (t.val / 16) + s.val) / 16 * 256 + j.val = t.val / 16 * 256 + j.val; omega)
  show term (gradU m c (col ⟨16 * (t.val / 16) + s.val, Pipeline.run_point_lt_of_flush t hl s⟩ j)) (colZ m c (hi (col ⟨16 * (t.val / 16) + s.val, Pipeline.run_point_lt_of_flush t hl s⟩ j))) k.val _ = _
  rw [e]

theorem final_dcg (c : Dev nD) (hr : Reals m c) : (dats m 0 c).arrAt 10 cfg0.N
    = val_main_v63 (F := Ideal) (A0 m c) (A1 m c) (A2 m c) (A3 m c) (A4 m c) := by
  refine (dats m 0 c).arrAt_eq_of_covers 10 _ (by decide +kernel) fun t hf y => ?_
  blk_simp
  rw [after0_10]
  have hy : y = ix2 (y 0) (y 1) := by blk_ext
  have he : ((win0_10.blk t).view.emb y) = ix2 (y 0) (col t (y 1)) := by blk_ext [idx t]
  rw [he]
  refine (congrArg _ hy).trans ((dcg_last m c t ((flush0_10 t).mp hf) (y 0) (y 1)).trans (((ref_63 _ _ _ _ _ _ _).trans (ref_60 _ _ _ _ _ _ _)).trans ?_).symm)
  exact Finset.sum_congr rfl fun i _ => congrArg (fun d : Fin 8192 → EReal => term d (colZ m c (lo (col t (y 1)))) (y 0).val i) (funext fun i => ref_gG m c hr i _)

theorem final_dcu (c : Dev nD) : (dats m 0 c).arrAt 11 cfg0.N
    = val_main_v64 (F := Ideal) (A0 m c) (A1 m c) (A2 m c) (A3 m c) (A4 m c) := by
  refine (dats m 0 c).arrAt_eq_of_covers 11 _ (by decide +kernel) fun t hf y => ?_
  blk_simp
  rw [after0_11]
  have hy : y = ix2 (y 0) (y 1) := by blk_ext
  have he : ((win0_11.blk t).view.emb y) = ix2 (y 0) (col t (y 1)) := by blk_ext [idx t]
  rw [he]
  refine (congrArg _ hy).trans ((dcu_last m c t ((flush0_11 t).mp hf) (y 0) (y 1)).trans (((ref_64 _ _ _ _ _ _ _).trans (ref_60 _ _ _ _ _ _ _)).trans ?_).symm)
  exact Finset.sum_congr rfl fun i _ => congrArg (fun d : Fin 8192 → EReal => term d (colZ m c (hi (col t (y 1)))) (y 0).val i) (funext fun i => ref_gU m c i _)

/-! ## The claim -/

instance finite_facts : Cert.Pre_gate_finite.Facts := ⟨by decide, by decide, by decide, by decide, by decide⟩

theorem fine_of {a : FVec Ideal Cert.Pre_gate_finite.S8192x1024 .f32} {b : FVec Ideal Cert.Pre_gate_finite.S8192x5632 .f32}
    {w : FVec Ideal Cert.Pre_gate_finite.S3x5632 .f32} {d : FVec Ideal Cert.Pre_gate_finite.S5632 .f32} {e : FVec Ideal Cert.Pre_gate_finite.S2816x1024 .f32}
    (h : (Cert.Pre_gate_finite.fn (F := Ideal) a b w d e).1 = (fun _ => 1#1) ∧ (Cert.Pre_gate_finite.fn (F := Ideal) a b w d e).2.1 = (fun _ => 1#1)
      ∧ (Cert.Pre_gate_finite.fn (F := Ideal) a b w d e).2.2.1 = (fun _ => 1#1) ∧ (Cert.Pre_gate_finite.fn (F := Ideal) a b w d e).2.2.2.1 = (fun _ => 1#1)
      ∧ (Cert.Pre_gate_finite.fn (F := Ideal) a b w d e).2.2.2.2 = (fun _ => 1#1)) :
    (∀ i j, Fine (a (ix2 i j))) ∧ (∀ i j, Fine (b (ix2 i j))) ∧ (∀ i j, Fine (w (ix2 i j))) ∧ (∀ j, Fine (d (ix1 j))) ∧ ∀ i j, Fine (e (ix2 i j)) := by
  obtain ⟨h0, h1, h2, h3, h4⟩ := h
  refine ⟨fun i j => ?_, fun i j => ?_, fun i j => ?_, fun j => ?_, fun i j => ?_⟩
  · have h' := congrFun h0 (ix2 i j); pointwise [Cert.Pre_gate_finite.fn] at h'; exact Fine.of_abs h'
  · have h' := congrFun h1 (ix2 i j); pointwise [Cert.Pre_gate_finite.fn] at h'; exact Fine.of_abs h'
  · have h' := congrFun h2 (ix2 i j); pointwise [Cert.Pre_gate_finite.fn] at h'; exact Fine.of_abs h'
  · have h' := congrFun h3 (ix1 j); pointwise [Cert.Pre_gate_finite.fn] at h'; exact Fine.of_abs h'
  · have h' := congrFun h4 (ix2 i j); pointwise [Cert.Pre_gate_finite.fn] at h'; exact Fine.of_abs h'

theorem fine_down {f : Fin 8192 → EReal} (hf : ∀ i, Fine (f i)) (k : Fin 3) (i : Fin 8192) : Fine (down f k i) := by
  unfold down
  split_ifs
  · exact hf _
  · exact Fine.zero

theorem algebraic : Cert.algebraic_GateKernelIdeal_GateReferenceIdeal_pre_gate_finite := fun m g m' g' hp hag => by
  refine ⟨_, _, _, _, Value.run_blocks m g, (θ_run _ _ _).mono (fun r h c => ?_) (Cert.GateReferenceIdeal.Value.run m' g')⟩
  obtain ⟨h8, h9, h10, h11, k⟩ := h c
  obtain ⟨a0, a1, a2, a3, a4⟩ := hag c
  obtain ⟨f0, f1, f2, f3, f4⟩ := fine_of (hp c)
  have hr : Reals m c := ⟨fun i J => Fine.add (Fine.add (Fine.add (f3 _) (Fine.mul (fine_down (fun _ => f1 _ _) _ _) (f2 _ _)))
      (Fine.mul (fine_down (fun _ => f1 _ _) _ _) (f2 _ _))) (Fine.mul (fine_down (fun _ => f1 _ _) _ _) (f2 _ _)),
    fun i l => Fine.sum _ fun k => Fine.mul (f0 _ _) (f4 _ _)⟩
  refine ⟨h8.trans ?_, h9.trans ?_, h10.trans ?_, h11.trans ?_, k⟩
  · rw [final_dzg m c hr, val_main_v61_eq, a0, a1, a2, a3, a4]
  · rw [final_dzu m c, val_main_v62_eq, a0, a1, a2, a3, a4]
  · rw [final_dcg m c hr, val_main_v63_eq, a0, a1, a2, a3, a4]
  · rw [final_dcu m c, val_main_v64_eq, a0, a1, a2, a3, a4]

end Cert.Gate

end
-- ==== Proof.Up.lean ====
/- The convolution of the feed-forward and the second norm under its up-projection: the gradients of the projection's result (the two
   halves), of the norm's argument and of its gain. The kernel goes over row blocks and, inside one, over column chunks, whose products it
   sums in a block of its own before the norm's gradient; a block's last rows take the rows after it from a small block of eight rows. -/
module

public import proofs.«01_k».proof.Proof.Gen.UpKernelIdeal.Frame
public import proofs.«01_k».proof.Proof.Gen.UpReferenceIdeal.Run
public import proofs.«01_k».proof.Proof.Gen.UpReferenceIdeal.Read
public import proofs.«01_k».proof.Proof.Norm
public import proofs.«01_k».proof.Defs
public import Idealize.ShloMosaic.Lib.Pipeline.Value
public import Idealize.ShloMosaic.Lib.Pipeline.ValueKit
public import Idealize.ShloMosaic.Lib.Pointwise

@[expose] public section

set_option maxRecDepth 16384

noncomputable section

namespace Cert.Up

open Idealize.ShloMosaic Idealize.ShloMosaic.TcCoe Idealize.SL.Sem
open Idealize.ShloMosaic.Pipeline (Dat)
open Cert.UpKernelIdeal Cert.UpKernelIdeal.Gen
open Cert.UpReferenceIdeal.Read
open Cert.Norm

/-! ## The blocks' places -/

theorem idx : ∀ t : Fin cfg0.N, win0_0.index t = ![t.val / 11, t.val % 11] ∧ win0_1.index t = ![t.val / 11, t.val % 11]
    ∧ win0_2.index t = ![min ((t.val / 11 + 1) * 64) 1023, t.val % 11] ∧ win0_3.index t = ![min ((t.val / 11 + 1) * 64) 1023, t.val % 11]
    ∧ win0_4.index t = ![0, t.val % 11] ∧ win0_5.index t = ![0, t.val % 11 + 11] ∧ win0_6.index t = ![t.val % 11, 0]
    ∧ win0_7.index t = ![t.val % 11 + 11, 0] ∧ win0_8.index t = ![t.val / 11, 0] ∧ win0_9.index t = ![0, 0] ∧ win0_10.index t = ![t.val / 11, 0]
    ∧ win0_11.index t = ![t.val / 11, t.val % 11] ∧ win0_12.index t = ![t.val / 11, t.val % 11] ∧ win0_13.index t = ![t.val / 11, 0]
    ∧ win0_14.index t = ![0, 0] ∧ t.val < 176 :=
  (by decide +kernel : ∀ t : Fin grid0.N, _)

theorem inner : ∀ t : Fin cfg0.N, Scalar.cmpi .slt (BitVec.ofNat 32 ((grid0.coords t) 0).val) 15#32 = if t.val / 11 = 15 then 0#1 else 1#1 :=
  (by decide +kernel : ∀ t : Fin grid0.N, _)

theorem lt_N (t : Fin cfg0.N) : t.val < 176 := (idx t).2.2.2.2.2.2.2.2.2.2.2.2.2.2.2
theorem lt_row (t : Fin cfg0.N) (i : Fin 512) : t.val / 11 * 512 + i.val < 8192 := by have := lt_N t; omega
theorem lt_col (t : Fin cfg0.N) (j : Fin 256) : t.val % 11 * 256 + j.val < 2816 := by omega
theorem lt_next (t : Fin cfg0.N) (a : Fin 8) : min ((t.val / 11 + 1) * 64) 1023 * 8 + a.val < 8192 := by omega

/-- the array row and column of a block's row and column, and the row of the small block's row -/
abbrev row (t : Fin cfg0.N) (i : Fin 512) : Fin 8192 := ⟨t.val / 11 * 512 + i.val, lt_row t i⟩
abbrev col (t : Fin cfg0.N) (j : Fin 256) : Fin 2816 := ⟨t.val % 11 * 256 + j.val, lt_col t j⟩
abbrev nrow (t : Fin cfg0.N) (a : Fin 8) : Fin 8192 := ⟨min ((t.val / 11 + 1) * 64) 1023 * 8 + a.val, lt_next t a⟩

/-! ## The convolution's gradient -/

/-- a column moved up by k rows, zero below the last row -/
def up (f : Fin 8192 → EReal) (k : ℕ) (i : Fin 8192) : EReal := if h : i.val + k < 8192 then f ⟨i.val + k, h⟩ else 0

/-- the convolution's gradient at a row: the column's row and the two rows below it, each times its weight -/
def conv (f : Fin 8192 → EReal) (w : Fin 3 → EReal) (i : Fin 8192) : EReal := f i * w 2 + up f 1 i * w 1 + up f 2 i * w 0

theorem up_1 (f : Fin 8192 → EReal) (t : Fin cfg0.N) (i : Fin 512) : up f 1 (row t i)
    = if h : i.val < 511 then f (row t ⟨i.val + 1, by omega⟩) else if t.val / 11 = 15 then 0 else f (nrow t 0) := by
  have ht := lt_N t
  unfold up
  by_cases h : i.val < 511
  · rw [dif_pos h]
    exact dif_pos (show t.val / 11 * 512 + i.val + 1 < 8192 by omega)
  · rw [dif_neg h]
    by_cases h5 : t.val / 11 = 15
    · rw [if_pos h5]
      exact dif_neg (show ¬ t.val / 11 * 512 + i.val + 1 < 8192 by omega)
    · rw [if_neg h5]
      refine (dif_pos (show t.val / 11 * 512 + i.val + 1 < 8192 by omega)).trans (congrArg f (Fin.ext ?_))
      show t.val / 11 * 512 + i.val + 1 = min ((t.val / 11 + 1) * 64) 1023 * 8 + 0
      omega

theorem up_2 (f : Fin 8192 → EReal) (t : Fin cfg0.N) (i : Fin 512) : up f 2 (row t i)
    = if h : i.val < 510 then f (row t ⟨i.val + 2, by omega⟩) else if t.val / 11 = 15 then 0 else f (nrow t ⟨i.val % 2, by omega⟩) := by
  have ht := lt_N t
  unfold up
  by_cases h : i.val < 510
  · rw [dif_pos h]
    exact dif_pos (show t.val / 11 * 512 + i.val + 2 < 8192 by omega)
  · rw [dif_neg h]
    by_cases h5 : t.val / 11 = 15
    · rw [if_pos h5]
      exact dif_neg (show ¬ t.val / 11 * 512 + i.val + 2 < 8192 by omega)
    · rw [if_neg h5]
      refine (dif_pos (show t.val / 11 * 512 + i.val + 2 < 8192 by omega)).trans (congrArg f (Fin.ext ?_))
      show t.val / 11 * 512 + i.val + 2 = min ((t.val / 11 + 1) * 64) 1023 * 8 + i.val % 2
      omega

theorem ge_seven : ∀ i : Fin 8, IntOp.cmpi CmpIPredicate.sge (BitVec.ofNat 32 i.val) 7#32 = if i.val < 7 then 0#1 else 1#1 := by decide +kernel
theorem ge_six : ∀ i : Fin 8, IntOp.cmpi CmpIPredicate.sge (BitVec.ofNat 32 i.val) 6#32 = if i.val < 6 then 0#1 else 1#1 := by decide +kernel

theorem ge_seven' (a : ℕ) (h : a < 8) : IntOp.cmpi CmpIPredicate.sge (BitVec.ofNat 32 a) 7#32 = if a < 7 then 0#1 else 1#1 := ge_seven ⟨a, h⟩
theorem ge_six' (a : ℕ) (h : a < 8) : IntOp.cmpi CmpIPredicate.sge (BitVec.ofNat 32 a) 6#32 = if a < 6 then 0#1 else 1#1 := ge_six ⟨a, h⟩

theorem select_one (x y : EReal) : Scalar.select 1#1 x y = x := if_pos (by decide)
theorem select_zero (x y : EReal) : Scalar.select 0#1 x y = y := if_neg (by decide)
theorem edge (p : Prop) [Decidable p] (x : EReal) : Scalar.select (if p then 0#1 else 1#1) x 0 = if p then 0 else x := by
  split
  · exact select_zero _ _
  · exact select_one _ _

section
variable (t : Fin cfg0.N) (x : FVec Ideal S512x256 .f32) (n : FVec Ideal S8x256 .f32) (w0 w1 w2 : FVec Ideal S1x256 .f32)

set_option maxHeartbeats 1000000 in
theorem pay8_at (i : Fin 512) (k : Fin 256) : k0_pay8 (F := Ideal) (Scalar.cmpi .slt (BitVec.ofNat 32 ((grid0.coords t) 0).val) 15#32) x n w2 w1 w0 (ix2 i k)
    = x (ix2 i k) * w2 (ix2 0 k)
      + (if h : i.val < 511 then x (ix2 ⟨i.val + 1, by omega⟩ k) else if t.val / 11 = 15 then 0 else n (ix2 0 k)) * w1 (ix2 0 k)
      + (if h : i.val < 510 then x (ix2 ⟨i.val + 2, by omega⟩ k) else if t.val / 11 = 15 then 0 else n (ix2 ⟨i.val % 2, by omega⟩ k)) * w0 (ix2 0 k) := by
  rw [inner t]
  pointwise [k0_pay8]
  simp only [edge]
  refine congrArg₂ (· + ·) (congrArg₂ (· + ·) rfl (congrArg (· * _) ?_)) (congrArg (· * _) ?_)
  · by_cases h8 : i.val < 504
    · refine (dif_pos h8).trans (Eq.trans ?_ (dif_pos (by omega)).symm)
      exact congrArg (fun a : Fin 512 => x (ix2 a k)) (Fin.ext (by show (i.val + 512 - 511) % 512 = i.val + 1; omega))
    · refine (dif_neg h8).trans ?_
      rw [ge_seven' _ (by omega)]
      by_cases h1 : i.val < 511
      · rw [if_pos (show i.val - 504 < 7 by omega), dif_pos h1]
        refine (select_zero _ _).trans ?_
        exact congrArg (fun a : Fin 512 => x (ix2 a k)) (Fin.ext (by show (504 + (i.val - 504) + 512 - 511) % 512 = i.val + 1; omega))
      · rw [if_neg (show ¬ i.val - 504 < 7 by omega), dif_neg h1]
        refine (select_one _ _).trans ?_
        have e : (⟨(i.val - 504 + 8 - 7) % 8, by omega⟩ : Fin 8) = 0 := Fin.ext (by simp only [Fin.val_zero]; omega)
        rw [e]
  · by_cases h8 : i.val < 504
    · refine (dif_pos h8).trans (Eq.trans ?_ (dif_pos (by omega)).symm)
      exact congrArg (fun a : Fin 512 => x (ix2 a k)) (Fin.ext (by show (i.val + 512 - 510) % 512 = i.val + 2; omega))
    · refine (dif_neg h8).trans ?_
      rw [ge_six' _ (by omega)]
      by_cases h1 : i.val < 510
      · rw [if_pos (show i.val - 504 < 6 by omega), dif_pos h1]
        refine (select_zero _ _).trans ?_
        exact congrArg (fun a : Fin 512 => x (ix2 a k)) (Fin.ext (by show (504 + (i.val - 504) + 512 - 510) % 512 = i.val + 2; omega))
      · rw [if_neg (show ¬ i.val - 504 < 6 by omega), dif_neg h1]
        refine (select_one _ _).trans ?_
        have e : (⟨(i.val - 504 + 8 - 6) % 8, by omega⟩ : Fin 8) = ⟨i.val % 2, by omega⟩ := Fin.ext (by dsimp only; omega)
        rw [e]

theorem pay7_at (i : Fin 512) (k : Fin 256) : k0_pay7 (F := Ideal) (grid0.coords t) x n w2 w1 w0 (ix2 i k)
    = k0_pay8 (F := Ideal) (Scalar.cmpi .slt (BitVec.ofNat 32 ((grid0.coords t) 0).val) 15#32) x n w2 w1 w0 (ix2 i k) := rfl

variable {x n w0 w1 w2} (f : Fin 8192 → EReal) (w : Fin 3 → EReal) {k : Fin 256} (hc : ∀ i : Fin 512, x (ix2 i k) = f (row t i))
  (hn : ∀ a : Fin 8, n (ix2 a k) = f (nrow t a)) (h0 : w0 (ix2 0 k) = w 0) (h1 : w1 (ix2 0 k) = w 1) (h2 : w2 (ix2 0 k) = w 2)
include hc hn h0 h1 h2

theorem grad_blk (i : Fin 512) : k0_pay8 (F := Ideal) (Scalar.cmpi .slt (BitVec.ofNat 32 ((grid0.coords t) 0).val) 15#32) x n w2 w1 w0 (ix2 i k) = conv f w (row t i) := by
  rw [pay8_at, conv, up_1, up_2, h0, h1, h2]
  simp only [hc, hn]

end

/-! ## The reference's values -/

variable (A0 A1 : FVec Ideal Cert.UpReferenceIdeal.S8192x2816 .f32) (A2 : FVec Ideal Cert.UpReferenceIdeal.S3x5632 .f32)
  (A3 : FVec Ideal Cert.UpReferenceIdeal.S5632 .f32)
  (A4 : FVec Ideal Cert.UpReferenceIdeal.S1024x5632 .f32) (X : FVec Ideal Cert.UpReferenceIdeal.S8192x1024 .f32)
  (G : FVec Ideal Cert.UpReferenceIdeal.S1024 .f32) (R : FVec Ideal Cert.UpReferenceIdeal.S8192x1024 .f32)

/-- the two cotangents side by side, a column -/
def side (J : Fin 5632) (i : Fin 8192) : EReal := if h : J.val < 2816 then A0 (ix2 i ⟨J.val, h⟩) else A1 (ix2 i ⟨J.val - 2816, by omega⟩)

/-- the gradient of the projection's result -/
def DZ (i : Fin 8192) (J : Fin 5632) : EReal := conv (side A0 A1 J) (fun k => A2 (ix2 k J)) i

theorem ref_side (i : Fin 8192) (J : Fin 5632) : val_main_v43 (F := Ideal) A0 A1 (ix2 i J) = side A0 A1 J i := by
  pointwise [val_main_v43, side]

theorem ref_dz (i : Fin 8192) (J : Fin 5632) : val_main_v56 (F := Ideal) A0 A1 A2 (ix2 i J) = DZ A0 A1 A2 i J := by
  pointwise [val_main_v56, val_main_v54, val_main_v50, val_main_v46, val_main_v49, val_main_v53, val_main_v45, val_main_v48, val_main_v52, val_main_v44, val_main_v47, val_main_v51, val_main_v39, val_main_v38, val_main_v37, val_main_v32, val_main_v31, val_main_v30, val_main_v23, val_main_v22, val_main_v21, val_main_cst_5, val_main_cst_6, val_main_cst_7]
  simp only [ref_side]
  unfold DZ conv up
  refine congrArg₂ (· + ·) (congrArg₂ (· + ·) rfl ?_) ?_
  · by_cases h : i.val + 1 < 8192
    · refine (dif_pos (by omega)).trans (Eq.trans ?_ (congrArg (fun v : EReal => v * (A2 (ix2 1 J) : EReal)) (dif_pos h)).symm)
      exact congrArg (fun a : Fin 8192 => side A0 A1 J a * A2 (ix2 1 J)) (Fin.ext (by show 2 + i.val - 1 = i.val + 1; omega))
    · rw [dif_neg h]
      exact (dif_neg (by omega)).trans (zero_mul (M₀ := EReal) _).symm
  · by_cases h : i.val + 2 < 8192
    · refine (dif_pos (by omega)).trans (Eq.trans ?_ (congrArg (fun v : EReal => v * (A2 (ix2 0 J) : EReal)) (dif_pos h)).symm)
      exact congrArg (fun a : Fin 8192 => side A0 A1 J a * A2 (ix2 0 J)) (Fin.ext (by show 2 + i.val = i.val + 2; omega))
    · rw [dif_neg h]
      exact (dif_neg (by omega)).trans (zero_mul (M₀ := EReal) _).symm

/-- the cotangent of the normed row -/
def DH (i : Fin 8192) (j : Fin 1024) : EReal := ∑ J : Fin 5632, HMul.hMul (α := EReal) (β := EReal) (γ := EReal) (DZ A0 A1 A2 i J) (A4 (ix2 j J))

theorem ref_dh (i : Fin 8192) (j : Fin 1024) : val_main_v57 (F := Ideal) A0 A1 A2 A4 (ix2 i j) = DH A0 A1 A2 A4 i j := by
  pointwise [val_main_v57]
  simp only [ref_dz]
  rfl

abbrev XR (i : Fin 8192) : Fin 1024 → EReal := fun k => X (ix2 i k)
abbrev GR : Fin 1024 → EReal := fun k => G (ix1 k)

theorem ref_rho (i : Fin 8192) (a : Fin 1) : val_main_v6 (F := Ideal) X (ix2 i a) = rho (XR X i) := by
  pointwise [val_main_v6, val_main_v5, val_main_v4, val_main_v3, val_main_v2, val_main_v1, val_main_v0, val_main_cst, val_main_cst_0, val_main_cst_1, rho, meanSq]

theorem ref_dx (i : Fin 8192) (j : Fin 1024) : val_main_v78 (F := Ideal) A0 A1 A2 A4 X G R (ix2 i j)
    = R (ix2 i j) + normGrad (XR X i) (GR G) (DH A0 A1 A2 A4 i) j := by
  rw [normGrad_eq]
  pointwise [val_main_v78, val_main_v76, val_main_v69, val_main_v68, val_main_v62, val_main_v61, val_main_v13, val_main_v67, val_main_v7, val_main_v77, val_main_v75, val_main_v74, val_main_v73, val_main_v72, val_main_v70, val_main_v66, val_main_v65, val_main_v64, val_main_cst_10, val_main_v10, val_main_v9, val_main_cst_2, val_main_v8, val_main_v71, val_main_cst_11, val_main_cst_12]
  simp only [ref_dh, ref_rho, Finset.univ_unique, Finset.sum_singleton]
  rw [cNegHalf, ← add_assoc, ← add_assoc]

theorem ref_dg (a : Fin 1) (j : Fin 1024) : val_main_v83 (F := Ideal) A0 A1 A2 A4 X (ix2 a j)
    = ∑ i : Fin 8192, DH A0 A1 A2 A4 i j * X (ix2 i j) * Ideal.rsqrt (rho (XR X i)) := by
  pointwise [val_main_v83, val_main_v63, val_main_v60, val_main_v59, val_main_v58, val_main_v12, val_main_v11, val_main_v7, val_main_cst_8, val_main_cst_9]
  simp only [ref_dh, ref_rho, Finset.univ_unique, Finset.sum_singleton]
  exact Finset.sum_congr rfl fun i _ => by rw [mul_comm, ← mul_assoc]

/-! ## The blocks -/

variable (m : (ℓ : Loc nD τ sig) → Buf (Elt Ideal) ℓ)

section
variable (c : Dev nD) (t : Fin cfg0.N)
abbrev B0 := m ((c : Thread nD τ).loc main_arg0)
abbrev B1 := m ((c : Thread nD τ).loc main_arg1)
abbrev B2 := m ((c : Thread nD τ).loc main_arg2)
abbrev B3 := m ((c : Thread nD τ).loc main_arg3)
abbrev B4 := m ((c : Thread nD τ).loc main_arg4)
abbrev B5 := m ((c : Thread nD τ).loc main_arg5)
abbrev B6 := m ((c : Thread nD τ).loc main_arg6)
abbrev B7 := m ((c : Thread nD τ).loc main_arg7)

/-- the column of the first half, and of the second half -/
abbrev lo (j : Fin 2816) : Fin 5632 := ⟨j.val, by omega⟩
abbrev hi (j : Fin 2816) : Fin 5632 := ⟨2816 + j.val, by omega⟩

theorem blk_0 (i : Fin 512) (j : Fin 256) : iblk m c 0 t (ix2 i j) = B0 m c (ix2 (row t i) (col t j)) := by blk_point [iblk, idx t]
theorem blk_1 (i : Fin 512) (j : Fin 256) : iblk m c 1 t (ix2 i j) = B1 m c (ix2 (row t i) (col t j)) := by blk_point [iblk, idx t]
theorem blk_2 (a : Fin 8) (j : Fin 256) : iblk m c 2 t (ix2 a j) = B0 m c (ix2 (nrow t a) (col t j)) := by blk_point [iblk, idx t]
theorem blk_3 (a : Fin 8) (j : Fin 256) : iblk m c 3 t (ix2 a j) = B1 m c (ix2 (nrow t a) (col t j)) := by blk_point [iblk, idx t]

/-- the three weights are the first three rows of the stacked rows -/
theorem stack_at (a : Vec Ideal S3x5632 .f32) (b : Vec Ideal S1x5632 .f32) (z : Vec Ideal S4x5632 .f32) (J : Fin 5632) (k : Fin 3) :
    concatenate S8x5632 0 [⟨S3x5632, a⟩, ⟨S1x5632, b⟩, ⟨S4x5632, z⟩] concatenates_S3x5632_S1x5632_S4x5632_S8x5632_d0 (ix2 ⟨k.val, by omega⟩ J) = a (ix2 k J) :=
  concatenate_apply_piece (t := S8x5632) (0 : Fin 2) [⟨S3x5632, a⟩, ⟨S1x5632, b⟩, ⟨S4x5632, z⟩] concatenates_S3x5632_S1x5632_S4x5632_S8x5632_d0 (ix2 ⟨k.val, by omega⟩ J) 0 (show 0 < 3 by decide) S3x5632 a rfl rfl 0 rfl (ix2 k J) (fun d hd => by fin_cases d; exact absurd rfl hd; rfl) (Nat.zero_add _)

theorem V_2 : V m c main_v2 = concatenate S8x5632 0 [⟨S3x5632, (B2 m c : Vec Ideal S3x5632 .f32)⟩, ⟨S1x5632, broadcastInDim S1x5632 ![1] bcast_S5632_S1x5632_1 (B3 m c : Vec Ideal S5632 .f32)⟩,
    ⟨S4x5632, broadcastInDim S4x5632 ![] bcast_S_S4x5632 (constant (F := Ideal) S_ .f32 0x00000000#32)⟩] concatenates_S3x5632_S1x5632_S4x5632_S8x5632_d0 := rfl

theorem at_4 (k : Fin 8) (j : Fin 256) : iblk m c 4 t (ix2 k j) = V m c main_v2 (ix2 k (lo (col t j))) := by
  show V m c main_v2 _ = V m c main_v2 _
  congr 1; blk_ext [idx t]
theorem at_5 (k : Fin 8) (j : Fin 256) : iblk m c 5 t (ix2 k j) = V m c main_v2 (ix2 k (hi (col t j))) := by
  show V m c main_v2 _ = V m c main_v2 _
  congr 1; blk_ext [idx t]
theorem blk_4 (k : Fin 3) (j : Fin 256) : iblk m c 4 t (ix2 ⟨k.val, by omega⟩ j) = B2 m c (ix2 k (lo (col t j))) := by
  rw [at_4, V_2]; exact stack_at _ _ _ _ k
theorem blk_5 (k : Fin 3) (j : Fin 256) : iblk m c 5 t (ix2 ⟨k.val, by omega⟩ j) = B2 m c (ix2 k (hi (col t j))) := by
  rw [at_5, V_2]; exact stack_at _ _ _ _ k
theorem blk_6 (l : Fin 256) (j : Fin 1024) : iblk m c 6 t (ix2 l j) = B4 m c (ix2 j (lo (col t l))) := by blk_point [iblk, idx t]
theorem blk_7 (l : Fin 256) (j : Fin 1024) : iblk m c 7 t (ix2 l j) = B4 m c (ix2 j (hi (col t l))) := by blk_point [iblk, idx t]
theorem blk_8 (i : Fin 512) : (fun k => iblk m c 8 t (ix2 i k)) = XR (B5 m c) (row t i) := by
  funext k; show iblk m c 8 t (ix2 i k) = B5 m c (ix2 (row t i) k); blk_point [iblk, idx t]
theorem blk_9 : (fun k => iblk m c 9 t (ix2 0 k)) = GR (B6 m c) := by
  funext k; show iblk m c 9 t (ix2 0 k) = B6 m c (ix1 k); blk_point [iblk, idx t]
theorem blk_10 (i : Fin 512) (k : Fin 1024) : iblk m c 10 t (ix2 i k) = B7 m c (ix2 (row t i) k) := by blk_point [iblk, idx t]
end

/-- one row of a block of eight -/
theorem ld_row (B : Vec Ideal S8x256 .f32) (r : ℕ) (hr : r < 8) (h : ∀ a, (![r, 0] : Fin 2 → ℕ) a + (![1, 256] : Fin 2 → ℕ) a ≤ S8x256.size a)
    (a : Fin 1) (j : Fin 256) : View.ld B (Rect.unit (s := S8x256) ![r, 0] ![1, 256] h) (ix2 a j) = B (ix2 ⟨r, hr⟩ j) :=
  congrArg B (funext fun d => Fin.ext (by
    fin_cases d
    · show r + 1 * a.val = r; omega
    · exact (Nat.zero_add _).trans (Nat.one_mul _)))

section
variable (c : Dev nD) (t : Fin cfg0.N)

abbrev dz (i : Fin 8192) (J : Fin 5632) : EReal := DZ (B0 m c) (B1 m c) (B2 m c) i J
abbrev dh (i : Fin 8192) (j : Fin 1024) : EReal := DH (B0 m c) (B1 m c) (B2 m c) (B4 m c) i j

abbrev cg (r : ℕ) (h : ∀ a, (![r, 0] : Fin 2 → ℕ) a + (![1, 256] : Fin 2 → ℕ) a ≤ S8x256.size a) : FVec Ideal S1x256 .f32 := View.ld (iblk m c 4 t) (Rect.unit (s := S8x256) ![r, 0] ![1, 256] h)
abbrev cu (r : ℕ) (h : ∀ a, (![r, 0] : Fin 2 → ℕ) a + (![1, 256] : Fin 2 → ℕ) a ≤ S8x256.size a) : FVec Ideal S1x256 .f32 := View.ld (iblk m c 5 t) (Rect.unit (s := S8x256) ![r, 0] ![1, 256] h)

/-- the two blocks of the projection's gradient the kernel computes -/
abbrev GB : FVec Ideal S512x256 .bf16 := k0_pay7 (F := Ideal) (grid0.coords t) (iblk m c 0 t) (iblk m c 2 t)
  (cg m c t 2 inb_S8x256_S1x256_2_0) (cg m c t 1 inb_S8x256_S1x256_1_0) (cg m c t 0 inb_S8x256_S1x256_0_0)
abbrev UB : FVec Ideal S512x256 .bf16 := k0_pay8 (F := Ideal) (Scalar.cmpi .slt (BitVec.ofNat 32 ((grid0.coords t) 0).val) 15#32) (iblk m c 1 t) (iblk m c 3 t)
  (cu m c t 2 inb_S8x256_S1x256_2_0) (cu m c t 1 inb_S8x256_S1x256_1_0) (cu m c t 0 inb_S8x256_S1x256_0_0)

theorem side_lo (A0 A1 : FVec Ideal Cert.UpReferenceIdeal.S8192x2816 .f32) (l : Fin 2816) (i : Fin 8192) : side A0 A1 (lo l) i = A0 (ix2 i l) := dif_pos l.isLt
theorem side_hi (A0 A1 : FVec Ideal Cert.UpReferenceIdeal.S8192x2816 .f32) (l : Fin 2816) (i : Fin 8192) : side A0 A1 (hi l) i = A1 (ix2 i l) :=
  (dif_neg (by show ¬ 2816 + l.val < 2816; omega)).trans (congrArg (fun a : Fin 2816 => A1 (ix2 i a)) (Fin.ext (by show 2816 + l.val - 2816 = l.val; omega)))

theorem GB_at (i : Fin 512) (j : Fin 256) : GB m c t (ix2 i j) = dz m c (row t i) (lo (col t j)) :=
  (pay7_at t _ _ _ _ _ i j).trans (grad_blk t _ (fun k => B2 m c (ix2 k (lo (col t j))))
    (fun i => (blk_0 m c t i j).trans (side_lo _ _ _ _).symm) (fun a => (blk_2 m c t a j).trans (side_lo _ _ _ _).symm)
    ((ld_row _ 0 (by decide) _ 0 j).trans (blk_4 m c t 0 j)) ((ld_row _ 1 (by decide) _ 0 j).trans (blk_4 m c t 1 j))
    ((ld_row _ 2 (by decide) _ 0 j).trans (blk_4 m c t 2 j)) i)
theorem UB_at (i : Fin 512) (j : Fin 256) : UB m c t (ix2 i j) = dz m c (row t i) (hi (col t j)) :=
  grad_blk t _ (fun k => B2 m c (ix2 k (hi (col t j))))
    (fun i => (blk_1 m c t i j).trans (side_hi _ _ _ _).symm) (fun a => (blk_3 m c t a j).trans (side_hi _ _ _ _).symm)
    ((ld_row _ 0 (by decide) _ 0 j).trans (blk_5 m c t 0 j)) ((ld_row _ 1 (by decide) _ 0 j).trans (blk_5 m c t 1 j))
    ((ld_row _ 2 (by decide) _ 0 j).trans (blk_5 m c t 2 j)) i

theorem ref_80 (A0 A1 : FVec Ideal Cert.UpReferenceIdeal.S8192x2816 .f32) (A2 : FVec Ideal Cert.UpReferenceIdeal.S3x5632 .f32) (i : Fin 8192) (l : Fin 2816) :
    val_main_v80 (F := Ideal) A0 A1 A2 (ix2 i l) = DZ A0 A1 A2 i (lo l) := by
  refine Eq.trans ?_ (ref_dz A0 A1 A2 i (lo l))
  pointwise [val_main_v80, val_main_v79]
theorem ref_82 (A0 A1 : FVec Ideal Cert.UpReferenceIdeal.S8192x2816 .f32) (A2 : FVec Ideal Cert.UpReferenceIdeal.S3x5632 .f32) (i : Fin 8192) (l : Fin 2816) :
    val_main_v82 (F := Ideal) A0 A1 A2 (ix2 i l) = DZ A0 A1 A2 i (hi l) := by
  refine Eq.trans ?_ (ref_dz A0 A1 A2 i (hi l))
  pointwise [val_main_v82, val_main_v81]

/-! ## The payloads of the norm and of the sums -/

theorem pay1_at (y : S512x1024.Idx) : k0_pay1 (F := Ideal) y = 0 := by pointwise [k0_pay1]
theorem pay3_at (y : S1x1024.Idx) : k0_pay3 (F := Ideal) y = 0 := by pointwise [k0_pay3]
theorem pay2_at (g u : FVec Ideal S512x256 .bf16) (acc : FVec Ideal S512x1024 .f32) (w v : FVec Ideal S256x1024 .bf16) (i : Fin 512) (j : Fin 1024) :
    k0_pay2 (F := Ideal) g u acc w v (ix2 i j) = acc (ix2 i j) + (∑ l : Fin 256, g (ix2 i l) * w (ix2 l j) + ∑ l : Fin 256, u (ix2 i l) * v (ix2 l j)) := by
  pointwise [k0_pay2]

theorem pay4_at (x : FVec Ideal S512x1024 .f32) (i : Fin 512) (a : Fin 1) : k0_pay4 (F := Ideal) x (ix2 i a) = Ideal.rsqrt (rho fun k => x (ix2 i k)) := by
  pointwise [k0_pay4, rho]

theorem pay5_at (x : FVec Ideal S512x1024 .f32) (g : FVec Ideal S1x1024 .f32) (y r : FVec Ideal S512x1024 .f32) (i : Fin 512) (j : Fin 1024) :
    k0_pay5 (F := Ideal) x g y r (ix2 i j)
      = r (ix2 i j) + normGrad (fun k => x (ix2 i k)) (fun k => g (ix2 0 k)) (fun k => y (ix2 i k)) j := by
  pointwise [k0_pay5, normGrad]
  simp only [pay4_at]

theorem pay6_at (x y : FVec Ideal S512x1024 .f32) (acc : FVec Ideal S1x1024 .f32) (a : Fin 1) (j : Fin 1024) :
    k0_pay6 (F := Ideal) x y acc (ix2 a j)
      = acc (ix2 a j) + ∑ i : Fin 512, y (ix2 i j) * x (ix2 i j) * Ideal.rsqrt (rho fun k => x (ix2 i k)) := by
  pointwise [k0_pay6]
  simp only [pay4_at]

/-! ## What the points leave -/

theorem read_acc (X : FVec Ideal S512x1024 .f32) :
    View.read (Elt Ideal) (View.whole cc0_scratch0) ((Memref.isWhole_whole cc0_scratch0 : Memref.IsWhole (sig := sig) (.whole cc0_scratch0)).unread X) = X :=
  Memref.IsWhole.read_unread (Val := Elt Ideal) (Memref.isWhole_whole cc0_scratch0) X

abbrev out (c : Dev nD) (t : Fin cfg0.N) := outsAt0 m c t.val t.isLt
/-- the block of sums a point starts from -/
abbrev prev (c : Dev nD) (t : Fin cfg0.N) := outsAt0 m c (t.val - 1) (Nat.lt_of_le_of_lt (Nat.sub_le _ _) t.isLt)

theorem not_176 (h : ¬ t.val % 11 = 0) : ¬ t.val % 176 = 0 := by omega

theorem dzg_block (i : Fin 512) (j : Fin 256) : (out m c t).1 (ix2 i j) = dz m c (row t i) (lo (col t j)) := by
  show (outsAt0 m c t.val t.isLt).1 _ = _
  by_cases h0 : t.val % 11 = 0
  · by_cases h1 : t.val % 176 = 0
    · rw [outsAt0_A m c t h0 h1 (by omega)]; frame_out
      exact GB_at m c t i j
    · rw [outsAt0_D m c t h0 h1 (by omega)]; frame_out
      exact GB_at m c t i j
  · by_cases h2 : t.val % 11 = 10
    · rw [outsAt0_C m c t h0 (by omega) h2]; frame_out
      exact GB_at m c t i j
    · rw [outsAt0_B m c t h0 (by omega) h2]; frame_out
      exact GB_at m c t i j

theorem dzu_block (i : Fin 512) (j : Fin 256) : (out m c t).2.1 (ix2 i j) = dz m c (row t i) (hi (col t j)) := by
  show (outsAt0 m c t.val t.isLt).2.1 _ = _
  by_cases h0 : t.val % 11 = 0
  · by_cases h1 : t.val % 176 = 0
    · rw [outsAt0_A m c t h0 h1 (by omega)]; frame_out
      exact UB_at m c t i j
    · rw [outsAt0_D m c t h0 h1 (by omega)]; frame_out
      exact UB_at m c t i j
  · by_cases h2 : t.val % 11 = 10
    · rw [outsAt0_C m c t h0 (by omega) h2]; frame_out
      exact UB_at m c t i j
    · rw [outsAt0_B m c t h0 (by omega) h2]; frame_out
      exact UB_at m c t i j

/-- a column chunk's products, of both halves -/
def part (i : Fin 512) (j : Fin 1024) : EReal :=
  ∑ l : Fin 256, HMul.hMul (α := EReal) (β := EReal) (γ := EReal) (dz m c (row t i) (lo (col t l))) (B4 m c (ix2 j (lo (col t l))))
    + ∑ l : Fin 256, HMul.hMul (α := EReal) (β := EReal) (γ := EReal) (dz m c (row t i) (hi (col t l))) (B4 m c (ix2 j (hi (col t l))))

theorem part_blk (acc : FVec Ideal S512x1024 .f32) (i : Fin 512) (j : Fin 1024) :
    k0_pay2 (F := Ideal) (GB m c t) (UB m c t) acc (iblk m c 6 t) (iblk m c 7 t) (ix2 i j) = acc (ix2 i j) + part m c t i j := by
  refine (pay2_at _ _ _ _ _ i j).trans (congrArg (_ + ·) ?_)
  exact congrArg₂ (· + ·) (Finset.sum_congr rfl fun l _ => congrArg₂ (· * ·) (GB_at m c t i l) (blk_6 m c t l j))
    (Finset.sum_congr rfl fun l _ => congrArg₂ (· * ·) (UB_at m c t i l) (blk_7 m c t l j))

theorem acc_reset (h0 : t.val % 11 = 0) (i : Fin 512) (j : Fin 1024) :
    (out m c t).2.2.2.2 (ix2 i j) = HAdd.hAdd (α := EReal) (β := EReal) (γ := EReal) 0 (part m c t i j) := by
  show (outsAt0 m c t.val t.isLt).2.2.2.2 _ = _
  by_cases h1 : t.val % 176 = 0
  · rw [outsAt0_A m c t h0 h1 (by omega)]; frame_out
    exact (part_blk m c t _ i j).trans (congrArg (· + _) (pay1_at _))
  · rw [outsAt0_D m c t h0 h1 (by omega)]; frame_out
    exact (part_blk m c t _ i j).trans (congrArg (· + _) (pay1_at _))

theorem acc_step (h0 : ¬ t.val % 11 = 0) (i : Fin 512) (j : Fin 1024) :
    (out m c t).2.2.2.2 (ix2 i j) = HAdd.hAdd (α := EReal) (β := EReal) (γ := EReal) ((prev m c t).2.2.2.2 (ix2 i j)) (part m c t i j) := by
  show (outsAt0 m c t.val t.isLt).2.2.2.2 _ = _
  by_cases h2 : t.val % 11 = 10
  · rw [outsAt0_C m c t h0 (by omega) h2]; frame_out
    rw [read_acc]
    exact part_blk m c t _ i j
  · rw [outsAt0_B m c t h0 (by omega) h2]; frame_out
    rw [read_acc]
    exact part_blk m c t _ i j

/-- at a row block's last chunk: the norm's gradient, and the row block's part of the gain's gradient -/
theorem dx_last (h2 : t.val % 11 = 10) (i : Fin 512) (j : Fin 1024) : (out m c t).2.2.1 (ix2 i j)
    = HAdd.hAdd (α := EReal) (β := EReal) (γ := EReal) (B7 m c (ix2 (row t i) j)) (normGrad (XR (B5 m c) (row t i)) (GR (B6 m c)) (fun k => (out m c t).2.2.2.2 (ix2 i k)) j) := by
  have e : (fun k => (out m c t).2.2.2.2 (ix2 i k)) = fun k => k0_pay2 (F := Ideal) (GB m c t) (UB m c t) (prev m c t).2.2.2.2 (iblk m c 6 t) (iblk m c 7 t) (ix2 i k) :=
    funext fun k => (acc_step m c t (by omega) i k).trans (part_blk m c t _ i k).symm
  rw [e, ← blk_8 m c t, ← blk_9 m c t, ← blk_10 m c t]
  show (outsAt0 m c t.val t.isLt).2.2.1 _ = _
  rw [outsAt0_C m c t (by omega) (by omega) h2]; frame_out
  rw [read_acc]
  exact pay5_at _ _ _ _ i j

def gPart (i : Fin 8192) (j : Fin 1024) (d : EReal) : EReal := d * B5 m c (ix2 i j) * Ideal.rsqrt (rho (XR (B5 m c) i))

theorem dg_last (h2 : t.val % 11 = 10) (j : Fin 1024) : (out m c t).2.2.2.1 (ix2 0 j)
    = HAdd.hAdd (α := EReal) (β := EReal) (γ := EReal) ((prev m c t).2.2.2.1 (ix2 0 j)) (∑ i : Fin 512, gPart m c (row t i) j ((out m c t).2.2.2.2 (ix2 i j))) := by
  have e : ∀ i : Fin 512, (out m c t).2.2.2.2 (ix2 i j) = k0_pay2 (F := Ideal) (GB m c t) (UB m c t) (prev m c t).2.2.2.2 (iblk m c 6 t) (iblk m c 7 t) (ix2 i j) :=
    fun i => (acc_step m c t (by omega) i j).trans (part_blk m c t _ i j).symm
  simp only [e]
  show (outsAt0 m c t.val t.isLt).2.2.2.1 _ = _
  rw [outsAt0_C m c t (by omega) (by omega) h2]; frame_out
  rw [read_acc]
  refine (pay6_at _ _ _ _ j).trans (congrArg₂ (· + ·) rfl (Finset.sum_congr rfl fun i _ => ?_))
  unfold gPart
  rw [← blk_8 m c t i, ← show iblk m c 8 t (ix2 i j) = B5 m c (ix2 (row t i) j) from congrFun (blk_8 m c t i) j]
  rfl

theorem dg_keep (h1 : ¬ t.val % 176 = 0) (h2 : ¬ t.val % 11 = 10) (y : S1x1024.Idx) : (out m c t).2.2.2.1 y = (prev m c t).2.2.2.1 y := by
  show (outsAt0 m c t.val t.isLt).2.2.2.1 _ = _
  by_cases h0 : t.val % 11 = 0
  · rw [outsAt0_D m c t h0 h1 h2]; rfl
  · rw [outsAt0_B m c t h0 h1 h2]; rfl

theorem dg_zero (h1 : t.val % 176 = 0) (y : S1x1024.Idx) : (out m c t).2.2.2.1 y = 0 := by
  show (outsAt0 m c t.val t.isLt).2.2.2.1 _ = _
  rw [outsAt0_A m c t (by omega) h1 (by omega)]; frame_out
  exact pay3_at y
end

/-! ## The arrays after the run -/

/-- sums over the columns by chunks, over the points by row blocks, and over the rows by row blocks -/
theorem chunks (G : Fin 2816 → EReal) : ∑ s : Fin 11, ∑ l : Fin 256, G ⟨s.val * 256 + l.val, by omega⟩ = ∑ l, G l :=
  Fin.sum_mul_add_congr fun s l h => rfl
theorem points (G : Fin 176 → EReal) : ∑ s : Fin 16, ∑ k : Fin 11, G ⟨s.val * 11 + k.val, by omega⟩ = ∑ l, G l :=
  Fin.sum_mul_add_congr fun s k h => rfl
theorem rows (G : Fin 8192 → EReal) : ∑ s : Fin 16, ∑ i : Fin 512, G ⟨s.val * 512 + i.val, by omega⟩ = ∑ l, G l :=
  Fin.sum_mul_add_congr fun s i h => rfl

/-- the points of one row block are a run of eleven column chunks, of both halves -/
theorem acc_last (c : Dev nD) (t : Fin cfg0.N) (h2 : t.val % 11 = 10) (i : Fin 512) (j : Fin 1024) :
    (out m c t).2.2.2.2 (ix2 i j) = dh m c (row t i) j := by
  show (outsAt0 m c t.val t.isLt).2.2.2.2 _ = _
  rw [Pipeline.eq_sum_fin_of_reset_step_apply_of_flush (fun n h => (outsAt0 m c n h).2.2.2.2) 11 (fun _ => 0)
    (fun t y => part m c t (y 0) (y 1))
    (fun t h y => by
      idx_vars y
      exact acc_reset m c t h _ _)
    (fun t h y => by
      idx_vars y
      exact acc_step m c t h _ _)
    t h2 _, zero_add]
  unfold dh DH
  rw [sum_two 2816 2816 5632 rfl]
  rw [← chunks fun l => HMul.hMul (α := EReal) (β := EReal) (γ := EReal) (dz m c (row t i) (lo l)) (B4 m c (ix2 j (lo l))),
    ← chunks fun l => HMul.hMul (α := EReal) (β := EReal) (γ := EReal) (dz m c (row t i) (hi l)) (B4 m c (ix2 j (hi l)))]
  rw [← Finset.sum_add_distrib]
  refine Finset.sum_congr rfl fun s _ => ?_
  have er : row ⟨11 * (t.val / 11) + s.val, Pipeline.run_point_lt_of_flush t h2 s⟩ i = row t i :=
    Fin.ext (by show (11 * (t.val / 11) + s.val) / 11 * 512 + i.val = t.val / 11 * 512 + i.val; omega)
  have ec : ∀ l : Fin 256, col ⟨11 * (t.val / 11) + s.val, Pipeline.run_point_lt_of_flush t h2 s⟩ l = ⟨s.val * 256 + l.val, by omega⟩ :=
    fun l => Fin.ext (by show (11 * (t.val / 11) + s.val) % 11 * 256 + l.val = s.val * 256 + l.val; omega)
  show part m c ⟨11 * (t.val / 11) + s.val, Pipeline.run_point_lt_of_flush t h2 s⟩ i j = _
  unfold part
  rw [er]
  simp only [ec]

theorem final_dzg (c : Dev nD) : (dats m 0 c).arrAt 11 cfg0.N = val_main_v80 (F := Ideal) (B0 m c) (B1 m c) (B2 m c) := by
  refine (dats m 0 c).arrAt_eq_of_covers 11 _ (by decide +kernel) fun t hf y => ?_
  blk_simp
  rw [after0_11]
  have hy : y = ix2 (y 0) (y 1) := by blk_ext
  have he : ((win0_11.blk t).view.emb y) = ix2 (row t (y 0)) (col t (y 1)) := by blk_ext [idx t]
  rw [he]
  refine (congrArg _ hy).trans ((dzg_block m c t (y 0) (y 1)).trans (Eq.symm ?_))
  exact ref_80 _ _ _ _ _

theorem final_dzu (c : Dev nD) : (dats m 0 c).arrAt 12 cfg0.N = val_main_v82 (F := Ideal) (B0 m c) (B1 m c) (B2 m c) := by
  refine (dats m 0 c).arrAt_eq_of_covers 12 _ (by decide +kernel) fun t hf y => ?_
  blk_simp
  rw [after0_12]
  have hy : y = ix2 (y 0) (y 1) := by blk_ext
  have he : ((win0_12.blk t).view.emb y) = ix2 (row t (y 0)) (col t (y 1)) := by blk_ext [idx t]
  rw [he]
  refine (congrArg _ hy).trans ((dzu_block m c t (y 0) (y 1)).trans (Eq.symm ?_))
  exact ref_82 _ _ _ _ _

theorem dx_block (c : Dev nD) (t : Fin cfg0.N) (h2 : t.val % 11 = 10) (i : Fin 512) (j : Fin 1024) : (out m c t).2.2.1 (ix2 i j)
    = val_main_v78 (F := Ideal) (B0 m c) (B1 m c) (B2 m c) (B4 m c) (B5 m c) (B6 m c) (B7 m c) (ix2 (row t i) j) := by
  rw [dx_last m c t h2, ref_dx, funext (acc_last m c t h2 i)]

theorem final_dx (c : Dev nD) : (dats m 0 c).arrAt 13 cfg0.N
    = val_main_v78 (F := Ideal) (B0 m c) (B1 m c) (B2 m c) (B4 m c) (B5 m c) (B6 m c) (B7 m c) := by
  refine (dats m 0 c).arrAt_eq_of_covers 13 _ (by decide +kernel) fun t hf y => ?_
  blk_simp
  rw [after0_13]
  have hy : y = ix2 (y 0) (y 1) := by blk_ext
  have he : ((win0_13.blk t).view.emb y) = ix2 (row t (y 0)) (y 1) := by blk_ext [idx t]
  rw [he]
  exact (congrArg _ hy).trans (dx_block m c t ((flush0_13 t).mp hf) (y 0) (y 1))

/-- what a point adds to the gain's gradient: at a row block's last chunk the row block's part, elsewhere nothing -/
def gTerm (c : Dev nD) (t : Fin cfg0.N) (j : Fin 1024) : EReal :=
  if t.val % 11 = 10 then ∑ i : Fin 512, gPart m c (row t i) j (dh m c (row t i) j) else 0

theorem dg_step (c : Dev nD) (t : Fin cfg0.N) (h1 : ¬ t.val % 176 = 0) (j : Fin 1024) : (out m c t).2.2.2.1 (ix2 0 j)
    = HAdd.hAdd (α := EReal) (β := EReal) (γ := EReal) ((prev m c t).2.2.2.1 (ix2 0 j)) (gTerm m c t j) := by
  unfold gTerm
  by_cases h2 : t.val % 11 = 10
  · rw [if_pos h2, dg_last m c t h2]
    simp only [acc_last m c t h2]
  · rw [if_neg h2, dg_keep m c t h1 h2]
    exact (add_zero (M := EReal) _).symm

theorem gTerm_block (c : Dev nD) (s : Fin 16) (j : Fin 1024) (hs : ∀ k : Fin 11, s.val * 11 + k.val < cfg0.N) :
    ∑ k : Fin 11, gTerm m c ⟨s.val * 11 + k.val, hs k⟩ j = ∑ i : Fin 512, gPart m c ⟨s.val * 512 + i.val, by omega⟩ j (dh m c ⟨s.val * 512 + i.val, by omega⟩ j) := by
  refine (Finset.sum_eq_single (10 : Fin 11) (fun k _ hk => if_neg (by
    have : k.val ≠ 10 := fun h => hk (Fin.ext h)
    show ¬ (s.val * 11 + k.val) % 11 = 10
    omega)) (fun h => absurd (Finset.mem_univ _) h)).trans ?_
  refine (if_pos (by show (s.val * 11 + 10) % 11 = 10; omega)).trans (Finset.sum_congr rfl fun i _ => ?_)
  have er : row ⟨s.val * 11 + 10, hs 10⟩ i = ⟨s.val * 512 + i.val, by omega⟩ := Fin.ext (by show (s.val * 11 + 10) / 11 * 512 + i.val = s.val * 512 + i.val; omega)
  exact congrArg (fun r : Fin 8192 => gPart m c r j (dh m c r j)) er

theorem gTerm_sum (c : Dev nD) (j : Fin 1024) : ∑ t : Fin 176, gTerm m c ⟨t.val, lt_of_lt_of_eq t.isLt N_0.symm⟩ j
    = ∑ r : Fin 8192, gPart m c r j (dh m c r j) :=
  (points fun t => gTerm m c ⟨t.val, lt_of_lt_of_eq t.isLt N_0.symm⟩ j).symm.trans
    ((Finset.sum_congr rfl fun s _ => gTerm_block m c s j _).trans (rows fun r => gPart m c r j (dh m c r j)))

theorem dg_at (c : Dev nD) (t : Fin cfg0.N) (ht : t.val % 176 = 175) (a : Fin 1) (j : Fin 1024) :
    (out m c t).2.2.2.1 (ix2 a j) = val_main_v83 (F := Ideal) (B0 m c) (B1 m c) (B2 m c) (B4 m c) (B5 m c) (ix2 a j) := by
  have hN : cfg0.N = 176 := N_0
  show (outsAt0 m c t.val t.isLt).2.2.2.1 _ = _
  rw [ref_dg, Pipeline.eq_sum_fin_of_reset_step_apply_last (fun n h => (outsAt0 m c n h).2.2.2.1) 176 (fun _ => 0)
    (fun t y => gTerm m c t (y 1))
    (fun t h y => by
      refine (dg_zero m c t h y).trans ?_
      show (0 : EReal) = 0 + gTerm m c t (y 1)
      rw [zero_add]; exact (if_neg (by omega)).symm)
    (fun t h y => by
      have hy : y = ix2 0 (y 1) := by blk_ext
      rw [hy]
      exact dg_step m c t h (y 1))
    (le_of_eq N_0) t (by have := lt_N t; omega) _, zero_add]
  exact gTerm_sum m c j

theorem final_dg (c : Dev nD) : (dats m 0 c).arrAt 14 cfg0.N
    = val_main_v83 (F := Ideal) (B0 m c) (B1 m c) (B2 m c) (B4 m c) (B5 m c) := by
  refine (dats m 0 c).arrAt_eq_of_covers 14 _ (by decide +kernel) fun t hf y => ?_
  blk_simp
  rw [after0_14]
  have hy : y = ix2 (y 0) (y 1) := by blk_ext
  have he : ((win0_14.blk t).view.emb y) = ix2 (y 0) (y 1) := by blk_ext [idx t]
  rw [he]
  exact (congrArg _ hy).trans (dg_at m c t ((flush0_14 t).mp hf) (y 0) (y 1))

/-! ## The claim -/

/-- the run leaves the four results at what the points wrote back, and the arguments as they were -/
theorem run_arrays (g : Dev nD → PrngReg) : θ_run defs (onTc (τ := τ) (main (F := Ideal))) ⟨m, fun _ => 0, g⟩ fun r => ∀ c : Dev nD,
    r.2.mem ((c : Thread nD τ).loc main_v6_0) = (dats m 0 c).arrAt 11 cfg0.N
    ∧ r.2.mem ((c : Thread nD τ).loc main_v6_1) = (dats m 0 c).arrAt 12 cfg0.N
    ∧ r.2.mem ((c : Thread nD τ).loc main_v6_2) = (dats m 0 c).arrAt 13 cfg0.N
    ∧ r.2.mem ((c : Thread nD τ).loc main_v6_3) = (dats m 0 c).arrAt 14 cfg0.N
    ∧ r.2.mem ((c : Thread nD τ).loc main_arg0) = B0 m c ∧ r.2.mem ((c : Thread nD τ).loc main_arg1) = B1 m c
    ∧ r.2.mem ((c : Thread nD τ).loc main_arg2) = B2 m c ∧ r.2.mem ((c : Thread nD τ).loc main_arg3) = B3 m c
    ∧ r.2.mem ((c : Thread nD τ).loc main_arg4) = B4 m c ∧ r.2.mem ((c : Thread nD τ).loc main_arg5) = B5 m c
    ∧ r.2.mem ((c : Thread nD τ).loc main_arg6) = B6 m c ∧ r.2.mem ((c : Thread nD τ).loc main_arg7) = B7 m c := by
  refine (θ_run defs _ _).mono (fun r h c => ?_) (run_main m g)
  obtain ⟨hw, hb⟩ := h c
  exact ⟨hw 11, hw 12, hw 13, hw 14, (hw 0).trans ((dats m 0 c).arrAt_in 0 rfl _), (hw 1).trans ((dats m 0 c).arrAt_in 1 rfl _), hb main_arg2 (Pipeline.mem_restRefs_of main_arg2 (by decide) (by decide)),
    hb main_arg3 (Pipeline.mem_restRefs_of main_arg3 (by decide) (by decide)), hb main_arg4 (Pipeline.mem_restRefs_of main_arg4 (by decide) (by decide)),
    (hw 8).trans ((dats m 0 c).arrAt_in 8 rfl _), hb main_arg6 (Pipeline.mem_restRefs_of main_arg6 (by decide) (by decide)), (hw 10).trans ((dats m 0 c).arrAt_in 10 rfl _)⟩

theorem algebraic : Cert.algebraic_UpKernelIdeal_UpReferenceIdeal := fun m g m' g' _ hag => by
  refine ⟨_, _, _, _, run_arrays m g, (θ_run _ _ _).mono (fun r h c => ?_) (Cert.UpReferenceIdeal.Value.run m' g')⟩
  obtain ⟨h0, h1, h2, h3, k⟩ := h c
  obtain ⟨a0, a1, a2, a3, a4, a5, a6, a7⟩ := hag c
  refine ⟨h0.trans ?_, h1.trans ?_, h2.trans ?_, h3.trans ?_, k⟩
  · rw [final_dzg, a0, a1, a2]; rfl
  · rw [final_dzu, a0, a1, a2]; rfl
  · rw [final_dx, val_main_v78_eq, a0, a1, a2, a4, a5, a6, a7]
  · rw [final_dg, a0, a1, a2, a4, a5]; rfl

end Cert.Up

end
-- ==== Proof.lean ====
/- The proof of every claim of the certificate. -/
module

public import proofs.«01_k».proof.Defs
public import proofs.«01_k».proof.Proof.Gen.AttnKernel
public import proofs.«01_k».proof.Proof.Gen.AttnKernel.Skeleton
public import proofs.«01_k».proof.Proof.Gen.AttnKernel.Loops
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Loops
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Attn
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.SguKernel
public import proofs.«01_k».proof.Proof.Gen.SguKernel.Skeleton
public import proofs.«01_k».proof.Proof.Gen.SguKernel.Launch
public import proofs.«01_k».proof.Proof.Gen.SguKernel.Points
public import proofs.«01_k».proof.Proof.Gen.SguKernel.Frame
public import proofs.«01_k».proof.Proof.Gen.SguKernelIdeal
public import proofs.«01_k».proof.Proof.Gen.SguKernelIdeal.Skeleton
public import proofs.«01_k».proof.Proof.Gen.SguKernelIdeal.Launch
public import proofs.«01_k».proof.Proof.Gen.SguKernelIdeal.Points
public import proofs.«01_k».proof.Proof.Gen.SguKernelIdeal.Frame
public import proofs.«01_k».proof.Proof.Gen.SguKernelIdeal.Value
public import proofs.«01_k».proof.Proof.Gen.SguReferenceIdeal
public import proofs.«01_k».proof.Proof.Gen.SguReferenceIdeal.Run
public import proofs.«01_k».proof.Proof.Gen.SguReferenceIdeal.Read
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.PoolKernel
public import proofs.«01_k».proof.Proof.Gen.PoolKernel.Skeleton
public import proofs.«01_k».proof.Proof.Gen.PoolKernel.Launch
public import proofs.«01_k».proof.Proof.Gen.PoolKernel.Points
public import proofs.«01_k».proof.Proof.Gen.PoolKernel.Frame
public import proofs.«01_k».proof.Proof.Gen.PoolKernelIdeal
public import proofs.«01_k».proof.Proof.Gen.PoolKernelIdeal.Skeleton
public import proofs.«01_k».proof.Proof.Gen.PoolKernelIdeal.Launch
public import proofs.«01_k».proof.Proof.Gen.PoolKernelIdeal.Points
public import proofs.«01_k».proof.Proof.Gen.PoolKernelIdeal.Frame
public import proofs.«01_k».proof.Proof.Gen.PoolKernelIdeal.Value
public import proofs.«01_k».proof.Proof.Gen.PoolReferenceIdeal
public import proofs.«01_k».proof.Proof.Gen.PoolReferenceIdeal.Run
public import proofs.«01_k».proof.Proof.Gen.PoolReferenceIdeal.Read
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.InprojKernel
public import proofs.«01_k».proof.Proof.Gen.InprojKernel.Skeleton
public import proofs.«01_k».proof.Proof.Gen.InprojKernel.Launch
public import proofs.«01_k».proof.Proof.Gen.InprojKernel.Points
public import proofs.«01_k».proof.Proof.Gen.InprojKernel.Frame
public import proofs.«01_k».proof.Proof.Gen.InprojKernelIdeal
public import proofs.«01_k».proof.Proof.Gen.InprojKernelIdeal.Skeleton
public import proofs.«01_k».proof.Proof.Gen.InprojKernelIdeal.Launch
public import proofs.«01_k».proof.Proof.Gen.InprojKernelIdeal.Points
public import proofs.«01_k».proof.Proof.Gen.InprojKernelIdeal.Frame
public import proofs.«01_k».proof.Proof.Gen.InprojKernelIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.LossRun
public import proofs.«01_k».proof.Proof.Inproj
public import proofs.«01_k».proof.Proof.Mix
public import proofs.«01_k».proof.Proof.Gate
public import proofs.«01_k».proof.Proof.Up
public import Idealize.ShloMosaic.Adequacy
public import Idealize.ShloMosaic.Init

@[expose] public section

noncomputable section

namespace Cert.Proof

open Idealize.ShloMosaic Idealize.SL.Sem

/-- the reference of attention runs, and leaves its arguments and its counters as they were -/
theorem frame_attnReference : Cert.quiescent_AttnReferenceIdeal := fun m ρ _ =>
  (θ_run Cert.AttnReferenceIdeal.defs _ _).mono (fun r h => ⟨fun c => (h c).2.2.2.2, sem_eq_zero_of_no_sems (by decide) r.2⟩)
    (Cert.AttnReferenceIdeal.Value.run (F := Ideal) m ρ)

/-- the reference of the loss runs, and leaves its arguments and its counters as they were -/
theorem frame_lossReference : Cert.quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run (F := Ideal) m ρ)

/-- the reference of the gating unit runs, and leaves its arguments and its counters as they were -/
theorem frame_sguReference : Cert.quiescent_SguReferenceIdeal := fun m ρ _ =>
  (θ_run Cert.SguReferenceIdeal.defs _ _).mono (fun r h => ⟨fun c => (h c).2.2.2.2, sem_eq_zero_of_no_sems (by decide) r.2⟩)
    (Cert.SguReferenceIdeal.Value.run (F := Ideal) m ρ)

/-- the reference of the gate runs, and leaves its arguments and its counters as they were -/
theorem frame_gateReference : Cert.quiescent_GateReferenceIdeal := fun m ρ _ =>
  (θ_run Cert.GateReferenceIdeal.defs _ _).mono (fun r h => ⟨fun c => (h c).2.2.2.2, sem_eq_zero_of_no_sems (by decide) r.2⟩)
    (Cert.GateReferenceIdeal.Value.run (F := Ideal) m ρ)

/-- the reference of the up-projection runs, and leaves its arguments and its counters as they were -/
theorem frame_upReference : Cert.quiescent_UpReferenceIdeal := fun m ρ _ =>
  (θ_run Cert.UpReferenceIdeal.defs _ _).mono (fun r h => ⟨fun c => (h c).2.2.2.2, sem_eq_zero_of_no_sems (by decide) r.2⟩)
    (Cert.UpReferenceIdeal.Value.run (F := Ideal) m ρ)

/-- the reference of the per-head norm runs, and leaves its arguments and its counters as they were -/
theorem frame_mixReference : Cert.quiescent_MixReferenceIdeal := fun m ρ _ =>
  (θ_run Cert.MixReferenceIdeal.defs _ _).mono (fun r h => ⟨fun c => (h c).2.2.2.2, sem_eq_zero_of_no_sems (by decide) r.2⟩)
    (Cert.MixReferenceIdeal.Value.run (F := Ideal) m ρ)

/-- the reference of the input projection runs, and leaves its arguments and its counters as they were -/
theorem frame_inprojReference : Cert.quiescent_InprojReferenceIdeal := fun m ρ _ =>
  (θ_run Cert.InprojReferenceIdeal.defs _ _).mono (fun r h => ⟨fun c => (h c).2.2, sem_eq_zero_of_no_sems (by decide) r.2⟩)
    (Cert.InprojReferenceIdeal.Value.run (F := Ideal) m ρ)

/-- the reference of the pooling mixer runs, and leaves its arguments and its counters as they were -/
theorem frame_poolReference : Cert.quiescent_PoolReferenceIdeal := fun m ρ _ =>
  (θ_run Cert.PoolReferenceIdeal.defs _ _).mono (fun r h => ⟨fun c => (h c).2.2.2, sem_eq_zero_of_no_sems (by decide) r.2⟩)
    (Cert.PoolReferenceIdeal.Value.run (F := Ideal) m ρ)

theorem claim : Cert.Claim := ⟨Cert.AttnKernel.Gen.facts, Cert.AttnKernelIdeal.Gen.facts, Cert.AttnReferenceIdeal.Gen.facts,
  Cert.LossKernel.Gen.facts, Cert.LossKernelIdeal.Gen.facts, Cert.LossReferenceIdeal.Gen.facts,
  Cert.SguKernel.Gen.facts, Cert.SguKernelIdeal.Gen.facts, Cert.SguReferenceIdeal.Gen.facts,
  Cert.GateKernel.Gen.facts, Cert.GateKernelIdeal.Gen.facts, Cert.GateReferenceIdeal.Gen.facts,
  Cert.UpKernel.Gen.facts, Cert.UpKernelIdeal.Gen.facts, Cert.UpReferenceIdeal.Gen.facts,
  Cert.MixKernel.Gen.facts, Cert.MixKernelIdeal.Gen.facts, Cert.MixReferenceIdeal.Gen.facts,
  Cert.InprojKernel.Gen.facts, Cert.InprojKernelIdeal.Gen.facts, Cert.InprojReferenceIdeal.Gen.facts,
  Cert.PoolKernel.Gen.facts, Cert.PoolKernelIdeal.Gen.facts, Cert.PoolReferenceIdeal.Gen.facts,
  Cert.Attn.finite_facts, Cert.Gate.finite_facts, Cert.Mix.finite_facts,
  fun m ρ _ => Cert.AttnKernel.Gen.frame m ρ, fun m ρ _ => Cert.AttnKernelIdeal.Gen.frame m ρ, fun m ρ _ => Cert.AttnKernelIdeal.Gen.frame m ρ, frame_attnReference, fun m ρ _ => frame_attnReference m ρ trivial,
  fun m ρ _ => Cert.LossKernel.Gen.frame m ρ, fun m ρ _ => Cert.LossKernelIdeal.Gen.frame m ρ, frame_lossReference,
  fun m ρ _ => Cert.SguKernel.Gen.frame m ρ, fun m ρ _ => Cert.SguKernelIdeal.Gen.frame m ρ, frame_sguReference,
  fun m ρ _ => Cert.GateKernel.Gen.frame m ρ, fun m ρ _ => Cert.GateKernelIdeal.Gen.frame m ρ, fun m ρ _ => Cert.GateKernelIdeal.Gen.frame m ρ, frame_gateReference, fun m ρ _ => frame_gateReference m ρ trivial,
  fun m ρ _ => Cert.UpKernel.Gen.frame m ρ, fun m ρ _ => Cert.UpKernelIdeal.Gen.frame m ρ, frame_upReference,
  fun m ρ _ => Cert.MixKernel.Gen.frame m ρ, fun m ρ _ => Cert.MixKernelIdeal.Gen.frame m ρ, fun m ρ _ => Cert.MixKernelIdeal.Gen.frame m ρ, frame_mixReference, fun m ρ _ => frame_mixReference m ρ trivial,
  fun m ρ _ => Cert.InprojKernel.Gen.frame m ρ, fun m ρ _ => Cert.InprojKernelIdeal.Gen.frame m ρ, frame_inprojReference,
  fun m ρ _ => Cert.PoolKernel.Gen.frame m ρ, fun m ρ _ => Cert.PoolKernelIdeal.Gen.frame m ρ, frame_poolReference,
  trivial, Cert.Attn.algebraic, trivial, Cert.Loss.algebraic, ⟨IdealRules.named_const.statement _ _ _ _ _ rfl, IdealRules.named_const.statement _ _ _ _ _ rfl⟩, trivial, Cert.Gate.algebraic, trivial, Cert.Up.algebraic, trivial, Cert.Mix.algebraic, trivial, Cert.Inproj.algebraic, trivial⟩

end Cert.Proof

end
